-- ==== Defs.lean ====
def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbReferenceIdeal (m : (ℓ : Loc Cert.SbReferenceIdeal.nD Cert.SbReferenceIdeal.τ Cert.SbReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_LayerKernel (m : (ℓ : Loc Cert.LayerKernel.nD Cert.LayerKernel.τ Cert.LayerKernel.sig) → Buf (Elt Bits) ℓ) : Prop :=
  True

def Pre_LayerKernelIdeal (m : (ℓ : Loc Cert.LayerKernelIdeal.nD Cert.LayerKernelIdeal.τ Cert.LayerKernelIdeal.sig) → Buf (Elt Ideal) ℓ) : Prop :=
  True

def Pre_LayerReferenceIdeal (m : (ℓ : Loc Cert.LayerReferenceIdeal.nD Cert.LayerReferenceIdeal.τ Cert.LayerReferenceIdeal.sig) → Buf (Elt Ideal) ℓ) : Prop :=
  True

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_LayerKernel [hLayerKernel : Cert.LayerKernel.Facts] : Prop :=
  ∀ (m : (ℓ : Loc Cert.LayerKernel.nD Cert.LayerKernel.τ Cert.LayerKernel.sig) → Buf (Elt Bits) ℓ) (g : Dev Cert.LayerKernel.nD → PrngReg), Pre_LayerKernel m →
    θ_run (Cert.LayerKernel.defs (F := Bits)) (onTc (τ := Cert.LayerKernel.τ) (Cert.LayerKernel.main (F := Bits))) ⟨m, fun _ => 0, g⟩ (fun r => (∀ c : Dev Cert.LayerKernel.nD,
      r.2.mem ((c.tc : Thread Cert.LayerKernel.nD Cert.LayerKernel.τ).loc Cert.LayerKernel.main_arg0) = m ((c.tc : Thread Cert.LayerKernel.nD Cert.LayerKernel.τ).loc Cert.LayerKernel.main_arg0)
      ∧ r.2.mem ((c.tc : Thread Cert.LayerKernel.nD Cert.LayerKernel.τ).loc Cert.LayerKernel.main_arg1) = m ((c.tc : Thread Cert.LayerKernel.nD Cert.LayerKernel.τ).loc Cert.LayerKernel.main_arg1)
      ∧ r.2.mem ((c.tc : Thread Cert.LayerKernel.nD Cert.LayerKernel.τ).loc Cert.LayerKernel.main_arg2) = m ((c.tc : Thread Cert.LayerKernel.nD Cert.LayerKernel.τ).loc Cert.LayerKernel.main_arg2)
      ∧ r.2.mem ((c.tc : Thread Cert.LayerKernel.nD Cert.LayerKernel.τ).loc Cert.LayerKernel.main_arg3) = m ((c.tc : Thread Cert.LayerKernel.nD Cert.LayerKernel.τ).loc Cert.LayerKernel.main_arg3)
      ∧ r.2.mem ((c.tc : Thread Cert.LayerKernel.nD Cert.LayerKernel.τ).loc Cert.LayerKernel.main_arg4) = m ((c.tc : Thread Cert.LayerKernel.nD Cert.LayerKernel.τ).loc Cert.LayerKernel.main_arg4)
      ∧ r.2.mem ((c.tc : Thread Cert.LayerKernel.nD Cert.LayerKernel.τ).loc Cert.LayerKernel.main_arg5) = m ((c.tc : Thread Cert.LayerKernel.nD Cert.LayerKernel.τ).loc Cert.LayerKernel.main_arg5)
      ∧ r.2.mem ((c.tc : Thread Cert.LayerKernel.nD Cert.LayerKernel.τ).loc Cert.LayerKernel.main_arg6) = m ((c.tc : Thread Cert.LayerKernel.nD Cert.LayerKernel.τ).loc Cert.LayerKernel.main_arg6)
      ∧ r.2.mem ((c.tc : Thread Cert.LayerKernel.nD Cert.LayerKernel.τ).loc Cert.LayerKernel.main_arg7) = m ((c.tc : Thread Cert.LayerKernel.nD Cert.LayerKernel.τ).loc Cert.LayerKernel.main_arg7)
      ∧ r.2.mem ((c.tc : Thread Cert.LayerKernel.nD Cert.LayerKernel.τ).loc Cert.LayerKernel.main_arg8) = m ((c.tc : Thread Cert.LayerKernel.nD Cert.LayerKernel.τ).loc Cert.LayerKernel.main_arg8)
      ∧ r.2.mem ((c.tc : Thread Cert.LayerKernel.nD Cert.LayerKernel.τ).loc Cert.LayerKernel.main_arg9) = m ((c.tc : Thread Cert.LayerKernel.nD Cert.LayerKernel.τ).loc Cert.LayerKernel.main_arg9)
      ∧ r.2.mem ((c.tc : Thread Cert.LayerKernel.nD Cert.LayerKernel.τ).loc Cert.LayerKernel.main_arg10) = m ((c.tc : Thread Cert.LayerKernel.nD Cert.LayerKernel.τ).loc Cert.LayerKernel.main_arg10)
      ∧ r.2.mem ((c.tc : Thread Cert.LayerKernel.nD Cert.LayerKernel.τ).loc Cert.LayerKernel.main_arg11) = m ((c.tc : Thread Cert.LayerKernel.nD Cert.LayerKernel.τ).loc Cert.LayerKernel.main_arg11)
      ∧ r.2.mem ((c.tc : Thread Cert.LayerKernel.nD Cert.LayerKernel.τ).loc Cert.LayerKernel.main_arg12) = m ((c.tc : Thread Cert.LayerKernel.nD Cert.LayerKernel.τ).loc Cert.LayerKernel.main_arg12)
      ∧ r.2.mem ((c.tc : Thread Cert.LayerKernel.nD Cert.LayerKernel.τ).loc Cert.LayerKernel.main_arg13) = m ((c.tc : Thread Cert.LayerKernel.nD Cert.LayerKernel.τ).loc Cert.LayerKernel.main_arg13)
      ∧ r.2.mem ((c.tc : Thread Cert.LayerKernel.nD Cert.LayerKernel.τ).loc Cert.LayerKernel.main_arg14) = m ((c.tc : Thread Cert.LayerKernel.nD Cert.LayerKernel.τ).loc Cert.LayerKernel.main_arg14)
      ∧ r.2.mem ((c.tc : Thread Cert.LayerKernel.nD Cert.LayerKernel.τ).loc Cert.LayerKernel.main_arg15) = m ((c.tc : Thread Cert.LayerKernel.nD Cert.LayerKernel.τ).loc Cert.LayerKernel.main_arg15))
      ∧ r.2.sem = fun _ => 0)

def quiescent_LayerKernelIdeal [hLayerKernelIdeal : Cert.LayerKernelIdeal.Facts] : Prop :=
  ∀ (m : (ℓ : Loc Cert.LayerKernelIdeal.nD Cert.LayerKernelIdeal.τ Cert.LayerKernelIdeal.sig) → Buf (Elt Ideal) ℓ) (g : Dev Cert.LayerKernelIdeal.nD → PrngReg), Pre_LayerKernelIdeal m →
    θ_run (Cert.LayerKernelIdeal.defs (F := Ideal)) (onTc (τ := Cert.LayerKernelIdeal.τ) (Cert.LayerKernelIdeal.main (F := Ideal))) ⟨m, fun _ => 0, g⟩ (fun r => (∀ c : Dev Cert.LayerKernelIdeal.nD,
      r.2.mem ((c.tc : Thread Cert.LayerKernelIdeal.nD Cert.LayerKernelIdeal.τ).loc Cert.LayerKernelIdeal.main_arg0) = m ((c.tc : Thread Cert.LayerKernelIdeal.nD Cert.LayerKernelIdeal.τ).loc Cert.LayerKernelIdeal.main_arg0)
      ∧ r.2.mem ((c.tc : Thread Cert.LayerKernelIdeal.nD Cert.LayerKernelIdeal.τ).loc Cert.LayerKernelIdeal.main_arg1) = m ((c.tc : Thread Cert.LayerKernelIdeal.nD Cert.LayerKernelIdeal.τ).loc Cert.LayerKernelIdeal.main_arg1)
      ∧ r.2.mem ((c.tc : Thread Cert.LayerKernelIdeal.nD Cert.LayerKernelIdeal.τ).loc Cert.LayerKernelIdeal.main_arg2) = m ((c.tc : Thread Cert.LayerKernelIdeal.nD Cert.LayerKernelIdeal.τ).loc Cert.LayerKernelIdeal.main_arg2)
      ∧ r.2.mem ((c.tc : Thread Cert.LayerKernelIdeal.nD Cert.LayerKernelIdeal.τ).loc Cert.LayerKernelIdeal.main_arg3) = m ((c.tc : Thread Cert.LayerKernelIdeal.nD Cert.LayerKernelIdeal.τ).loc Cert.LayerKernelIdeal.main_arg3)
      ∧ r.2.mem ((c.tc : Thread Cert.LayerKernelIdeal.nD Cert.LayerKernelIdeal.τ).loc Cert.LayerKernelIdeal.main_arg4) = m ((c.tc : Thread Cert.LayerKernelIdeal.nD Cert.LayerKernelIdeal.τ).loc Cert.LayerKernelIdeal.main_arg4)
      ∧ r.2.mem ((c.tc : Thread Cert.LayerKernelIdeal.nD Cert.LayerKernelIdeal.τ).loc Cert.LayerKernelIdeal.main_arg5) = m ((c.tc : Thread Cert.LayerKernelIdeal.nD Cert.LayerKernelIdeal.τ).loc Cert.LayerKernelIdeal.main_arg5)
      ∧ r.2.mem ((c.tc : Thread Cert.LayerKernelIdeal.nD Cert.LayerKernelIdeal.τ).loc Cert.LayerKernelIdeal.main_arg6) = m ((c.tc : Thread Cert.LayerKernelIdeal.nD Cert.LayerKernelIdeal.τ).loc Cert.LayerKernelIdeal.main_arg6)
      ∧ r.2.mem ((c.tc : Thread Cert.LayerKernelIdeal.nD Cert.LayerKernelIdeal.τ).loc Cert.LayerKernelIdeal.main_arg7) = m ((c.tc : Thread Cert.LayerKernelIdeal.nD Cert.LayerKernelIdeal.τ).loc Cert.LayerKernelIdeal.main_arg7)
      ∧ r.2.mem ((c.tc : Thread Cert.LayerKernelIdeal.nD Cert.LayerKernelIdeal.τ).loc Cert.LayerKernelIdeal.main_arg8) = m ((c.tc : Thread Cert.LayerKernelIdeal.nD Cert.LayerKernelIdeal.τ).loc Cert.LayerKernelIdeal.main_arg8)
      ∧ r.2.mem ((c.tc : Thread Cert.LayerKernelIdeal.nD Cert.LayerKernelIdeal.τ).loc Cert.LayerKernelIdeal.main_arg9) = m ((c.tc : Thread Cert.LayerKernelIdeal.nD Cert.LayerKernelIdeal.τ).loc Cert.LayerKernelIdeal.main_arg9)
      ∧ r.2.mem ((c.tc : Thread Cert.LayerKernelIdeal.nD Cert.LayerKernelIdeal.τ).loc Cert.LayerKernelIdeal.main_arg10) = m ((c.tc : Thread Cert.LayerKernelIdeal.nD Cert.LayerKernelIdeal.τ).loc Cert.LayerKernelIdeal.main_arg10)
      ∧ r.2.mem ((c.tc : Thread Cert.LayerKernelIdeal.nD Cert.LayerKernelIdeal.τ).loc Cert.LayerKernelIdeal.main_arg11) = m ((c.tc : Thread Cert.LayerKernelIdeal.nD Cert.LayerKernelIdeal.τ).loc Cert.LayerKernelIdeal.main_arg11)
      ∧ r.2.mem ((c.tc : Thread Cert.LayerKernelIdeal.nD Cert.LayerKernelIdeal.τ).loc Cert.LayerKernelIdeal.main_arg12) = m ((c.tc : Thread Cert.LayerKernelIdeal.nD Cert.LayerKernelIdeal.τ).loc Cert.LayerKernelIdeal.main_arg12)
      ∧ r.2.mem ((c.tc : Thread Cert.LayerKernelIdeal.nD Cert.LayerKernelIdeal.τ).loc Cert.LayerKernelIdeal.main_arg13) = m ((c.tc : Thread Cert.LayerKernelIdeal.nD Cert.LayerKernelIdeal.τ).loc Cert.LayerKernelIdeal.main_arg13)
      ∧ r.2.mem ((c.tc : Thread Cert.LayerKernelIdeal.nD Cert.LayerKernelIdeal.τ).loc Cert.LayerKernelIdeal.main_arg14) = m ((c.tc : Thread Cert.LayerKernelIdeal.nD Cert.LayerKernelIdeal.τ).loc Cert.LayerKernelIdeal.main_arg14)
      ∧ r.2.mem ((c.tc : Thread Cert.LayerKernelIdeal.nD Cert.LayerKernelIdeal.τ).loc Cert.LayerKernelIdeal.main_arg15) = m ((c.tc : Thread Cert.LayerKernelIdeal.nD Cert.LayerKernelIdeal.τ).loc Cert.LayerKernelIdeal.main_arg15))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8)
      ∧ r.2.mem ((c.tc : Thread Cert.LayerReferenceIdeal.nD Cert.LayerReferenceIdeal.τ).loc Cert.LayerReferenceIdeal.main_arg9) = m ((c.tc : Thread Cert.LayerReferenceIdeal.nD Cert.LayerReferenceIdeal.τ).loc Cert.LayerReferenceIdeal.main_arg9)
      ∧ r.2.mem ((c.tc : Thread Cert.LayerReferenceIdeal.nD Cert.LayerReferenceIdeal.τ).loc Cert.LayerReferenceIdeal.main_arg10) = m ((c.tc : Thread Cert.LayerReferenceIdeal.nD Cert.LayerReferenceIdeal.τ).loc Cert.LayerReferenceIdeal.main_arg10)
      ∧ r.2.mem ((c.tc : Thread Cert.LayerReferenceIdeal.nD Cert.LayerReferenceIdeal.τ).loc Cert.LayerReferenceIdeal.main_arg11) = m ((c.tc : Thread Cert.LayerReferenceIdeal.nD Cert.LayerReferenceIdeal.τ).loc Cert.LayerReferenceIdeal.main_arg11)
      ∧ r.2.mem ((c.tc : Thread Cert.LayerReferenceIdeal.nD Cert.LayerReferenceIdeal.τ).loc Cert.LayerReferenceIdeal.main_arg12) = m ((c.tc : Thread Cert.LayerReferenceIdeal.nD Cert.LayerReferenceIdeal.τ).loc Cert.LayerReferenceIdeal.main_arg12)
      ∧ r.2.mem ((c.tc : Thread Cert.LayerReferenceIdeal.nD Cert.LayerReferenceIdeal.τ).loc Cert.LayerReferenceIdeal.main_arg13) = m ((c.tc : Thread Cert.LayerReferenceIdeal.nD Cert.LayerReferenceIdeal.τ).loc Cert.LayerReferenceIdeal.main_arg13)
      ∧ r.2.mem ((c.tc : Thread Cert.LayerReferenceIdeal.nD Cert.LayerReferenceIdeal.τ).loc Cert.LayerReferenceIdeal.main_arg14) = m ((c.tc : Thread Cert.LayerReferenceIdeal.nD Cert.LayerReferenceIdeal.τ).loc Cert.LayerReferenceIdeal.main_arg14)
      ∧ r.2.mem ((c.tc : Thread Cert.LayerReferenceIdeal.nD Cert.LayerReferenceIdeal.τ).loc Cert.LayerReferenceIdeal.main_arg15) = m ((c.tc : Thread Cert.LayerReferenceIdeal.nD Cert.LayerReferenceIdeal.τ).loc Cert.LayerReferenceIdeal.main_arg15))
      ∧ r.2.sem = fun _ => 0)

def preserves_SbKernel_SbKernelIdeal : Prop :=
  True

def algebraic_SbKernelIdeal_SbReferenceIdeal [hSbKernelIdeal : Cert.SbKernelIdeal.Facts] [hSbReferenceIdeal : Cert.SbReferenceIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)
      ∧ m' ((c.tc : Thread Cert.SbReferenceIdeal.nD Cert.SbReferenceIdeal.τ).loc Cert.SbReferenceIdeal.main_arg2) = m ((c.tc : Thread Cert.SbKernelIdeal.nD Cert.SbKernelIdeal.τ).loc Cert.SbKernelIdeal.main_arg2)) →
    ∃ (v0 : (c : Dev Cert.SbKernelIdeal.nD) → Buf (Elt Ideal) ((c.tc : Thread Cert.SbKernelIdeal.nD Cert.SbKernelIdeal.τ).loc Cert.SbKernelIdeal.main_v9)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v9) = v0 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v30) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v16)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v16) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v44) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v23_0)) (v1 : (c : Dev Cert.ProjKernelIdeal.nD) → Buf (Elt Ideal) ((c.tc : Thread Cert.ProjKernelIdeal.nD Cert.ProjKernelIdeal.τ).loc Cert.ProjKernelIdeal.main_v23_1)) (v2 : (c : Dev Cert.ProjKernelIdeal.nD) → Buf (Elt Ideal) ((c.tc : Thread Cert.ProjKernelIdeal.nD Cert.ProjKernelIdeal.τ).loc Cert.ProjKernelIdeal.main_v23_2)) (v3 : (c : Dev Cert.ProjKernelIdeal.nD) → Buf (Elt Ideal) ((c.tc : Thread Cert.ProjKernelIdeal.nD Cert.ProjKernelIdeal.τ).loc Cert.ProjKernelIdeal.main_v23_3)) (v4 : (c : Dev Cert.ProjKernelIdeal.nD) → Buf (Elt Ideal) ((c.tc : Thread Cert.ProjKernelIdeal.nD Cert.ProjKernelIdeal.τ).loc Cert.ProjKernelIdeal.main_v23_4)) (v5 : (c : Dev Cert.ProjKernelIdeal.nD) → Buf (Elt Ideal) ((c.tc : Thread Cert.ProjKernelIdeal.nD Cert.ProjKernelIdeal.τ).loc Cert.ProjKernelIdeal.main_v23_5)) (v6 : (c : Dev Cert.ProjKernelIdeal.nD) → Buf (Elt Ideal) ((c.tc : Thread Cert.ProjKernelIdeal.nD Cert.ProjKernelIdeal.τ).loc Cert.ProjKernelIdeal.main_v23_6)) (v7 : (c : Dev Cert.ProjKernelIdeal.nD) → Buf (Elt Ideal) ((c.tc : Thread Cert.ProjKernelIdeal.nD Cert.ProjKernelIdeal.τ).loc Cert.ProjKernelIdeal.main_v23_7)) (v8 : (c : Dev Cert.ProjKernelIdeal.nD) → Buf (Elt Ideal) ((c.tc : Thread Cert.ProjKernelIdeal.nD Cert.ProjKernelIdeal.τ).loc Cert.ProjKernelIdeal.main_v23_8)) (v9 : (c : Dev Cert.ProjKernelIdeal.nD) → Buf (Elt Ideal) ((c.tc : Thread Cert.ProjKernelIdeal.nD Cert.ProjKernelIdeal.τ).loc Cert.ProjKernelIdeal.main_v23_9)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v23_0) = v0 c
          ∧ r.2.mem ((c.tc : Thread Cert.ProjKernelIdeal.nD Cert.ProjKernelIdeal.τ).loc Cert.ProjKernelIdeal.main_v23_1) = v1 c
          ∧ r.2.mem ((c.tc : Thread Cert.ProjKernelIdeal.nD Cert.ProjKernelIdeal.τ).loc Cert.ProjKernelIdeal.main_v23_2) = v2 c
          ∧ r.2.mem ((c.tc : Thread Cert.ProjKernelIdeal.nD Cert.ProjKernelIdeal.τ).loc Cert.ProjKernelIdeal.main_v23_3) = v3 c
          ∧ r.2.mem ((c.tc : Thread Cert.ProjKernelIdeal.nD Cert.ProjKernelIdeal.τ).loc Cert.ProjKernelIdeal.main_v23_4) = v4 c
          ∧ r.2.mem ((c.tc : Thread Cert.ProjKernelIdeal.nD Cert.ProjKernelIdeal.τ).loc Cert.ProjKernelIdeal.main_v23_5) = v5 c
          ∧ r.2.mem ((c.tc : Thread Cert.ProjKernelIdeal.nD Cert.ProjKernelIdeal.τ).loc Cert.ProjKernelIdeal.main_v23_6) = v6 c
          ∧ r.2.mem ((c.tc : Thread Cert.ProjKernelIdeal.nD Cert.ProjKernelIdeal.τ).loc Cert.ProjKernelIdeal.main_v23_7) = v7 c
          ∧ r.2.mem ((c.tc : Thread Cert.ProjKernelIdeal.nD Cert.ProjKernelIdeal.τ).loc Cert.ProjKernelIdeal.main_v23_8) = v8 c
          ∧ r.2.mem ((c.tc : Thread Cert.ProjKernelIdeal.nD Cert.ProjKernelIdeal.τ).loc Cert.ProjKernelIdeal.main_v23_9) = v9 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v6) = v0 c
          ∧ r.2.mem ((c.tc : Thread Cert.ProjReferenceIdeal.nD Cert.ProjReferenceIdeal.τ).loc Cert.ProjReferenceIdeal.main_v18) = v1 c
          ∧ r.2.mem ((c.tc : Thread Cert.ProjReferenceIdeal.nD Cert.ProjReferenceIdeal.τ).loc Cert.ProjReferenceIdeal.main_v8) = v2 c
          ∧ r.2.mem ((c.tc : Thread Cert.ProjReferenceIdeal.nD Cert.ProjReferenceIdeal.τ).loc Cert.ProjReferenceIdeal.main_v19) = v3 c
          ∧ r.2.mem ((c.tc : Thread Cert.ProjReferenceIdeal.nD Cert.ProjReferenceIdeal.τ).loc Cert.ProjReferenceIdeal.main_v20) = v4 c
          ∧ r.2.mem ((c.tc : Thread Cert.ProjReferenceIdeal.nD Cert.ProjReferenceIdeal.τ).loc Cert.ProjReferenceIdeal.main_v21) = v5 c
          ∧ r.2.mem ((c.tc : Thread Cert.ProjReferenceIdeal.nD Cert.ProjReferenceIdeal.τ).loc Cert.ProjReferenceIdeal.main_v15) = v6 c
          ∧ r.2.mem ((c.tc : Thread Cert.ProjReferenceIdeal.nD Cert.ProjReferenceIdeal.τ).loc Cert.ProjReferenceIdeal.main_v16) = v7 c
          ∧ r.2.mem ((c.tc : Thread Cert.ProjReferenceIdeal.nD Cert.ProjReferenceIdeal.τ).loc Cert.ProjReferenceIdeal.main_v17) = v8 c
          ∧ r.2.mem ((c.tc : Thread Cert.ProjReferenceIdeal.nD Cert.ProjReferenceIdeal.τ).loc Cert.ProjReferenceIdeal.main_v22) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v14)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v14) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v55) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)) →
    ∃ (v0 : (c : Dev Cert.OutKernelIdeal.nD) → Buf (Elt Ideal) ((c.tc : Thread Cert.OutKernelIdeal.nD Cert.OutKernelIdeal.τ).loc Cert.OutKernelIdeal.main_v29)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v29) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v91) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9))

def preserves_LayerKernel_LayerKernelIdeal : Prop :=
  True

def algebraic_LayerKernelIdeal_LayerReferenceIdeal [hLayerKernelIdeal : Cert.LayerKernelIdeal.Facts] [hLayerReferenceIdeal : Cert.LayerReferenceIdeal.Facts] : Prop :=
  ∀ (m : (ℓ : Loc Cert.LayerKernelIdeal.nD Cert.LayerKernelIdeal.τ Cert.LayerKernelIdeal.sig) → Buf (Elt Ideal) ℓ) (g : Dev Cert.LayerKernelIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerKernelIdeal m →
    (∀ c : Dev Cert.LayerKernelIdeal.nD,
      m' ((c.tc : Thread Cert.LayerReferenceIdeal.nD Cert.LayerReferenceIdeal.τ).loc Cert.LayerReferenceIdeal.main_arg0) = m ((c.tc : Thread Cert.LayerKernelIdeal.nD Cert.LayerKernelIdeal.τ).loc Cert.LayerKernelIdeal.main_arg0)
      ∧ m' ((c.tc : Thread Cert.LayerReferenceIdeal.nD Cert.LayerReferenceIdeal.τ).loc Cert.LayerReferenceIdeal.main_arg1) = m ((c.tc : Thread Cert.LayerKernelIdeal.nD Cert.LayerKernelIdeal.τ).loc Cert.LayerKernelIdeal.main_arg1)
      ∧ m' ((c.tc : Thread Cert.LayerReferenceIdeal.nD Cert.LayerReferenceIdeal.τ).loc Cert.LayerReferenceIdeal.main_arg2) = m ((c.tc : Thread Cert.LayerKernelIdeal.nD Cert.LayerKernelIdeal.τ).loc Cert.LayerKernelIdeal.main_arg2)
      ∧ m' ((c.tc : Thread Cert.LayerReferenceIdeal.nD Cert.LayerReferenceIdeal.τ).loc Cert.LayerReferenceIdeal.main_arg3) = m ((c.tc : Thread Cert.LayerKernelIdeal.nD Cert.LayerKernelIdeal.τ).loc Cert.LayerKernelIdeal.main_arg3)
      ∧ m' ((c.tc : Thread Cert.LayerReferenceIdeal.nD Cert.LayerReferenceIdeal.τ).loc Cert.LayerReferenceIdeal.main_arg4) = m ((c.tc : Thread Cert.LayerKernelIdeal.nD Cert.LayerKernelIdeal.τ).loc Cert.LayerKernelIdeal.main_arg4)
      ∧ m' ((c.tc : Thread Cert.LayerReferenceIdeal.nD Cert.LayerReferenceIdeal.τ).loc Cert.LayerReferenceIdeal.main_arg5) = m ((c.tc : Thread Cert.LayerKernelIdeal.nD Cert.LayerKernelIdeal.τ).loc Cert.LayerKernelIdeal.main_arg5)
      ∧ m' ((c.tc : Thread Cert.LayerReferenceIdeal.nD Cert.LayerReferenceIdeal.τ).loc Cert.LayerReferenceIdeal.main_arg6) = m ((c.tc : Thread Cert.LayerKernelIdeal.nD Cert.LayerKernelIdeal.τ).loc Cert.LayerKernelIdeal.main_arg6)
      ∧ m' ((c.tc : Thread Cert.LayerReferenceIdeal.nD Cert.LayerReferenceIdeal.τ).loc Cert.LayerReferenceIdeal.main_arg7) = m ((c.tc : Thread Cert.LayerKernelIdeal.nD Cert.LayerKernelIdeal.τ).loc Cert.LayerKernelIdeal.main_arg7)
      ∧ m' ((c.tc : Thread Cert.LayerReferenceIdeal.nD Cert.LayerReferenceIdeal.τ).loc Cert.LayerReferenceIdeal.main_arg8) = m ((c.tc : Thread Cert.LayerKernelIdeal.nD Cert.LayerKernelIdeal.τ).loc Cert.LayerKernelIdeal.main_arg8)
      ∧ m' ((c.tc : Thread Cert.LayerReferenceIdeal.nD Cert.LayerReferenceIdeal.τ).loc Cert.LayerReferenceIdeal.main_arg9) = m ((c.tc : Thread Cert.LayerKernelIdeal.nD Cert.LayerKernelIdeal.τ).loc Cert.LayerKernelIdeal.main_arg9)
      ∧ m' ((c.tc : Thread Cert.LayerReferenceIdeal.nD Cert.LayerReferenceIdeal.τ).loc Cert.LayerReferenceIdeal.main_arg10) = m ((c.tc : Thread Cert.LayerKernelIdeal.nD Cert.LayerKernelIdeal.τ).loc Cert.LayerKernelIdeal.main_arg10)
      ∧ m' ((c.tc : Thread Cert.LayerReferenceIdeal.nD Cert.LayerReferenceIdeal.τ).loc Cert.LayerReferenceIdeal.main_arg11) = m ((c.tc : Thread Cert.LayerKernelIdeal.nD Cert.LayerKernelIdeal.τ).loc Cert.LayerKernelIdeal.main_arg11)
      ∧ m' ((c.tc : Thread Cert.LayerReferenceIdeal.nD Cert.LayerReferenceIdeal.τ).loc Cert.LayerReferenceIdeal.main_arg12) = m ((c.tc : Thread Cert.LayerKernelIdeal.nD Cert.LayerKernelIdeal.τ).loc Cert.LayerKernelIdeal.main_arg12)
      ∧ m' ((c.tc : Thread Cert.LayerReferenceIdeal.nD Cert.LayerReferenceIdeal.τ).loc Cert.LayerReferenceIdeal.main_arg13) = m ((c.tc : Thread Cert.LayerKernelIdeal.nD Cert.LayerKernelIdeal.τ).loc Cert.LayerKernelIdeal.main_arg13)
      ∧ m' ((c.tc : Thread Cert.LayerReferenceIdeal.nD Cert.LayerReferenceIdeal.τ).loc Cert.LayerReferenceIdeal.main_arg14) = m ((c.tc : Thread Cert.LayerKernelIdeal.nD Cert.LayerKernelIdeal.τ).loc Cert.LayerKernelIdeal.main_arg14)
      ∧ m' ((c.tc : Thread Cert.LayerReferenceIdeal.nD Cert.LayerReferenceIdeal.τ).loc Cert.LayerReferenceIdeal.main_arg15) = m ((c.tc : Thread Cert.LayerKernelIdeal.nD Cert.LayerKernelIdeal.τ).loc Cert.LayerKernelIdeal.main_arg15)) →
    ∃ (v0 : (c : Dev Cert.LayerKernelIdeal.nD) → Buf (Elt Ideal) ((c.tc : Thread Cert.LayerKernelIdeal.nD Cert.LayerKernelIdeal.τ).loc Cert.LayerKernelIdeal.main_v98)),
      θ_run (Cert.LayerKernelIdeal.defs (F := Ideal)) (onTc (τ := Cert.LayerKernelIdeal.τ) (Cert.LayerKernelIdeal.main (F := Ideal))) ⟨m, fun _ => 0, g⟩ (fun r => ∀ c : Dev Cert.LayerKernelIdeal.nD,
          r.2.mem ((c.tc : Thread Cert.LayerKernelIdeal.nD Cert.LayerKernelIdeal.τ).loc Cert.LayerKernelIdeal.main_v98) = v0 c
          ∧ r.2.mem ((c.tc : Thread Cert.LayerKernelIdeal.nD Cert.LayerKernelIdeal.τ).loc Cert.LayerKernelIdeal.main_arg0) = m ((c.tc : Thread Cert.LayerKernelIdeal.nD Cert.LayerKernelIdeal.τ).loc Cert.LayerKernelIdeal.main_arg0)
          ∧ r.2.mem ((c.tc : Thread Cert.LayerKernelIdeal.nD Cert.LayerKernelIdeal.τ).loc Cert.LayerKernelIdeal.main_arg1) = m ((c.tc : Thread Cert.LayerKernelIdeal.nD Cert.LayerKernelIdeal.τ).loc Cert.LayerKernelIdeal.main_arg1)
          ∧ r.2.mem ((c.tc : Thread Cert.LayerKernelIdeal.nD Cert.LayerKernelIdeal.τ).loc Cert.LayerKernelIdeal.main_arg2) = m ((c.tc : Thread Cert.LayerKernelIdeal.nD Cert.LayerKernelIdeal.τ).loc Cert.LayerKernelIdeal.main_arg2)
          ∧ r.2.mem ((c.tc : Thread Cert.LayerKernelIdeal.nD Cert.LayerKernelIdeal.τ).loc Cert.LayerKernelIdeal.main_arg3) = m ((c.tc : Thread Cert.LayerKernelIdeal.nD Cert.LayerKernelIdeal.τ).loc Cert.LayerKernelIdeal.main_arg3)
          ∧ r.2.mem ((c.tc : Thread Cert.LayerKernelIdeal.nD Cert.LayerKernelIdeal.τ).loc Cert.LayerKernelIdeal.main_arg4) = m ((c.tc : Thread Cert.LayerKernelIdeal.nD Cert.LayerKernelIdeal.τ).loc Cert.LayerKernelIdeal.main_arg4)
          ∧ r.2.mem ((c.tc : Thread Cert.LayerKernelIdeal.nD Cert.LayerKernelIdeal.τ).loc Cert.LayerKernelIdeal.main_arg5) = m ((c.tc : Thread Cert.LayerKernelIdeal.nD Cert.LayerKernelIdeal.τ).loc Cert.LayerKernelIdeal.main_arg5)
          ∧ r.2.mem ((c.tc : Thread Cert.LayerKernelIdeal.nD Cert.LayerKernelIdeal.τ).loc Cert.LayerKernelIdeal.main_arg6) = m ((c.tc : Thread Cert.LayerKernelIdeal.nD Cert.LayerKernelIdeal.τ).loc Cert.LayerKernelIdeal.main_arg6)
          ∧ r.2.mem ((c.tc : Thread Cert.LayerKernelIdeal.nD Cert.LayerKernelIdeal.τ).loc Cert.LayerKernelIdeal.main_arg7) = m ((c.tc : Thread Cert.LayerKernelIdeal.nD Cert.LayerKernelIdeal.τ).loc Cert.LayerKernelIdeal.main_arg7)
          ∧ r.2.mem ((c.tc : Thread Cert.LayerKernelIdeal.nD Cert.LayerKernelIdeal.τ).loc Cert.LayerKernelIdeal.main_arg8) = m ((c.tc : Thread Cert.LayerKernelIdeal.nD Cert.LayerKernelIdeal.τ).loc Cert.LayerKernelIdeal.main_arg8)
          ∧ r.2.mem ((c.tc : Thread Cert.LayerKernelIdeal.nD Cert.LayerKernelIdeal.τ).loc Cert.LayerKernelIdeal.main_arg9) = m ((c.tc : Thread Cert.LayerKernelIdeal.nD Cert.LayerKernelIdeal.τ).loc Cert.LayerKernelIdeal.main_arg9)
          ∧ r.2.mem ((c.tc : Thread Cert.LayerKernelIdeal.nD Cert.LayerKernelIdeal.τ).loc Cert.LayerKernelIdeal.main_arg10) = m ((c.tc : Thread Cert.LayerKernelIdeal.nD Cert.LayerKernelIdeal.τ).loc Cert.LayerKernelIdeal.main_arg10)
          ∧ r.2.mem ((c.tc : Thread Cert.LayerKernelIdeal.nD Cert.LayerKernelIdeal.τ).loc Cert.LayerKernelIdeal.main_arg11) = m ((c.tc : Thread Cert.LayerKernelIdeal.nD Cert.LayerKernelIdeal.τ).loc Cert.LayerKernelIdeal.main_arg11)
          ∧ r.2.mem ((c.tc : Thread Cert.LayerKernelIdeal.nD Cert.LayerKernelIdeal.τ).loc Cert.LayerKernelIdeal.main_arg12) = m ((c.tc : Thread Cert.LayerKernelIdeal.nD Cert.LayerKernelIdeal.τ).loc Cert.LayerKernelIdeal.main_arg12)
          ∧ r.2.mem ((c.tc : Thread Cert.LayerKernelIdeal.nD Cert.LayerKernelIdeal.τ).loc Cert.LayerKernelIdeal.main_arg13) = m ((c.tc : Thread Cert.LayerKernelIdeal.nD Cert.LayerKernelIdeal.τ).loc Cert.LayerKernelIdeal.main_arg13)
          ∧ r.2.mem ((c.tc : Thread Cert.LayerKernelIdeal.nD Cert.LayerKernelIdeal.τ).loc Cert.LayerKernelIdeal.main_arg14) = m ((c.tc : Thread Cert.LayerKernelIdeal.nD Cert.LayerKernelIdeal.τ).loc Cert.LayerKernelIdeal.main_arg14)
          ∧ r.2.mem ((c.tc : Thread Cert.LayerKernelIdeal.nD Cert.LayerKernelIdeal.τ).loc Cert.LayerKernelIdeal.main_arg15) = m ((c.tc : Thread Cert.LayerKernelIdeal.nD Cert.LayerKernelIdeal.τ).loc Cert.LayerKernelIdeal.main_arg15))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v249) = v0 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4)
          ∧ r.2.mem ((c.tc : Thread Cert.LayerReferenceIdeal.nD Cert.LayerReferenceIdeal.τ).loc Cert.LayerReferenceIdeal.main_arg5) = m' ((c.tc : Thread Cert.LayerReferenceIdeal.nD Cert.LayerReferenceIdeal.τ).loc Cert.LayerReferenceIdeal.main_arg5)
          ∧ r.2.mem ((c.tc : Thread Cert.LayerReferenceIdeal.nD Cert.LayerReferenceIdeal.τ).loc Cert.LayerReferenceIdeal.main_arg6) = m' ((c.tc : Thread Cert.LayerReferenceIdeal.nD Cert.LayerReferenceIdeal.τ).loc Cert.LayerReferenceIdeal.main_arg6)
          ∧ r.2.mem ((c.tc : Thread Cert.LayerReferenceIdeal.nD Cert.LayerReferenceIdeal.τ).loc Cert.LayerReferenceIdeal.main_arg7) = m' ((c.tc : Thread Cert.LayerReferenceIdeal.nD Cert.LayerReferenceIdeal.τ).loc Cert.LayerReferenceIdeal.main_arg7)
          ∧ r.2.mem ((c.tc : Thread Cert.LayerReferenceIdeal.nD Cert.LayerReferenceIdeal.τ).loc Cert.LayerReferenceIdeal.main_arg8) = m' ((c.tc : Thread Cert.LayerReferenceIdeal.nD Cert.LayerReferenceIdeal.τ).loc Cert.LayerReferenceIdeal.main_arg8)
          ∧ r.2.mem ((c.tc : Thread Cert.LayerReferenceIdeal.nD Cert.LayerReferenceIdeal.τ).loc Cert.LayerReferenceIdeal.main_arg9) = m' ((c.tc : Thread Cert.LayerReferenceIdeal.nD Cert.LayerReferenceIdeal.τ).loc Cert.LayerReferenceIdeal.main_arg9)
          ∧ r.2.mem ((c.tc : Thread Cert.LayerReferenceIdeal.nD Cert.LayerReferenceIdeal.τ).loc Cert.LayerReferenceIdeal.main_arg10) = m' ((c.tc : Thread Cert.LayerReferenceIdeal.nD Cert.LayerReferenceIdeal.τ).loc Cert.LayerReferenceIdeal.main_arg10)
          ∧ r.2.mem ((c.tc : Thread Cert.LayerReferenceIdeal.nD Cert.LayerReferenceIdeal.τ).loc Cert.LayerReferenceIdeal.main_arg11) = m' ((c.tc : Thread Cert.LayerReferenceIdeal.nD Cert.LayerReferenceIdeal.τ).loc Cert.LayerReferenceIdeal.main_arg11)
          ∧ r.2.mem ((c.tc : Thread Cert.LayerReferenceIdeal.nD Cert.LayerReferenceIdeal.τ).loc Cert.LayerReferenceIdeal.main_arg12) = m' ((c.tc : Thread Cert.LayerReferenceIdeal.nD Cert.LayerReferenceIdeal.τ).loc Cert.LayerReferenceIdeal.main_arg12)
          ∧ r.2.mem ((c.tc : Thread Cert.LayerReferenceIdeal.nD Cert.LayerReferenceIdeal.τ).loc Cert.LayerReferenceIdeal.main_arg13) = m' ((c.tc : Thread Cert.LayerReferenceIdeal.nD Cert.LayerReferenceIdeal.τ).loc Cert.LayerReferenceIdeal.main_arg13)
          ∧ r.2.mem ((c.tc : Thread Cert.LayerReferenceIdeal.nD Cert.LayerReferenceIdeal.τ).loc Cert.LayerReferenceIdeal.main_arg14) = m' ((c.tc : Thread Cert.LayerReferenceIdeal.nD Cert.LayerReferenceIdeal.τ).loc Cert.LayerReferenceIdeal.main_arg14)
          ∧ r.2.mem ((c.tc : Thread Cert.LayerReferenceIdeal.nD Cert.LayerReferenceIdeal.τ).loc Cert.LayerReferenceIdeal.main_arg15) = m' ((c.tc : Thread Cert.LayerReferenceIdeal.nD Cert.LayerReferenceIdeal.τ).loc Cert.LayerReferenceIdeal.main_arg15))

def Claim : Prop :=
  ∃ (hSbKernel : Cert.SbKernel.Facts) (hSbKernelIdeal : Cert.SbKernelIdeal.Facts) (hSbReferenceIdeal : Cert.SbReferenceIdeal.Facts) (hFfnKernel : Cert.FfnKernel.Facts) (hFfnKernelIdeal : Cert.FfnKernelIdeal.Facts) (hFfnReferenceIdeal : Cert.FfnReferenceIdeal.Facts) (hProjKernel : Cert.ProjKernel.Facts) (hProjKernelIdeal : Cert.ProjKernelIdeal.Facts) (hProjReferenceIdeal : Cert.ProjReferenceIdeal.Facts) (hMergeKernel : Cert.MergeKernel.Facts) (hMergeKernelIdeal : Cert.MergeKernelIdeal.Facts) (hMergeReferenceIdeal : Cert.MergeReferenceIdeal.Facts) (hOutKernel : Cert.OutKernel.Facts) (hOutKernelIdeal : Cert.OutKernelIdeal.Facts) (hOutReferenceIdeal : Cert.OutReferenceIdeal.Facts) (hLayerKernel : Cert.LayerKernel.Facts) (hLayerKernelIdeal : Cert.LayerKernelIdeal.Facts) (hLayerReferenceIdeal : Cert.LayerReferenceIdeal.Facts),
    quiescent_SbKernel (hSbKernel := hSbKernel)
    ∧ quiescent_SbKernelIdeal (hSbKernelIdeal := hSbKernelIdeal)
    ∧ quiescent_SbReferenceIdeal (hSbReferenceIdeal := hSbReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_LayerKernel (hLayerKernel := hLayerKernel)
    ∧ quiescent_LayerKernelIdeal (hLayerKernelIdeal := hLayerKernelIdeal)
    ∧ quiescent_LayerReferenceIdeal (hLayerReferenceIdeal := hLayerReferenceIdeal)
    ∧ preserves_SbKernel_SbKernelIdeal
    ∧ algebraic_SbKernelIdeal_SbReferenceIdeal (hSbKernelIdeal := hSbKernelIdeal) (hSbReferenceIdeal := hSbReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_OutKernel_OutKernelIdeal
    ∧ algebraic_OutKernelIdeal_OutReferenceIdeal (hOutKernelIdeal := hOutKernelIdeal) (hOutReferenceIdeal := hOutReferenceIdeal)
    ∧ preserves_LayerKernel_LayerKernelIdeal
    ∧ algebraic_LayerKernelIdeal_LayerReferenceIdeal (hLayerKernelIdeal := hLayerKernelIdeal) (hLayerReferenceIdeal := hLayerReferenceIdeal)
-- ==== SbKernel.lean ====
abbrev S8x8192x1024 : Shape := ⟨3, ![8, 8192, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S1x512x128 : Shape := ⟨3, ![1, 512, 128]⟩
abbrev S1x8192x128 : Shape := ⟨3, ![1, 8192, 128]⟩
abbrev S512x128 : Shape := ⟨2, ![512, 128]⟩
abbrev S512x1 : Shape := ⟨2, ![512, 1]⟩
abbrev S1x256x128 : Shape := ⟨3, ![1, 256, 128]⟩
abbrev S256x128 : Shape := ⟨2, ![256, 128]⟩
abbrev S512x512 : Shape := ⟨2, ![512, 512]⟩
abbrev S512 : Shape := ⟨1, ![512]⟩

abbrev nBuf : Space → Nat
  | .hbm => 13
  | .vmem => 11
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S256, .i32⟩
  | .hbm, ⟨4, _⟩ => ⟨S256x1, .i32⟩
  | .hbm, ⟨5, _⟩ => ⟨S256, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S512x256, .bf16⟩
  | .hbm, ⟨12, _⟩ => ⟨S8x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S512x256, .bf16⟩
  | .local _ .vmem, ⟨7, _⟩ => ⟨S1x512x128, .bf16⟩
  | .local _ .vmem, ⟨8, _⟩ => ⟨S1x512x128, .bf16⟩
  | .local _ .vmem, ⟨9, _⟩ => ⟨S512x128, .f32⟩
  | .local _ .vmem, ⟨10, _⟩ => ⟨S512x1, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 8, 16], ![false, false, false]⟩

def k0_mult1 (i : grid0.Coords) : BitVec 32 :=
  let arg2 : BitVec 32 := BitVec.ofNat 32 (i 2).val
  let c2_i32 : BitVec 32 := 2#32
  let v10 : BitVec 32 := Scalar.muli arg2 c2_i32
  let c1_i32 : BitVec 32 := 1#32
  let v11 : BitVec 32 := Scalar.addi v10 c1_i32
  let c256_i32 : BitVec 32 := 256#32
  let v12 : BitVec 32 := Scalar.muli v11 c256_i32
  v12
def k0_off1 (i : grid0.Coords) (c1_i32 : BitVec 32) : Fin 3 → Nat :=
  let c0_7 : Index := 0#32
  let arg2 : BitVec 32 := BitVec.ofNat 32 (i 2).val
  let c2_i32 : BitVec 32 := 2#32
  let v10 : BitVec 32 := Scalar.muli arg2 c2_i32
  let v11 : BitVec 32 := Scalar.addi v10 c1_i32
  let c256_i32 : BitVec 32 := 256#32
  let v12 : BitVec 32 := Scalar.muli v11 c256_i32
  let v13 : BitVec 32 := v12
  let v14 : Index := Scalar.indexCast v13
  let c0_8 : Index := 0#32
  ![0, v14.toNat, 0]
def k0_mult2 (i : grid0.Coords) : BitVec 32 :=
  let arg2 : BitVec 32 := BitVec.ofNat 32 (i 2).val
  let c2_i32_33 : BitVec 32 := 2#32
  let v73 : BitVec 32 := Scalar.muli arg2 c2_i32_33
  let c0_i32 : BitVec 32 := 0#32
  let v74 : BitVec 32 := Scalar.addi v73 c0_i32
  let c256_i32_34 : BitVec 32 := 256#32
  let v75 : BitVec 32 := Scalar.muli v74 c256_i32_34
  v75
@[reducible] def k0_t1_loop (i : grid0.Coords) : Scf.Loop 32 :=
  let c0_i32_64 : BitVec 32 := 0#32
  let arg2 : BitVec 32 := BitVec.ofNat 32 (i 2).val
  let c2_i32_62 : BitVec 32 := 2#32
  let v136 : BitVec 32 := Scalar.muli arg2 c2_i32_62
  let v137 : BitVec 32 := Scalar.subi v136 c0_i32_64
  let c1_i32_65 : BitVec 32 := 1#32
  let v139 : BitVec 32 := Scalar.divsi v137 c1_i32_65
  let v140 : BitVec 32 := Scalar.muli v139 c1_i32_65
  let v141 : BitVec 32 := Scalar.addi c0_i32_64 v140
  let c1_i32_66 : BitVec 32 := 1#32
  ⟨c0_i32_64, v141, c1_i32_66⟩
def k0_mult3 (i : grid0.Coords) (k0_t1 : Fin (k0_t1_loop i).trips) : BitVec 32 :=
  let arg2 : BitVec 32 := BitVec.ofNat 32 (i 2).val
  let c2_i32_73 : BitVec 32 := 2#32
  let v147 : BitVec 32 := Scalar.muli arg2 c2_i32_73
  let c1_i32_74 : BitVec 32 := 1#32
  let v148 : BitVec 32 := Scalar.subi v147 c1_i32_74
  let c0_i32_64 : BitVec 32 := 0#32
  let c1_i32_66 : BitVec 32 := 1#32
  let arg10 : BitVec 32 := Scf.iv c0_i32_64 c1_i32_66 k0_t1
  let v149 : BitVec 32 := Scalar.subi v148 arg10
  let c256_i32_75 : BitVec 32 := 256#32
  let v150 : BitVec 32 := Scalar.muli v149 c256_i32_75
  v150
def k0_off2 (i : grid0.Coords) (k0_t1 : Fin (k0_t1_loop i).trips) : Fin 3 → Nat :=
  let c0_76 : Index := 0#32
  let arg2 : BitVec 32 := BitVec.ofNat 32 (i 2).val
  let c2_i32_73 : BitVec 32 := 2#32
  let v147 : BitVec 32 := Scalar.muli arg2 c2_i32_73
  let c1_i32_74 : BitVec 32 := 1#32
  let v148 : BitVec 32 := Scalar.subi v147 c1_i32_74
  let c0_i32_64 : BitVec 32 := 0#32
  let c1_i32_66 : BitVec 32 := 1#32
  let arg10 : BitVec 32 := Scf.iv c0_i32_64 c1_i32_66 k0_t1
  let v149 : BitVec 32 := Scalar.subi v148 arg10
  let c256_i32_75 : BitVec 32 := 256#32
  let v150 : BitVec 32 := Scalar.muli v149 c256_i32_75
  let v151 : BitVec 32 := v150
  let v152 : Index := Scalar.indexCast v151
  let c0_77 : Index := 0#32
  ![0, v152.toNat, 0]
@[reducible] def k0_t2_loop (i : grid0.Coords) : Scf.Loop 32 :=
  let c0_i32_64 : BitVec 32 := 0#32
  let arg2 : BitVec 32 := BitVec.ofNat 32 (i 2).val
  let c2_i32_62 : BitVec 32 := 2#32
  let v136 : BitVec 32 := Scalar.muli arg2 c2_i32_62
  let v137 : BitVec 32 := Scalar.subi v136 c0_i32_64
  let c1_i32_65 : BitVec 32 := 1#32
  let v139 : BitVec 32 := Scalar.divsi v137 c1_i32_65
  let v140 : BitVec 32 := Scalar.muli v139 c1_i32_65
  let v141 : BitVec 32 := Scalar.addi c0_i32_64 v140
  let v138 : BitVec 32 := Scalar.addi c0_i32_64 v137
  let c1_i32_67 : BitVec 32 := 1#32
  ⟨v141, v138, c1_i32_67⟩
def k0_mult4 (i : grid0.Coords) (k0_t2 : Fin (k0_t2_loop i).trips) : BitVec 32 :=
  let arg2 : BitVec 32 := BitVec.ofNat 32 (i 2).val
  let c2_i32_73 : BitVec 32 := 2#32
  let v147 : BitVec 32 := Scalar.muli arg2 c2_i32_73
  let c1_i32_74 : BitVec 32 := 1#32
  let v148 : BitVec 32 := Scalar.subi v147 c1_i32_74
  let c0_i32_64 : BitVec 32 := 0#32
  let c2_i32_62 : BitVec 32 := 2#32
  let v136 : BitVec 32 := Scalar.muli arg2 c2_i32_62
  let v137 : BitVec 32 := Scalar.subi v136 c0_i32_64
  let c1_i32_65 : BitVec 32 := 1#32
  let v139 : BitVec 32 := Scalar.divsi v137 c1_i32_65
  let v140 : BitVec 32 := Scalar.muli v139 c1_i32_65
  let v141 : BitVec 32 := Scalar.addi c0_i32_64 v140
  let c1_i32_67 : BitVec 32 := 1#32
  let arg10 : BitVec 32 := Scf.iv v141 c1_i32_67 k0_t2
  let v149 : BitVec 32 := Scalar.subi v148 arg10
  let c256_i32_75 : BitVec 32 := 256#32
  let v150 : BitVec 32 := Scalar.muli v149 c256_i32_75
  v150
def k0_off3 (i : grid0.Coords) (k0_t2 : Fin (k0_t2_loop i).trips) : Fin 3 → Nat :=
  let c0_76 : Index := 0#32
  let arg2 : BitVec 32 := BitVec.ofNat 32 (i 2).val
  let c2_i32_73 : BitVec 32 := 2#32
  let v147 : BitVec 32 := Scalar.muli arg2 c2_i32_73
  let c1_i32_74 : BitVec 32 := 1#32
  let v148 : BitVec 32 := Scalar.subi v147 c1_i32_74
  let c0_i32_64 : BitVec 32 := 0#32
  let c2_i32_62 : BitVec 32 := 2#32
  let v136 : BitVec 32 := Scalar.muli arg2 c2_i32_62
  let v137 : BitVec 32 := Scalar.subi v136 c0_i32_64
  let c1_i32_65 : BitVec 32 := 1#32
  let v139 : BitVec 32 := Scalar.divsi v137 c1_i32_65
  let v140 : BitVec 32 := Scalar.muli v139 c1_i32_65
  let v141 : BitVec 32 := Scalar.addi c0_i32_64 v140
  let c1_i32_67 : BitVec 32 := 1#32
  let arg10 : BitVec 32 := Scf.iv v141 c1_i32_67 k0_t2
  let v149 : BitVec 32 := Scalar.subi v148 arg10
  let c256_i32_75 : BitVec 32 := 256#32
  let v150 : BitVec 32 := Scalar.muli v149 c256_i32_75
  let v151 : BitVec 32 := v150
  let v152 : Index := Scalar.indexCast v151
  let c0_77 : Index := 0#32
  ![0, v152.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SbReferenceIdeal.lean ====
abbrev S8x8192x1024 : Shape := ⟨3, ![8, 8192, 1024]⟩
abbrev S8x8192x8x128 : Shape := ⟨4, ![8, 8192, 8, 128]⟩
abbrev S8x8x8192x128 : Shape := ⟨4, ![8, 8, 8192, 128]⟩
abbrev S8x8x8192x8192 : Shape := ⟨4, ![8, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .f32⟩
  | .hbm, ⟨4, _⟩ => ⟨S8x8192x8x128, .f32⟩
  | .hbm, ⟨5, _⟩ => ⟨S8x8x8192x128, .f32⟩
  | .hbm, ⟨6, _⟩ => ⟨S8x8192x1024, .f32⟩
  | .hbm, ⟨7, _⟩ => ⟨S8x8192x8x128, .f32⟩
  | .hbm, ⟨8, _⟩ => ⟨S8x8x8192x128, .f32⟩
  | .hbm, ⟨9, _⟩ => ⟨S8x8192x1024, .f32⟩
  | .hbm, ⟨10, _⟩ => ⟨S8x8192x8x128, .f32⟩
  | .hbm, ⟨11, _⟩ => ⟨S8x8x8192x128, .f32⟩
  | .hbm, ⟨12, _⟩ => ⟨S8x8x8192x8192, .f32⟩
  | .hbm, ⟨13, _⟩ => ⟨S_, .f32⟩
  | .hbm, ⟨14, _⟩ => ⟨S8x8x8192x8192, .f32⟩
  | .hbm, ⟨15, _⟩ => ⟨S8x8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S8x8x8192x8192, .f32⟩
  | .hbm, ⟨24, _⟩ => ⟨S8x8x8192x8192, .f32⟩
  | .hbm, ⟨25, _⟩ => ⟨S8x8x8192x8192, .f32⟩
  | .hbm, ⟨26, _⟩ => ⟨S8x8x8192x8192, .f32⟩
  | .hbm, ⟨27, _⟩ => ⟨S8x8x8192x8192, .i1⟩
  | .hbm, ⟨28, _⟩ => ⟨S8x8x8192x8192, .f32⟩
  | .hbm, ⟨29, _⟩ => ⟨S8x8x8192x8192, .f32⟩
  | .hbm, ⟨30, _⟩ => ⟨S8x8x8192x8192, .f32⟩
  | .hbm, ⟨31, _⟩ => ⟨S8x8x8192x8192, .f32⟩
  | .hbm, ⟨32, _⟩ => ⟨S8x8x8192x8192, .f32⟩
  | .hbm, ⟨33, _⟩ => ⟨S8x8x8192x8192, .f32⟩
  | .hbm, ⟨34, _⟩ => ⟨S8x8x8192x8192, .f32⟩
  | .hbm, ⟨35, _⟩ => ⟨S8x8x8192x8192, .f32⟩
  | .hbm, ⟨36, _⟩ => ⟨S8x8x8192x8192, .f32⟩
  | .hbm, ⟨37, _⟩ => ⟨S_, .f32⟩
  | .hbm, ⟨38, _⟩ => ⟨S_, .f32⟩
  | .hbm, ⟨39, _⟩ => ⟨S8x8x8192x8192, .i1⟩
  | .hbm, ⟨40, _⟩ => ⟨S8x8x8192x8192, .f32⟩
  | .hbm, ⟨41, _⟩ => ⟨S8x8x8192x8192, .f32⟩
  | .hbm, ⟨42, _⟩ => ⟨S_, .f32⟩
  | .hbm, ⟨43, _⟩ => ⟨S_, .f32⟩
  | .hbm, ⟨44, _⟩ => ⟨S8x8x8192x8192, .f32⟩
  | .hbm, ⟨45, _⟩ => ⟨S8x8x8192x8192, .f32⟩
  | .hbm, ⟨46, _⟩ => ⟨S8x8x8192x8192, .f32⟩
  | .hbm, ⟨47, _⟩ => ⟨S_, .f32⟩
  | .hbm, ⟨48, _⟩ => ⟨S8x8x8192x8192, .f32⟩
  | .hbm, ⟨49, _⟩ => ⟨S8x8x8192x8192, .f32⟩
  | .hbm, ⟨50, _⟩ => ⟨S8x8x8192x8192, .f32⟩
  | .hbm, ⟨51, _⟩ => ⟨S8x8x8192x8192, .f32⟩
  | .hbm, ⟨52, _⟩ => ⟨S8x8x8192x8192, .i1⟩
  | .hbm, ⟨53, _⟩ => ⟨S8x8x8192x8192, .f32⟩
  | .hbm, ⟨54, _⟩ => ⟨S8x8x8192x8192, .f32⟩
  | .hbm, ⟨55, _⟩ => ⟨S8x8x8192x8192, .f32⟩
  | .hbm, ⟨56, _⟩ => ⟨S8x8x8192x8192, .f32⟩
  | .hbm, ⟨57, _⟩ => ⟨S8x8x8192x8192, .f32⟩
  | .hbm, ⟨58, _⟩ => ⟨S8x8x8192x8192, .f32⟩
  | .hbm, ⟨59, _⟩ => ⟨S8x8x8192x8192, .f32⟩
  | .hbm, ⟨60, _⟩ => ⟨S8x8x8192x8192, .f32⟩
  | .hbm, ⟨61, _⟩ => ⟨S8x8x8192x8192, .f32⟩
  | .hbm, ⟨62, _⟩ => ⟨S8x8x8192x8192, .f32⟩
  | .hbm, ⟨63, _⟩ => ⟨S8x8x8192x8192, .f32⟩
  | .hbm, ⟨64, _⟩ => ⟨S_, .f32⟩
  | .hbm, ⟨65, _⟩ => ⟨S_, .f32⟩
  | .hbm, ⟨66, _⟩ => ⟨S8x8x8192x8192, .i1⟩
  | .hbm, ⟨67, _⟩ => ⟨S8x8x8192x8192, .f32⟩
  | .hbm, ⟨68, _⟩ => ⟨S8x8x8192x8192, .f32⟩
  | .hbm, ⟨69, _⟩ => ⟨S8x8x8192x128, .f32⟩
  | .hbm, ⟨70, _⟩ => ⟨S8x8192x8x128, .f32⟩
  | .hbm, ⟨71, _⟩ => ⟨S8x8192x1024, .f32⟩
  | .hbm, ⟨72, _⟩ => ⟨S8x8192x1024, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== FfnKernel.lean ====
abbrev S8x8192x1024 : Shape := ⟨3, ![8, 8192, 1024]⟩
abbrev S1x4x1024 : Shape := ⟨3, ![1, 4, 1024]⟩
abbrev S1x2x1024x2816 : Shape := ⟨4, ![1, 2, 1024, 2816]⟩
abbrev S1x2x2816x1024 : Shape := ⟨4, ![1, 2, 2816, 1024]⟩
abbrev S65536x1024 : Shape := ⟨2, ![65536, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 23
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1x4x1024, .f32⟩
  | .hbm, ⟨2, _⟩ => ⟨S1x4x1024, .f32⟩
  | .hbm, ⟨3, _⟩ => ⟨S1x2x1024x2816, .f32⟩
  | .hbm, ⟨4, _⟩ => ⟨S1x2x1024x2816, .f32⟩
  | .hbm, ⟨5, _⟩ => ⟨S1x2x2816x1024, .f32⟩
  | .hbm, ⟨6, _⟩ => ⟨S65536x1024, .f32⟩
  | .hbm, ⟨7, _⟩ => ⟨S1x1x1024x2816, .f32⟩
  | .hbm, ⟨8, _⟩ => ⟨S1024x2816, .f32⟩
  | .hbm, ⟨9, _⟩ => ⟨S1024x2816, .bf16⟩
  | .hbm, ⟨10, _⟩ => ⟨S1x1x1024x2816, .f32⟩
  | .hbm, ⟨11, _⟩ => ⟨S1024x2816, .f32⟩
  | .hbm, ⟨12, _⟩ => ⟨S1024x2816, .bf16⟩
  | .hbm, ⟨13, _⟩ => ⟨S1x1x2816x1024, .f32⟩
  | .hbm, ⟨14, _⟩ => ⟨S2816x1024, .f32⟩
  | .hbm, ⟨15, _⟩ => ⟨S2816x1024, .bf16⟩
  | .hbm, ⟨16, _⟩ => ⟨S1x1x1024, .f32⟩
  | .hbm, ⟨17, _⟩ => ⟨S1024, .f32⟩
  | .hbm, ⟨18, _⟩ => ⟨S1x1024, .f32⟩
  | .hbm, ⟨19, _⟩ => ⟨S1x1x1024, .f32⟩
  | .hbm, ⟨20, _⟩ => ⟨S1024, .f32⟩
  | .hbm, ⟨21, _⟩ => ⟨S1x1024, .f32⟩
  | .hbm, ⟨22, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S8x8192x1024 : Shape := ⟨3, ![8, 8192, 1024]⟩
abbrev S1x4x1024 : Shape := ⟨3, ![1, 4, 1024]⟩
abbrev S1x2x1024x2816 : Shape := ⟨4, ![1, 2, 1024, 2816]⟩
abbrev S1x2x2816x1024 : Shape := ⟨4, ![1, 2, 2816, 1024]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x8192x2816 : Shape := ⟨3, ![8, 8192, 2816]⟩
abbrev S1x1x1024 : Shape := ⟨3, ![1, 1, 1024]⟩
abbrev S1024 : Shape := ⟨1, ![1024]⟩
abbrev S8x8192 : Shape := ⟨2, ![8, 8192]⟩
abbrev S8x8192x1 : Shape := ⟨3, ![8, 8192, 1]⟩
abbrev S65536x1024 : Shape := ⟨2, ![65536, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x4x1024, .f32⟩
  | .hbm, ⟨2, _⟩ => ⟨S1x4x1024, .f32⟩
  | .hbm, ⟨3, _⟩ => ⟨S1x2x1024x2816, .f32⟩
  | .hbm, ⟨4, _⟩ => ⟨S1x2x1024x2816, .f32⟩
  | .hbm, ⟨5, _⟩ => ⟨S1x2x2816x1024, .f32⟩
  | .hbm, ⟨6, _⟩ => ⟨S_, .f32⟩
  | .hbm, ⟨7, _⟩ => ⟨S8x8192x1024, .f32⟩
  | .hbm, ⟨8, _⟩ => ⟨S8x8192x1024, .f32⟩
  | .hbm, ⟨9, _⟩ => ⟨S1x1x1024x2816, .f32⟩
  | .hbm, ⟨10, _⟩ => ⟨S1024x2816, .f32⟩
  | .hbm, ⟨11, _⟩ => ⟨S1x1x1024x2816, .f32⟩
  | .hbm, ⟨12, _⟩ => ⟨S1024x2816, .f32⟩
  | .hbm, ⟨13, _⟩ => ⟨S1x1x2816x1024, .f32⟩
  | .hbm, ⟨14, _⟩ => ⟨S2816x1024, .f32⟩
  | .hbm, ⟨15, _⟩ => ⟨S8x8192x2816, .f32⟩
  | .hbm, ⟨16, _⟩ => ⟨S8x8192x2816, .f32⟩
  | .hbm, ⟨17, _⟩ => ⟨S8x8192x2816, .f32⟩
  | .hbm, ⟨18, _⟩ => ⟨S_, .f32⟩
  | .hbm, ⟨19, _⟩ => ⟨S8x8192x2816, .f32⟩
  | .hbm, ⟨20, _⟩ => ⟨S8x8192x2816, .f32⟩
  | .hbm, ⟨21, _⟩ => ⟨S_, .f32⟩
  | .hbm, ⟨22, _⟩ => ⟨S8x8192x2816, .f32⟩
  | .hbm, ⟨23, _⟩ => ⟨S8x8192x2816, .f32⟩
  | .hbm, ⟨24, _⟩ => ⟨S8x8192x2816, .f32⟩
  | .hbm, ⟨25, _⟩ => ⟨S8x8192x2816, .f32⟩
  | .hbm, ⟨26, _⟩ => ⟨S8x8192x2816, .f32⟩
  | .hbm, ⟨27, _⟩ => ⟨S8x8192x1024, .f32⟩
  | .hbm, ⟨28, _⟩ => ⟨S_, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S_, .f32⟩
  | .hbm, ⟨40, _⟩ => ⟨S8x8192x1, .f32⟩
  | .hbm, ⟨41, _⟩ => ⟨S8x8192x1, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S8x8192x1024, .f32⟩
  | .hbm, ⟨52, _⟩ => ⟨S8x8192x1024, .f32⟩
  | .hbm, ⟨53, _⟩ => ⟨S_, .f32⟩
  | .hbm, ⟨54, _⟩ => ⟨S8x8192x1, .f32⟩
  | .hbm, ⟨55, _⟩ => ⟨S8x8192x1, .f32⟩
  | .hbm, ⟨56, _⟩ => ⟨S8x8192x1, .f32⟩
  | .hbm, ⟨57, _⟩ => ⟨S8x8192x1024, .f32⟩
  | .hbm, ⟨58, _⟩ => ⟨S8x8192x1024, .f32⟩
  | .hbm, ⟨59, _⟩ => ⟨S1x1x1024, .f32⟩
  | .hbm, ⟨60, _⟩ => ⟨S8x8192x1024, .f32⟩
  | .hbm, ⟨61, _⟩ => ⟨S8x8192x1024, .f32⟩
  | .hbm, ⟨62, _⟩ => ⟨S1x1x1024, .f32⟩
  | .hbm, ⟨63, _⟩ => ⟨S8x8192x1024, .f32⟩
  | .hbm, ⟨64, _⟩ => ⟨S8x8192x1024, .f32⟩
  | .hbm, ⟨65, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== ProjKernel.lean ====
abbrev S65536x1024 : Shape := ⟨2, ![65536, 1024]⟩
abbrev S1x1024x8200 : Shape := ⟨3, ![1, 1024, 8200]⟩
abbrev S1x8200 : Shape := ⟨2, ![1, 8200]⟩
abbrev S1024x8200 : Shape := ⟨2, ![1024, 8200]⟩
abbrev S1024x3072 : Shape := ⟨2, ![1024, 3072]⟩
abbrev S1024x5120 : Shape := ⟨2, ![1024, 5120]⟩
abbrev S1024x8192 : Shape := ⟨2, ![1024, 8192]⟩
abbrev S8200 : Shape := ⟨1, ![8200]⟩
abbrev S3072 : Shape := ⟨1, ![3072]⟩
abbrev S5120 : Shape := ⟨1, ![5120]⟩
abbrev S8192 : Shape := ⟨1, ![8192]⟩
abbrev S1x8192 : Shape := ⟨2, ![1, 8192]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S1x8 : Shape := ⟨2, ![1, 8]⟩
abbrev S1x128 : Shape := ⟨2, ![1, 128]⟩
abbrev S8x1024 : Shape := ⟨2, ![8, 1024]⟩
abbrev S8x1 : Shape := ⟨2, ![8, 1]⟩
abbrev S65536x128 : Shape := ⟨2, ![65536, 128]⟩
abbrev S8x65536 : Shape := ⟨2, ![8, 65536]⟩
abbrev S512x1024 : Shape := ⟨2, ![512, 1024]⟩
abbrev S512x128 : Shape := ⟨2, ![512, 128]⟩
abbrev S8x512 : Shape := ⟨2, ![8, 512]⟩
abbrev S1024x1024 : Shape := ⟨2, ![1024, 1024]⟩
abbrev S1x1024 : Shape := ⟨2, ![1, 1024]⟩

abbrev nBuf : Space → Nat
  | .hbm => 40
  | .vmem => 28
  | .smem => 0
  | _ => 0

abbrev bufTy : (tb : Table) → Fin (tcTables nBuf tb) → BufTy
  | .hbm, ⟨0, _⟩ => ⟨S65536x1024, .f32⟩
  | .hbm, ⟨1, _⟩ => ⟨S1x1024x8200, .f32⟩
  | .hbm, ⟨2, _⟩ => ⟨S1x8200, .f32⟩
  | .hbm, ⟨3, _⟩ => ⟨S1024x8200, .f32⟩
  | .hbm, ⟨4, _⟩ => ⟨S1024x3072, .f32⟩
  | .hbm, ⟨5, _⟩ => ⟨S1024x8200, .f32⟩
  | .hbm, ⟨6, _⟩ => ⟨S1024x5120, .f32⟩
  | .hbm, ⟨7, _⟩ => ⟨S1024x8192, .f32⟩
  | .hbm, ⟨8, _⟩ => ⟨S1024x8192, .bf16⟩
  | .hbm, ⟨9, _⟩ => ⟨S8200, .f32⟩
  | .hbm, ⟨10, _⟩ => ⟨S3072, .f32⟩
  | .hbm, ⟨11, _⟩ => ⟨S8200, .f32⟩
  | .hbm, ⟨12, _⟩ => ⟨S5120, .f32⟩
  | .hbm, ⟨13, _⟩ => ⟨S8192, .f32⟩
  | .hbm, ⟨14, _⟩ => ⟨S1x8192, .f32⟩
  | .hbm, ⟨15, _⟩ => ⟨S1024x8200, .f32⟩
  | .hbm, ⟨16, _⟩ => ⟨S1024x8, .f32⟩
  | .hbm, ⟨17, _⟩ => ⟨S8200, .f32⟩
  | .hbm, ⟨18, _⟩ => ⟨S8, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S1x8, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S8x1024, .f32⟩
  | .hbm, ⟨28, _⟩ => ⟨S8x1024, .bf16⟩
  | .hbm, ⟨29, _⟩ => ⟨S8x1, .f32⟩
  | .hbm, ⟨30, _⟩ => ⟨S65536x1024, .f32⟩
  | .hbm, ⟨31, _⟩ => ⟨S65536x1024, .bf16⟩
  | .hbm, ⟨32, _⟩ => ⟨S65536x1024, .f32⟩
  | .hbm, ⟨33, _⟩ => ⟨S65536x1024, .bf16⟩
  | .hbm, ⟨34, _⟩ => ⟨S65536x1024, .bf16⟩
  | .hbm, ⟨35, _⟩ => ⟨S65536x1024, .bf16⟩
  | .hbm, ⟨36, _⟩ => ⟨S65536x1024, .f32⟩
  | .hbm, ⟨37, _⟩ => ⟨S65536x1024, .f32⟩
  | .hbm, ⟨38, _⟩ => ⟨S65536x128, .f32⟩
  | .hbm, ⟨39, _⟩ => ⟨S8x65536, .f32⟩
  | .local _ .vmem, ⟨0, _⟩ => ⟨S512x1024, .f32⟩
  | .local _ .vmem, ⟨1, _⟩ => ⟨S512x1024, .f32⟩
  | .local _ .vmem, ⟨2, _⟩ => ⟨S1024x8192, .bf16⟩
  | .local _ .vmem, ⟨3, _⟩ => ⟨S1x8192, .f32⟩
  | .local _ .vmem, ⟨4, _⟩ => ⟨S1024x128, .bf16⟩
  | .local _ .vmem, ⟨5, _⟩ => ⟨S1x128, .f32⟩
  | .local _ .vmem, ⟨6, _⟩ => ⟨S8x1024, .bf16⟩
  | .local _ .vmem, ⟨7, _⟩ => ⟨S8x1, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x128, .f32⟩
  | .local _ .vmem, ⟨25, _⟩ => ⟨S512x128, .f32⟩
  | .local _ .vmem, ⟨26, _⟩ => ⟨S8x512, .f32⟩
  | .local _ .vmem, ⟨27, _⟩ => ⟨S8x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_call1_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev main_v23_5 : Ref sig .tc := ⟨.hbm, 35, rfl⟩
abbrev main_v23_6 : Ref sig .tc := ⟨.hbm, 36, rfl⟩
abbrev main_v23_7 : Ref sig .tc := ⟨.hbm, 37, rfl⟩
abbrev main_v23_8 : Ref sig .tc := ⟨.hbm, 38, rfl⟩
abbrev main_v23_9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjReferenceIdeal.lean ====
abbrev S65536x1024 : Shape := ⟨2, ![65536, 1024]⟩
abbrev S1x1024x8200 : Shape := ⟨3, ![1, 1024, 8200]⟩
abbrev S1x8200 : Shape := ⟨2, ![1, 8200]⟩
abbrev S1024x8200 : Shape := ⟨2, ![1024, 8200]⟩
abbrev S65536x8200 : Shape := ⟨2, ![65536, 8200]⟩
abbrev S8200 : Shape := ⟨1, ![8200]⟩
abbrev S65536x8 : Shape := ⟨2, ![65536, 8]⟩
abbrev S65536x3072 : Shape := ⟨2, ![65536, 3072]⟩
abbrev S65536x2048 : Shape := ⟨2, ![65536, 2048]⟩
abbrev S_ : Shape := ⟨0, ![]⟩
abbrev S65536x128 : Shape := ⟨2, ![65536, 128]⟩
abbrev S8x65536 : Shape := ⟨2, ![8, 65536]⟩

abbrev nBuf : Space → Nat
  | .hbm => 28
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024x8200, .f32⟩
  | .hbm, ⟨2, _⟩ => ⟨S1x8200, .f32⟩
  | .hbm, ⟨3, _⟩ => ⟨S1024x8200, .f32⟩
  | .hbm, ⟨4, _⟩ => ⟨S65536x8200, .f32⟩
  | .hbm, ⟨5, _⟩ => ⟨S8200, .f32⟩
  | .hbm, ⟨6, _⟩ => ⟨S1x8200, .f32⟩
  | .hbm, ⟨7, _⟩ => ⟨S65536x8200, .f32⟩
  | .hbm, ⟨8, _⟩ => ⟨S65536x8200, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x8, .f32⟩
  | .hbm, ⟨13, _⟩ => ⟨S65536x3072, .f32⟩
  | .hbm, ⟨14, _⟩ => ⟨S65536x2048, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .i32⟩
  | .hbm, ⟨21, _⟩ => ⟨S_, .f32⟩
  | .hbm, ⟨22, _⟩ => ⟨S65536x128, .f32⟩
  | .hbm, ⟨23, _⟩ => ⟨S65536x1024, .bf16⟩
  | .hbm, ⟨24, _⟩ => ⟨S65536x1024, .bf16⟩
  | .hbm, ⟨25, _⟩ => ⟨S65536x1024, .bf16⟩
  | .hbm, ⟨26, _⟩ => ⟨S65536x1024, .bf16⟩
  | .hbm, ⟨27, _⟩ => ⟨S8x65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_call0_v0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== MergeKernel.lean ====
abbrev S65536x1024 : Shape := ⟨2, ![65536, 1024]⟩
abbrev S8x8192x1024 : Shape := ⟨3, ![8, 8192, 1024]⟩
abbrev S1x1024x1024 : Shape := ⟨3, ![1, 1024, 1024]⟩
abbrev S1x4x1024 : Shape := ⟨3, ![1, 4, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 25
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S8x8192x1024, .bf16⟩
  | .hbm, ⟨2, _⟩ => ⟨S8x8192x1024, .bf16⟩
  | .hbm, ⟨3, _⟩ => ⟨S65536x1024, .f32⟩
  | .hbm, ⟨4, _⟩ => ⟨S65536x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x4x1024, .f32⟩
  | .hbm, ⟨9, _⟩ => ⟨S1x4x1024, .f32⟩
  | .hbm, ⟨10, _⟩ => ⟨S65536x1024, .bf16⟩
  | .hbm, ⟨11, _⟩ => ⟨S65536x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S1x1x1024, .f32⟩
  | .hbm, ⟨22, _⟩ => ⟨S1024, .f32⟩
  | .hbm, ⟨23, _⟩ => ⟨S1x1024, .f32⟩
  | .hbm, ⟨24, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S65536x1024 : Shape := ⟨2, ![65536, 1024]⟩
abbrev S8x8192x1024 : Shape := ⟨3, ![8, 8192, 1024]⟩
abbrev S1x1024x1024 : Shape := ⟨3, ![1, 1024, 1024]⟩
abbrev S1x4x1024 : Shape := ⟨3, ![1, 4, 1024]⟩
abbrev S_ : Shape := ⟨0, ![]⟩
abbrev S1024x1024 : Shape := ⟨2, ![1024, 1024]⟩
abbrev S1x1x1024 : Shape := ⟨3, ![1, 1, 1024]⟩
abbrev S1024 : Shape := ⟨1, ![1024]⟩
abbrev S65536 : Shape := ⟨1, ![65536]⟩
abbrev S65536x1 : Shape := ⟨2, ![65536, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8192x1024, .bf16⟩
  | .hbm, ⟨2, _⟩ => ⟨S8x8192x1024, .bf16⟩
  | .hbm, ⟨3, _⟩ => ⟨S65536x1024, .f32⟩
  | .hbm, ⟨4, _⟩ => ⟨S65536x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x4x1024, .f32⟩
  | .hbm, ⟨9, _⟩ => ⟨S1x4x1024, .f32⟩
  | .hbm, ⟨10, _⟩ => ⟨S8x8192x1024, .f32⟩
  | .hbm, ⟨11, _⟩ => ⟨S65536x1024, .f32⟩
  | .hbm, ⟨12, _⟩ => ⟨S8x8192x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S1024x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S1024x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S1024x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S1x1x1024, .f32⟩
  | .hbm, ⟨44, _⟩ => ⟨S1024, .f32⟩
  | .hbm, ⟨45, _⟩ => ⟨S1x1x1024, .f32⟩
  | .hbm, ⟨46, _⟩ => ⟨S1024, .f32⟩
  | .hbm, ⟨47, _⟩ => ⟨S_, .f32⟩
  | .hbm, ⟨48, _⟩ => ⟨S65536, .f32⟩
  | .hbm, ⟨49, _⟩ => ⟨S65536x1, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S_, .f32⟩
  | .hbm, ⟨57, _⟩ => ⟨S65536, .f32⟩
  | .hbm, ⟨58, _⟩ => ⟨S65536x1, .f32⟩
  | .hbm, ⟨59, _⟩ => ⟨S_, .f32⟩
  | .hbm, ⟨60, _⟩ => ⟨S65536x1, .f32⟩
  | .hbm, ⟨61, _⟩ => ⟨S65536x1, .f32⟩
  | .hbm, ⟨62, _⟩ => ⟨S65536x1024, .f32⟩
  | .hbm, ⟨63, _⟩ => ⟨S65536x1024, .f32⟩
  | .hbm, ⟨64, _⟩ => ⟨S_, .f32⟩
  | .hbm, ⟨65, _⟩ => ⟨S65536x1, .f32⟩
  | .hbm, ⟨66, _⟩ => ⟨S65536x1, .f32⟩
  | .hbm, ⟨67, _⟩ => ⟨S65536x1, .f32⟩
  | .hbm, ⟨68, _⟩ => ⟨S65536x1024, .f32⟩
  | .hbm, ⟨69, _⟩ => ⟨S65536x1024, .f32⟩
  | .hbm, ⟨70, _⟩ => ⟨S1x1024, .f32⟩
  | .hbm, ⟨71, _⟩ => ⟨S65536x1024, .f32⟩
  | .hbm, ⟨72, _⟩ => ⟨S65536x1024, .f32⟩
  | .hbm, ⟨73, _⟩ => ⟨S1x1024, .f32⟩
  | .hbm, ⟨74, _⟩ => ⟨S65536x1024, .f32⟩
  | .hbm, ⟨75, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== OutKernel.lean ====
abbrev S65536x1024 : Shape := ⟨2, ![65536, 1024]⟩
abbrev S1x8x8192x256 : Shape := ⟨4, ![1, 8, 8192, 256]⟩
abbrev S1x4x1024 : Shape := ⟨3, ![1, 4, 1024]⟩
abbrev S1x2x1024x2816 : Shape := ⟨4, ![1, 2, 1024, 2816]⟩
abbrev S1x2x2816x1024 : Shape := ⟨4, ![1, 2, 2816, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x1x1024 : Shape := ⟨3, ![1, 1, 1024]⟩
abbrev S1024 : Shape := ⟨1, ![1024]⟩
abbrev S8x8192x256 : Shape := ⟨3, ![8, 8192, 256]⟩
abbrev S65536x256 : Shape := ⟨2, ![65536, 256]⟩
abbrev S256x1024 : Shape := ⟨2, ![256, 1024]⟩
abbrev S1024x1024 : Shape := ⟨2, ![1024, 1024]⟩
abbrev S1024x256 : Shape := ⟨2, ![1024, 256]⟩
abbrev S1024x1 : Shape := ⟨2, ![1024, 1]⟩

abbrev nBuf : Space → Nat
  | .hbm => 40
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1x8x8192x256, .f32⟩
  | .hbm, ⟨2, _⟩ => ⟨S1x4x1024, .f32⟩
  | .hbm, ⟨3, _⟩ => ⟨S1x4x1024, .f32⟩
  | .hbm, ⟨4, _⟩ => ⟨S1x2x1024x2816, .f32⟩
  | .hbm, ⟨5, _⟩ => ⟨S1x2x1024x2816, .f32⟩
  | .hbm, ⟨6, _⟩ => ⟨S1x2x2816x1024, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S1x1x1024x2816, .f32⟩
  | .hbm, ⟨11, _⟩ => ⟨S1024x2816, .f32⟩
  | .hbm, ⟨12, _⟩ => ⟨S1024x2816, .bf16⟩
  | .hbm, ⟨13, _⟩ => ⟨S1x1x1024x2816, .f32⟩
  | .hbm, ⟨14, _⟩ => ⟨S1024x2816, .f32⟩
  | .hbm, ⟨15, _⟩ => ⟨S1024x2816, .bf16⟩
  | .hbm, ⟨16, _⟩ => ⟨S1x1x2816x1024, .f32⟩
  | .hbm, ⟨17, _⟩ => ⟨S2816x1024, .f32⟩
  | .hbm, ⟨18, _⟩ => ⟨S2816x1024, .bf16⟩
  | .hbm, ⟨19, _⟩ => ⟨S1x1x1024, .f32⟩
  | .hbm, ⟨20, _⟩ => ⟨S1024, .f32⟩
  | .hbm, ⟨21, _⟩ => ⟨S1x1024, .f32⟩
  | .hbm, ⟨22, _⟩ => ⟨S1x1x1024, .f32⟩
  | .hbm, ⟨23, _⟩ => ⟨S1024, .f32⟩
  | .hbm, ⟨24, _⟩ => ⟨S1x1024, .f32⟩
  | .hbm, ⟨25, _⟩ => ⟨S8x8192x256, .f32⟩
  | .hbm, ⟨26, _⟩ => ⟨S65536x256, .f32⟩
  | .hbm, ⟨27, _⟩ => ⟨S256x1024, .f32⟩
  | .hbm, ⟨28, _⟩ => ⟨S256x1024, .bf16⟩
  | .hbm, ⟨29, _⟩ => ⟨S1024x1024, .f32⟩
  | .hbm, ⟨30, _⟩ => ⟨S1024x1024, .bf16⟩
  | .hbm, ⟨31, _⟩ => ⟨S1024, .f32⟩
  | .hbm, ⟨32, _⟩ => ⟨S1x1024, .f32⟩
  | .hbm, ⟨33, _⟩ => ⟨S1x1x1024, .f32⟩
  | .hbm, ⟨34, _⟩ => ⟨S1024, .f32⟩
  | .hbm, ⟨35, _⟩ => ⟨S1x1024, .f32⟩
  | .hbm, ⟨36, _⟩ => ⟨S1x1x1024, .f32⟩
  | .hbm, ⟨37, _⟩ => ⟨S1024, .f32⟩
  | .hbm, ⟨38, _⟩ => ⟨S1x1024, .f32⟩
  | .hbm, ⟨39, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x256, .f32⟩
  | .local _ .vmem, ⟨8, _⟩ => ⟨S1024x256, .f32⟩
  | .local _ .vmem, ⟨9, _⟩ => ⟨S256x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutReferenceIdeal.lean ====
abbrev S65536x1024 : Shape := ⟨2, ![65536, 1024]⟩
abbrev S1x8x8192x256 : Shape := ⟨4, ![1, 8, 8192, 256]⟩
abbrev S1x4x1024 : Shape := ⟨3, ![1, 4, 1024]⟩
abbrev S1x2x1024x2816 : Shape := ⟨4, ![1, 2, 1024, 2816]⟩
abbrev S1x2x2816x1024 : Shape := ⟨4, ![1, 2, 2816, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S65536x2816 : Shape := ⟨2, ![65536, 2816]⟩
abbrev S1x1x1024 : Shape := ⟨3, ![1, 1, 1024]⟩
abbrev S1024 : Shape := ⟨1, ![1024]⟩
abbrev S65536 : Shape := ⟨1, ![65536]⟩
abbrev S65536x1 : Shape := ⟨2, ![65536, 1]⟩
abbrev S1024x1024 : Shape := ⟨2, ![1024, 1024]⟩
abbrev S8x8192x256 : Shape := ⟨3, ![8, 8192, 256]⟩
abbrev S65536x256 : Shape := ⟨2, ![65536, 256]⟩
abbrev S256x1024 : Shape := ⟨2, ![256, 1024]⟩

abbrev nBuf : Space → Nat
  | .hbm => 125
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x8x8192x256, .f32⟩
  | .hbm, ⟨2, _⟩ => ⟨S1x4x1024, .f32⟩
  | .hbm, ⟨3, _⟩ => ⟨S1x4x1024, .f32⟩
  | .hbm, ⟨4, _⟩ => ⟨S1x2x1024x2816, .f32⟩
  | .hbm, ⟨5, _⟩ => ⟨S1x2x1024x2816, .f32⟩
  | .hbm, ⟨6, _⟩ => ⟨S1x2x2816x1024, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S1x1x1024x2816, .f32⟩
  | .hbm, ⟨14, _⟩ => ⟨S1024x2816, .f32⟩
  | .hbm, ⟨15, _⟩ => ⟨S1x1x1024x2816, .f32⟩
  | .hbm, ⟨16, _⟩ => ⟨S1024x2816, .f32⟩
  | .hbm, ⟨17, _⟩ => ⟨S1x1x2816x1024, .f32⟩
  | .hbm, ⟨18, _⟩ => ⟨S2816x1024, .f32⟩
  | .hbm, ⟨19, _⟩ => ⟨S65536x2816, .f32⟩
  | .hbm, ⟨20, _⟩ => ⟨S65536x2816, .f32⟩
  | .hbm, ⟨21, _⟩ => ⟨S65536x2816, .f32⟩
  | .hbm, ⟨22, _⟩ => ⟨S_, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S1x1x1024, .f32⟩
  | .hbm, ⟨37, _⟩ => ⟨S1024, .f32⟩
  | .hbm, ⟨38, _⟩ => ⟨S1x1x1024, .f32⟩
  | .hbm, ⟨39, _⟩ => ⟨S1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S1x1024, .f32⟩
  | .hbm, ⟨64, _⟩ => ⟨S65536x1024, .f32⟩
  | .hbm, ⟨65, _⟩ => ⟨S65536x1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S1024x1024, .f32⟩
  | .hbm, ⟨70, _⟩ => ⟨S65536x1024, .f32⟩
  | .hbm, ⟨71, _⟩ => ⟨S1024, .f32⟩
  | .hbm, ⟨72, _⟩ => ⟨S1x1024, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S_, .f32⟩
  | .hbm, ⟨78, _⟩ => ⟨S65536x1024, .f32⟩
  | .hbm, ⟨79, _⟩ => ⟨S65536x1024, .f32⟩
  | .hbm, ⟨80, _⟩ => ⟨S_, .f32⟩
  | .hbm, ⟨81, _⟩ => ⟨S65536x1024, .f32⟩
  | .hbm, ⟨82, _⟩ => ⟨S65536x1024, .f32⟩
  | .hbm, ⟨83, _⟩ => ⟨S_, .f32⟩
  | .hbm, ⟨84, _⟩ => ⟨S65536x1024, .f32⟩
  | .hbm, ⟨85, _⟩ => ⟨S65536x1024, .f32⟩
  | .hbm, ⟨86, _⟩ => ⟨S8x8192x256, .f32⟩
  | .hbm, ⟨87, _⟩ => ⟨S65536x256, .f32⟩
  | .hbm, ⟨88, _⟩ => ⟨S256x1024, .f32⟩
  | .hbm, ⟨89, _⟩ => ⟨S65536x1024, .f32⟩
  | .hbm, ⟨90, _⟩ => ⟨S65536x1024, .f32⟩
  | .hbm, ⟨91, _⟩ => ⟨S65536x1024, .f32⟩
  | .hbm, ⟨92, _⟩ => ⟨S1x1x1024, .f32⟩
  | .hbm, ⟨93, _⟩ => ⟨S1024, .f32⟩
  | .hbm, ⟨94, _⟩ => ⟨S1x1x1024, .f32⟩
  | .hbm, ⟨95, _⟩ => ⟨S1024, .f32⟩
  | .hbm, ⟨96, _⟩ => ⟨S_, .f32⟩
  | .hbm, ⟨97, _⟩ => ⟨S65536, .f32⟩
  | .hbm, ⟨98, _⟩ => ⟨S65536x1, .f32⟩
  | .hbm, ⟨99, _⟩ => ⟨S_, .f32⟩
  | .hbm, ⟨100, _⟩ => ⟨S65536x1, .f32⟩
  | .hbm, ⟨101, _⟩ => ⟨S65536x1, .f32⟩
  | .hbm, ⟨102, _⟩ => ⟨S65536x1024, .f32⟩
  | .hbm, ⟨103, _⟩ => ⟨S65536x1024, .f32⟩
  | .hbm, ⟨104, _⟩ => ⟨S65536x1024, .f32⟩
  | .hbm, ⟨105, _⟩ => ⟨S_, .f32⟩
  | .hbm, ⟨106, _⟩ => ⟨S65536, .f32⟩
  | .hbm, ⟨107, _⟩ => ⟨S65536x1, .f32⟩
  | .hbm, ⟨108, _⟩ => ⟨S_, .f32⟩
  | .hbm, ⟨109, _⟩ => ⟨S65536x1, .f32⟩
  | .hbm, ⟨110, _⟩ => ⟨S65536x1, .f32⟩
  | .hbm, ⟨111, _⟩ => ⟨S65536x1024, .f32⟩
  | .hbm, ⟨112, _⟩ => ⟨S65536x1024, .f32⟩
  | .hbm, ⟨113, _⟩ => ⟨S_, .f32⟩
  | .hbm, ⟨114, _⟩ => ⟨S65536x1, .f32⟩
  | .hbm, ⟨115, _⟩ => ⟨S65536x1, .f32⟩
  | .hbm, ⟨116, _⟩ => ⟨S65536x1, .f32⟩
  | .hbm, ⟨117, _⟩ => ⟨S65536x1024, .f32⟩
  | .hbm, ⟨118, _⟩ => ⟨S65536x1024, .f32⟩
  | .hbm, ⟨119, _⟩ => ⟨S1x1024, .f32⟩
  | .hbm, ⟨120, _⟩ => ⟨S65536x1024, .f32⟩
  | .hbm, ⟨121, _⟩ => ⟨S65536x1024, .f32⟩
  | .hbm, ⟨122, _⟩ => ⟨S1x1024, .f32⟩
  | .hbm, ⟨123, _⟩ => ⟨S65536x1024, .f32⟩
  | .hbm, ⟨124, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_cst_7 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]
-- ==== LayerKernel.lean ====
abbrev S8x8192x1024 : Shape := ⟨3, ![8, 8192, 1024]⟩
abbrev S1x8x8192x256 : Shape := ⟨4, ![1, 8, 8192, 256]⟩
abbrev S1x4x1024 : Shape := ⟨3, ![1, 4, 1024]⟩
abbrev S1x2x1024x2816 : Shape := ⟨4, ![1, 2, 1024, 2816]⟩
abbrev S1x2x2816x1024 : Shape := ⟨4, ![1, 2, 2816, 1024]⟩
abbrev S1x1024x8200 : Shape := ⟨3, ![1, 1024, 8200]⟩
abbrev S1x8200 : Shape := ⟨2, ![1, 8200]⟩
abbrev S1x1024x1024 : Shape := ⟨3, ![1, 1024, 1024]⟩
abbrev S1x256x1024 : Shape := ⟨3, ![1, 256, 1024]⟩
abbrev S1x1024 : Shape := ⟨2, ![1, 1024]⟩
abbrev S65536x1024 : Shape := ⟨2, ![65536, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x1x1024 : Shape := ⟨3, ![1, 1, 1024]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩
abbrev S1024x8200 : Shape := ⟨2, ![1024, 8200]⟩
abbrev S1024x3072 : Shape := ⟨2, ![1024, 3072]⟩
abbrev S1024x5120 : Shape := ⟨2, ![1024, 5120]⟩
abbrev S1024x8192 : Shape := ⟨2, ![1024, 8192]⟩
abbrev S8200 : Shape := ⟨1, ![8200]⟩
abbrev S3072 : Shape := ⟨1, ![3072]⟩
abbrev S5120 : Shape := ⟨1, ![5120]⟩
abbrev S8192 : Shape := ⟨1, ![8192]⟩
abbrev S1x8192 : Shape := ⟨2, ![1, 8192]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S1x8 : Shape := ⟨2, ![1, 8]⟩
abbrev S1x128 : Shape := ⟨2, ![1, 128]⟩
abbrev S8x1024 : Shape := ⟨2, ![8, 1024]⟩
abbrev S8x1 : Shape := ⟨2, ![8, 1]⟩
abbrev S65536x128 : Shape := ⟨2, ![65536, 128]⟩
abbrev S8x65536 : Shape := ⟨2, ![8, 65536]⟩
abbrev S512x1024 : Shape := ⟨2, ![512, 1024]⟩
abbrev S512x128 : Shape := ⟨2, ![512, 128]⟩
abbrev S8x512 : Shape := ⟨2, ![8, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S1x512x128 : Shape := ⟨3, ![1, 512, 128]⟩
abbrev S1x8192x128 : Shape := ⟨3, ![1, 8192, 128]⟩
abbrev S512x1 : Shape := ⟨2, ![512, 1]⟩
abbrev S1x256x128 : Shape := ⟨3, ![1, 256, 128]⟩
abbrev S256x128 : Shape := ⟨2, ![256, 128]⟩
abbrev S512x512 : Shape := ⟨2, ![512, 512]⟩
abbrev S512 : Shape := ⟨1, ![512]⟩
abbrev S8x8192x256 : Shape := ⟨3, ![8, 8192, 256]⟩
abbrev S65536x256 : Shape := ⟨2, ![65536, 256]⟩

abbrev nBuf : Space → Nat
  | .hbm => 128
  | .vmem => 81
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S1x8x8192x256, .f32⟩
  | .hbm, ⟨3, _⟩ => ⟨S1x4x1024, .f32⟩
  | .hbm, ⟨4, _⟩ => ⟨S1x4x1024, .f32⟩
  | .hbm, ⟨5, _⟩ => ⟨S1x2x1024x2816, .f32⟩
  | .hbm, ⟨6, _⟩ => ⟨S1x2x1024x2816, .f32⟩
  | .hbm, ⟨7, _⟩ => ⟨S1x2x2816x1024, .f32⟩
  | .hbm, ⟨8, _⟩ => ⟨S1x1024x8200, .f32⟩
  | .hbm, ⟨9, _⟩ => ⟨S1x8200, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S1x256x1024, .f32⟩
  | .hbm, ⟨14, _⟩ => ⟨S1x1024x1024, .f32⟩
  | .hbm, ⟨15, _⟩ => ⟨S1x1024, .f32⟩
  | .hbm, ⟨16, _⟩ => ⟨S65536x1024, .f32⟩
  | .hbm, ⟨17, _⟩ => ⟨S1x1x1024x2816, .f32⟩
  | .hbm, ⟨18, _⟩ => ⟨S1024x2816, .f32⟩
  | .hbm, ⟨19, _⟩ => ⟨S1024x2816, .bf16⟩
  | .hbm, ⟨20, _⟩ => ⟨S1x1x1024x2816, .f32⟩
  | .hbm, ⟨21, _⟩ => ⟨S1024x2816, .f32⟩
  | .hbm, ⟨22, _⟩ => ⟨S1024x2816, .bf16⟩
  | .hbm, ⟨23, _⟩ => ⟨S1x1x2816x1024, .f32⟩
  | .hbm, ⟨24, _⟩ => ⟨S2816x1024, .f32⟩
  | .hbm, ⟨25, _⟩ => ⟨S2816x1024, .bf16⟩
  | .hbm, ⟨26, _⟩ => ⟨S1x1x1024, .f32⟩
  | .hbm, ⟨27, _⟩ => ⟨S1024, .f32⟩
  | .hbm, ⟨28, _⟩ => ⟨S1x1024, .f32⟩
  | .hbm, ⟨29, _⟩ => ⟨S1x1x1024, .f32⟩
  | .hbm, ⟨30, _⟩ => ⟨S1024, .f32⟩
  | .hbm, ⟨31, _⟩ => ⟨S1x1024, .f32⟩
  | .hbm, ⟨32, _⟩ => ⟨S65536x1024, .f32⟩
  | .hbm, ⟨33, _⟩ => ⟨S1024x8200, .f32⟩
  | .hbm, ⟨34, _⟩ => ⟨S1024x3072, .f32⟩
  | .hbm, ⟨35, _⟩ => ⟨S1024x8200, .f32⟩
  | .hbm, ⟨36, _⟩ => ⟨S1024x5120, .f32⟩
  | .hbm, ⟨37, _⟩ => ⟨S1024x8192, .f32⟩
  | .hbm, ⟨38, _⟩ => ⟨S1024x8192, .bf16⟩
  | .hbm, ⟨39, _⟩ => ⟨S8200, .f32⟩
  | .hbm, ⟨40, _⟩ => ⟨S3072, .f32⟩
  | .hbm, ⟨41, _⟩ => ⟨S8200, .f32⟩
  | .hbm, ⟨42, _⟩ => ⟨S5120, .f32⟩
  | .hbm, ⟨43, _⟩ => ⟨S8192, .f32⟩
  | .hbm, ⟨44, _⟩ => ⟨S1x8192, .f32⟩
  | .hbm, ⟨45, _⟩ => ⟨S1024x8200, .f32⟩
  | .hbm, ⟨46, _⟩ => ⟨S1024x8, .f32⟩
  | .hbm, ⟨47, _⟩ => ⟨S8200, .f32⟩
  | .hbm, ⟨48, _⟩ => ⟨S8, .f32⟩
  | .hbm, ⟨49, _⟩ => ⟨S_, .i32⟩
  | .hbm, ⟨50, _⟩ => ⟨S_, .f32⟩
  | .hbm, ⟨51, _⟩ => ⟨S1024x128, .f32⟩
  | .hbm, ⟨52, _⟩ => ⟨S1024x128, .bf16⟩
  | .hbm, ⟨53, _⟩ => ⟨S1x8, .f32⟩
  | .hbm, ⟨54, _⟩ => ⟨S_, .i32⟩
  | .hbm, ⟨55, _⟩ => ⟨S_, .f32⟩
  | .hbm, ⟨56, _⟩ => ⟨S1x128, .f32⟩
  | .hbm, ⟨57, _⟩ => ⟨S8x1024, .f32⟩
  | .hbm, ⟨58, _⟩ => ⟨S8x1024, .bf16⟩
  | .hbm, ⟨59, _⟩ => ⟨S8x1, .f32⟩
  | .hbm, ⟨60, _⟩ => ⟨S65536x1024, .f32⟩
  | .hbm, ⟨61, _⟩ => ⟨S65536x1024, .bf16⟩
  | .hbm, ⟨62, _⟩ => ⟨S65536x1024, .f32⟩
  | .hbm, ⟨63, _⟩ => ⟨S65536x1024, .bf16⟩
  | .hbm, ⟨64, _⟩ => ⟨S65536x1024, .bf16⟩
  | .hbm, ⟨65, _⟩ => ⟨S65536x1024, .bf16⟩
  | .hbm, ⟨66, _⟩ => ⟨S65536x1024, .f32⟩
  | .hbm, ⟨67, _⟩ => ⟨S65536x1024, .f32⟩
  | .hbm, ⟨68, _⟩ => ⟨S65536x128, .f32⟩
  | .hbm, ⟨69, _⟩ => ⟨S8x65536, .f32⟩
  | .hbm, ⟨70, _⟩ => ⟨S8x8192x1024, .bf16⟩
  | .hbm, ⟨71, _⟩ => ⟨S8x8192x1024, .bf16⟩
  | .hbm, ⟨72, _⟩ => ⟨S8x8192x1024, .bf16⟩
  | .hbm, ⟨73, _⟩ => ⟨S256, .i32⟩
  | .hbm, ⟨74, _⟩ => ⟨S256x1, .i32⟩
  | .hbm, ⟨75, _⟩ => ⟨S256, .i32⟩
  | .hbm, ⟨76, _⟩ => ⟨S1x256, .i32⟩
  | .hbm, ⟨77, _⟩ => ⟨S256x256, .i32⟩
  | .hbm, ⟨78, _⟩ => ⟨S256x256, .i32⟩
  | .hbm, ⟨79, _⟩ => ⟨S256x256, .i1⟩
  | .hbm, ⟨80, _⟩ => ⟨S256x256, .bf16⟩
  | .hbm, ⟨81, _⟩ => ⟨S512x256, .bf16⟩
  | .hbm, ⟨82, _⟩ => ⟨S8x8192x1024, .bf16⟩
  | .hbm, ⟨83, _⟩ => ⟨S65536x1024, .bf16⟩
  | .hbm, ⟨84, _⟩ => ⟨S65536x1024, .bf16⟩
  | .hbm, ⟨85, _⟩ => ⟨S1024x1024, .f32⟩
  | .hbm, ⟨86, _⟩ => ⟨S1024x1024, .bf16⟩
  | .hbm, ⟨87, _⟩ => ⟨S1024x1024, .f32⟩
  | .hbm, ⟨88, _⟩ => ⟨S1024x1024, .bf16⟩
  | .hbm, ⟨89, _⟩ => ⟨S1024x1024, .f32⟩
  | .hbm, ⟨90, _⟩ => ⟨S1024x1024, .bf16⟩
  | .hbm, ⟨91, _⟩ => ⟨S1x1x1024, .f32⟩
  | .hbm, ⟨92, _⟩ => ⟨S1024, .f32⟩
  | .hbm, ⟨93, _⟩ => ⟨S1x1024, .f32⟩
  | .hbm, ⟨94, _⟩ => ⟨S1x1x1024, .f32⟩
  | .hbm, ⟨95, _⟩ => ⟨S1024, .f32⟩
  | .hbm, ⟨96, _⟩ => ⟨S1x1024, .f32⟩
  | .hbm, ⟨97, _⟩ => ⟨S65536x1024, .f32⟩
  | .hbm, ⟨98, _⟩ => ⟨S1x1x1024x2816, .f32⟩
  | .hbm, ⟨99, _⟩ => ⟨S1024x2816, .f32⟩
  | .hbm, ⟨100, _⟩ => ⟨S1024x2816, .bf16⟩
  | .hbm, ⟨101, _⟩ => ⟨S1x1x1024x2816, .f32⟩
  | .hbm, ⟨102, _⟩ => ⟨S1024x2816, .f32⟩
  | .hbm, ⟨103, _⟩ => ⟨S1024x2816, .bf16⟩
  | .hbm, ⟨104, _⟩ => ⟨S1x1x2816x1024, .f32⟩
  | .hbm, ⟨105, _⟩ => ⟨S2816x1024, .f32⟩
  | .hbm, ⟨106, _⟩ => ⟨S2816x1024, .bf16⟩
  | .hbm, ⟨107, _⟩ => ⟨S1x1x1024, .f32⟩
  | .hbm, ⟨108, _⟩ => ⟨S1024, .f32⟩
  | .hbm, ⟨109, _⟩ => ⟨S1x1024, .f32⟩
  | .hbm, ⟨110, _⟩ => ⟨S1x1x1024, .f32⟩
  | .hbm, ⟨111, _⟩ => ⟨S1024, .f32⟩
  | .hbm, ⟨112, _⟩ => ⟨S1x1024, .f32⟩
  | .hbm, ⟨113, _⟩ => ⟨S8x8192x256, .f32⟩
  | .hbm, ⟨114, _⟩ => ⟨S65536x256, .f32⟩
  | .hbm, ⟨115, _⟩ => ⟨S256x1024, .f32⟩
  | .hbm, ⟨116, _⟩ => ⟨S256x1024, .bf16⟩
  | .hbm, ⟨117, _⟩ => ⟨S1024x1024, .f32⟩
  | .hbm, ⟨118, _⟩ => ⟨S1024x1024, .bf16⟩
  | .hbm, ⟨119, _⟩ => ⟨S1024, .f32⟩
  | .hbm, ⟨120, _⟩ => ⟨S1x1024, .f32⟩
  | .hbm, ⟨121, _⟩ => ⟨S1x1x1024, .f32⟩
  | .hbm, ⟨122, _⟩ => ⟨S1024, .f32⟩
  | .hbm, ⟨123, _⟩ => ⟨S1x1024, .f32⟩
  | .hbm, ⟨124, _⟩ => ⟨S1x1x1024, .f32⟩
  | .hbm, ⟨125, _⟩ => ⟨S1024, .f32⟩
  | .hbm, ⟨126, _⟩ => ⟨S1x1024, .f32⟩
  | .hbm, ⟨127, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S512x1024, .f32⟩
  | .local _ .vmem, ⟨10, _⟩ => ⟨S512x1024, .f32⟩
  | .local _ .vmem, ⟨11, _⟩ => ⟨S1024x8192, .bf16⟩
  | .local _ .vmem, ⟨12, _⟩ => ⟨S1x8192, .f32⟩
  | .local _ .vmem, ⟨13, _⟩ => ⟨S1024x128, .bf16⟩
  | .local _ .vmem, ⟨14, _⟩ => ⟨S1x128, .f32⟩
  | .local _ .vmem, ⟨15, _⟩ => ⟨S8x1024, .bf16⟩
  | .local _ .vmem, ⟨16, _⟩ => ⟨S8x1, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x128, .f32⟩
  | .local _ .vmem, ⟨34, _⟩ => ⟨S512x128, .f32⟩
  | .local _ .vmem, ⟨35, _⟩ => ⟨S8x512, .f32⟩
  | .local _ .vmem, ⟨36, _⟩ => ⟨S8x512, .f32⟩
  | .local _ .vmem, ⟨37, _⟩ => ⟨S1x512x128, .bf16⟩
  | .local _ .vmem, ⟨38, _⟩ => ⟨S1x512x128, .bf16⟩
  | .local _ .vmem, ⟨39, _⟩ => ⟨S1x8192x128, .bf16⟩
  | .local _ .vmem, ⟨40, _⟩ => ⟨S1x8192x128, .bf16⟩
  | .local _ .vmem, ⟨41, _⟩ => ⟨S1x8192x128, .bf16⟩
  | .local _ .vmem, ⟨42, _⟩ => ⟨S1x8192x128, .bf16⟩
  | .local _ .vmem, ⟨43, _⟩ => ⟨S512x256, .bf16⟩
  | .local _ .vmem, ⟨44, _⟩ => ⟨S1x512x128, .bf16⟩
  | .local _ .vmem, ⟨45, _⟩ => ⟨S1x512x128, .bf16⟩
  | .local _ .vmem, ⟨46, _⟩ => ⟨S512x128, .f32⟩
  | .local _ .vmem, ⟨47, _⟩ => ⟨S512x1, .f32⟩
  | .local _ .vmem, ⟨48, _⟩ => ⟨S512x1024, .f32⟩
  | .local _ .vmem, ⟨49, _⟩ => ⟨S512x1024, .f32⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x1024, .bf16⟩
  | .local _ .vmem, ⟨54, _⟩ => ⟨S512x1024, .f32⟩
  | .local _ .vmem, ⟨55, _⟩ => ⟨S512x1024, .f32⟩
  | .local _ .vmem, ⟨56, _⟩ => ⟨S512x1024, .f32⟩
  | .local _ .vmem, ⟨57, _⟩ => ⟨S512x1024, .f32⟩
  | .local _ .vmem, ⟨58, _⟩ => ⟨S1024x1024, .bf16⟩
  | .local _ .vmem, ⟨59, _⟩ => ⟨S1024x1024, .bf16⟩
  | .local _ .vmem, ⟨60, _⟩ => ⟨S1024x1024, .bf16⟩
  | .local _ .vmem, ⟨61, _⟩ => ⟨S1x1024, .f32⟩
  | .local _ .vmem, ⟨62, _⟩ => ⟨S1x1024, .f32⟩
  | .local _ .vmem, ⟨63, _⟩ => ⟨S512x1024, .f32⟩
  | .local _ .vmem, ⟨64, _⟩ => ⟨S512x1024, .f32⟩
  | .local _ .vmem, ⟨65, _⟩ => ⟨S1024x1024, .f32⟩
  | .local _ .vmem, ⟨66, _⟩ => ⟨S1024x1024, .f32⟩
  | .local _ .vmem, ⟨67, _⟩ => ⟨S1024x2816, .bf16⟩
  | .local _ .vmem, ⟨68, _⟩ => ⟨S1024x2816, .bf16⟩
  | .local _ .vmem, ⟨69, _⟩ => ⟨S2816x1024, .bf16⟩
  | .local _ .vmem, ⟨70, _⟩ => ⟨S1x1024, .f32⟩
  | .local _ .vmem, ⟨71, _⟩ => ⟨S1x1024, .f32⟩
  | .local _ .vmem, ⟨72, _⟩ => ⟨S1024x256, .f32⟩
  | .local _ .vmem, ⟨73, _⟩ => ⟨S1024x256, .f32⟩
  | .local _ .vmem, ⟨74, _⟩ => ⟨S256x1024, .bf16⟩
  | .local _ .vmem, ⟨75, _⟩ => ⟨S1024x1024, .bf16⟩
  | .local _ .vmem, ⟨76, _⟩ => ⟨S1x1024, .f32⟩
  | .local _ .vmem, ⟨77, _⟩ => ⟨S1x1024, .f32⟩
  | .local _ .vmem, ⟨78, _⟩ => ⟨S1x1024, .f32⟩
  | .local _ .vmem, ⟨79, _⟩ => ⟨S1024x1024, .f32⟩
  | .local _ .vmem, ⟨80, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_0 : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_v40_2 : Ref sig .tc := ⟨.hbm, 62, rfl⟩
abbrev main_v40_3 : Ref sig .tc := ⟨.hbm, 63, rfl⟩
abbrev main_v40_4 : Ref sig .tc := ⟨.hbm, 64, rfl⟩
abbrev main_v40_5 : Ref sig .tc := ⟨.hbm, 65, rfl⟩
abbrev main_v40_6 : Ref sig .tc := ⟨.hbm, 66, rfl⟩
abbrev main_v40_7 : Ref sig .tc := ⟨.hbm, 67, rfl⟩
abbrev main_v40_8 : Ref sig .tc := ⟨.hbm, 68, rfl⟩
abbrev main_v40_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_stg11_1 : Ref sig .tc := ⟨.vmem, 26, rfl⟩
abbrev cc1_stg12_0 : Ref sig .tc := ⟨.vmem, 27, rfl⟩
abbrev cc1_stg12_1 : Ref sig .tc := ⟨.vmem, 28, rfl⟩
abbrev cc1_stg13_0 : Ref sig .tc := ⟨.vmem, 29, rfl⟩
abbrev cc1_stg13_1 : Ref sig .tc := ⟨.vmem, 30, rfl⟩
abbrev cc1_stg14_0 : Ref sig .tc := ⟨.vmem, 31, rfl⟩
abbrev cc1_stg14_1 : Ref sig .tc := ⟨.vmem, 32, rfl⟩
abbrev cc1_stg15_0 : Ref sig .tc := ⟨.vmem, 33, rfl⟩
abbrev cc1_stg15_1 : Ref sig .tc := ⟨.vmem, 34, rfl⟩
abbrev cc1_stg16_0 : Ref sig .tc := ⟨.vmem, 35, rfl⟩
abbrev cc1_stg16_1 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg4_1 : Ref sig .tc := ⟨.vmem, 45, rfl⟩
abbrev cc2_scratch0 : Ref sig .tc := ⟨.vmem, 46, rfl⟩
abbrev cc2_scratch1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg6_0 : Ref sig .tc := ⟨.vmem, 59, rfl⟩
abbrev cc3_stg7_0 : Ref sig .tc := ⟨.vmem, 60, rfl⟩
abbrev cc3_stg8_0 : Ref sig .tc := ⟨.vmem, 61, rfl⟩
abbrev cc3_stg9_0 : Ref sig .tc := ⟨.vmem, 62, rfl⟩
abbrev cc3_stg10_0 : Ref sig .tc := ⟨.vmem, 63, rfl⟩
abbrev cc3_stg10_1 : Ref sig .tc := ⟨.vmem, 64, rfl⟩
abbrev cc4_stg0_0 : Ref sig .tc := ⟨.vmem, 65, rfl⟩
abbrev cc4_stg0_1 : Ref sig .tc := ⟨.vmem, 66, rfl⟩
abbrev cc4_stg1_0 : Ref sig .tc := ⟨.vmem, 67, rfl⟩
abbrev cc4_stg2_0 : Ref sig .tc := ⟨.vmem, 68, rfl⟩
abbrev cc4_stg3_0 : Ref sig .tc := ⟨.vmem, 69, rfl⟩
abbrev cc4_stg4_0 : Ref sig .tc := ⟨.vmem, 70, rfl⟩
abbrev cc4_stg5_0 : Ref sig .tc := ⟨.vmem, 71, rfl⟩
abbrev cc4_stg6_0 : Ref sig .tc := ⟨.vmem, 72, rfl⟩
abbrev cc4_stg6_1 : Ref sig .tc := ⟨.vmem, 73, rfl⟩
abbrev cc4_stg7_0 : Ref sig .tc := ⟨.vmem, 74, rfl⟩
abbrev cc4_stg8_0 : Ref sig .tc := ⟨.vmem, 75, rfl⟩
abbrev cc4_stg9_0 : Ref sig .tc := ⟨.vmem, 76, rfl⟩
abbrev cc4_stg10_0 : Ref sig .tc := ⟨.vmem, 77, rfl⟩
abbrev cc4_stg11_0 : Ref sig .tc := ⟨.vmem, 78, rfl⟩
abbrev cc4_stg12_0 : Ref sig .tc := ⟨.vmem, 79, rfl⟩
abbrev cc4_stg12_1 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24
abbrev cc1_sem11_0 : DmaSem sig := 25
abbrev cc1_sem11_1 : DmaSem sig := 26
abbrev cc1_sem12_0 : DmaSem sig := 27
abbrev cc1_sem12_1 : DmaSem sig := 28
abbrev cc1_sem13_0 : DmaSem sig := 29
abbrev cc1_sem13_1 : DmaSem sig := 30
abbrev cc1_sem14_0 : DmaSem sig := 31
abbrev cc1_sem14_1 : DmaSem sig := 32
abbrev cc1_sem15_0 : DmaSem sig := 33
abbrev cc1_sem15_1 : DmaSem sig := 34
abbrev cc1_sem16_0 : DmaSem sig := 35
abbrev cc1_sem16_1 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem4_0 : DmaSem sig := 44
abbrev cc2_sem4_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem2_1 : DmaSem sig := 51
abbrev cc3_sem3_0 : DmaSem sig := 52
abbrev cc3_sem3_1 : DmaSem sig := 53
abbrev cc3_sem4_0 : DmaSem sig := 54
abbrev cc3_sem4_1 : DmaSem sig := 55
abbrev cc3_sem5_0 : DmaSem sig := 56
abbrev cc3_sem6_0 : DmaSem sig := 57
abbrev cc3_sem7_0 : DmaSem sig := 58
abbrev cc3_sem8_0 : DmaSem sig := 59
abbrev cc3_sem9_0 : DmaSem sig := 60
abbrev cc3_sem10_0 : DmaSem sig := 61
abbrev cc3_sem10_1 : DmaSem sig := 62
abbrev cc4_sem0_0 : DmaSem sig := 63
abbrev cc4_sem0_1 : DmaSem sig := 64
abbrev cc4_sem1_0 : DmaSem sig := 65
abbrev cc4_sem2_0 : DmaSem sig := 66
abbrev cc4_sem3_0 : DmaSem sig := 67
abbrev cc4_sem4_0 : DmaSem sig := 68
abbrev cc4_sem5_0 : DmaSem sig := 69
abbrev cc4_sem6_0 : DmaSem sig := 70
abbrev cc4_sem6_1 : DmaSem sig := 71
abbrev cc4_sem7_0 : DmaSem sig := 72
abbrev cc4_sem8_0 : DmaSem sig := 73
abbrev cc4_sem9_0 : DmaSem sig := 74
abbrev cc4_sem10_0 : DmaSem sig := 75
abbrev cc4_sem11_0 : DmaSem sig := 76
abbrev cc4_sem12_0 : DmaSem sig := 77
abbrev cc4_sem12_1 : DmaSem sig := 78

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S8x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨3, ![8, 8, 16], ![false, false, false]⟩

def k2_mult1 (i : grid2.Coords) : BitVec 32 :=
  let arg2 : BitVec 32 := BitVec.ofNat 32 (i 2).val
  let c2_i32 : BitVec 32 := 2#32
  let v10 : BitVec 32 := Scalar.muli arg2 c2_i32
  let c1_i32 : BitVec 32 := 1#32
  let v11 : BitVec 32 := Scalar.addi v10 c1_i32
  let c256_i32 : BitVec 32 := 256#32
  let v12 : BitVec 32 := Scalar.muli v11 c256_i32
  v12
def k2_off1 (i : grid2.Coords) (c1_i32 : BitVec 32) : Fin 3 → Nat :=
  let c0_7 : Index := 0#32
  let arg2 : BitVec 32 := BitVec.ofNat 32 (i 2).val
  let c2_i32 : BitVec 32 := 2#32
  let v10 : BitVec 32 := Scalar.muli arg2 c2_i32
  let v11 : BitVec 32 := Scalar.addi v10 c1_i32
  let c256_i32 : BitVec 32 := 256#32
  let v12 : BitVec 32 := Scalar.muli v11 c256_i32
  let v13 : BitVec 32 := v12
  let v14 : Index := Scalar.indexCast v13
  let c0_8 : Index := 0#32
  ![0, v14.toNat, 0]
def k2_mult2 (i : grid2.Coords) : BitVec 32 :=
  let arg2 : BitVec 32 := BitVec.ofNat 32 (i 2).val
  let c2_i32_33 : BitVec 32 := 2#32
  let v73 : BitVec 32 := Scalar.muli arg2 c2_i32_33
  let c0_i32 : BitVec 32 := 0#32
  let v74 : BitVec 32 := Scalar.addi v73 c0_i32
  let c256_i32_34 : BitVec 32 := 256#32
  let v75 : BitVec 32 := Scalar.muli v74 c256_i32_34
  v75
@[reducible] def k2_t1_loop (i : grid2.Coords) : Scf.Loop 32 :=
  let c0_i32_64 : BitVec 32 := 0#32
  let arg2 : BitVec 32 := BitVec.ofNat 32 (i 2).val
  let c2_i32_62 : BitVec 32 := 2#32
  let v136 : BitVec 32 := Scalar.muli arg2 c2_i32_62
  let v137 : BitVec 32 := Scalar.subi v136 c0_i32_64
  let c1_i32_65 : BitVec 32 := 1#32
  let v139 : BitVec 32 := Scalar.divsi v137 c1_i32_65
  let v140 : BitVec 32 := Scalar.muli v139 c1_i32_65
  let v141 : BitVec 32 := Scalar.addi c0_i32_64 v140
  let c1_i32_66 : BitVec 32 := 1#32
  ⟨c0_i32_64, v141, c1_i32_66⟩
def k2_mult3 (i : grid2.Coords) (k2_t1 : Fin (k2_t1_loop i).trips) : BitVec 32 :=
  let arg2 : BitVec 32 := BitVec.ofNat 32 (i 2).val
  let c2_i32_73 : BitVec 32 := 2#32
  let v147 : BitVec 32 := Scalar.muli arg2 c2_i32_73
  let c1_i32_74 : BitVec 32 := 1#32
  let v148 : BitVec 32 := Scalar.subi v147 c1_i32_74
  let c0_i32_64 : BitVec 32 := 0#32
  let c1_i32_66 : BitVec 32 := 1#32
  let arg10 : BitVec 32 := Scf.iv c0_i32_64 c1_i32_66 k2_t1
  let v149 : BitVec 32 := Scalar.subi v148 arg10
  let c256_i32_75 : BitVec 32 := 256#32
  let v150 : BitVec 32 := Scalar.muli v149 c256_i32_75
  v150
def k2_off2 (i : grid2.Coords) (k2_t1 : Fin (k2_t1_loop i).trips) : Fin 3 → Nat :=
  let c0_76 : Index := 0#32
  let arg2 : BitVec 32 := BitVec.ofNat 32 (i 2).val
  let c2_i32_73 : BitVec 32 := 2#32
  let v147 : BitVec 32 := Scalar.muli arg2 c2_i32_73
  let c1_i32_74 : BitVec 32 := 1#32
  let v148 : BitVec 32 := Scalar.subi v147 c1_i32_74
  let c0_i32_64 : BitVec 32 := 0#32
  let c1_i32_66 : BitVec 32 := 1#32
  let arg10 : BitVec 32 := Scf.iv c0_i32_64 c1_i32_66 k2_t1
  let v149 : BitVec 32 := Scalar.subi v148 arg10
  let c256_i32_75 : BitVec 32 := 256#32
  let v150 : BitVec 32 := Scalar.muli v149 c256_i32_75
  let v151 : BitVec 32 := v150
  let v152 : Index := Scalar.indexCast v151
  let c0_77 : Index := 0#32
  ![0, v152.toNat, 0]
@[reducible] def k2_t2_loop (i : grid2.Coords) : Scf.Loop 32 :=
  let c0_i32_64 : BitVec 32 := 0#32
  let arg2 : BitVec 32 := BitVec.ofNat 32 (i 2).val
  let c2_i32_62 : BitVec 32 := 2#32
  let v136 : BitVec 32 := Scalar.muli arg2 c2_i32_62
  let v137 : BitVec 32 := Scalar.subi v136 c0_i32_64
  let c1_i32_65 : BitVec 32 := 1#32
  let v139 : BitVec 32 := Scalar.divsi v137 c1_i32_65
  let v140 : BitVec 32 := Scalar.muli v139 c1_i32_65
  let v141 : BitVec 32 := Scalar.addi c0_i32_64 v140
  let v138 : BitVec 32 := Scalar.addi c0_i32_64 v137
  let c1_i32_67 : BitVec 32 := 1#32
  ⟨v141, v138, c1_i32_67⟩
def k2_mult4 (i : grid2.Coords) (k2_t2 : Fin (k2_t2_loop i).trips) : BitVec 32 :=
  let arg2 : BitVec 32 := BitVec.ofNat 32 (i 2).val
  let c2_i32_73 : BitVec 32 := 2#32
  let v147 : BitVec 32 := Scalar.muli arg2 c2_i32_73
  let c1_i32_74 : BitVec 32 := 1#32
  let v148 : BitVec 32 := Scalar.subi v147 c1_i32_74
  let c0_i32_64 : BitVec 32 := 0#32
  let c2_i32_62 : BitVec 32 := 2#32
  let v136 : BitVec 32 := Scalar.muli arg2 c2_i32_62
  let v137 : BitVec 32 := Scalar.subi v136 c0_i32_64
  let c1_i32_65 : BitVec 32 := 1#32
  let v139 : BitVec 32 := Scalar.divsi v137 c1_i32_65
  let v140 : BitVec 32 := Scalar.muli v139 c1_i32_65
  let v141 : BitVec 32 := Scalar.addi c0_i32_64 v140
  let c1_i32_67 : BitVec 32 := 1#32
  let arg10 : BitVec 32 := Scf.iv v141 c1_i32_67 k2_t2
  let v149 : BitVec 32 := Scalar.subi v148 arg10
  let c256_i32_75 : BitVec 32 := 256#32
  let v150 : BitVec 32 := Scalar.muli v149 c256_i32_75
  v150
def k2_off3 (i : grid2.Coords) (k2_t2 : Fin (k2_t2_loop i).trips) : Fin 3 → Nat :=
  let c0_76 : Index := 0#32
  let arg2 : BitVec 32 := BitVec.ofNat 32 (i 2).val
  let c2_i32_73 : BitVec 32 := 2#32
  let v147 : BitVec 32 := Scalar.muli arg2 c2_i32_73
  let c1_i32_74 : BitVec 32 := 1#32
  let v148 : BitVec 32 := Scalar.subi v147 c1_i32_74
  let c0_i32_64 : BitVec 32 := 0#32
  let c2_i32_62 : BitVec 32 := 2#32
  let v136 : BitVec 32 := Scalar.muli arg2 c2_i32_62
  let v137 : BitVec 32 := Scalar.subi v136 c0_i32_64
  let c1_i32_65 : BitVec 32 := 1#32
  let v139 : BitVec 32 := Scalar.divsi v137 c1_i32_65
  let v140 : BitVec 32 := Scalar.muli v139 c1_i32_65
  let v141 : BitVec 32 := Scalar.addi c0_i32_64 v140
  let c1_i32_67 : BitVec 32 := 1#32
  let arg10 : BitVec 32 := Scf.iv v141 c1_i32_67 k2_t2
  let v149 : BitVec 32 := Scalar.subi v148 arg10
  let c256_i32_75 : BitVec 32 := 256#32
  let v150 : BitVec 32 := Scalar.muli v149 c256_i32_75
  let v151 : BitVec 32 := v150
  let v152 : Index := Scalar.indexCast v151
  let c0_77 : Index := 0#32
  ![0, v152.toNat, 0]
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x8192x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x8192x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 1 → Memref sig .tc .vmem S512x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S1x512x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1024x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S512x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x2816 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024x2816 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2816x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1024x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S256x1024 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1024x1024 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1024 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x1024 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S1024x1024 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]
-- ==== LayerReferenceIdeal.lean ====
abbrev S8x8192x1024 : Shape := ⟨3, ![8, 8192, 1024]⟩
abbrev S1x8x8192x256 : Shape := ⟨4, ![1, 8, 8192, 256]⟩
abbrev S1x4x1024 : Shape := ⟨3, ![1, 4, 1024]⟩
abbrev S1x2x1024x2816 : Shape := ⟨4, ![1, 2, 1024, 2816]⟩
abbrev S1x2x2816x1024 : Shape := ⟨4, ![1, 2, 2816, 1024]⟩
abbrev S1x1024x8200 : Shape := ⟨3, ![1, 1024, 8200]⟩
abbrev S1x8200 : Shape := ⟨2, ![1, 8200]⟩
abbrev S1x1024x1024 : Shape := ⟨3, ![1, 1024, 1024]⟩
abbrev S1x256x1024 : Shape := ⟨3, ![1, 256, 1024]⟩
abbrev S1x1024 : Shape := ⟨2, ![1, 1024]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x8192x2816 : Shape := ⟨3, ![8, 8192, 2816]⟩
abbrev S1x1x1024 : Shape := ⟨3, ![1, 1, 1024]⟩
abbrev S1024 : Shape := ⟨1, ![1024]⟩
abbrev S8x8192 : Shape := ⟨2, ![8, 8192]⟩
abbrev S8x8192x1 : Shape := ⟨3, ![8, 8192, 1]⟩
abbrev S65536x1024 : Shape := ⟨2, ![65536, 1024]⟩
abbrev S1024x8200 : Shape := ⟨2, ![1024, 8200]⟩
abbrev S65536x8200 : Shape := ⟨2, ![65536, 8200]⟩
abbrev S8200 : Shape := ⟨1, ![8200]⟩
abbrev S65536x8 : Shape := ⟨2, ![65536, 8]⟩
abbrev S65536x3072 : Shape := ⟨2, ![65536, 3072]⟩
abbrev S65536x2048 : Shape := ⟨2, ![65536, 2048]⟩
abbrev S65536x128 : Shape := ⟨2, ![65536, 128]⟩
abbrev S8x65536 : Shape := ⟨2, ![8, 65536]⟩
abbrev S8x8192x8x128 : Shape := ⟨4, ![8, 8192, 8, 128]⟩
abbrev S8x8x8192x128 : Shape := ⟨4, ![8, 8, 8192, 128]⟩
abbrev S8x8x8192x8192 : Shape := ⟨4, ![8, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1024x1024 : Shape := ⟨2, ![1024, 1024]⟩
abbrev S65536 : Shape := ⟨1, ![65536]⟩
abbrev S65536x1 : Shape := ⟨2, ![65536, 1]⟩
abbrev S65536x2816 : Shape := ⟨2, ![65536, 2816]⟩
abbrev S8x8192x256 : Shape := ⟨3, ![8, 8192, 256]⟩
abbrev S65536x256 : Shape := ⟨2, ![65536, 256]⟩
abbrev S256x1024 : Shape := ⟨2, ![256, 1024]⟩

abbrev nBuf : Space → Nat
  | .hbm => 355
  | .vmem => 0
  | .smem => 0
  | _ => 0

abbrev hbmTy0_0 (i : Nat) : BufTy := match i % 128 with
  | 0 => ⟨S8x8192x1024, .f32⟩
  | 1 => ⟨S8x8192x1024, .bf16⟩
  | 2 => ⟨S1x8x8192x256, .f32⟩
  | 3 => ⟨S1x4x1024, .f32⟩
  | 4 => ⟨S1x4x1024, .f32⟩
  | 5 => ⟨S1x2x1024x2816, .f32⟩
  | 6 => ⟨S1x2x1024x2816, .f32⟩
  | 7 => ⟨S1x2x2816x1024, .f32⟩
  | 8 => ⟨S1x1024x8200, .f32⟩
  | 9 => ⟨S1x8200, .f32⟩
  | 10 => ⟨S1x1024x1024, .f32⟩
  | 11 => ⟨S1x1024x1024, .f32⟩
  | 12 => ⟨S1x1024x1024, .f32⟩
  | 13 => ⟨S1x256x1024, .f32⟩
  | 14 => ⟨S1x1024x1024, .f32⟩
  | 15 => ⟨S1x1024, .f32⟩
  | 16 => ⟨S_, .f32⟩
  | 17 => ⟨S8x8192x1024, .f32⟩
  | 18 => ⟨S8x8192x1024, .f32⟩
  | 19 => ⟨S1x1x1024x2816, .f32⟩
  | 20 => ⟨S1024x2816, .f32⟩
  | 21 => ⟨S1x1x1024x2816, .f32⟩
  | 22 => ⟨S1024x2816, .f32⟩
  | 23 => ⟨S1x1x2816x1024, .f32⟩
  | 24 => ⟨S2816x1024, .f32⟩
  | 25 => ⟨S8x8192x2816, .f32⟩
  | 26 => ⟨S8x8192x2816, .f32⟩
  | 27 => ⟨S8x8192x2816, .f32⟩
  | 28 => ⟨S_, .f32⟩
  | 29 => ⟨S8x8192x2816, .f32⟩
  | 30 => ⟨S8x8192x2816, .f32⟩
  | 31 => ⟨S_, .f32⟩
  | 32 => ⟨S8x8192x2816, .f32⟩
  | 33 => ⟨S8x8192x2816, .f32⟩
  | 34 => ⟨S8x8192x2816, .f32⟩
  | 35 => ⟨S8x8192x2816, .f32⟩
  | 36 => ⟨S8x8192x2816, .f32⟩
  | 37 => ⟨S8x8192x1024, .f32⟩
  | 38 => ⟨S_, .f32⟩
  | 39 => ⟨S8x8192x1024, .f32⟩
  | 40 => ⟨S8x8192x1024, .f32⟩
  | 41 => ⟨S8x8192x1024, .f32⟩
  | 42 => ⟨S1x1x1024, .f32⟩
  | 43 => ⟨S1024, .f32⟩
  | 44 => ⟨S1x1x1024, .f32⟩
  | 45 => ⟨S1024, .f32⟩
  | 46 => ⟨S_, .f32⟩
  | 47 => ⟨S8x8192, .f32⟩
  | 48 => ⟨S8x8192x1, .f32⟩
  | 49 => ⟨S_, .f32⟩
  | 50 => ⟨S8x8192x1, .f32⟩
  | 51 => ⟨S8x8192x1, .f32⟩
  | 52 => ⟨S8x8192x1024, .f32⟩
  | 53 => ⟨S8x8192x1024, .f32⟩
  | 54 => ⟨S8x8192x1024, .f32⟩
  | 55 => ⟨S_, .f32⟩
  | 56 => ⟨S8x8192, .f32⟩
  | 57 => ⟨S8x8192x1, .f32⟩
  | 58 => ⟨S_, .f32⟩
  | 59 => ⟨S8x8192x1, .f32⟩
  | 60 => ⟨S8x8192x1, .f32⟩
  | 61 => ⟨S8x8192x1024, .f32⟩
  | 62 => ⟨S8x8192x1024, .f32⟩
  | 63 => ⟨S_, .f32⟩
  | 64 => ⟨S8x8192x1, .f32⟩
  | 65 => ⟨S8x8192x1, .f32⟩
  | 66 => ⟨S8x8192x1, .f32⟩
  | 67 => ⟨S8x8192x1024, .f32⟩
  | 68 => ⟨S8x8192x1024, .f32⟩
  | 69 => ⟨S1x1x1024, .f32⟩
  | 70 => ⟨S8x8192x1024, .f32⟩
  | 71 => ⟨S8x8192x1024, .f32⟩
  | 72 => ⟨S1x1x1024, .f32⟩
  | 73 => ⟨S8x8192x1024, .f32⟩
  | 74 => ⟨S8x8192x1024, .f32⟩
  | 75 => ⟨S65536x1024, .f32⟩
  | 76 => ⟨S1024x8200, .f32⟩
  | 77 => ⟨S65536x8200, .f32⟩
  | 78 => ⟨S8200, .f32⟩
  | 79 => ⟨S1x8200, .f32⟩
  | 80 => ⟨S65536x8200, .f32⟩
  | 81 => ⟨S65536x8200, .f32⟩
  | 82 => ⟨S65536x1024, .f32⟩
  | 83 => ⟨S65536x1024, .f32⟩
  | 84 => ⟨S65536x1024, .f32⟩
  | 85 => ⟨S65536x8, .f32⟩
  | 86 => ⟨S65536x3072, .f32⟩
  | 87 => ⟨S65536x2048, .f32⟩
  | 88 => ⟨S65536x1024, .f32⟩
  | 89 => ⟨S65536x1024, .f32⟩
  | 90 => ⟨S65536x1024, .f32⟩
  | 91 => ⟨S65536x1024, .f32⟩
  | 92 => ⟨S65536x1024, .f32⟩
  | 93 => ⟨S_, .i32⟩
  | 94 => ⟨S_, .f32⟩
  | 95 => ⟨S65536x128, .f32⟩
  | 96 => ⟨S65536x1024, .bf16⟩
  | 97 => ⟨S65536x1024, .bf16⟩
  | 98 => ⟨S65536x1024, .bf16⟩
  | 99 => ⟨S65536x1024, .bf16⟩
  | 100 => ⟨S8x65536, .f32⟩
  | 101 => ⟨S8x8192x1024, .bf16⟩
  | 102 => ⟨S8x8192x1024, .bf16⟩
  | 103 => ⟨S8x8192x1024, .bf16⟩
  | 104 => ⟨S8x8192x1024, .f32⟩
  | 105 => ⟨S8x8192x8x128, .f32⟩
  | 106 => ⟨S8x8x8192x128, .f32⟩
  | 107 => ⟨S8x8192x1024, .f32⟩
  | 108 => ⟨S8x8192x8x128, .f32⟩
  | 109 => ⟨S8x8x8192x128, .f32⟩
  | 110 => ⟨S8x8192x1024, .f32⟩
  | 111 => ⟨S8x8192x8x128, .f32⟩
  | 112 => ⟨S8x8x8192x128, .f32⟩
  | 113 => ⟨S8x8x8192x8192, .f32⟩
  | 114 => ⟨S_, .f32⟩
  | 115 => ⟨S8x8x8192x8192, .f32⟩
  | 116 => ⟨S8x8x8192x8192, .f32⟩
  | 117 => ⟨S8192, .i32⟩
  | 118 => ⟨S1x8192, .i32⟩
  | 119 => ⟨S8192x1, .i32⟩
  | 120 => ⟨S8192x8192, .i32⟩
  | 121 => ⟨S8192x8192, .i32⟩
  | 122 => ⟨S8192x8192, .i1⟩
  | 123 => ⟨S_, .f32⟩
  | 124 => ⟨S8x8x8192x8192, .f32⟩
  | 125 => ⟨S8x8x8192x8192, .f32⟩
  | 126 => ⟨S8x8x8192x8192, .f32⟩
  | 127 => ⟨S8x8x8192x8192, .f32⟩
  | _ => ⟨S8x8192x1024, .f32⟩

abbrev hbmTy0_1 (i : Nat) : BufTy := match i % 128 with
  | 0 => ⟨S8x8x8192x8192, .i1⟩
  | 1 => ⟨S8x8x8192x8192, .f32⟩
  | 2 => ⟨S8x8x8192x8192, .f32⟩
  | 3 => ⟨S8x8x8192x8192, .f32⟩
  | 4 => ⟨S8x8x8192x8192, .f32⟩
  | 5 => ⟨S8x8x8192x8192, .f32⟩
  | 6 => ⟨S8x8x8192x8192, .f32⟩
  | 7 => ⟨S8x8x8192x8192, .f32⟩
  | 8 => ⟨S8x8x8192x8192, .f32⟩
  | 9 => ⟨S8x8x8192x8192, .f32⟩
  | 10 => ⟨S_, .f32⟩
  | 11 => ⟨S_, .f32⟩
  | 12 => ⟨S8x8x8192x8192, .i1⟩
  | 13 => ⟨S8x8x8192x8192, .f32⟩
  | 14 => ⟨S8x8x8192x8192, .f32⟩
  | 15 => ⟨S_, .f32⟩
  | 16 => ⟨S_, .f32⟩
  | 17 => ⟨S8x8x8192x8192, .f32⟩
  | 18 => ⟨S8x8x8192x8192, .f32⟩
  | 19 => ⟨S8x8x8192x8192, .f32⟩
  | 20 => ⟨S_, .f32⟩
  | 21 => ⟨S8x8x8192x8192, .f32⟩
  | 22 => ⟨S8x8x8192x8192, .f32⟩
  | 23 => ⟨S8x8x8192x8192, .f32⟩
  | 24 => ⟨S8x8x8192x8192, .f32⟩
  | 25 => ⟨S8x8x8192x8192, .i1⟩
  | 26 => ⟨S8x8x8192x8192, .f32⟩
  | 27 => ⟨S8x8x8192x8192, .f32⟩
  | 28 => ⟨S8x8x8192x8192, .f32⟩
  | 29 => ⟨S8x8x8192x8192, .f32⟩
  | 30 => ⟨S8x8x8192x8192, .f32⟩
  | 31 => ⟨S8x8x8192x8192, .f32⟩
  | 32 => ⟨S8x8x8192x8192, .f32⟩
  | 33 => ⟨S8x8x8192x8192, .f32⟩
  | 34 => ⟨S8x8x8192x8192, .f32⟩
  | 35 => ⟨S8x8x8192x8192, .f32⟩
  | 36 => ⟨S8x8x8192x8192, .f32⟩
  | 37 => ⟨S_, .f32⟩
  | 38 => ⟨S_, .f32⟩
  | 39 => ⟨S8x8x8192x8192, .i1⟩
  | 40 => ⟨S8x8x8192x8192, .f32⟩
  | 41 => ⟨S8x8x8192x8192, .f32⟩
  | 42 => ⟨S8x8x8192x128, .f32⟩
  | 43 => ⟨S8x8192x8x128, .f32⟩
  | 44 => ⟨S8x8192x1024, .f32⟩
  | 45 => ⟨S8x8192x1024, .bf16⟩
  | 46 => ⟨S8x8192x1024, .f32⟩
  | 47 => ⟨S65536x1024, .f32⟩
  | 48 => ⟨S8x8192x1024, .f32⟩
  | 49 => ⟨S65536x1024, .f32⟩
  | 50 => ⟨S65536x1024, .f32⟩
  | 51 => ⟨S65536x1024, .f32⟩
  | 52 => ⟨S_, .f32⟩
  | 53 => ⟨S65536x1024, .f32⟩
  | 54 => ⟨S65536x1024, .f32⟩
  | 55 => ⟨S_, .f32⟩
  | 56 => ⟨S65536x1024, .f32⟩
  | 57 => ⟨S65536x1024, .f32⟩
  | 58 => ⟨S1024x1024, .f32⟩
  | 59 => ⟨S65536x1024, .f32⟩
  | 60 => ⟨S65536x1024, .f32⟩
  | 61 => ⟨S65536x1024, .f32⟩
  | 62 => ⟨S65536x1024, .f32⟩
  | 63 => ⟨S_, .f32⟩
  | 64 => ⟨S65536x1024, .f32⟩
  | 65 => ⟨S65536x1024, .f32⟩
  | 66 => ⟨S_, .f32⟩
  | 67 => ⟨S65536x1024, .f32⟩
  | 68 => ⟨S65536x1024, .f32⟩
  | 69 => ⟨S1024x1024, .f32⟩
  | 70 => ⟨S65536x1024, .f32⟩
  | 71 => ⟨S65536x1024, .f32⟩
  | 72 => ⟨S65536x1024, .f32⟩
  | 73 => ⟨S1024x1024, .f32⟩
  | 74 => ⟨S65536x1024, .f32⟩
  | 75 => ⟨S_, .f32⟩
  | 76 => ⟨S65536x1024, .f32⟩
  | 77 => ⟨S65536x1024, .f32⟩
  | 78 => ⟨S65536x1024, .f32⟩
  | 79 => ⟨S1x1x1024, .f32⟩
  | 80 => ⟨S1024, .f32⟩
  | 81 => ⟨S1x1x1024, .f32⟩
  | 82 => ⟨S1024, .f32⟩
  | 83 => ⟨S_, .f32⟩
  | 84 => ⟨S65536, .f32⟩
  | 85 => ⟨S65536x1, .f32⟩
  | 86 => ⟨S_, .f32⟩
  | 87 => ⟨S65536x1, .f32⟩
  | 88 => ⟨S65536x1, .f32⟩
  | 89 => ⟨S65536x1024, .f32⟩
  | 90 => ⟨S65536x1024, .f32⟩
  | 91 => ⟨S65536x1024, .f32⟩
  | 92 => ⟨S_, .f32⟩
  | 93 => ⟨S65536, .f32⟩
  | 94 => ⟨S65536x1, .f32⟩
  | 95 => ⟨S_, .f32⟩
  | 96 => ⟨S65536x1, .f32⟩
  | 97 => ⟨S65536x1, .f32⟩
  | 98 => ⟨S65536x1024, .f32⟩
  | 99 => ⟨S65536x1024, .f32⟩
  | 100 => ⟨S_, .f32⟩
  | 101 => ⟨S65536x1, .f32⟩
  | 102 => ⟨S65536x1, .f32⟩
  | 103 => ⟨S65536x1, .f32⟩
  | 104 => ⟨S65536x1024, .f32⟩
  | 105 => ⟨S65536x1024, .f32⟩
  | 106 => ⟨S1x1024, .f32⟩
  | 107 => ⟨S65536x1024, .f32⟩
  | 108 => ⟨S65536x1024, .f32⟩
  | 109 => ⟨S1x1024, .f32⟩
  | 110 => ⟨S65536x1024, .f32⟩
  | 111 => ⟨S65536x1024, .f32⟩
  | 112 => ⟨S_, .f32⟩
  | 113 => ⟨S65536x1024, .f32⟩
  | 114 => ⟨S65536x1024, .f32⟩
  | 115 => ⟨S1x1x1024x2816, .f32⟩
  | 116 => ⟨S1024x2816, .f32⟩
  | 117 => ⟨S1x1x1024x2816, .f32⟩
  | 118 => ⟨S1024x2816, .f32⟩
  | 119 => ⟨S1x1x2816x1024, .f32⟩
  | 120 => ⟨S2816x1024, .f32⟩
  | 121 => ⟨S65536x2816, .f32⟩
  | 122 => ⟨S65536x2816, .f32⟩
  | 123 => ⟨S65536x2816, .f32⟩
  | 124 => ⟨S_, .f32⟩
  | 125 => ⟨S65536x2816, .f32⟩
  | 126 => ⟨S65536x2816, .f32⟩
  | 127 => ⟨S_, .f32⟩
  | _ => ⟨S8x8192x1024, .f32⟩

abbrev hbmTy0_2 (i : Nat) : BufTy := match i % 128 with
  | 0 => ⟨S65536x2816, .f32⟩
  | 1 => ⟨S65536x2816, .f32⟩
  | 2 => ⟨S65536x2816, .f32⟩
  | 3 => ⟨S65536x2816, .f32⟩
  | 4 => ⟨S65536x2816, .f32⟩
  | 5 => ⟨S65536x1024, .f32⟩
  | 6 => ⟨S_, .f32⟩
  | 7 => ⟨S65536x1024, .f32⟩
  | 8 => ⟨S65536x1024, .f32⟩
  | 9 => ⟨S65536x1024, .f32⟩
  | 10 => ⟨S1x1x1024, .f32⟩
  | 11 => ⟨S1024, .f32⟩
  | 12 => ⟨S1x1x1024, .f32⟩
  | 13 => ⟨S1024, .f32⟩
  | 14 => ⟨S_, .f32⟩
  | 15 => ⟨S65536, .f32⟩
  | 16 => ⟨S65536x1, .f32⟩
  | 17 => ⟨S_, .f32⟩
  | 18 => ⟨S65536x1, .f32⟩
  | 19 => ⟨S65536x1, .f32⟩
  | 20 => ⟨S65536x1024, .f32⟩
  | 21 => ⟨S65536x1024, .f32⟩
  | 22 => ⟨S65536x1024, .f32⟩
  | 23 => ⟨S_, .f32⟩
  | 24 => ⟨S65536, .f32⟩
  | 25 => ⟨S65536x1, .f32⟩
  | 26 => ⟨S_, .f32⟩
  | 27 => ⟨S65536x1, .f32⟩
  | 28 => ⟨S65536x1, .f32⟩
  | 29 => ⟨S65536x1024, .f32⟩
  | 30 => ⟨S65536x1024, .f32⟩
  | 31 => ⟨S_, .f32⟩
  | 32 => ⟨S65536x1, .f32⟩
  | 33 => ⟨S65536x1, .f32⟩
  | 34 => ⟨S65536x1, .f32⟩
  | 35 => ⟨S65536x1024, .f32⟩
  | 36 => ⟨S65536x1024, .f32⟩
  | 37 => ⟨S1x1024, .f32⟩
  | 38 => ⟨S65536x1024, .f32⟩
  | 39 => ⟨S65536x1024, .f32⟩
  | 40 => ⟨S1x1024, .f32⟩
  | 41 => ⟨S65536x1024, .f32⟩
  | 42 => ⟨S65536x1024, .f32⟩
  | 43 => ⟨S1024x1024, .f32⟩
  | 44 => ⟨S65536x1024, .f32⟩
  | 45 => ⟨S1024, .f32⟩
  | 46 => ⟨S1x1024, .f32⟩
  | 47 => ⟨S65536x1024, .f32⟩
  | 48 => ⟨S65536x1024, .f32⟩
  | 49 => ⟨S65536x1024, .f32⟩
  | 50 => ⟨S65536x1024, .f32⟩
  | 51 => ⟨S_, .f32⟩
  | 52 => ⟨S65536x1024, .f32⟩
  | 53 => ⟨S65536x1024, .f32⟩
  | 54 => ⟨S_, .f32⟩
  | 55 => ⟨S65536x1024, .f32⟩
  | 56 => ⟨S65536x1024, .f32⟩
  | 57 => ⟨S_, .f32⟩
  | 58 => ⟨S65536x1024, .f32⟩
  | 59 => ⟨S65536x1024, .f32⟩
  | 60 => ⟨S8x8192x256, .f32⟩
  | 61 => ⟨S65536x256, .f32⟩
  | 62 => ⟨S256x1024, .f32⟩
  | 63 => ⟨S65536x1024, .f32⟩
  | 64 => ⟨S65536x1024, .f32⟩
  | 65 => ⟨S65536x1024, .f32⟩
  | 66 => ⟨S1x1x1024, .f32⟩
  | 67 => ⟨S1024, .f32⟩
  | 68 => ⟨S1x1x1024, .f32⟩
  | 69 => ⟨S1024, .f32⟩
  | 70 => ⟨S_, .f32⟩
  | 71 => ⟨S65536, .f32⟩
  | 72 => ⟨S65536x1, .f32⟩
  | 73 => ⟨S_, .f32⟩
  | 74 => ⟨S65536x1, .f32⟩
  | 75 => ⟨S65536x1, .f32⟩
  | 76 => ⟨S65536x1024, .f32⟩
  | 77 => ⟨S65536x1024, .f32⟩
  | 78 => ⟨S65536x1024, .f32⟩
  | 79 => ⟨S_, .f32⟩
  | 80 => ⟨S65536, .f32⟩
  | 81 => ⟨S65536x1, .f32⟩
  | 82 => ⟨S_, .f32⟩
  | 83 => ⟨S65536x1, .f32⟩
  | 84 => ⟨S65536x1, .f32⟩
  | 85 => ⟨S65536x1024, .f32⟩
  | 86 => ⟨S65536x1024, .f32⟩
  | 87 => ⟨S_, .f32⟩
  | 88 => ⟨S65536x1, .f32⟩
  | 89 => ⟨S65536x1, .f32⟩
  | 90 => ⟨S65536x1, .f32⟩
  | 91 => ⟨S65536x1024, .f32⟩
  | 92 => ⟨S65536x1024, .f32⟩
  | 93 => ⟨S1x1024, .f32⟩
  | 94 => ⟨S65536x1024, .f32⟩
  | 95 => ⟨S65536x1024, .f32⟩
  | 96 => ⟨S1x1024, .f32⟩
  | 97 => ⟨S65536x1024, .f32⟩
  | 98 => ⟨S65536x1024, .f32⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_cst_4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c : Ref sig .tc := ⟨.hbm, 93, rfl⟩
abbrev main_call1_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_6 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_v8 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_v89 : Ref sig .tc := ⟨.hbm, 136, rfl⟩
abbrev main_v90 : Ref sig .tc := ⟨.hbm, 137, rfl⟩
abbrev main_cst_7 : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_v91 : Ref sig .tc := ⟨.hbm, 142, rfl⟩
abbrev main_call4_cst : Ref sig .tc := ⟨.hbm, 143, rfl⟩
abbrev main_call4_v0 : Ref sig .tc := ⟨.hbm, 144, rfl⟩
abbrev main_v92 : Ref sig .tc := ⟨.hbm, 145, rfl⟩
abbrev main_v93 : Ref sig .tc := ⟨.hbm, 146, rfl⟩
abbrev main_call5_v0 : Ref sig .tc := ⟨.hbm, 147, rfl⟩
abbrev main_call5_call0_cst : Ref sig .tc := ⟨.hbm, 148, rfl⟩
abbrev main_call5_call0_v0 : Ref sig .tc := ⟨.hbm, 149, rfl⟩
abbrev main_call5_call0_v1 : Ref sig .tc := ⟨.hbm, 150, rfl⟩
abbrev main_call5_call0_v2 : Ref sig .tc := ⟨.hbm, 151, rfl⟩
abbrev main_call5_call0_v3 : Ref sig .tc := ⟨.hbm, 152, rfl⟩
abbrev main_call5_call0_v4 : Ref sig .tc := ⟨.hbm, 153, rfl⟩
abbrev main_call5_call0_v5 : Ref sig .tc := ⟨.hbm, 154, rfl⟩
abbrev main_call5_call0_v6 : Ref sig .tc := ⟨.hbm, 155, rfl⟩
abbrev main_call5_call0_v7 : Ref sig .tc := ⟨.hbm, 156, rfl⟩
abbrev main_call5_call0_v8 : Ref sig .tc := ⟨.hbm, 157, rfl⟩
abbrev main_call5_call0_v9 : Ref sig .tc := ⟨.hbm, 158, rfl⟩
abbrev main_call5_call0_v10 : Ref sig .tc := ⟨.hbm, 159, rfl⟩
abbrev main_call5_call0_v11 : Ref sig .tc := ⟨.hbm, 160, rfl⟩
abbrev main_call5_v1 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_cst_8 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_cst_9 : Ref sig .tc := ⟨.hbm, 180, rfl⟩
abbrev main_v108 : Ref sig .tc := ⟨.hbm, 181, rfl⟩
abbrev main_v109 : Ref sig .tc := ⟨.hbm, 182, rfl⟩
abbrev main_cst_10 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_cst_11 : Ref sig .tc := ⟨.hbm, 191, rfl⟩
abbrev main_v117 : Ref sig .tc := ⟨.hbm, 192, rfl⟩
abbrev main_v118 : Ref sig .tc := ⟨.hbm, 193, rfl⟩
abbrev main_cst_12 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_cst_13 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_cst_14 : Ref sig .tc := ⟨.hbm, 211, rfl⟩
abbrev main_v134 : Ref sig .tc := ⟨.hbm, 212, rfl⟩
abbrev main_v135 : Ref sig .tc := ⟨.hbm, 213, rfl⟩
abbrev main_cst_15 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_cst_16 : Ref sig .tc := ⟨.hbm, 220, rfl⟩
abbrev main_v141 : Ref sig .tc := ⟨.hbm, 221, rfl⟩
abbrev main_v142 : Ref sig .tc := ⟨.hbm, 222, rfl⟩
abbrev main_cst_17 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_cst_18 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_cst_19 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_call7_v0 : Ref sig .tc := ⟨.hbm, 250, rfl⟩
abbrev main_call7_v1 : Ref sig .tc := ⟨.hbm, 251, rfl⟩
abbrev main_call7_cst : Ref sig .tc := ⟨.hbm, 252, rfl⟩
abbrev main_call7_v2 : Ref sig .tc := ⟨.hbm, 253, rfl⟩
abbrev main_call7_v3 : Ref sig .tc := ⟨.hbm, 254, rfl⟩
abbrev main_call7_cst_0 : Ref sig .tc := ⟨.hbm, 255, rfl⟩
abbrev main_call7_v4 : Ref sig .tc := ⟨.hbm, 256, rfl⟩
abbrev main_call7_v5 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_cst_20 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_cst_21 : Ref sig .tc := ⟨.hbm, 270, rfl⟩
abbrev main_v178 : Ref sig .tc := ⟨.hbm, 271, rfl⟩
abbrev main_v179 : Ref sig .tc := ⟨.hbm, 272, rfl⟩
abbrev main_cst_22 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_cst_23 : Ref sig .tc := ⟨.hbm, 279, rfl⟩
abbrev main_v185 : Ref sig .tc := ⟨.hbm, 280, rfl⟩
abbrev main_v186 : Ref sig .tc := ⟨.hbm, 281, rfl⟩
abbrev main_cst_24 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_cst_25 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_cst_26 : Ref sig .tc := ⟨.hbm, 307, rfl⟩
abbrev main_v210 : Ref sig .tc := ⟨.hbm, 308, rfl⟩
abbrev main_v211 : Ref sig .tc := ⟨.hbm, 309, rfl⟩
abbrev main_cst_27 : Ref sig .tc := ⟨.hbm, 310, rfl⟩
abbrev main_v212 : Ref sig .tc := ⟨.hbm, 311, rfl⟩
abbrev main_v213 : Ref sig .tc := ⟨.hbm, 312, rfl⟩
abbrev main_cst_28 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_cst_29 : Ref sig .tc := ⟨.hbm, 326, rfl⟩
abbrev main_v226 : Ref sig .tc := ⟨.hbm, 327, rfl⟩
abbrev main_v227 : Ref sig .tc := ⟨.hbm, 328, rfl⟩
abbrev main_cst_30 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_cst_31 : Ref sig .tc := ⟨.hbm, 335, rfl⟩
abbrev main_v233 : Ref sig .tc := ⟨.hbm, 336, rfl⟩
abbrev main_v234 : Ref sig .tc := ⟨.hbm, 337, rfl⟩
abbrev main_cst_32 : Ref sig .tc := ⟨.hbm, 338, rfl⟩
abbrev main_v235 : Ref sig .tc := ⟨.hbm, 339, rfl⟩
abbrev main_v236 : Ref sig .tc := ⟨.hbm, 340, rfl⟩
abbrev main_v237 : Ref sig .tc := ⟨.hbm, 341, rfl⟩
abbrev main_v238 : Ref sig .tc := ⟨.hbm, 342, rfl⟩
abbrev main_cst_33 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩

abbrev nD : Nat := 1
abbrev τ : Topo := Topo.v7x

variable {F : FTy → Type} [FloatOps F]
-- ==== Proof.SbMath.lean ====
/-
  The scalar mathematics of the stick-breaking attention over the extended reals: the softplus of a logit, the log of
  what a key leaves of the stick (`lk`), the kernel's weight and the reference's weight of one key, and the sums over
  key tiles taken from the right to the left. No program is mentioned here.
-/
module

public import Idealize.ShloMosaic.PureOps.Ideal
public import Mathlib.Algebra.BigOperators.Intervals

@[expose] public section

noncomputable section

open scoped BigOperators

namespace Cert.Sb

open Idealize.ShloMosaic

/-- The softplus of a logit as the kernel spells it: `max z 0 + log1p (exp (0 − |z|))`. -/
def sp (z : EReal) : EReal := max z 0 + Ideal.log1p (Ideal.exp (0 - max z (-z)))

/-- The log of what a key leaves of the stick: minus the softplus of its logit. -/
def lk (z : EReal) : EReal := 0 - sp z

/-- The exponential of minus infinity. -/
theorem exp_zero_sub_top : Ideal.exp (0 - (⊤ : EReal)) = 0 := by
  rw [show (0 : EReal) - ⊤ = ⊥ from rfl]; rfl

/-- The logarithm of one plus zero. -/
theorem log1p_zero : Ideal.log1p 0 = 0 := by
  unfold Ideal.log1p
  rw [add_zero, show (1 : EReal) = ((1 : ℝ) : EReal) from rfl]
  show (if (1 : ℝ) ≤ 0 then (⊥ : EReal) else ((Real.log 1 : ℝ) : EReal)) = 0
  rw [if_neg (by norm_num), Real.log_one]; rfl

/-- `log1p (exp r)` of a real `r` is the real `log (1 + exp r)`. -/
theorem log1p_exp_coe (r : ℝ) : Ideal.log1p (Ideal.exp (r : EReal)) = ((Real.log (1 + Real.exp r) : ℝ) : EReal) := by
  unfold Ideal.log1p
  rw [show Ideal.exp (r : EReal) = ((Real.exp r : ℝ) : EReal) from rfl, show (1 : EReal) = ((1 : ℝ) : EReal) from rfl,
    ← EReal.coe_add]
  show (if (1 + Real.exp r : ℝ) ≤ 0 then (⊥ : EReal) else ((Real.log (1 + Real.exp r) : ℝ) : EReal)) = _
  rw [if_neg (by have := Real.exp_pos r; linarith)]

/-- The softplus of a real logit is a real. -/
theorem sp_coe (r : ℝ) : sp (r : EReal) = ((max r 0 + Real.log (1 + Real.exp (-|r|)) : ℝ) : EReal) := by
  unfold sp
  have h1 : max (r : EReal) 0 = ((max r 0 : ℝ) : EReal) := by
    rw [EReal.coe_strictMono.monotone.map_max]; rfl
  have h2 : max (r : EReal) (-(r : EReal)) = ((|r| : ℝ) : EReal) := by
    rw [← EReal.coe_neg, ← EReal.coe_strictMono.monotone.map_max]; rfl
  rw [h1, h2, zero_sub, ← EReal.coe_neg, log1p_exp_coe, ← EReal.coe_add]

/-- The softplus at plus infinity. -/
theorem sp_top : sp ⊤ = ⊤ := by
  unfold sp
  rw [show max (⊤ : EReal) (-⊤) = ⊤ from max_eq_left (by simp), exp_zero_sub_top, log1p_zero]; simp

/-- The softplus at minus infinity. -/
theorem sp_bot : sp ⊥ = 0 := by
  unfold sp
  rw [show max (⊥ : EReal) (-⊥) = ⊤ from by simp, exp_zero_sub_top, log1p_zero]; simp

/-- The kernel's weight of one key, `L` being the sum of the logs over the later keys, is the reference's:
    `exp ((z − sp z) + L) = exp (−sp(−z) + ((L + lk z) − lk z))`, at every extended-real logit. -/
theorem weight_eq (z L : EReal) :
    Ideal.exp ((z - sp z) + L) = Ideal.exp (-(sp (-z)) + ((lk z + L) - lk z)) := by
  induction z with
  | bot =>
    rw [sp_bot, show -(⊥ : EReal) = ⊤ from rfl, sp_top]
    simp
  | top =>
    rw [show -(⊤ : EReal) = ⊥ from rfl, sp_bot, lk, sp_top, show (0 : EReal) - ⊤ = ⊥ from rfl]
    simp
  | coe r =>
    rw [← EReal.coe_neg, lk, sp_coe, sp_coe]
    congr 1
    rw [zero_sub, ← EReal.coe_neg, ← EReal.coe_sub, ← EReal.coe_neg]
    have hc : ((-(max r 0 + Real.log (1 + Real.exp (-|r|))) : ℝ) : EReal) + L
        - ((-(max r 0 + Real.log (1 + Real.exp (-|r|))) : ℝ) : EReal) = L := by
      rw [add_comm]; exact EReal.add_sub_cancel_right
    rw [hc]
    congr 2
    rw [abs_neg]
    rcases le_total r 0 with h | h
    · rw [max_eq_right h, max_eq_left (by linarith)]; ring
    · rw [max_eq_left h, max_eq_right (by linarith)]; ring

/-- A log is its high part plus its low part, whatever it is at most zero or not: `x + (x − x) = x` for `x ≠ ⊤`. -/
theorem split_sum {x : EReal} (hx : x ≠ ⊤) : x + (x - x) = x := by
  induction x with
  | bot => simp
  | top => exact absurd rfl hx
  | coe r => rw [← EReal.coe_sub, sub_self, EReal.coe_zero, add_zero]

/-- The softplus is never `⊥`, so its negative is never `⊤`. -/
theorem lk_ne_top (z : EReal) : lk z ≠ ⊤ := by
  induction z with
  | bot => rw [lk, sp_bot]; simp
  | top => rw [lk, sp_top, show (0 : EReal) - ⊤ = ⊥ from rfl]; exact bot_ne_top
  | coe r => rw [lk, sp_coe, zero_sub, ← EReal.coe_neg]; exact EReal.coe_ne_top _

/-! ## One row of the attention, its keys visited in tiles from the last to the first -/

/-- The log a key `s` leaves of the stick of the query at position `t`, zero for a key that is not before the query. -/
def mlk (z : ℕ → EReal) (t s : ℕ) : EReal := if s < t then lk (z s) else 0

/-- The kernel's weight of key `s` for the query at position `t`, the later keys summed up to the bound `B`. -/
def wt (z : ℕ → EReal) (t B s : ℕ) : EReal :=
  if s < t then Ideal.exp ((z s - sp (z s)) + ∑ s' ∈ Finset.Ico (s + 1) B, mlk z t s') else 0

/-- A tile of `W` keys that ends at `a`, put in front of the keys from `a` on: the sum of the logs. -/
theorem acc_step (z : ℕ → EReal) (t B a W : ℕ) (h : a + W ≤ B) :
    (∑ s ∈ Finset.Ico (a + W) B, mlk z t s) + ∑ c : Fin W, mlk z t (a + c.val) = ∑ s ∈ Finset.Ico a B, mlk z t s := by
  rw [Fin.sum_univ_eq_sum_range (fun c => mlk z t (a + c)) W, ← Finset.sum_Ico_consecutive _ (Nat.le_add_right a W) h, add_comm]
  congr 1
  rw [Finset.sum_Ico_eq_sum_range, Nat.add_sub_cancel_left]

/-- … and the weighted sum of the values. -/
theorem out_step (z v : ℕ → EReal) (t B a W : ℕ) (h : a + W ≤ B) :
    (∑ s ∈ Finset.Ico (a + W) B, wt z t B s * v s) + ∑ c : Fin W, wt z t B (a + c.val) * v (a + c.val)
      = ∑ s ∈ Finset.Ico a B, wt z t B s * v s := by
  rw [Fin.sum_univ_eq_sum_range (fun c => wt z t B (a + c) * v (a + c)) W,
    ← Finset.sum_Ico_consecutive _ (Nat.le_add_right a W) h, add_comm]
  congr 1
  rw [Finset.sum_Ico_eq_sum_range, Nat.add_sub_cancel_left]

/-- The logs of the keys of a tile after its key `c`, and those after the tile, are the logs of the keys after `c`. -/
theorem later_step (z : ℕ → EReal) (t B a W : ℕ) (h : a + W ≤ B) (c : Fin W) :
    (∑ c' : Fin W, if c.val < c'.val then mlk z t (a + c'.val) else 0) + ∑ s ∈ Finset.Ico (a + W) B, mlk z t s
      = ∑ s ∈ Finset.Ico (a + c.val + 1) B, mlk z t s := by
  rw [Fin.sum_univ_eq_sum_range (fun c' => if c.val < c' then mlk z t (a + c') else 0) W,
    ← Finset.sum_Ico_consecutive _ (show a + c.val + 1 ≤ a + W by have := c.isLt; omega) h]
  congr 1
  rw [← Finset.sum_filter, Finset.sum_Ico_eq_sum_range]
  refine Finset.sum_nbij' (fun i => i - (c.val + 1)) (fun i => i + (c.val + 1)) ?_ ?_ ?_ ?_ ?_
  · intro i hi; simp only [Finset.mem_filter, Finset.mem_range] at hi ⊢; omega
  · intro i hi; simp only [Finset.mem_filter, Finset.mem_range] at hi ⊢; omega
  · intro i hi; simp only [Finset.mem_filter, Finset.mem_range] at hi; omega
  · intro i _; simp
  · intro i hi
    simp only [Finset.mem_filter, Finset.mem_range] at hi
    congr 1; omega

/-- The keys at or past the bound `B`, which the query at `t < B` does not see, add nothing to the sum of the logs. -/
theorem mlk_tail (z : ℕ → EReal) (t B N s : ℕ) (ht : t ≤ B) (hB : B ≤ N) (hs : s ≤ B) :
    ∑ s' ∈ Finset.Ico s N, mlk z t s' = ∑ s' ∈ Finset.Ico s B, mlk z t s' := by
  rw [← Finset.sum_Ico_consecutive _ hs hB]
  rw [Finset.sum_eq_zero (s := Finset.Ico B N), add_zero]
  intro x hx
  rw [Finset.mem_Ico] at hx
  unfold mlk; rw [if_neg (by omega)]

/-- THE ROW: the kernel's weighted sum over the keys below its bound is the reference's over all the keys, the reference
    weighing key `s` by `exp (log_sigmoid z + (suffix sum from s − log of s))`. -/
theorem row_eq (z v : ℕ → EReal) (t B N : ℕ) (ht : t < B) (hB : B ≤ N) :
    ∑ s ∈ Finset.Ico 0 B, wt z t B s * v s
      = ∑ s ∈ Finset.range N, (if s < t then
          Ideal.exp (-(sp (-(z s))) + ((∑ s' ∈ Finset.Ico s N, mlk z t s') - mlk z t s)) else 0) * v s := by
  rw [Finset.range_eq_Ico, ← Finset.sum_Ico_consecutive (fun s => (if s < t then _ else _) * v s) (Nat.zero_le B) hB]
  rw [Finset.sum_eq_zero (s := Finset.Ico B N), add_zero]
  · refine Finset.sum_congr rfl fun s hs => ?_
    rw [Finset.mem_Ico] at hs
    unfold wt
    by_cases h : s < t
    · rw [if_pos h, if_pos h, mlk_tail z t B N s (by omega) hB (by omega), Finset.sum_eq_sum_Ico_succ_bot (show s < B by omega),
        weight_eq]
      unfold mlk
      simp only [if_pos h]
    · rw [if_neg h, if_neg h]
  · intro s hs
    rw [Finset.mem_Ico] at hs
    rw [if_neg (by omega), zero_mul]

end Cert.Sb

end
-- ==== Proof.SbTile.lean ====
/-
  One tile of 256 keys, as the kernel computes it: the logits, their softplus, the sums of the logs of the later keys, the
  weights, and the two accumulators' step, for a tile before the queries and for the two tiles that hold the diagonal.
-/
module

public import proofs.«01_k».proof.Proof.SbMath
public import proofs.«01_k».proof.Proof.Gen.SbKernelIdeal.Skeleton
public import Idealize.ShloMosaic.Lib.Pointwise
public import Idealize.ShloMosaic.Lib.WordCmp

@[expose] public section

noncomputable section

open scoped BigOperators
open Idealize.ShloMosaic Idealize.ShloMosaic.TcCoe Idealize.SL.Sem
open Cert.SbKernelIdeal Cert.SbKernelIdeal.Gen

namespace Cert.Sb

/-- The strictly-lower-triangular 0/1 matrix a tile's logs are multiplied by, stacked twice: for the high and the low
    part. -/
def IsU2 (u : Vec Ideal S512x256 .bf16) : Prop := ∀ a b, u (ix2 a b) = if b.val < a.val % 256 then 1 else 0

/-- The high parts times the triangle plus the low parts times the triangle: the sum of the logs of the later keys. -/
theorem later_eq (u : Vec Ideal S512x256 .bf16) (hu : IsU2 u) (l : Fin 256 → EReal) (hl : ∀ c, l c ≠ ⊤) (c : Fin 256) :
    (∑ x : Fin 256, l x * u (ix2 ⟨x.val, by omega⟩ c)) + ∑ x : Fin 256, (l x - l x) * u (ix2 ⟨256 + x.val, by omega⟩ c)
      = ∑ x : Fin 256, if c.val < x.val then l x else 0 := by
  rw [← Finset.sum_add_distrib]
  refine Finset.sum_congr rfl fun x _ => ?_
  rw [hu, hu]
  have h1 : x.val % 256 = x.val := Nat.mod_eq_of_lt x.isLt
  have h2 : (256 + x.val) % 256 = x.val := by rw [Nat.add_mod_left, h1]
  simp only [h1, h2]
  by_cases h : c.val < x.val
  · rw [if_pos h, if_pos h, mul_one, mul_one, split_sum (hl x)]
  · rw [if_neg h, if_neg h, mul_zero, mul_zero, add_zero]

/-! ## A tile wholly before the queries -/

/-- What the body's value `pay3` is at one element. -/
theorem pay3_apply (v1 : FVec Ideal S512x128 .bf16) (k : Vec Ideal S1x256x128 .bf16) (r : Fin 512) (c : Fin 256) :
    k0_pay3 v1 k (ix2 r c) = (∑ d : Fin 128, v1 (ix2 r d) * k (ix3 0 c d)) * Ideal.ofBits .f32 0x3DB504F3#32 := by
  pointwise [k0_pay3]

/-- What the body's value `pay4` is at one element. -/
theorem pay4_apply (v1 : FVec Ideal S512x128 .bf16) (k : Vec Ideal S1x256x128 .bf16) (r : Fin 512) (c : Fin 256) :
    k0_pay4 v1 k (ix2 r c) = sp (k0_pay3 v1 k (ix2 r c)) := by
  pointwise [k0_pay4, sp]
  rfl

/-- What the body's value `pay5` is at one element. -/
theorem pay5_apply (v1 : FVec Ideal S512x128 .bf16) (k : Vec Ideal S1x256x128 .bf16) (r : Fin 512) (c : Fin 256) :
    k0_pay5 v1 k (ix2 r c) = lk (k0_pay3 v1 k (ix2 r c)) := by
  pointwise [k0_pay5, pay4_apply, lk]

/-- What the body's value `pay6` is at one element. -/
theorem pay6_apply (v1 : FVec Ideal S512x128 .bf16) (k : Vec Ideal S1x256x128 .bf16) (u : Vec Ideal S512x256 .bf16)
    (hu : IsU2 u) (acc : Vec Ideal S512x1 .f32) (r : Fin 512) (c : Fin 256) :
    k0_pay6 v1 k u acc (ix2 r c) = Ideal.exp ((k0_pay3 v1 k (ix2 r c) - sp (k0_pay3 v1 k (ix2 r c)))
      + ((∑ x : Fin 256, if c.val < x.val then lk (k0_pay3 v1 k (ix2 r x)) else 0) + acc (ix2 r 0))) := by
  rw [← later_eq u hu (fun x => lk (k0_pay3 v1 k (ix2 r x))) (fun _ => lk_ne_top _)]
  pointwise [k0_pay6, pay4_apply, pay5_apply]

/-- What the body's value `pay2` is at one element. -/
theorem pay2_apply (v : Vec Ideal S1x256x128 .bf16) (c : Fin 256) (d : Fin 128) :
    k0_pay2 v (ix2 c d) = v (ix3 0 c d) := by
  pointwise [k0_pay2]

/-- What the body's value `pay31` is at one element. -/
theorem pay31_apply (v : FVec Ideal S256x128 .bf16) (o : Vec Ideal S512x128 .f32) (w : FVec Ideal S512x256 .bf16)
    (r : Fin 512) (d : Fin 128) :
    k0_pay31 v o w (ix2 r d) = o (ix2 r d) + ∑ c : Fin 256, w (ix2 r c) * v (ix2 c d) := by
  pointwise [k0_pay31]

/-- What the body's value `pay32` is at one element. -/
theorem pay32_apply (l : FVec Ideal S512x256 .f32) (a : Vec Ideal S512x1 .f32) (r : Fin 512) :
    k0_pay32 l a (ix2 r 0) = a (ix2 r 0) + ∑ c : Fin 256, l (ix2 r c) := by
  pointwise [k0_pay32]

/-! ## A tile that holds the diagonal -/

/-- What the body's value `pay12` is at one element. -/
theorem pay12_apply (q : Vec Ideal S1x512x128 .bf16) (r : Fin 512) (d : Fin 128) :
    k0_pay12 q (ix2 r d) = q (ix3 0 r d) := by
  pointwise [k0_pay12]

/-- What the body's value `pay16` is. -/
theorem pay16_eq (q : Vec Ideal S1x512x128 .bf16) (k : Vec Ideal S1x256x128 .bf16) :
    k0_pay16 q k = k0_pay3 (k0_pay12 q) k := rfl
/-- What the body's value `pay17` is. -/
theorem pay17_eq (q : Vec Ideal S1x512x128 .bf16) (k : Vec Ideal S1x256x128 .bf16) :
    k0_pay17 q k = k0_pay4 (k0_pay12 q) k := rfl
/-- What the body's value `pay18` is. -/
theorem pay18_eq (q : Vec Ideal S1x512x128 .bf16) (k : Vec Ideal S1x256x128 .bf16) :
    k0_pay18 q k = k0_pay5 (k0_pay12 q) k := rfl
/-- What the body's value `pay15` is. -/
theorem pay15_eq (v : Vec Ideal S1x256x128 .bf16) : k0_pay15 v = k0_pay2 v := rfl
/-- What the body's value `pay23` is. -/
theorem pay23_eq (v : Vec Ideal S1x256x128 .bf16) : k0_pay23 v = k0_pay2 v := rfl
/-- What the body's value `pay24` is. -/
theorem pay24_eq (q : FVec Ideal S512x128 .bf16) (k : Vec Ideal S1x256x128 .bf16) : k0_pay24 q k = k0_pay3 q k := rfl
/-- What the body's value `pay25` is. -/
theorem pay25_eq (q : FVec Ideal S512x128 .bf16) (k : Vec Ideal S1x256x128 .bf16) : k0_pay25 q k = k0_pay4 q k := rfl

/-- A select on a decided bit is the `if`. -/
theorem select_ofBool (p : Prop) [Decidable p] (x y : EReal) :
    Scalar.select (BitVec.ofBool (decide p)) x y = if p then x else y := by
  by_cases h : p <;> simp [h, Scalar.select]

/-- The causal mask of the first diagonal tile: key `a + c` is strictly before query `n * 512 + r`. -/
theorem pay19_apply (n a : ℕ) (hn : n < 16) (ha : a < 8192) (r : Fin 512) (c : Fin 256) :
    k0_pay19 (BitVec.ofNat 32 n) (BitVec.ofNat 32 a) 512#32 (ix2 r c)
      = BitVec.ofBool (decide (a + c.val < n * 512 + r.val)) := by
  pointwise [k0_pay19]
  have h1 : IntOp.addi (BitVec.ofNat 32 a) (BitVec.ofNat 32 c.val) = BitVec.ofNat 32 (a + c.val) :=
    (BitVec.ofNat_add _ _).symm
  have h2 : IntOp.addi (Scalar.muli (BitVec.ofNat 32 n) 512#32) (BitVec.ofNat 32 r.val)
      = BitVec.ofNat 32 (n * 512 + r.val) := by
    rw [BitVec.ofNat_add, BitVec.ofNat_mul]; rfl
  rw [h1, h2]
  exact Idealize.ShloMosaic.WordCmp.cmpi_slt_ofNat (by have := c.isLt; omega) (by have := r.isLt; omega)

/-- The causal mask of the second diagonal tile, whose first key is `n * 512`. -/
theorem pay26_apply (n : ℕ) (hn : n < 16) (r : Fin 512) (c : Fin 256) :
    k0_pay26 (BitVec.ofNat 32 n) 2#32 (ix2 r c) = BitVec.ofBool (decide (n * 512 + c.val < n * 512 + r.val)) := by
  pointwise [k0_pay26]
  have h1 : IntOp.addi (Scalar.muli (Scalar.addi (Scalar.muli (BitVec.ofNat 32 n) 2#32) 0#32) 256#32) (BitVec.ofNat 32 c.val)
      = BitVec.ofNat 32 (n * 512 + c.val) := by
    rw [show n * 512 = (n * 2 + 0) * 256 by ring, BitVec.ofNat_add, BitVec.ofNat_mul, BitVec.ofNat_add, BitVec.ofNat_mul]; rfl
  have h2 : IntOp.addi (Scalar.muli (BitVec.ofNat 32 n) 512#32) (BitVec.ofNat 32 r.val)
      = BitVec.ofNat 32 (n * 512 + r.val) := by
    rw [BitVec.ofNat_add, BitVec.ofNat_mul]; rfl
  rw [h1, h2]
  exact Idealize.ShloMosaic.WordCmp.cmpi_slt_ofNat (by have := c.isLt; omega) (by have := r.isLt; omega)

/-- What the body's value `pay20` is at one element. -/
theorem pay20_apply (arg2 v13 : BitVec 32) (l : FVec Ideal S512x256 .f32) (r : Fin 512) (c : Fin 256) :
    k0_pay20 arg2 v13 l 512#32 (ix2 r c) = Scalar.select (k0_pay19 arg2 v13 512#32 (ix2 r c)) (l (ix2 r c)) 0 := by
  pointwise [k0_pay20]

/-- What the body's value `pay21` is at one element. -/
theorem pay21_apply (arg2 v13 : BitVec 32) (v : FVec Ideal S256x128 .bf16) (z s l : FVec Ideal S512x256 .f32)
    (u : Vec Ideal S512x256 .bf16) (acc : Vec Ideal S512x1 .f32) (o : Vec Ideal S512x128 .f32) (r : Fin 512) (d : Fin 128) :
    k0_pay21 arg2 v13 v z s l 512#32 u acc o (ix2 r d) = o (ix2 r d) + ∑ x : Fin 256,
      Scalar.select (k0_pay19 arg2 v13 512#32 (ix2 r x))
        (Ideal.exp (z (ix2 r x) - s (ix2 r x)
          + ((∑ y : Fin 256, k0_pay20 arg2 v13 l 512#32 (ix2 r y) * u (ix2 ⟨y.val, by omega⟩ x))
            + (∑ y : Fin 256, (k0_pay20 arg2 v13 l 512#32 (ix2 r y) - k0_pay20 arg2 v13 l 512#32 (ix2 r y))
                * u (ix2 ⟨256 + y.val, by omega⟩ x)) + acc (ix2 r 0))) * v (ix2 x d)) 0 := by
  pointwise [k0_pay21]

/-- What the body's value `pay22` is at one element. -/
theorem pay22_apply (arg2 v13 : BitVec 32) (l : FVec Ideal S512x256 .f32)
     (acc : Vec Ideal S512x1 .f32) (r : Fin 512) :
    k0_pay22 arg2 v13 l 512#32 acc (ix2 r 0) = acc (ix2 r 0) + ∑ c : Fin 256, k0_pay20 arg2 v13 l 512#32 (ix2 r c) := by
  pointwise [k0_pay22]

/-- What the body's value `pay27` is at one element. -/
theorem pay27_apply (arg2 : BitVec 32) (v1 : FVec Ideal S512x128 .bf16) (k : Vec Ideal S1x256x128 .bf16) (r : Fin 512) (c : Fin 256) :
    k0_pay27 arg2 v1 2#32 k (ix2 r c) = Scalar.select (k0_pay26 arg2 2#32 (ix2 r c)) (lk (k0_pay3 v1 k (ix2 r c))) 0 := by
  rw [← pay5_apply]
  pointwise [k0_pay27, pay25_eq, k0_pay5]

/-- What the body's value `pay28` is at one element. -/
theorem pay28_apply (arg2 : BitVec 32) (v1 : FVec Ideal S512x128 .bf16) (k : Vec Ideal S1x256x128 .bf16)
    (u : Vec Ideal S512x256 .bf16) (r : Fin 512) (c : Fin 256) :
    k0_pay28 arg2 v1 2#32 k u (ix2 r c) =
      (∑ x : Fin 256, k0_pay27 arg2 v1 2#32 k (ix2 r x) * u (ix2 ⟨x.val, by omega⟩ c))
      + ∑ x : Fin 256, (k0_pay27 arg2 v1 2#32 k (ix2 r x) - k0_pay27 arg2 v1 2#32 k (ix2 r x))
          * u (ix2 ⟨256 + x.val, by omega⟩ c) := by
  pointwise [k0_pay28]

/-- What the body's value `pay29` is at one element. -/
theorem pay29_apply (v : FVec Ideal S256x128 .bf16) (z s : FVec Ideal S512x256 .f32) (m : IVec S512x256 1)
    (l : FVec Ideal S512x256 .f32) (acc : Vec Ideal S512x1 .f32) (o : Vec Ideal S512x128 .f32) (r : Fin 512) (d : Fin 128) :
    k0_pay29 v z s m l acc o (ix2 r d) = o (ix2 r d) + ∑ x : Fin 256, Scalar.select (m (ix2 r x))
      (Ideal.exp (z (ix2 r x) - s (ix2 r x) + (l (ix2 r x) + acc (ix2 r 0))) * v (ix2 x d)) 0 := by
  pointwise [k0_pay29]

/-- What the body's value `pay30` is at one element. -/
theorem pay30_apply (l : FVec Ideal S512x256 .f32) (a : Vec Ideal S512x1 .f32) (r : Fin 512) :
    k0_pay30 l a (ix2 r 0) = a (ix2 r 0) + ∑ c : Fin 256, l (ix2 r c) := by
  pointwise [k0_pay30]

/-- What the body's value `pay13` is at one element. -/
theorem pay13_apply (i : S512x128.Idx) : (k0_pay13 (F:=Ideal)) i = 0 := by
  pointwise [k0_pay13]

/-- What the body's value `pay14` is at one element. -/
theorem pay14_apply (i : S512x1.Idx) : (k0_pay14 (F:=Ideal)) i = 0 := by
  pointwise [k0_pay14]

/-- `out` at one element. -/
theorem out_apply (o : Vec Ideal S512x128 .f32) (r : Fin 512) (d : Fin 128) :
    k0_pay1 (k0_pay35 o) (ix3 0 r d) = o (ix2 r d) := by
  pointwise [k0_pay1, k0_pay35]

/-! ## The state of the two accumulators -/

/-- Key `s`, as an index of the sequence. -/
def key (s : ℕ) : Fin 8192 := ⟨s % 8192, Nat.mod_lt _ (by norm_num)⟩

/-- The logit of query row `r` of a block and key `s`. -/
def zrow (q : Vec Ideal S1x512x128 .bf16) (K : Vec Ideal S1x8192x128 .bf16) (r : Fin 512) (s : ℕ) : EReal :=
  (∑ d : Fin 128, q (ix3 0 r d) * K (ix3 0 (key s) d)) * Ideal.ofBits .f32 0x3DB504F3#32

/-- The two accumulators of query block `n` once the keys from `a` on have been visited: the sum of the logs, and the
    weighted sum of the values. -/
def St (n : ℕ) (q : Vec Ideal S1x512x128 .bf16) (K V : Vec Ideal S1x8192x128 .bf16) (a : ℕ)
    (acc : Vec Ideal S512x1 .f32) (o : Vec Ideal S512x128 .f32) : Prop :=
  ∀ r : Fin 512, acc (ix2 r 0) = ∑ s ∈ Finset.Ico a (n * 512 + 512), mlk (zrow q K r) (n * 512 + r.val) s
    ∧ ∀ d : Fin 128, o (ix2 r d) = ∑ s ∈ Finset.Ico a (n * 512 + 512),
        wt (zrow q K r) (n * 512 + r.val) (n * 512 + 512) s * V (ix3 0 (key s) d)

/-- A block of 256 keys, the first of them key `a`. -/
def IsTile (K : Vec Ideal S1x8192x128 .bf16) (a : ℕ) (k : Vec Ideal S1x256x128 .bf16) : Prop :=
  ∀ (c : Fin 256) (d : Fin 128), k (ix3 0 c d) = K (ix3 0 (key (a + c.val)) d)

/-- A tile's logit is the row's and the key's scaled product. -/
theorem z_tile (q : Vec Ideal S1x512x128 .bf16) (K : Vec Ideal S1x8192x128 .bf16) (a : ℕ) (k : Vec Ideal S1x256x128 .bf16)
    (hk : IsTile K a k) (r : Fin 512) (c : Fin 256) : k0_pay3 (k0_pay12 q) k (ix2 r c) = zrow q K r (a + c.val) := by
  rw [pay3_apply]; unfold zrow
  congr 1
  refine Finset.sum_congr rfl fun d _ => ?_
  rw [pay12_apply, hk]

/-- Nothing visited yet: both accumulators are zero. -/
theorem st_zero (n : ℕ) (q : Vec Ideal S1x512x128 .bf16) (K V : Vec Ideal S1x8192x128 .bf16) :
    St n q K V (n * 512 + 512) (k0_pay14 (F := Ideal)) (k0_pay13 (F := Ideal)) := by
  intro r
  rw [pay14_apply, Finset.Ico_self, Finset.sum_empty]
  refine ⟨rfl, fun d => ?_⟩
  rw [pay13_apply, Finset.sum_empty]

/-- A masked weight in a product is a masked product. -/
theorem ite_mul_zero' (p : Prop) [Decidable p] (x y : EReal) : (if p then x * y else 0) = (if p then x else 0) * y := by
  by_cases h : p
  · rw [if_pos h, if_pos h]
  · rw [if_neg h, if_neg h, zero_mul]

/-- A tile wholly before the queries. -/
theorem st_full (n a : ℕ) (ha : a + 256 ≤ n * 512) (q : Vec Ideal S1x512x128 .bf16) (K V : Vec Ideal S1x8192x128 .bf16)
    (u : Vec Ideal S512x256 .bf16) (hu : IsU2 u) (k v : Vec Ideal S1x256x128 .bf16) (hk : IsTile K a k) (hv : IsTile V a v)
    (acc : Vec Ideal S512x1 .f32) (o : Vec Ideal S512x128 .f32) (h : St n q K V (a + 256) acc o) :
    St n q K V a (k0_pay32 (k0_pay5 (k0_pay12 q) k) acc)
      (k0_pay31 (k0_pay2 v) o (k0_pay6 (k0_pay12 q) k u acc)) := by
  intro r
  obtain ⟨h1, h2⟩ := h r
  have hm : ∀ c : Fin 256, lk (zrow q K r (a + c.val)) = mlk (zrow q K r) (n * 512 + r.val) (a + c.val) := by
    intro c; unfold mlk; rw [if_pos (by have := c.isLt; omega)]
  constructor
  · rw [pay32_apply, h1]
    simp only [pay5_apply, z_tile q K a k hk, hm]
    exact acc_step _ _ _ _ _ (by omega)
  · intro d
    rw [pay31_apply, h2 d, ← out_step (zrow q K r) (fun s => V (ix3 0 (key s) d)) _ _ a 256 (by omega)]
    congr 1
    refine Finset.sum_congr rfl fun c _ => ?_
    rw [pay6_apply _ _ _ hu, pay2_apply, hv, h1]
    simp only [z_tile q K a k hk, hm]
    rw [later_step _ _ _ _ _ (by omega)]
    unfold wt
    rw [if_pos (by have := c.isLt; omega)]

/-- The first tile that holds the diagonal: its keys are `a = n * 512 + 256` and on. -/
theorem st_diag1 (n a : ℕ) (w : BitVec 32) (hw : w = BitVec.ofNat 32 a) (hn : n < 16) (ha : a + 256 = n * 512 + 512) (q : Vec Ideal S1x512x128 .bf16)
    (K V : Vec Ideal S1x8192x128 .bf16) (u : Vec Ideal S512x256 .bf16) (hu : IsU2 u) (k v : Vec Ideal S1x256x128 .bf16)
    (hk : IsTile K a k) (hv : IsTile V a v) (acc : Vec Ideal S512x1 .f32) (o : Vec Ideal S512x128 .f32)
    (h : St n q K V (a + 256) acc o) :
    St n q K V a (k0_pay22 (BitVec.ofNat 32 n) w (k0_pay18 q k) 512#32 acc)
      (k0_pay21 (BitVec.ofNat 32 n) w (k0_pay15 v) (k0_pay16 q k) (k0_pay17 q k) (k0_pay18 q k) 512#32
        u acc o) := by
  subst hw
  intro r
  obtain ⟨h1, h2⟩ := h r
  have hl : ∀ c : Fin 256, k0_pay20 (BitVec.ofNat 32 n) (BitVec.ofNat 32 a) (k0_pay18 q k) 512#32 (ix2 r c)
      = mlk (zrow q K r) (n * 512 + r.val) (a + c.val) := by
    intro c
    rw [pay20_apply, pay19_apply n a hn (by omega), pay18_eq, pay5_apply, z_tile q K a k hk, select_ofBool]; rfl
  constructor
  · rw [pay22_apply, h1]
    simp only [hl]
    exact acc_step _ _ _ _ _ (by omega)
  · intro d
    rw [pay21_apply, h2 d, ← out_step (zrow q K r) (fun s => V (ix3 0 (key s) d)) _ _ a 256 (by omega)]
    congr 1
    refine Finset.sum_congr rfl fun c _ => ?_
    rw [later_eq u hu (fun x => k0_pay20 (BitVec.ofNat 32 n) (BitVec.ofNat 32 a) (k0_pay18 q k) 512#32 (ix2 r x))
      (fun x => by rw [hl]; unfold mlk; split; exact lk_ne_top _; exact EReal.zero_ne_top)]
    rw [pay19_apply n a hn (by omega), pay15_eq, pay2_apply, hv, h1, pay16_eq, pay17_eq, pay4_apply, z_tile q K a k hk,
      select_ofBool, ite_mul_zero']
    simp only [hl]
    rw [later_step _ _ _ _ _ (by omega)]
    rfl

/-- The second tile that holds the diagonal: its keys are `n * 512` and on. -/
theorem st_diag2 (n : ℕ) (hn : n < 16) (q : Vec Ideal S1x512x128 .bf16)
    (K V : Vec Ideal S1x8192x128 .bf16) (u : Vec Ideal S512x256 .bf16) (hu : IsU2 u) (k v : Vec Ideal S1x256x128 .bf16)
    (hk : IsTile K (n * 512) k) (hv : IsTile V (n * 512) v) (acc : Vec Ideal S512x1 .f32) (o : Vec Ideal S512x128 .f32)
    (h : St n q K V (n * 512 + 256) acc o) :
    St n q K V (n * 512) (k0_pay30 (k0_pay27 (BitVec.ofNat 32 n) (k0_pay12 q) 2#32 k) acc)
      (k0_pay29 (k0_pay23 v) (k0_pay24 (k0_pay12 q) k) (k0_pay25 (k0_pay12 q) k) (k0_pay26 (BitVec.ofNat 32 n) 2#32)
        (k0_pay28 (BitVec.ofNat 32 n) (k0_pay12 q) 2#32 k u) acc o) := by
  intro r
  obtain ⟨h1, h2⟩ := h r
  have hl : ∀ c : Fin 256, k0_pay27 (BitVec.ofNat 32 n) (k0_pay12 q) 2#32 k (ix2 r c)
      = mlk (zrow q K r) (n * 512 + r.val) (n * 512 + c.val) := by
    intro c
    rw [pay27_apply, pay26_apply n hn, z_tile q K _ k hk, select_ofBool]; rfl
  constructor
  · rw [pay30_apply, h1]
    simp only [hl]
    exact acc_step _ _ _ _ _ (by omega)
  · intro d
    rw [pay29_apply, h2 d, ← out_step (zrow q K r) (fun s => V (ix3 0 (key s) d)) _ _ (n * 512) 256 (by omega)]
    congr 1
    refine Finset.sum_congr rfl fun c _ => ?_
    rw [pay28_apply, later_eq u hu (fun x => k0_pay27 (BitVec.ofNat 32 n) (k0_pay12 q) 2#32 k (ix2 r x))
      (fun x => by rw [hl]; unfold mlk; split; exact lk_ne_top _; exact EReal.zero_ne_top)]
    rw [pay26_apply n hn, pay23_eq, pay2_apply, hv, h1, pay24_eq, pay25_eq, pay4_apply, z_tile q K _ k hk,
      select_ofBool, ite_mul_zero']
    simp only [hl]
    rw [later_step _ _ _ _ _ (by omega)]
    rfl

end Cert.Sb

end
-- ==== Proof.SbTrips.lean ====
/-
  The trip counts of the attention's loop and the tile each trip reads, in closed form.
-/
module

public import proofs.«01_k».proof.Proof.Gen.SbKernelIdeal

@[expose] public section

open Idealize.ShloMosaic Idealize.SL.Sem
open Cert.SbKernelIdeal

namespace Cert.Sb

/-- The loop over the tiles before the diagonal makes `2 * n` trips at query block `n`. -/
theorem trips1 : ∀ i : grid0.Coords, (k0_t1_loop i).trips = 2 * (i 2).val := by decide +kernel

/-- The loop's remainder makes none. -/
theorem trips2 : ∀ i : grid0.Coords, (k0_t2_loop i).trips = 0 := by decide +kernel

/-- Trip `k` of the loop reads the tile that starts at key `512 n − 256 (k + 1)`. -/
theorem off2_eq : ∀ (i : grid0.Coords) (k : Fin (k0_t1_loop i).trips),
    k0_off2 i k = ![0, 512 * (i 2).val - 256 * (k.val + 1), 0] := by decide +kernel

end Cert.Sb

end
-- ==== Proof.SbBody.lean ====
/-
  What the kernel's body leaves in its output block at one grid point: the two tiles that hold the diagonal, then the
  loop over the tiles before them, from the right to the left, folded into the state of the two accumulators.
-/
module

public import proofs.«01_k».proof.Proof.SbTile
public import proofs.«01_k».proof.Proof.SbTrips
public import Idealize.ShloMosaic.Lib.WholeRead
public import proofs.«01_k».proof.Proof.Gen.SbKernelIdeal.Value

@[expose] public section

set_option maxRecDepth 16384

noncomputable section

open scoped BigOperators
open Idealize.ShloMosaic Idealize.ShloMosaic.TcCoe Idealize.SL.Sem
open Idealize.ShloMosaic.Pipeline (Dat)
open Cert.SbKernelIdeal Cert.SbKernelIdeal.Gen

namespace Cert.Sb

/-- A two-axis offset of zeros. -/
theorem hz2 : (![0, 0] : Fin 2 → Nat) = fun _ => 0 := funext fun a => by fin_cases a <;> rfl
/-- A three-axis offset of zeros. -/
theorem hz3 : (![0, 0, 0] : Fin 3 → Nat) = fun _ => 0 := funext fun a => by fin_cases a <;> rfl

/-- Offsets with equal middle coordinates are equal. -/
theorem off_congr {x y : ℕ} (h : x = y) : (![0, x, 0] : Fin 3 → ℕ) = ![0, y, 0] := by rw [h]

/-- A load of a whole block after stores of which the last is of the whole block reads that store's payload. -/
theorem readCov_cons {Val : EltTy → Type} [∀ e, Nonempty (Val e)] {sig : RefSig} {κ : Kind} {sp : Space} {S : Shape}
    {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb _⟩),
    View.canon_cons_unit_zero h, View.ld_unit_zero h]

/-- … whatever the buffer held before the stores. -/
theorem readAt_cons {Val : EltTy → Type} [∀ e, Nonempty (Val e)] {sig : RefSig} {κ : Kind} {sp : Space} {S : Shape}
    {e : EltTy} (v : View sig κ sp S e) (f : v.ty.Contents Val) {off : Fin S.rank → Nat} (h : off = fun _ => 0)
    (inb : ∀ a, off a + S.size a ≤ S.size a) (w : S.Idx → Val e) (L : List (View.Piece Val S e)) :
    v.readAt Val (Rect.unit off S.size inb).toLoadRect
      (v.writes Val f ((⟨Rect.unit off S.size inb, w⟩ : View.Piece Val S e) :: L)) = w := by
  rw [View.readAt_writes_of_cover v f _ _ (fun y => ⟨_, List.mem_cons_self, View.mem_set_unit_zero h inb _⟩),
    readCov_cons v h]

/-- A load of a whole block held at the contents that read `X` reads `X`. -/
theorem readAt_whole {Val : EltTy → Type} {sig : RefSig} {κ : Kind} {sp : Space} {S : Shape}
    {e : EltTy} {m : Memref sig κ sp S e} (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h]

/-- A load of 256 keys from row `a` on is the tile that starts at key `a`. -/
theorem isTile_readAt {m : Memref sig .tc .vmem S1x8192x128 .bf16} (hm : m.IsWhole) (K : Vec Ideal S1x8192x128 .bf16)
    (a : ℕ) (ha : a + 256 ≤ 8192) (off : Fin 3 → ℕ) (ho : off = ![0, a, 0])
    (inb : ∀ x, off x + S1x256x128.size x ≤ S1x8192x128.size x) :
    IsTile K a (View.readAt (Elt Ideal) m.view (Rect.unit (s := S1x8192x128) off S1x256x128.size inb).toLoadRect (hm.unread K)) := by
  subst ho
  intro c d
  rw [hm.readAt_unread]
  congr 1
  funext x
  apply Fin.ext
  have hc := c.isLt
  match x with
  | ⟨0, _⟩ => rfl
  | ⟨1, _⟩ =>
    show a + 1 * c.val = (a + c.val) % 8192
    rw [Nat.mod_eq_of_lt (by omega), one_mul]
  | ⟨2, _⟩ =>
    show 0 + 1 * d.val = d.val
    rw [zero_add, one_mul]

section
variable (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S512x256 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x1 .f32) (harg9 : arg9.IsWhole)

/-- The accumulators' state, as loads of the whole accumulators from buffer contents. -/
def StBuf (n : ℕ) (q : Vec Ideal S1x512x128 .bf16) (K V : Vec Ideal S1x8192x128 .bf16) (a : ℕ)
    (f8 : BufTy.Contents (Elt Ideal) arg8.view.ty) (f9 : BufTy.Contents (Elt Ideal) arg9.view.ty) : Prop :=
  St n q K V a
    (View.readAt (Elt Ideal) arg9.view (Rect.unit ![0, 0] S512x1.size inb_S512x1_S512x1_0_0).toLoadRect f9)
    (View.readAt (Elt Ideal) arg8.view (Rect.unit ![0, 0] S512x128.size inb_S512x128_S512x128_0_0).toLoadRect f8)

/-- One trip of the loop takes the state from the end of its tile to the tile's start. -/
theorem st_trip (q : Vec Ideal S1x512x128 .bf16) (K V : Vec Ideal S1x8192x128 .bf16) (u : Vec Ideal S512x256 .bf16)
    (hu : IsU2 u) (arg2 : BitVec 32) (k : Fin (k0_t1_loop i).trips)
    (f8 : BufTy.Contents (Elt Ideal) arg8.view.ty) (f9 : BufTy.Contents (Elt Ideal) arg9.view.ty)
    (h : StBuf arg8 arg9 (i 2).val q K V (512 * (i 2).val - 256 * k.val) f8 f9) :
    StBuf arg8 arg9 (i 2).val q K V (512 * (i 2).val - 256 * (k.val + 1))
      (arg8.view.writes (Elt Ideal) f8 (tripL_k0_t1 (F := Ideal) 𝒱 c bd i arg3 harg3 arg4 harg4 arg5 harg5 arg6 harg6 arg7 harg7 arg8 harg8 arg9 harg9 arg2 (k0_pay12 q) (harg4.unread K) (harg5.unread V) (harg6.unread u) k f8 f9).1)
      (arg9.view.writes (Elt Ideal) f9 (tripL_k0_t1 (F := Ideal) 𝒱 c bd i arg3 harg3 arg4 harg4 arg5 harg5 arg6 harg6 arg7 harg7 arg8 harg8 arg9 harg9 arg2 (k0_pay12 q) (harg4.unread K) (harg5.unread V) (harg6.unread u) k f8 f9).2) := by
  have hk : k.val < 2 * (i 2).val := trips1 i ▸ k.isLt
  have hi : (i 2).val < 16 := (i 2).isLt
  unfold tripL_k0_t1
  unfold trip_k0_t1
  dsimp only
  sl_unfold_words
  unfold StBuf at h ⊢
  rw [readAt_cons (S := S512x128) arg8.view f8 hz2, readAt_cons (S := S512x1) arg9.view f9 hz2, readAt_whole harg6 hz2]
  refine st_full (i 2).val (512 * (i 2).val - 256 * (k.val + 1)) (by omega) q K V u hu _ _ ?_ ?_ _ _ ?_
  · exact isTile_readAt harg4 K _ (by omega) (k0_off2 i k) (off2_eq i k) _
  · exact isTile_readAt harg5 V _ (by omega) (k0_off2 i k) (off2_eq i k) _
  · rw [show 512 * (i 2).val - 256 * (k.val + 1) + 256 = 512 * (i 2).val - 256 * k.val by omega]
    exact h

/-- The state after `k` trips. -/
theorem st_loop (q : Vec Ideal S1x512x128 .bf16) (K V : Vec Ideal S1x8192x128 .bf16) (u : Vec Ideal S512x256 .bf16)
    (hu : IsU2 u) (arg2 : BitVec 32)
    (G8 : BufTy.Contents (Elt Ideal) arg8.view.ty) (G9 : BufTy.Contents (Elt Ideal) arg9.view.ty)
    (h : StBuf arg8 arg9 (i 2).val q K V ((i 2).val * 512) G8 G9) (k : ℕ) (hk : k ≤ (k0_t1_loop i).trips) :
    StBuf arg8 arg9 (i 2).val q K V (512 * (i 2).val - 256 * k)
      (arg8.view.writes (Elt Ideal) G8 (pb_k0_t1 (F := Ideal) 𝒱 c bd i arg3 harg3 arg4 harg4 arg5 harg5 arg6 harg6 arg7 harg7 arg8 harg8 arg9 harg9 arg2 (k0_pay12 q) (harg4.unread K) (harg5.unread V) (harg6.unread u) G8 G9 k).1)
      (arg9.view.writes (Elt Ideal) G9 (pb_k0_t1 (F := Ideal) 𝒱 c bd i arg3 harg3 arg4 harg4 arg5 harg5 arg6 harg6 arg7 harg7 arg8 harg8 arg9 harg9 arg2 (k0_pay12 q) (harg4.unread K) (harg5.unread V) (harg6.unread u) G8 G9 k).2) := by
  induction k with
  | zero =>
    rw [Nat.mul_zero, Nat.sub_zero, Nat.mul_comm]
    exact h
  | succ k ih =>
    rw [pb_k0_t1_succ (F := Ideal) 𝒱 c bd i arg3 harg3 arg4 harg4 arg5 harg5 arg6 harg6 arg7 harg7 arg8 harg8 arg9 harg9 arg2 (k0_pay12 q) (harg4.unread K) (harg5.unread V) (harg6.unread u) G8 G9 ⟨k, hk⟩]
    rw [View.writes_append, View.writes_append]
    exact st_trip 𝒱 c bd i arg3 harg3 arg4 harg4 arg5 harg5 arg6 harg6 arg7 harg7 arg8 harg8 arg9 harg9 q K V u hu arg2 ⟨k, hk⟩ _ _ (ih (by omega))

/-- THE BODY: element `(r, d)` of the output block at query block `n` is the weighted sum of the values over all the keys
    below `512 (n + 1)`. -/
theorem body (q : Vec Ideal S1x512x128 .bf16) (K V : Vec Ideal S1x8192x128 .bf16) (u : Vec Ideal S512x256 .bf16)
    (hu : IsU2 u) (r : Fin 512) (d : Fin 128) :
    out0_A_4 (F := Ideal) c i arg3 harg3 arg4 harg4 arg5 harg5 arg6 harg6 arg7 harg7 arg8 harg8 arg9 harg9 q K V u (ix3 0 r d)
      = ∑ s ∈ Finset.Ico 0 ((i 2).val * 512 + 512),
          wt (zrow q K r) ((i 2).val * 512 + r.val) ((i 2).val * 512 + 512) s * V (ix3 0 (key s) d) := by
  have hi : (i 2).val < 16 := (i 2).isLt
  unfold out0_A_4
  rw [View.read_writes_eq_canon _ _ _ (fun y => cover0_A_4 c i arg3 harg3 arg4 harg4 arg5 harg5 arg6 harg6 arg7 harg7 arg8 harg8 arg9 harg9 q K V u y)]
  unfold kernelRun0_A
  dsimp only
  sl_unfold_words
  rw [View.canon_cons_unit_zero (S := S1x512x128) hz3]
  rw [out_apply]
  have ht2 : Scf.trips (k0_t2_loop i).lb (k0_t2_loop i).ub (k0_t2_loop i).st = 0 := trips2 i
  rw [ht2]
  unfold pb_k0_t2
  rw [List.nil_append]
  unfold View.readCov
  rw [View.writes_append]
  simp only [readAt_whole harg3 hz3, readAt_whole harg6 hz2]
  refine Eq.trans ((st_loop Variants.none c none i arg3 harg3 arg4 harg4 arg5 harg5 arg6 harg6 arg7 harg7 arg8 harg8 arg9
    harg9 q K V u hu (BitVec.ofNat 32 (i 2).val) _ _ ?_ _ le_rfl r).2 d) ?_
  · unfold StBuf
    simp only [readAt_cons (S := S512x128) arg8.view _ hz2, readAt_cons (S := S512x1) arg9.view _ hz2]
    refine st_diag2 (i 2).val hi q K V u hu _ _ ?_ ?_ _ _ ?_
    · exact isTile_readAt harg4 K _ (by omega) (k0_off1 i 0#32) ((k0_off1_eq i ⟨0, by decide⟩).trans (off_congr (show 512 * (i 2).val + 256 * 0 = (i 2).val * 512 by omega))) _
    · exact isTile_readAt harg5 V _ (by omega) (k0_off1 i 0#32) ((k0_off1_eq i ⟨0, by decide⟩).trans (off_congr (show 512 * (i 2).val + 256 * 0 = (i 2).val * 512 by omega))) _
    · have hw : Scalar.muli (Scalar.addi (Scalar.muli (BitVec.ofNat 32 (i 2).val) 2#32) 1#32) 256#32
          = BitVec.ofNat 32 ((i 2).val * 512 + 256) := by
        rw [show (i 2).val * 512 + 256 = ((i 2).val * 2 + 1) * 256 by ring, BitVec.ofNat_mul, BitVec.ofNat_add,
          BitVec.ofNat_mul]; rfl
      refine st_diag1 (i 2).val ((i 2).val * 512 + 256) _ hw hi (by omega) q K V u hu _ _ ?_ ?_ _ _ ?_
      · exact isTile_readAt harg4 K _ (by omega) (k0_off1 i 1#32) ((k0_off1_eq i ⟨1, by decide⟩).trans (off_congr (show 512 * (i 2).val + 256 * 1 = (i 2).val * 512 + 256 by omega))) _
      · exact isTile_readAt harg5 V _ (by omega) (k0_off1 i 1#32) ((k0_off1_eq i ⟨1, by decide⟩).trans (off_congr (show 512 * (i 2).val + 256 * 1 = (i 2).val * 512 + 256 by omega))) _
      · rw [show (i 2).val * 512 + 256 + 256 = (i 2).val * 512 + 512 by omega]
        exact st_zero _ _ _ _
  · rw [trips1, show 512 * (i 2).val - 256 * (2 * (i 2).val) = 0 by omega]
end

end Cert.Sb

end
-- ==== Proof.SbBlocks.lean ====
/-
  What the blocks of a grid point are: the parts of the three arguments that its batch, head and query block name, and the
  pair of triangles of ones the host builds.
-/
module

public import proofs.«01_k».proof.Proof.SbTile
public import proofs.«01_k».proof.Proof.Gen.SbKernelIdeal.Value
public import Idealize.ShloMosaic.Lib.Pipeline.Value
public import Idealize.ShloMosaic.Lib.Pointwise
public import Idealize.ShloMosaic.Lib.WordCmp
public import Idealize.ShloMosaic.Lib.StableHlo.Run

@[expose] public section

set_option maxRecDepth 16384

noncomputable section

open scoped BigOperators
open Idealize.ShloMosaic Idealize.ShloMosaic.TcCoe Idealize.SL.Sem
open Idealize.ShloMosaic.Pipeline (Dat)
open Cert.SbKernelIdeal Cert.SbKernelIdeal.Gen

namespace Cert.Sb

variable (m : (ℓ : Loc nD τ sig) → Buf (Elt Ideal) ℓ) (c : Dev nD) (t : Fin cfg0.N)

/-- The batch coordinate of a point. -/
theorem b_lt : (grid0.coords t 0).val < 8 := (grid0.coords t 0).isLt
/-- The head coordinate of a point. -/
theorem g_lt : (grid0.coords t 1).val < 8 := (grid0.coords t 1).isLt
/-- The coordinate of a point's block of queries. -/
theorem n_lt : (grid0.coords t 2).val < 16 := (grid0.coords t 2).isLt

/-- The 32-bit word of a grid coordinate is the coordinate. -/
theorem word (x : ℕ) (h : x < 16) : (BitVec.ofNat 32 x).toNat = x := by
  rw [BitVec.toNat_ofNat]; exact Nat.mod_eq_of_lt (by omega)

/-- The block of queries a point reads. -/
theorem idx0 : win0_0.index t = ![(grid0.coords t 0).val, (grid0.coords t 2).val, (grid0.coords t 1).val] := by
  show cc0_transform_0 (grid0.coords t) = _
  unfold cc0_transform_0
  dsimp only
  rw [word _ (by have := b_lt t; omega), word _ (n_lt t), word _ (by have := g_lt t; omega)]

/-- The block of keys a point reads. -/
theorem idx1 : win0_1.index t = ![(grid0.coords t 0).val, 0, (grid0.coords t 1).val] := by
  show cc0_transform_1 (grid0.coords t) = _
  unfold cc0_transform_1
  dsimp only
  rw [word (grid0.coords t 0).val (by have := b_lt t; omega), word (grid0.coords t 1).val (by have := g_lt t; omega)]
  rfl

/-- The block of values a point reads. -/
theorem idx2 : win0_2.index t = ![(grid0.coords t 0).val, 0, (grid0.coords t 1).val] := by
  show cc0_transform_2 (grid0.coords t) = _
  unfold cc0_transform_2
  dsimp only
  rw [word (grid0.coords t 0).val (by have := b_lt t; omega), word (grid0.coords t 1).val (by have := g_lt t; omega)]
  rfl

/-- The block of the result a point writes. -/
theorem idx4 : win0_4.index t = ![(grid0.coords t 0).val, (grid0.coords t 2).val, (grid0.coords t 1).val] := by
  show cc0_transform_4 (grid0.coords t) = _
  unfold cc0_transform_4
  dsimp only
  rw [word _ (by have := b_lt t; omega), word _ (n_lt t), word _ (by have := g_lt t; omega)]

/-- The query block of a point: 512 rows of the queries of its batch, the 128 columns of its head. -/
theorem q_block (r : Fin 512) (d : Fin 128) :
    (iblk m c 0 t : Vec Ideal S1x512x128 .bf16) (ix3 0 r d)
      = (m ((c.tc : Thread nD τ).loc main_arg0) : FVec Ideal S8x8192x1024 .bf16)
        (ix3 ⟨(grid0.coords t 0).val, b_lt t⟩ ⟨(grid0.coords t 2).val * 512 + r.val, by have := n_lt t; omega⟩
          ⟨(grid0.coords t 1).val * 128 + d.val, by have := g_lt t; omega⟩) := by
  unfold iblk
  rw [View.read_apply]
  show V m c main_arg0 _ = _
  rw [V_main_arg0]
  congr 1
  funext a
  apply Fin.ext
  match a with
  | ⟨0, _⟩ => show win0_0.index t 0 * 1 + 1 * 0 = (grid0.coords t 0).val; rw [idx0]; show (grid0.coords t 0).val * 1 + 1 * 0 = _; omega
  | ⟨1, _⟩ => show win0_0.index t 1 * 512 + 1 * r.val = (grid0.coords t 2).val * 512 + r.val; rw [idx0]; show (grid0.coords t 2).val * 512 + 1 * r.val = _; omega
  | ⟨2, _⟩ => show win0_0.index t 2 * 128 + 1 * d.val = (grid0.coords t 1).val * 128 + d.val; rw [idx0]; show (grid0.coords t 1).val * 128 + 1 * d.val = _; omega

/-- The key block of a point: all the keys of its batch, the 128 columns of its head. -/
theorem k_block (s : Fin 8192) (d : Fin 128) :
    (iblk m c 1 t : Vec Ideal S1x8192x128 .bf16) (ix3 0 s d)
      = (m ((c.tc : Thread nD τ).loc main_arg1) : FVec Ideal S8x8192x1024 .bf16)
        (ix3 ⟨(grid0.coords t 0).val, b_lt t⟩ s ⟨(grid0.coords t 1).val * 128 + d.val, by have := g_lt t; omega⟩) := by
  unfold iblk
  rw [View.read_apply]
  show V m c main_arg1 _ = _
  rw [V_main_arg1]
  congr 1
  funext a
  apply Fin.ext
  match a with
  | ⟨0, _⟩ => show win0_1.index t 0 * 1 + 1 * 0 = (grid0.coords t 0).val; rw [idx1]; show (grid0.coords t 0).val * 1 + 1 * 0 = _; omega
  | ⟨1, _⟩ => show win0_1.index t 1 * 8192 + 1 * s.val = s.val; rw [idx1]; show 0 * 8192 + 1 * s.val = _; omega
  | ⟨2, _⟩ => show win0_1.index t 2 * 128 + 1 * d.val = (grid0.coords t 1).val * 128 + d.val; rw [idx1]; show (grid0.coords t 1).val * 128 + 1 * d.val = _; omega

/-- The value block of a point: all the values of its batch, the 128 columns of its head. -/
theorem v_block (s : Fin 8192) (d : Fin 128) :
    (iblk m c 2 t : Vec Ideal S1x8192x128 .bf16) (ix3 0 s d)
      = (m ((c.tc : Thread nD τ).loc main_arg2) : FVec Ideal S8x8192x1024 .bf16)
        (ix3 ⟨(grid0.coords t 0).val, b_lt t⟩ s ⟨(grid0.coords t 1).val * 128 + d.val, by have := g_lt t; omega⟩) := by
  unfold iblk
  rw [View.read_apply]
  show V m c main_arg2 _ = _
  rw [V_main_arg2]
  congr 1
  funext a
  apply Fin.ext
  match a with
  | ⟨0, _⟩ => show win0_2.index t 0 * 1 + 1 * 0 = (grid0.coords t 0).val; rw [idx2]; show (grid0.coords t 0).val * 1 + 1 * 0 = _; omega
  | ⟨1, _⟩ => show win0_2.index t 1 * 8192 + 1 * s.val = s.val; rw [idx2]; show 0 * 8192 + 1 * s.val = _; omega
  | ⟨2, _⟩ => show win0_2.index t 2 * 128 + 1 * d.val = (grid0.coords t 1).val * 128 + d.val; rw [idx2]; show (grid0.coords t 1).val * 128 + 1 * d.val = _; omega

/-- The triangle the host builds, printed: rows after columns as ones. -/
def triangle : FVec Ideal S256x256 .bf16 :=
  uitofp .bf16 (cmpi .sgt
    (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0))))

/-- Its element at row `a`, column `b`: one below the diagonal, zero elsewhere. -/
theorem triangle_apply (a b : Fin 256) : triangle (ix2 a b) = if b.val < a.val then 1 else 0 := by
  pointwise [triangle]
  rw [Idealize.ShloMosaic.WordCmp.cmpi_sgt_ofNat (by have := a.isLt; omega) (by have := b.isLt; omega)]
  by_cases h : b.val < a.val
  · simp [h]
    show (((1#1 : BitVec 1).toNat : ℝ) : EReal) = 1
    simp
  · simp [h]
    show (((0#1 : BitVec 1).toNat : ℝ) : EReal) = 0
    simp

/-- The triangle twice, one above the other. -/
def triangles : FVec Ideal S512x256 .bf16 :=
  concatenate S512x256 0 [⟨S256x256, triangle⟩, ⟨S256x256, triangle⟩] concatenates_S256x256_S256x256_S512x256_d0

/-- The array of two triangles holds ones where the row is later than the column. -/
theorem triangles_isU2 : IsU2 triangles := by
  intro a b
  have ha : a.val % 256 < 256 := Nat.mod_lt _ (by norm_num)
  have h : triangles (ix2 a b) = triangle (ix2 ⟨a.val % 256, ha⟩ b) := by
    pointwise [triangles]
    by_cases h : a.val < 256
    · rw [dif_pos h]
      exact congrArg (fun x : Fin 256 => triangle (ix2 x b)) (Fin.ext (Nat.mod_eq_of_lt h).symm)
    · rw [dif_neg h]
      exact congrArg (fun x : Fin 256 => triangle (ix2 x b)) (Fin.ext (by show a.val - 256 = a.val % 256; have := a.isLt; omega))
  rw [h, triangle_apply]

/-- What the host operations leave in `main_v8`, of the arguments. -/
theorem V_v8 : V m c main_v8 = triangles := by
  unfold V triangles triangle
  after_results

/-- The fourth block of every point is that pair of triangles. -/
theorem u_block : IsU2 (iblk m c 3 t : Vec Ideal S512x256 .bf16) := by
  intro a b
  refine Eq.trans ?_ (triangles_isU2 a b)
  rw [← V_v8 m c]
  unfold iblk
  rw [View.read_apply]
  show V m c main_v8 _ = _
  congr 1
  funext x
  apply Fin.ext
  match x with
  | ⟨0, _⟩ => show 0 * 512 + 1 * a.val = a.val; omega
  | ⟨1, _⟩ => show 0 * 256 + 1 * b.val = b.val; omega

end Cert.Sb

end
-- ==== Proof.SbRef.lean ====
/-
  What the reference computes, element by element: the logits, the causal mask, the logs and their suffix sums, the
  weights and the weighted sum of the values.
-/
module

public import proofs.«01_k».proof.Proof.SbMath
public import proofs.«01_k».proof.Proof.Gen.SbReferenceIdeal.Run
public import Idealize.ShloMosaic.Lib.Pointwise
public import Idealize.ShloMosaic.Lib.WordCmp

@[expose] public section

set_option maxRecDepth 16384

noncomputable section

open scoped BigOperators
open Idealize.ShloMosaic Idealize.ShloMosaic.TcCoe Idealize.SL.Sem
open Cert.SbReferenceIdeal Cert.SbReferenceIdeal.Gen

namespace Cert.SbRef

/-- A left fold of additions from zero over all the numbers below `n` is their sum. -/
theorem foldl_add_eq_sum {n : ℕ} (g : Fin n → EReal) : (List.finRange n).foldl (fun r i => r + g i) 0 = ∑ i, g i := by
  rw [Fin.sum_univ_def, List.sum_eq_foldl, List.foldl_map]

/-- The suffix sums, as the sum over the keys from `s` on. -/
theorem cumsum_apply (x : FVec Ideal S8x8x8192x8192 .f32) (init : S_.Idx → EReal) (h0 : ∀ i, init i = 0)
    (h : S8x8x8192x8192.ReduceWindows ![1, 1, 1, 8192] ![1, 1, 1, 1] ![0, 0, 0, 0] ![0, 0, 0, 8191] S8x8x8192x8192)
    (hu : 0 < S_.numel) (b g : Fin 8) (t s : Fin 8192) :
    Host.reduceWindowAdd (F := Ideal) (φ := .f32) ![1, 1, 1, 8192] ![1, 1, 1, 1] ![0, 0, 0, 0] ![0, 0, 0, 8191] x init h hu (ix4 b g t s)
      = ∑ c : Fin 8192, if hc : s.val + c.val < 8192 then x (ix4 b g t ⟨s.val + c.val, hc⟩) else 0 := by
  unfold Host.reduceWindowAdd
  rw [Ideal.hostReduceWindowAdd_def, h0]
  unfold Ideal.hostReduceWindowAdd Host.reduceWindow
  dsimp only
  rw [foldl_add_eq_sum]
  let W : Shape := ⟨4, ![1, 1, 1, 8192]⟩
  refine Finset.sum_nbij' (fun n => (W.rowMajor.symm n 3 : Fin 8192)) (fun c => W.rowMajor (ix4 0 0 0 c)) ?_ ?_ ?_ ?_ ?_
  · intro _ _; exact Finset.mem_univ _
  · intro _ _; exact Finset.mem_univ _
  · intro n _
    refine (Equiv.eq_symm_apply _).mp ?_
    generalize W.rowMajor.symm n = w
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
  · intro c _
    show W.rowMajor.symm (W.rowMajor (ix4 0 0 0 c)) 3 = c
    rw [Equiv.symm_apply_apply]
    rfl
  · intro n _
    have h0 : (W.rowMajor.symm n 0).val = 0 := Nat.lt_one_iff.mp (W.rowMajor.symm n 0).isLt
    have h1 : (W.rowMajor.symm n 1).val = 0 := Nat.lt_one_iff.mp (W.rowMajor.symm n 1).isLt
    have h2 : (W.rowMajor.symm n 2).val = 0 := Nat.lt_one_iff.mp (W.rowMajor.symm n 2).isLt
    by_cases hc : s.val + (W.rowMajor.symm n 3).val < 8192
    · rw [dif_pos hc, dif_pos]
      · congr 1
        funext a
        apply Fin.ext
        match a with
        | ⟨0, _⟩ => show b.val * 1 + (W.rowMajor.symm n 0).val - 0 = b.val; omega
        | ⟨1, _⟩ => show g.val * 1 + (W.rowMajor.symm n 1).val - 0 = g.val; omega
        | ⟨2, _⟩ => show t.val * 1 + (W.rowMajor.symm n 2).val - 0 = t.val; omega
        | ⟨3, _⟩ => show s.val * 1 + (W.rowMajor.symm n 3).val - 0 = s.val + (W.rowMajor.symm n 3).val; omega
      · intro a
        match a with
        | ⟨0, _⟩ => show 0 ≤ b.val * 1 + (W.rowMajor.symm n 0).val ∧ b.val * 1 + (W.rowMajor.symm n 0).val - 0 < 8; have := b.isLt; omega
        | ⟨1, _⟩ => show 0 ≤ g.val * 1 + (W.rowMajor.symm n 1).val ∧ g.val * 1 + (W.rowMajor.symm n 1).val - 0 < 8; have := g.isLt; omega
        | ⟨2, _⟩ => show 0 ≤ t.val * 1 + (W.rowMajor.symm n 2).val ∧ t.val * 1 + (W.rowMajor.symm n 2).val - 0 < 8192; have := t.isLt; omega
        | ⟨3, _⟩ => show 0 ≤ s.val * 1 + (W.rowMajor.symm n 3).val ∧ s.val * 1 + (W.rowMajor.symm n 3).val - 0 < 8192; omega
    · rw [dif_neg hc, dif_neg]
      intro hin
      have h3 : s.val * 1 + (W.rowMajor.symm n 3).val - 0 < 8192 := (hin 3).2
      omega

/-- An array of zeros. -/
def zeros : FVec Ideal S8x8x8192x8192 .f32 :=
  broadcastInDim S8x8x8192x8192 ![] bcast_S_S8x8x8192x8192 (constant (F := Ideal) S_ .f32 0x00000000#32)

/-- The heads taken apart: batch, head, position, lane. -/
def heads (a : FVec Ideal S8x8192x1024 .bf16) : FVec Ideal S8x8x8192x128 .f32 :=
  transpose S8x8x8192x128 [0, 2, 1, 3] (shapeCast _ (extf .f32 a bitsLt_bf16_f32) shapeCasts_S8x8192x1024_S8x8192x8x128)
    transposes_S8x8192x8x128_S8x8x8192x128_0_2_1_3

/-- The logits, printed. -/
def logits (q k : FVec Ideal S8x8192x1024 .bf16) : FVec Ideal S8x8x8192x8192 .f32 :=
  mulf (Host.dotGeneral dot_S8x8x8192x128_S8x8x8192x128_S8x8x8192x8192_3_3_2_2_01_01 none (heads q) (heads k))
    (broadcastInDim S8x8x8192x8192 ![] bcast_S_S8x8x8192x8192 (constant S_ .f32 0x3DB504F3#32))

/-- The softplus, printed. -/
def softplus (z : FVec Ideal S8x8x8192x8192 .f32) : FVec Ideal S8x8x8192x8192 .f32 :=
  select (cmpf .une (subf z zeros) (subf z zeros)) (addf z zeros)
    (addf (maximumf z zeros) (Host.log1p (Host.exp (Host.negf (Host.absf (subf z zeros))))))

/-- The causal mask, printed. -/
def mask : IVec S8x8x8192x8192 1 :=
  broadcastInDim S8x8x8192x8192 ![2, 3] bcast_S8192x8192_S8x8x8192x8192_2_3 (cmpi .slt
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- The masked logs, printed. -/
def logs (z : FVec Ideal S8x8x8192x8192 .f32) : FVec Ideal S8x8x8192x8192 .f32 :=
  select mask (Host.negf (softplus z)) zeros

/-- The weights, printed. -/
def weights (z : FVec Ideal S8x8x8192x8192 .f32) : FVec Ideal S8x8x8192x8192 .f32 :=
  select mask (Host.exp (addf (Host.negf (softplus (Host.negf z)))
    (subf (Host.reduceWindowAdd ![1, 1, 1, 8192] ![1, 1, 1, 1] ![0, 0, 0, 0] ![0, 0, 0, 8191] (logs z)
      (broadcastInDim S_ ![] bcast_S_S_ (constant S_ .f32 0x00000000#32)) reduceWindows_S8x8x8192x8192_S8x8x8192x8192_w1s1p0_0_w1s1p0_0_w1s1p0_0_w8192s1p0_8191 h_S_)
      (logs z)))) zeros

/-- The result, printed, of the three arguments. -/
def result (q k v : FVec Ideal S8x8192x1024 .bf16) : FVec Ideal S8x8192x1024 .bf16 :=
  truncf .bf16 (shapeCast _ (transpose S8x8192x8x128 [0, 2, 1, 3] (Host.dotGeneral dot_S8x8x8192x8192_S8x8x8192x128_S8x8x8192x128_3_2_2_3_01_01 none
    (weights (logits q k)) (heads v)) transposes_S8x8x8192x128_S8x8192x8x128_0_2_1_3) shapeCasts_S8x8192x8x128_S8x8192x1024) bitsLt_bf16_f32

set_option maxHeartbeats 2000000 in
/-- The reference program's result is that term. -/
theorem res_eq (m : (ℓ : Loc nD τ sig) → Buf (Elt Ideal) ℓ) (c : Dev nD) :
    Cert.SbReferenceIdeal.Value.res_main_v30 m c = result (m ((c.tc : Thread nD τ).loc main_arg0))
      (m ((c.tc : Thread nD τ).loc main_arg1)) (m ((c.tc : Thread nD τ).loc main_arg2)) := by
  unfold Cert.SbReferenceIdeal.Value.res_main_v30 result weights logs softplus logits mask heads zeros
  rfl

/-- `heads` at one element. -/
theorem heads_apply (a : FVec Ideal S8x8192x1024 .bf16) (b g : Fin 8) (t : Fin 8192) (d : Fin 128) :
    heads a (ix4 b g t d) = a (ix3 b t ⟨g.val * 128 + d.val, by omega⟩) := by
  pointwise [heads]

/-- `logits` at one element. -/
theorem logits_apply (q k : FVec Ideal S8x8192x1024 .bf16) (b g : Fin 8) (t s : Fin 8192) :
    logits q k (ix4 b g t s) = (∑ d : Fin 128, heads q (ix4 b g t d) * heads k (ix4 b g s d)) * Ideal.ofBits .f32 0x3DB504F3#32 := by
  pointwise [logits]

/-- `softplus` at one element. -/
theorem softplus_apply (z : FVec Ideal S8x8x8192x8192 .f32) (i : S8x8x8192x8192.Idx) : softplus z i = Cert.Sb.sp (z i) := by
  pointwise [softplus, zeros]
  rw [if_neg (not_not.mpr rfl)]
  unfold Cert.Sb.sp
  rw [zero_sub]; rfl

/-- `mask` at one element. -/
theorem mask_apply (b g : Fin 8) (t s : Fin 8192) : mask (ix4 b g t s) = BitVec.ofBool (decide (s.val < t.val)) := by
  pointwise [mask]
  exact Idealize.ShloMosaic.WordCmp.cmpi_slt_ofNat (by have := s.isLt; omega) (by have := t.isLt; omega)

/-- A select on a decided bit is the `if`. -/
theorem select_ofBool (p : Prop) [Decidable p] (x y : EReal) :
    Scalar.select (BitVec.ofBool (decide p)) x y = if p then x else y := by
  by_cases h : p <;> simp [h, Scalar.select]

/-- `logs` at one element. -/
theorem logs_apply (z : FVec Ideal S8x8x8192x8192 .f32) (b g : Fin 8) (t s : Fin 8192) :
    logs z (ix4 b g t s) = if s.val < t.val then Cert.Sb.lk (z (ix4 b g t s)) else 0 := by
  rw [← select_ofBool, ← mask_apply b g]
  pointwise [logs, zeros, softplus_apply]
  unfold Cert.Sb.lk
  rw [zero_sub]

/-- `weights` at one element. -/
theorem weights_apply (z : FVec Ideal S8x8x8192x8192 .f32) (b g : Fin 8) (t s : Fin 8192) :
    weights z (ix4 b g t s) = if s.val < t.val then Ideal.exp (-(Cert.Sb.sp (-(z (ix4 b g t s))))
      + ((∑ c : Fin 8192, if hc : s.val + c.val < 8192 then logs z (ix4 b g t ⟨s.val + c.val, hc⟩) else 0)
          - logs z (ix4 b g t s))) else 0 := by
  rw [← select_ofBool, ← mask_apply b g]
  rw [← cumsum_apply (logs z) (broadcastInDim S_ ![] bcast_S_S_ (constant (F := Ideal) S_ .f32 0x00000000#32)) (fun i => by pointwise)
    reduceWindows_S8x8x8192x8192_S8x8x8192x8192_w1s1p0_0_w1s1p0_0_w1s1p0_0_w8192s1p0_8191 h_S_]
  pointwise [weights, zeros, softplus_apply]

/-- `result` at one element. -/
theorem result_apply (q k v : FVec Ideal S8x8192x1024 .bf16) (b g : Fin 8) (t : Fin 8192) (d : Fin 128) :
    result q k v (ix3 b t ⟨g.val * 128 + d.val, by omega⟩)
      = ∑ s : Fin 8192, weights (logits q k) (ix4 b g t s) * heads v (ix4 b g s d) := by
  pointwise [result]

end Cert.SbRef

end
-- ==== Proof.SbEq.lean ====
/-
  The kernel's weighted sum of a query's values is the reference's: the kernel sums over the keys of its own query block
  and the earlier ones, the reference over all the keys, with the later ones masked.
-/
module

public import proofs.«01_k».proof.Proof.SbTile
public import proofs.«01_k».proof.Proof.SbRef

@[expose] public section

noncomputable section

open scoped BigOperators
open Idealize.ShloMosaic Idealize.ShloMosaic.TcCoe
open Cert.SbKernelIdeal

namespace Cert.Sb

/-- A key position below 8192 is itself. -/
theorem key_val (s : Fin 8192) : key s.val = s := Fin.ext (Nat.mod_eq_of_lt s.isLt)

/-- The key at a position of the array. -/
theorem key_of_lt (s : ℕ) (h : s < 8192) : key s = ⟨s, h⟩ := Fin.ext (Nat.mod_eq_of_lt h)

/-- A sum over the window that starts at `s`, cut at the end of the array, is the sum from `s` to the end. -/
theorem window_sum (f : ℕ → EReal) (s : ℕ) (hs : s < 8192) :
    (∑ c : Fin 8192, if s + c.val < 8192 then f (s + c.val) else 0) = ∑ s' ∈ Finset.Ico s 8192, f s' := by
  rw [Finset.sum_Ico_eq_sum_range, ← Finset.sum_range (fun c => if s + c < 8192 then f (s + c) else 0)]
  rw [← Finset.sum_subset (s₁ := Finset.range (8192 - s)) (s₂ := Finset.range 8192)]
  · refine Finset.sum_congr rfl fun c hc => ?_
    rw [if_pos (by have := Finset.mem_range.mp hc; omega)]
  · intro c hc
    have := Finset.mem_range.mp hc
    exact Finset.mem_range.mpr (by omega)
  · intro c _ hc
    rw [if_neg (fun h => hc (Finset.mem_range.mpr (by omega)))]

/-- THE EQUATION: what the kernel's body leaves for the query at position `t = 512 n + r` of batch `b` and head `g` is
    the reference's result there. -/
theorem kernel_eq_reference (Q K V : FVec Ideal S8x8192x1024 .bf16) (q : Vec Ideal S1x512x128 .bf16)
    (k v : Vec Ideal S1x8192x128 .bf16) (b g : Fin 8) (n : ℕ) (hn : n < 16) (r : Fin 512) (d : Fin 128)
    (hq : ∀ d : Fin 128, q (ix3 0 r d) = Q (ix3 b ⟨n * 512 + r.val, by omega⟩ ⟨g.val * 128 + d.val, by omega⟩))
    (hk : ∀ (s : Fin 8192) (d : Fin 128), k (ix3 0 s d) = K (ix3 b s ⟨g.val * 128 + d.val, by omega⟩))
    (hv : ∀ (s : Fin 8192) (d : Fin 128), v (ix3 0 s d) = V (ix3 b s ⟨g.val * 128 + d.val, by omega⟩)) :
    (∑ s ∈ Finset.Ico 0 (n * 512 + 512), wt (zrow q k r) (n * 512 + r.val) (n * 512 + 512) s * v (ix3 0 (key s) d))
      = Cert.SbRef.result Q K V (ix3 b ⟨n * 512 + r.val, by omega⟩ ⟨g.val * 128 + d.val, by omega⟩) := by
  have hz : ∀ s : ℕ, zrow q k r s = Cert.SbRef.logits Q K (ix4 b g ⟨n * 512 + r.val, by omega⟩ (key s)) := by
    intro s
    rw [Cert.SbRef.logits_apply]
    unfold zrow
    simp only [Cert.SbRef.heads_apply, hq, hk]
  rw [row_eq (zrow q k r) (fun s => v (ix3 0 (key s) d)) (n * 512 + r.val) (n * 512 + 512) 8192 (by omega) (by omega)]
  rw [Cert.SbRef.result_apply, Finset.sum_range]
  refine Finset.sum_congr rfl fun s _ => ?_
  rw [Cert.SbRef.weights_apply, Cert.SbRef.heads_apply, key_val, hv]
  have hs : Cert.SbRef.logits Q K (ix4 b g ⟨n * 512 + r.val, by omega⟩ s) = zrow q k r s.val := by rw [hz, key_val]
  rw [hs]
  have hl : ∀ s' : Fin 8192, Cert.SbRef.logs (Cert.SbRef.logits Q K) (ix4 b g ⟨n * 512 + r.val, by omega⟩ s')
      = mlk (zrow q k r) (n * 512 + r.val) s'.val := by
    intro s'
    rw [Cert.SbRef.logs_apply]
    unfold mlk
    rw [hz, key_val]
  simp only [hl]
  rw [← window_sum (mlk (zrow q k r) (n * 512 + r.val)) s.val s.isLt]
  simp only [dite_eq_ite]

end Cert.Sb

end
-- ==== Proof.SbValue.lean ====
/-
  The kernel's result array: the blocks the grid's points read are the parts of the arguments their batch, head and query
  block name, the blocks they write cover the result, and the whole is the reference's result.
-/
module

public import proofs.«01_k».proof.Proof.SbBody
public import proofs.«01_k».proof.Proof.SbBlocks
public import proofs.«01_k».proof.Proof.SbEq
public import Idealize.ShloMosaic.Lib.Pipeline.Covers

@[expose] public section

set_option maxRecDepth 16384

noncomputable section

open scoped BigOperators
open Idealize.ShloMosaic Idealize.ShloMosaic.TcCoe Idealize.SL.Sem
open Idealize.ShloMosaic.Pipeline (Dat)
open Cert.SbKernelIdeal Cert.SbKernelIdeal.Gen

namespace Cert.Sb

variable (m : (ℓ : Loc nD τ sig) → Buf (Elt Ideal) ℓ) (c : Dev nD) (t : Fin cfg0.N)

/-- The result, as contents of the result array. -/
abbrev res : Buf (Elt Ideal) ((c.tc : Thread nD τ).loc main_v9) :=
  Cert.SbRef.result (m ((c.tc : Thread nD τ).loc main_arg0)) (m ((c.tc : Thread nD τ).loc main_arg1)) (m ((c.tc : Thread nD τ).loc main_arg2))

/-- An index of an output block is a row and a column of it. -/
theorem block_index (j : S1x512x128.Idx) : ∃ (r : Fin 512) (d : Fin 128), j = ix3 0 r d := by
  refine ⟨j 1, j 2, (ValueIdx.eq_ix3 j).trans ?_⟩
  exact congrArg (fun x : Fin 1 => ix3 x (j 1 : Fin 512) (j 2 : Fin 128)) (Subsingleton.elim (α := Fin 1) _ _)

/-- No block is cut: a write-back moves the whole block. -/
theorem cut4 (f : S1x512x128.Idx → EReal) (j : S1x512x128.Idx) : (cfg0.win 4).cut (grid0.coords t) f j = f j := rfl

/-- The output block of a point sits in the result at the rows of its query block and the columns of its head. -/
theorem read4 (G : S8x8192x1024.Idx → EReal) (r : Fin 512) (d : Fin 128) :
    ((cfg0.win 4).blk t).view.read (Elt Ideal) G (ix3 0 r d : S1x512x128.Idx)
      = G (ix3 ⟨(grid0.coords t 0).val, b_lt t⟩ ⟨(grid0.coords t 2).val * 512 + r.val, by have := n_lt t; omega⟩
          ⟨(grid0.coords t 1).val * 128 + d.val, by have := g_lt t; omega⟩) := by
  rw [View.read_apply]
  show G _ = G _
  congr 1
  funext a
  apply Fin.ext
  match a with
  | ⟨0, _⟩ => show win0_4.index t 0 * 1 + 1 * 0 = (grid0.coords t 0).val; rw [idx4]; show (grid0.coords t 0).val * 1 + 1 * 0 = _; omega
  | ⟨1, _⟩ => show win0_4.index t 1 * 512 + 1 * r.val = (grid0.coords t 2).val * 512 + r.val; rw [idx4]; show (grid0.coords t 2).val * 512 + 1 * r.val = _; omega
  | ⟨2, _⟩ => show win0_4.index t 2 * 128 + 1 * d.val = (grid0.coords t 1).val * 128 + d.val; rw [idx4]; show (grid0.coords t 1).val * 128 + 1 * d.val = _; omega

/-- The weighted sum over a point's blocks is the result's element at the block's place. -/
theorem block_eq (r : Fin 512) (d : Fin 128) :
    ∑ s ∈ Finset.Ico 0 ((grid0.coords t 2).val * 512 + 512),
        wt (zrow (iblk m c 0 t) (iblk m c 1 t) r) ((grid0.coords t 2).val * 512 + r.val) ((grid0.coords t 2).val * 512 + 512) s
          * (iblk m c 2 t : Vec Ideal S1x8192x128 .bf16) (ix3 0 (key s) d)
      = res m c (ix3 ⟨(grid0.coords t 0).val, b_lt t⟩ ⟨(grid0.coords t 2).val * 512 + r.val, by have := n_lt t; omega⟩
          ⟨(grid0.coords t 1).val * 128 + d.val, by have := g_lt t; omega⟩) :=
  kernel_eq_reference (m ((c.tc : Thread nD τ).loc main_arg0)) (m ((c.tc : Thread nD τ).loc main_arg1)) (m ((c.tc : Thread nD τ).loc main_arg2))
    (iblk m c 0 t) (iblk m c 1 t) (iblk m c 2 t) ⟨(grid0.coords t 0).val, b_lt t⟩ ⟨(grid0.coords t 1).val, g_lt t⟩ (grid0.coords t 2).val (n_lt t) r d
    (fun d => q_block m c t r d) (k_block m c t) (v_block m c t)

/-- What a point writes back is its block of the result. -/
theorem flushed_eq : (dats m 0 c).flushed 4 t = ((cfg0.win 4).blk t).view.read (Elt Ideal) (res m c) := by
  rw [Cert.SbKernelIdeal.Value.flushed4_A]
  funext j
  obtain ⟨r, d, hj⟩ := block_index j
  subst hj
  refine (cut4 t _ _).trans (Eq.trans ?_ (read4 t (res m c) r d).symm)
  refine Eq.trans (body c (grid0.coords t) _ _ _ _ _ _ _ _ _ _ _ _ _ _ (iblk m c 0 t) (iblk m c 1 t) (iblk m c 2 t) (iblk m c 3 t) (u_block m c t) r d) ?_
  exact block_eq m c t r d

/-- Every element of the result array is in some point's block. -/
theorem covered (i : S8x8192x1024.Idx) : ∃ t : Fin cfg0.N, i ∈ ((cfg0.win 4).blk t).view.set := by
  have h0 : (i 0).val < 8 := (i 0).isLt
  have h1 : (i 1).val < 8192 := (i 1).isLt
  have h2 : (i 2).val < 1024 := (i 2).isLt
  obtain ⟨t, ht⟩ := Pipeline.Grid.coords_surjective grid0 (fun a => match a with
    | ⟨0, _⟩ => (⟨(i 0).val, h0⟩ : Fin 8)
    | ⟨1, _⟩ => (⟨(i 2).val / 128, by omega⟩ : Fin 8)
    | ⟨2, _⟩ => (⟨(i 1).val / 512, by omega⟩ : Fin 16))
  have e0 : (grid0.coords t 0).val = (i 0).val := by rw [ht]
  have e1 : (grid0.coords t 1).val = (i 2).val / 128 := by rw [ht]
  have e2 : (grid0.coords t 2).val = (i 1).val / 512 := by rw [ht]
  refine ⟨t, ?_⟩
  show i ∈ ((View.whole main_v9).slice (win0_4.rect t)).set
  rw [View.set_slice_whole, Rect.mem_set_unit]
  intro a
  match a with
  | ⟨0, _⟩ => show win0_4.index t 0 * 1 ≤ (i 0).val ∧ (i 0).val < win0_4.index t 0 * 1 + 1
              rw [idx4]; show (grid0.coords t 0).val * 1 ≤ _ ∧ _ < (grid0.coords t 0).val * 1 + 1; omega
  | ⟨1, _⟩ => show win0_4.index t 1 * 512 ≤ (i 1).val ∧ (i 1).val < win0_4.index t 1 * 512 + 512
              rw [idx4]; show (grid0.coords t 2).val * 512 ≤ _ ∧ _ < (grid0.coords t 2).val * 512 + 512; omega
  | ⟨2, _⟩ => show win0_4.index t 2 * 128 ≤ (i 2).val ∧ (i 2).val < win0_4.index t 2 * 128 + 128
              rw [idx4]; show (grid0.coords t 1).val * 128 ≤ _ ∧ _ < (grid0.coords t 1).val * 128 + 128; omega

/-- THE RESULT ARRAY after the run is the reference's result of the three arguments. -/
theorem final : (dats m 0 c).arrAt 4 cfg0.N = res m c :=
  (dats m 0 c).arrAt_eq_of_cover 4 (res m c) (fun t _ => flushed_eq m c t) fun i =>
    let ⟨t, ht⟩ := covered i
    ⟨t, flush0_4 t, ht⟩

end Cert.Sb

end
-- ==== Proof.RowMath.lean ====
/-
  The row mathematics the feed-forward, merge and output calls share, over the extended reals: the layer norm of one row of
  1024 numbers, the gated feed-forward network of one row, and the sum over the 2816 hidden units as eleven sums of 256.
  No program is mentioned here.
-/
module

public import Idealize.ShloMosaic.PureOps.Ideal
public import Mathlib.Algebra.BigOperators.Intervals

@[expose] public section

noncomputable section

open scoped BigOperators

namespace Cert.Row

open Idealize.ShloMosaic

/-- The mean of a row of 1024 numbers. -/
def mean (y : Fin 1024 → EReal) : EReal := Ideal.div (∑ j, y j) (Ideal.ofBits .f32 0x44800000#32)

/-- The variance of a row: the mean of the squared differences from its mean. -/
def var (y : Fin 1024 → EReal) : EReal :=
  mean fun j => (y j - mean y) * (y j - mean y)

/-- The layer norm of a row, with gain `g` and bias `b`, at one element. -/
def ln (y : Fin 1024 → EReal) (g b : EReal) (j : Fin 1024) : EReal :=
  (y j - mean y) * Ideal.rsqrt (var y + Ideal.ofBits .f32 0x3727C5AC#32) * g + b

/-- The activation of one hidden unit, from its gate `z` and its up projection `u`. -/
def act (z u : EReal) : EReal := z * Ideal.logistic z * u

/-- One hidden unit of a row `x` with the columns `wg` and `wu` of the gate and up weights. -/
def unit (x wg wu : Fin 1024 → EReal) : EReal := act (∑ d, x d * wg d) (∑ d, x d * wu d)

/-- What hidden unit `h` adds to one element of the result, `wd` being that element's down weights. -/
def term (x : Fin 1024 → EReal) (wg wu : Fin 1024 → Fin 2816 → EReal) (wd : Fin 2816 → EReal) (h : Fin 2816) : EReal :=
  unit x (fun d => wg d h) (fun d => wu d h) * wd h

/-- The feed-forward network of a row at one element: the sum over the hidden units. -/
def ffn (x : Fin 1024 → EReal) (wg wu : Fin 1024 → Fin 2816 → EReal) (wd : Fin 2816 → EReal) : EReal :=
  ∑ h, term x wg wu wd h

/-- The row a feed-forward network leaves: the scaled input and half the network. -/
def res (x z : EReal) : EReal := Ideal.ofBits .f32 0x3F9837F0#32 * x + Ideal.ofBits .f32 0x3F000000#32 * z

/-- The scaled row `y` plus its embedding `p` through the weights `wp`, gated by the row through the weights `w`. -/
def ple (y : Fin 1024 → EReal) (w : Fin 1024 → Fin 1024 → EReal) (bg : Fin 1024 → EReal) (p : Fin 256 → EReal)
    (wp : Fin 256 → Fin 1024 → EReal) (j : Fin 1024) : EReal :=
  Ideal.ofBits .f32 0x3F9837F0#32 * y j + Ideal.logistic ((∑ d, y d * w d j) + bg j) * ∑ i, p i * wp i j

/-- The scaled row `x` plus the two branches `ya` and `yb`, each through its weights and its gate, through the mixing weights. -/
def mix (x ya yb ga gb : Fin 1024 → EReal) (wa wb wo : Fin 1024 → Fin 1024 → EReal) (j : Fin 1024) : EReal :=
  Ideal.ofBits .f32 0x3F9837F0#32 * x j
    + ∑ d, (Ideal.logistic (ga d) * (∑ e, ya e * wa e d) + Ideal.logistic (gb d) * ∑ e, yb e * wb e d) * wo d j

/-- One element of a row through a weight: the row's product with the weight's column `w`, and the bias `b`. -/
def lin (x w : Fin 1024 → EReal) (b : EReal) : EReal := (∑ d, x d * w d) + b

/-- A chunk of 256 hidden units, from the chunk's own weights. -/
def chunk (x : Fin 1024 → EReal) (wg wu : Fin 1024 → Fin 256 → EReal) (wd : Fin 256 → EReal) : EReal :=
  ∑ i, unit x (fun d => wg d i) (fun d => wu d i) * wd i

/-- A function on the 2816 hidden units as one on all numbers, zero past the last. -/
def ext (f : Fin 2816 → EReal) (n : ℕ) : EReal := if h : n < 2816 then f ⟨n, h⟩ else 0

/-- The sum of 256 hidden units from unit `o` on. -/
def part (f : Fin 2816 → EReal) (o : ℕ) : EReal := ∑ i : Fin 256, ext f (o + i.val)

/-- Eleven sums of 256 hidden units, added from the left, are the sum over all 2816. -/
theorem sum_parts (f : Fin 2816 → EReal) :
    part f 0 + part f 256 + part f 512 + part f 768 + part f 1024 + part f 1280 + part f 1536 + part f 1792 + part f 2048
      + part f 2304 + part f 2560 = ∑ h, f h := by
  have hp : ∀ o, part f o = ∑ i ∈ Finset.range 256, ext f (o + i) := fun o =>
    (Finset.sum_range fun i => ext f (o + i)).symm
  have hs : ∑ h, f h = ∑ n ∈ Finset.range 2816, ext f n := by
    rw [Finset.sum_range]
    refine Finset.sum_congr rfl fun h _ => ?_
    unfold ext
    rw [dif_pos h.isLt]
  have step : ∀ o, ∑ n ∈ Finset.range o, ext f n + part f o = ∑ n ∈ Finset.range (o + 256), ext f n := fun o => by
    rw [hp, Finset.sum_range_add]
  rw [hs]
  have h0 : part f 0 = ∑ n ∈ Finset.range 256, ext f n := by
    rw [hp]; refine Finset.sum_congr rfl fun i _ => ?_; rw [Nat.zero_add]
  rw [h0]
  rw [step 256, step 512, step 768, step 1024, step 1280, step 1536, step 1792, step 2048, step 2304, step 2560]

/-- A chunk read from unit `o` on of the whole weights is that part of the sum over the hidden units. -/
theorem chunk_eq_part (x : Fin 1024 → EReal) (wg wu : Fin 1024 → Fin 2816 → EReal) (wd : Fin 2816 → EReal)
    (cg cu : Fin 1024 → Fin 256 → EReal) (cd : Fin 256 → EReal) (o : ℕ) (ho : o + 256 ≤ 2816)
    (hg : ∀ d i, cg d i = wg d ⟨o + i.val, by omega⟩) (hu : ∀ d i, cu d i = wu d ⟨o + i.val, by omega⟩)
    (hd : ∀ i, cd i = wd ⟨o + i.val, by omega⟩) :
    chunk x cg cu cd = part (term x wg wu wd) o := by
  unfold chunk part
  refine Finset.sum_congr rfl fun i _ => ?_
  unfold ext term
  rw [dif_pos (show o + i.val < 2816 by omega), hd i]
  simp only [hg, hu]

end Cert.Row

end
-- ==== Proof.FfnBody.lean ====
/-
  One block of 1024 rows of the feed-forward call, as the kernel computes it: the eleven chunks of hidden units added from
  the left, then the layer norm of the scaled rows.
-/
module

public import proofs.«01_k».proof.Proof.RowMath
public import proofs.«01_k».proof.Proof.Gen.FfnKernelIdeal.Frame
public import Idealize.ShloMosaic.Lib.Pipeline.Value
public import Idealize.ShloMosaic.Lib.Pointwise

@[expose] public section

noncomputable section

open scoped BigOperators
open Idealize.ShloMosaic Idealize.ShloMosaic.TcCoe Idealize.SL.Sem
open Cert.FfnKernelIdeal Cert.FfnKernelIdeal.Gen Cert.Row

namespace Cert.Ffn

/-- The chunk of 256 hidden units at element `(r, c)`, from a block of rows and the chunk's weights. -/
abbrev ch (v : Vec Ideal S1024x1024 .bf16) (g u : Vec Ideal S1024x256 .bf16) (w : Vec Ideal S256x1024 .bf16) (r c : Fin 1024) : EReal :=
  chunk (fun d => v (ix2 r d)) (fun d i => g (ix2 d i)) (fun d i => u (ix2 d i)) (fun i => w (ix2 i c))

/-- The first two chunks. -/
theorem pay3_apply (v0 : Vec Ideal S1024x1024 .f32) (g0 u0 : Vec Ideal S1024x256 .bf16) (w0 : Vec Ideal S256x1024 .bf16)
    (g1 u1 : Vec Ideal S1024x256 .bf16) (w1 : Vec Ideal S256x1024 .bf16) (r c : Fin 1024) :
    k0_pay3 v0 g0 u0 w0 g1 u1 w1 (ix2 r c) = ch v0 g0 u0 w0 r c + ch v0 g1 u1 w1 r c := by
  pointwise [k0_pay3, k0_pay2, k0_pay1, ch, chunk, unit, act]

/-- The rows as the matrix unit reads them are the rows. -/
theorem pay2_eq (v0 : Vec Ideal S1024x1024 .f32) : k0_pay2 v0 = v0 := by
  funext i
  obtain ⟨r, c, rfl⟩ : ∃ r c, i = ix2 r c := ⟨_, _, ValueIdx.eq_ix2 i⟩
  pointwise [k0_pay2, k0_pay1]

/-- The body's first load is the block of rows. -/
theorem pay1_eq (v0 : Vec Ideal S1024x1024 .f32) : k0_pay1 v0 = v0 := by
  funext i
  obtain ⟨r, c, rfl⟩ : ∃ r c, i = ix2 r c := ⟨_, _, ValueIdx.eq_ix2 i⟩
  pointwise [k0_pay1]

/-- Three more chunks, the first one's gates computed before. -/
theorem pay5_apply (v : Vec Ideal S1024x1024 .bf16) (acc : FVec Ideal S1024x1024 .f32) (v0 : Vec Ideal S1024x1024 .f32) (g0 u0 : Vec Ideal S1024x256 .bf16) (w0 : Vec Ideal S256x1024 .bf16)
    (g1 u1 : Vec Ideal S1024x256 .bf16) (w1 : Vec Ideal S256x1024 .bf16)
    (g2 u2 : Vec Ideal S1024x256 .bf16) (w2 : Vec Ideal S256x1024 .bf16) (r c : Fin 1024) (hv : v = v0) :
    k0_pay5 v acc (k0_pay4 v0 g0) u0 w0 g1 u1 w1 g2 u2 w2 (ix2 r c)
      = acc (ix2 r c) + ch v0 g0 u0 w0 r c + ch v0 g1 u1 w1 r c + ch v0 g2 u2 w2 r c := by
  subst hv
  pointwise [k0_pay5, k0_pay4, k0_pay2, k0_pay1, ch, chunk, unit, act]

/-- Two more chunks. -/
theorem pay6_apply (v : Vec Ideal S1024x1024 .bf16) (acc : FVec Ideal S1024x1024 .f32) (g0 u0 : Vec Ideal S1024x256 .bf16) (w0 : Vec Ideal S256x1024 .bf16)
    (g1 u1 : Vec Ideal S1024x256 .bf16) (w1 : Vec Ideal S256x1024 .bf16) (r c : Fin 1024) :
    k0_pay6 v acc g0 u0 w0 g1 u1 w1 (ix2 r c) = acc (ix2 r c) + ch v g0 u0 w0 r c + ch v g1 u1 w1 r c := by
  pointwise [k0_pay6, ch, chunk, unit, act]

/-- Three more chunks, the first one's gates and up projections computed before. -/
theorem pay9_apply (v : Vec Ideal S1024x1024 .bf16) (acc : FVec Ideal S1024x1024 .f32) (g0 u0 : Vec Ideal S1024x256 .bf16) (w0 : Vec Ideal S256x1024 .bf16)
    (g1 u1 : Vec Ideal S1024x256 .bf16) (w1 : Vec Ideal S256x1024 .bf16)
    (g2 u2 : Vec Ideal S1024x256 .bf16) (w2 : Vec Ideal S256x1024 .bf16) (r c : Fin 1024) :
    k0_pay9 v acc (k0_pay7 v u0) (k0_pay8 v g0) w0 g1 u1 w1 g2 u2 w2 (ix2 r c)
      = acc (ix2 r c) + ch v g0 u0 w0 r c + ch v g1 u1 w1 r c + ch v g2 u2 w2 r c := by
  pointwise [k0_pay9, k0_pay7, k0_pay8, ch, chunk, unit, act]

/-- The last chunk, the scaling and the layer norm. -/
theorem pay11_apply (x : FVec Ideal S1024x1024 .f32) (v : Vec Ideal S1024x1024 .bf16) (acc : FVec Ideal S1024x1024 .f32) (g0 u0 : Vec Ideal S1024x256 .bf16) (w0 : Vec Ideal S256x1024 .bf16)
    (g b : Vec Ideal S1x1024 .f32) (r c : Fin 1024) :
    k0_pay11 x v acc (k0_pay10 g0) (constant S1024x256 .f32 0x00000000#32) u0 w0 g b (ix2 r c)
      = ln (fun j => res (x (ix2 r j)) (acc (ix2 r j) + ch v g0 u0 w0 r j)) (g (ix2 0 c)) (b (ix2 0 c)) c := by
  pointwise [k0_pay11, k0_pay10, ch, chunk, unit, act, ln, mean, var, Row.res]

/-- A two-axis offset of zeros. -/
theorem hz2 : (![0, 0] : Fin 2 → ℕ) = fun _ => 0 := by
  funext a
  match a with
  | ⟨0, _⟩ => rfl
  | ⟨1, _⟩ => rfl

/-- Columns `o` to `o + 255` of a gate or up weight block. -/
theorem ld_cols (X : Vec Ideal S1024x2816 .bf16) (o : ℕ) (inb) (d : Fin 1024) (i : Fin 256) (h : o + i.val < 2816) :
    View.ld X (Rect.unit (s := S1024x2816) ![0, o] S1024x256.size inb) (ix2 d i) = X (ix2 d ⟨o + i.val, h⟩) := by
  show X _ = X _
  congr 1
  funext a
  apply Fin.ext
  match a with
  | ⟨0, _⟩ => show 0 + 1 * d.val = d.val; omega
  | ⟨1, _⟩ => show o + 1 * i.val = o + i.val; omega

/-- Rows `o` to `o + 255` of a down weight block. -/
theorem ld_rows (X : Vec Ideal S2816x1024 .bf16) (o : ℕ) (inb) (i : Fin 256) (c : Fin 1024) (h : o + i.val < 2816) :
    View.ld X (Rect.unit (s := S2816x1024) ![o, 0] S256x1024.size inb) (ix2 i c) = X (ix2 ⟨o + i.val, h⟩ c) := by
  show X _ = X _
  congr 1
  funext a
  apply Fin.ext
  match a with
  | ⟨0, _⟩ => show o + 1 * i.val = o + i.val; omega
  | ⟨1, _⟩ => show 0 + 1 * c.val = c.val; omega

/-- What hidden unit `h` adds at element `(r, c)`, from whole weight blocks. -/
abbrev tm (x0 : Vec Ideal S1024x1024 .f32) (x1 x2 : Vec Ideal S1024x2816 .bf16) (x3 : Vec Ideal S2816x1024 .bf16) (r c : Fin 1024) : Fin 2816 → EReal :=
  term (fun d => x0 (ix2 r d)) (fun d h => x1 (ix2 d h)) (fun d h => x2 (ix2 d h)) (fun h => x3 (ix2 h c))

/-- The chunk read at hidden unit `o` is that part of the sum over the hidden units. -/
theorem ch_part (x0 : Vec Ideal S1024x1024 .f32) (x1 x2 : Vec Ideal S1024x2816 .bf16) (x3 : Vec Ideal S2816x1024 .bf16) (r c : Fin 1024)
    (o : ℕ) (ho : o + 256 ≤ 2816) (inb1 inb2 inb3) :
    ch x0 (View.ld x1 (Rect.unit (s := S1024x2816) ![0, o] S1024x256.size inb1)) (View.ld x2 (Rect.unit (s := S1024x2816) ![0, o] S1024x256.size inb2))
      (View.ld x3 (Rect.unit (s := S2816x1024) ![o, 0] S256x1024.size inb3)) r c = part (tm x0 x1 x2 x3 r c) o :=
  chunk_eq_part _ _ _ _ _ _ _ o ho (fun d i => ld_cols x1 o inb1 d i (by omega)) (fun d i => ld_cols x2 o inb2 d i (by omega))
    (fun i => ld_rows x3 o inb3 i c (by omega))

/-- THE BODY: element `(r, c)` of a block is the layer norm of the scaled row and half its feed-forward network. -/
theorem body (x0 : Vec Ideal S1024x1024 .f32) (x1 x2 : Vec Ideal S1024x2816 .bf16) (x3 : Vec Ideal S2816x1024 .bf16) (x4 x5 : Vec Ideal S1x1024 .f32)
    (r c : Fin 1024) :
    out0_6 x0 x1 x2 x3 x4 x5 (ix2 r c)
      = ln (fun j => Row.res (x0 (ix2 r j)) (ffn (fun d => x0 (ix2 r d)) (fun d h => x1 (ix2 d h)) (fun d h => x2 (ix2 d h)) (fun h => x3 (ix2 h j))))
          (x4 (ix2 0 c)) (x5 (ix2 0 c)) c := by
  unfold out0_6 k0_pay12
  rw [View.canon_unit_zero (S := S1024x1024) hz2]
  rw [View.ld_unit_zero (S := S1024x1024) hz2, View.ld_unit_zero (S := S1x1024) hz2, View.ld_unit_zero (S := S1x1024) hz2, pay1_eq, pay2_eq]
  rw [pay11_apply]
  congr 1
  funext j
  congr 1
  rw [pay9_apply, pay6_apply, pay5_apply _ _ x0 _ _ _ _ _ _ _ _ _ _ _ rfl, pay3_apply]
  have e := ch_part x0 x1 x2 x3 r j
  rw [e 0 (by norm_num), e 256 (by norm_num), e 512 (by norm_num), e 768 (by norm_num), e 1024 (by norm_num), e 1280 (by norm_num),
    e 1536 (by norm_num), e 1792 (by norm_num), e 2048 (by norm_num), e 2304 (by norm_num), e 2560 (by norm_num), sum_parts]
  rfl

end Cert.Ffn

end
-- ==== Proof.FfnRef.lean ====
/-
  The reference of the feed-forward call, printed, and what it is at one element: the layer norm of the scaled row and half
  its feed-forward network.
-/
module

public import proofs.«01_k».proof.Proof.RowMath
public import proofs.«01_k».proof.Proof.Gen.FfnReferenceIdeal.Run
public import Idealize.ShloMosaic.Lib.Pointwise

@[expose] public section

set_option maxRecDepth 16384

noncomputable section

open scoped BigOperators
open Idealize.ShloMosaic Idealize.ShloMosaic.TcCoe Idealize.SL.Sem
open Cert.FfnReferenceIdeal Cert.FfnReferenceIdeal.Gen Cert.Row

namespace Cert.FfnRef

/-- The first of the stacked gate or up weights. -/
def up (a : FVec Ideal S1x2x1024x2816 .f32) : FVec Ideal S1024x2816 .f32 :=
  shapeCast _ (extractStridedSlice S1x1x1024x2816 ![0, 0, 0, 0] a slices_S1x2x1024x2816_S1x1x1024x2816_0_0_0_0) shapeCasts_S1x1x1024x2816_S1024x2816

/-- The first of the stacked down weights. -/
def down (a : FVec Ideal S1x2x2816x1024 .f32) : FVec Ideal S2816x1024 .f32 :=
  shapeCast _ (extractStridedSlice S1x1x2816x1024 ![0, 0, 0, 0] a slices_S1x2x2816x1024_S1x1x2816x1024_0_0_0_0) shapeCasts_S1x1x2816x1024_S2816x1024

/-- The rows times a weight, printed. -/
def proj (x : FVec Ideal S8x8192x1024 .f32) (w : FVec Ideal S1024x2816 .f32) : FVec Ideal S8x8192x2816 .f32 :=
  Host.dotGeneral (φ₁ := .f32) (φ₂ := .f32) dot_S8x8192x1024_S1024x2816_S8x8192x2816_2_0_01_1_n_n none x w

/-- The hidden units, printed, from gates and up projections. -/
def hidden (z u : FVec Ideal S8x8192x2816 .f32) : FVec Ideal S8x8192x2816 .f32 :=
  mulf (mulf z (Host.divf (broadcastInDim S8x8192x2816 ![] bcast_S_S8x8192x2816 (constant S_ .f32 0x3F800000#32))
    (addf (broadcastInDim S8x8192x2816 ![] bcast_S_S8x8192x2816 (constant S_ .f32 0x3F800000#32)) (Host.exp (Host.negf z))))) u

/-- The scaled rows and half the network, printed. -/
def pre (x : FVec Ideal S8x8192x1024 .f32) (h : FVec Ideal S8x8192x2816 .f32) (w : FVec Ideal S2816x1024 .f32) : FVec Ideal S8x8192x1024 .f32 :=
  addf (mulf (broadcastInDim S8x8192x1024 ![] bcast_S_S8x8192x1024 (constant S_ .f32 0x3F9837F0#32)) x)
    (mulf (broadcastInDim S8x8192x1024 ![] bcast_S_S8x8192x1024 (constant S_ .f32 0x3F000000#32))
      (Host.dotGeneral (φ₁ := .f32) (φ₂ := .f32) dot_S8x8192x2816_S2816x1024_S8x8192x1024_2_0_01_1_n_n none h w))

/-- The means of the rows, printed. -/
def means (y : FVec Ideal S8x8192x1024 .f32) : FVec Ideal S8x8192x1 .f32 :=
  Host.divf (broadcastInDim S8x8192x1 ![0, 1] bcast_S8x8192_S8x8192x1_0_1 (Host.reduceAdd y (constant S_ .f32 0x00000000#32) reducesTo_S8x8192x1024_S8x8192_d2 h_S_))
    (broadcastInDim S8x8192x1 ![] bcast_S_S8x8192x1 (constant S_ .f32 0x44800000#32))

/-- The rows less their means, printed. -/
def centred (y : FVec Ideal S8x8192x1024 .f32) : FVec Ideal S8x8192x1024 .f32 :=
  subf y (broadcastInDim S8x8192x1024 ![0, 1, 2] bcast_S8x8192x1_S8x8192x1024_0_1_2 (means y))

/-- One row of gains or biases for every row, printed. -/
def spread (a : FVec Ideal S1x4x1024 .f32) : FVec Ideal S8x8192x1024 .f32 :=
  broadcastInDim S8x8192x1024 ![0, 1, 2] bcast_S1x1x1024_S8x8192x1024_0_1_2 (broadcastInDim S1x1x1024 ![2] bcast_S1024_S1x1x1024_2
    (shapeCast _ (extractStridedSlice S1x1x1024 ![0, 0, 0] a slices_S1x4x1024_S1x1x1024_0_0_0) shapeCasts_S1x1x1024_S1024))

/-- The layer norm, printed. -/
def norm (y : FVec Ideal S8x8192x1024 .f32) (g b : FVec Ideal S1x4x1024 .f32) : FVec Ideal S8x8192x1024 .f32 :=
  addf (mulf (mulf (centred y) (broadcastInDim S8x8192x1024 ![0, 1, 2] bcast_S8x8192x1_S8x8192x1024_0_1_2
    (Host.rsqrt (addf (means (mulf (centred y) (centred y))) (broadcastInDim S8x8192x1 ![] bcast_S_S8x8192x1 (constant S_ .f32 0x3727C5AC#32))))))
    (spread g)) (spread b)

/-- The result, printed, of the six arguments. -/
def result (x : FVec Ideal S8x8192x1024 .f32) (g b : FVec Ideal S1x4x1024 .f32) (wg wu : FVec Ideal S1x2x1024x2816 .f32)
    (wd : FVec Ideal S1x2x2816x1024 .f32) : FVec Ideal S65536x1024 .f32 :=
  shapeCast _ (norm (pre x (hidden (proj x (up wg)) (proj x (up wu))) (down wd)) g b) shapeCasts_S8x8192x1024_S65536x1024

set_option maxHeartbeats 2000000 in
/-- The reference program's result is that term. -/
theorem res_eq (m : (ℓ : Loc nD τ sig) → Buf (Elt Ideal) ℓ) (c : Dev nD) :
    Cert.FfnReferenceIdeal.Value.res_main_v44 m c = result (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  unfold Cert.FfnReferenceIdeal.Value.res_main_v44 result norm spread centred means pre hidden proj up down
  rfl

/-- `up` at one element. -/
theorem up_apply (a : FVec Ideal S1x2x1024x2816 .f32) (d : Fin 1024) (h : Fin 2816) : up a (ix2 d h) = a (ix4 0 0 d h) := by
  pointwise [up]

/-- `down` at one element. -/
theorem down_apply (a : FVec Ideal S1x2x2816x1024 .f32) (h : Fin 2816) (d : Fin 1024) : down a (ix2 h d) = a (ix4 0 0 h d) := by
  pointwise [down]

/-- `proj` at one element. -/
theorem proj_apply (x : FVec Ideal S8x8192x1024 .f32) (w : FVec Ideal S1024x2816 .f32) (b : Fin 8) (t : Fin 8192) (h : Fin 2816) :
    proj x w (ix3 b t h) = ∑ d : Fin 1024, x (ix3 b t d) * w (ix2 d h) := by
  pointwise [proj]

/-- `hidden` at one element. -/
theorem hidden_apply (z u : FVec Ideal S8x8192x2816 .f32) (b : Fin 8) (t : Fin 8192) (h : Fin 2816) :
    hidden z u (ix3 b t h) = act (z (ix3 b t h)) (u (ix3 b t h)) := by
  pointwise [hidden]
  rfl

/-- `pre` at one element. -/
theorem pre_apply (x : FVec Ideal S8x8192x1024 .f32) (h : FVec Ideal S8x8192x2816 .f32) (w : FVec Ideal S2816x1024 .f32) (b : Fin 8) (t : Fin 8192) (j : Fin 1024) :
    pre x h w (ix3 b t j) = Row.res (x (ix3 b t j)) (∑ i : Fin 2816, h (ix3 b t i) * w (ix2 i j)) := by
  pointwise [pre, Row.res]

/-- `means` at one element. -/
theorem means_apply (y : FVec Ideal S8x8192x1024 .f32) (b : Fin 8) (t : Fin 8192) :
    means y (ix3 b t 0) = mean (fun j => y (ix3 b t j)) := by
  pointwise [means, mean]

/-- `centred` at one element. -/
theorem centred_apply (y : FVec Ideal S8x8192x1024 .f32) (b : Fin 8) (t : Fin 8192) (j : Fin 1024) :
    centred y (ix3 b t j) = y (ix3 b t j) - mean (fun j => y (ix3 b t j)) := by
  pointwise [centred, means_apply]

/-- `spread` at one element. -/
theorem spread_apply (a : FVec Ideal S1x4x1024 .f32) (b : Fin 8) (t : Fin 8192) (j : Fin 1024) :
    spread a (ix3 b t j) = a (ix3 0 0 j) := by
  pointwise [spread]

/-- `norm` at one element. -/
theorem norm_apply (y : FVec Ideal S8x8192x1024 .f32) (g b' : FVec Ideal S1x4x1024 .f32) (b : Fin 8) (t : Fin 8192) (j : Fin 1024) :
    norm y g b' (ix3 b t j) = ln (fun j => y (ix3 b t j)) (g (ix3 0 0 j)) (b' (ix3 0 0 j)) j := by
  pointwise [norm, means_apply, centred_apply, spread_apply, ln, var]

/-- The batch of a flat row. -/
abbrev bi (R : Fin 65536) : Fin 8 := ⟨R.val / 8192, by omega⟩
/-- The position of a flat row in its batch. -/
abbrev ti (R : Fin 65536) : Fin 8192 := ⟨R.val % 8192, Nat.mod_lt _ (by norm_num)⟩

/-- THE REFERENCE at one element: the layer norm of the scaled row and half its feed-forward network. -/
theorem result_apply (x : FVec Ideal S8x8192x1024 .f32) (g b : FVec Ideal S1x4x1024 .f32) (wg wu : FVec Ideal S1x2x1024x2816 .f32)
    (wd : FVec Ideal S1x2x2816x1024 .f32) (R : Fin 65536) (c : Fin 1024) :
    result x g b wg wu wd (ix2 R c)
      = ln (fun j => Row.res (x (ix3 (bi R) (ti R) j)) (ffn (fun d => x (ix3 (bi R) (ti R) d)) (fun d h => wg (ix4 0 0 d h)) (fun d h => wu (ix4 0 0 d h)) (fun h => wd (ix4 0 0 h j))))
          (g (ix3 0 0 c)) (b (ix3 0 0 c)) c := by
  have e : result x g b wg wu wd (ix2 R c) = norm (pre x (hidden (proj x (up wg)) (proj x (up wu))) (down wd)) g b (ix3 (bi R) (ti R) c) := by
    pointwise [result]
  rw [e, norm_apply]
  congr 1
  funext j
  rw [pre_apply]
  simp only [hidden_apply, proj_apply, up_apply, down_apply]
  rfl

end Cert.FfnRef

end
-- ==== Proof.FfnValue.lean ====
/-
  The feed-forward call's result array: the blocks the grid's points read are rows of the argument and the first of the
  stacked weights, the blocks they write cover the result, and the whole is the reference's result.
-/
module

public import proofs.«01_k».proof.Proof.FfnBody
public import proofs.«01_k».proof.Proof.FfnRef
public import proofs.«01_k».proof.Proof.Gen.FfnKernelIdeal.Value
public import Idealize.ShloMosaic.Lib.Pipeline.Value
public import Idealize.ShloMosaic.Lib.Pipeline.Covers
public import Idealize.ShloMosaic.Lib.StableHlo.Run

@[expose] public section

set_option maxRecDepth 16384

noncomputable section

open scoped BigOperators
open Idealize.ShloMosaic Idealize.ShloMosaic.TcCoe Idealize.SL.Sem
open Idealize.ShloMosaic.Pipeline (Dat)
open Cert.FfnKernelIdeal Cert.FfnKernelIdeal.Gen Cert.Row

namespace Cert.Ffn

variable (m : (ℓ : Loc nD τ sig) → Buf (Elt Ideal) ℓ) (c : Dev nD) (t : Fin cfg0.N)

/-- The grid has 64 points. -/
theorem n_lt : (grid0.coords t 0).val < 64 := (grid0.coords t 0).isLt

/-- The 32-bit word of a grid coordinate is the coordinate. -/
theorem word (x : ℕ) (h : x < 64) : (BitVec.ofNat 32 x).toNat = x := by
  rw [BitVec.toNat_ofNat]; exact Nat.mod_eq_of_lt (by omega)

/-- The block of rows a point reads. -/
theorem idx0 : win0_0.index t = ![(grid0.coords t 0).val, 0] := by
  show cc0_transform_0 (grid0.coords t) = _
  unfold cc0_transform_0
  dsimp only
  rw [word (grid0.coords t 0).val (n_lt t)]
  rfl

/-- The block of rows a point writes. -/
theorem idx6 : win0_6.index t = ![(grid0.coords t 0).val, 0] := by
  show cc0_transform_6 (grid0.coords t) = _
  unfold cc0_transform_6
  dsimp only
  rw [word (grid0.coords t 0).val (n_lt t)]
  rfl

/-- The flat row of a row of a point's block. -/
abbrev row (r : Fin 1024) : Fin 65536 := ⟨(grid0.coords t 0).val * 1024 + r.val, by have := n_lt t; omega⟩

/-- The argument with its batches one after another. -/
def flat (a : FVec Ideal S8x8192x1024 .f32) : FVec Ideal S65536x1024 .f32 := shapeCast _ a shapeCasts_S8x8192x1024_S65536x1024
/-- The first of the stacked gate or up weights. -/
def up (a : FVec Ideal S1x2x1024x2816 .f32) : FVec Ideal S1024x2816 .bf16 :=
  truncf .bf16 (shapeCast _ (extractStridedSlice S1x1x1024x2816 ![0, 0, 0, 0] a slices_S1x2x1024x2816_S1x1x1024x2816_0_0_0_0) shapeCasts_S1x1x1024x2816_S1024x2816 : FVec Ideal S1024x2816 .f32) bitsLt_bf16_f32
/-- The first of the stacked down weights. -/
def down (a : FVec Ideal S1x2x2816x1024 .f32) : FVec Ideal S2816x1024 .bf16 :=
  truncf .bf16 (shapeCast _ (extractStridedSlice S1x1x2816x1024 ![0, 0, 0, 0] a slices_S1x2x2816x1024_S1x1x2816x1024_0_0_0_0) shapeCasts_S1x1x2816x1024_S2816x1024 : FVec Ideal S2816x1024 .f32) bitsLt_bf16_f32
/-- The first row of the stacked gains or biases. -/
def gain (a : FVec Ideal S1x4x1024 .f32) : FVec Ideal S1x1024 .f32 :=
  shapeCast _ (shapeCast _ (extractStridedSlice S1x1x1024 ![0, 0, 0] a slices_S1x4x1024_S1x1x1024_0_0_0) shapeCasts_S1x1x1024_S1024 : FVec Ideal S1024 .f32) shapeCasts_S1024_S1x1024

/-- `flat` at one element. -/
theorem flat_apply (a : FVec Ideal S8x8192x1024 .f32) (R : Fin 65536) (j : Fin 1024) :
    flat a (ix2 R j) = a (ix3 (FfnRef.bi R) (FfnRef.ti R) j) := by
  pointwise [flat]

/-- `up` at one element. -/
theorem up_apply (a : FVec Ideal S1x2x1024x2816 .f32) (d : Fin 1024) (h : Fin 2816) : up a (ix2 d h) = a (ix4 0 0 d h) := by
  pointwise [up]

/-- `down` at one element. -/
theorem down_apply (a : FVec Ideal S1x2x2816x1024 .f32) (h : Fin 2816) (d : Fin 1024) : down a (ix2 h d) = a (ix4 0 0 h d) := by
  pointwise [down]

/-- `gain` at one element. -/
theorem gain_apply (a : FVec Ideal S1x4x1024 .f32) (j : Fin 1024) : gain a (ix2 0 j) = a (ix3 0 0 j) := by
  pointwise [gain]

/-- What the host operations leave in `main_v0`, of the arguments. -/
theorem V_v0 : V m c main_v0 = flat (m ((c.tc : Thread nD τ).loc main_arg0)) := by unfold V flat; after_results; rfl
/-- What the host operations leave in `main_v3`, of the arguments. -/
theorem V_v3 : V m c main_v3 = up (m ((c.tc : Thread nD τ).loc main_arg3)) := by unfold V up; after_results; rfl
/-- What the host operations leave in `main_v6`, of the arguments. -/
theorem V_v6 : V m c main_v6 = up (m ((c.tc : Thread nD τ).loc main_arg4)) := by unfold V up; after_results; rfl
/-- What the host operations leave in `main_v9`, of the arguments. -/
theorem V_v9 : V m c main_v9 = down (m ((c.tc : Thread nD τ).loc main_arg5)) := by unfold V down; after_results; rfl
/-- What the host operations leave in `main_v12`, of the arguments. -/
theorem V_v12 : V m c main_v12 = gain (m ((c.tc : Thread nD τ).loc main_arg1)) := by unfold V gain; after_results; rfl
/-- What the host operations leave in `main_v15`, of the arguments. -/
theorem V_v15 : V m c main_v15 = gain (m ((c.tc : Thread nD τ).loc main_arg2)) := by unfold V gain; after_results; rfl

/-- The rows a point reads. -/
theorem x_block (r j : Fin 1024) : (iblk m c 0 t : Vec Ideal S1024x1024 .f32) (ix2 r j)
    = (m ((c.tc : Thread nD τ).loc main_arg0) : FVec Ideal S8x8192x1024 .f32) (ix3 (FfnRef.bi (row t r)) (FfnRef.ti (row t r)) j) := by
  refine Eq.trans ?_ (flat_apply _ (row t r) j)
  rw [← V_v0 m c]
  unfold iblk
  rw [View.read_apply]
  show V m c main_v0 _ = V m c main_v0 _
  congr 1
  funext a
  apply Fin.ext
  match a with
  | ⟨0, _⟩ => show win0_0.index t 0 * 1024 + 1 * r.val = (grid0.coords t 0).val * 1024 + r.val; rw [idx0]; show (grid0.coords t 0).val * 1024 + 1 * r.val = _; omega
  | ⟨1, _⟩ => show win0_0.index t 1 * 1024 + 1 * j.val = j.val; rw [idx0]; show 0 * 1024 + 1 * j.val = _; omega

/-- The gate weights every point reads. -/
theorem g_block (d : Fin 1024) (h : Fin 2816) : (iblk m c 1 t : Vec Ideal S1024x2816 .bf16) (ix2 d h)
    = (m ((c.tc : Thread nD τ).loc main_arg3) : FVec Ideal S1x2x1024x2816 .f32) (ix4 0 0 d h) := by
  refine Eq.trans ?_ (up_apply _ d h)
  rw [← V_v3 m c]
  unfold iblk
  rw [View.read_apply]
  show V m c main_v3 _ = V m c main_v3 _
  congr 1
  funext a
  apply Fin.ext
  match a with
  | ⟨0, _⟩ => show 0 * 1024 + 1 * d.val = d.val; omega
  | ⟨1, _⟩ => show 0 * 2816 + 1 * h.val = h.val; omega

/-- The up weights every point reads. -/
theorem u_block (d : Fin 1024) (h : Fin 2816) : (iblk m c 2 t : Vec Ideal S1024x2816 .bf16) (ix2 d h)
    = (m ((c.tc : Thread nD τ).loc main_arg4) : FVec Ideal S1x2x1024x2816 .f32) (ix4 0 0 d h) := by
  refine Eq.trans ?_ (up_apply _ d h)
  rw [← V_v6 m c]
  unfold iblk
  rw [View.read_apply]
  show V m c main_v6 _ = V m c main_v6 _
  congr 1
  funext a
  apply Fin.ext
  match a with
  | ⟨0, _⟩ => show 0 * 1024 + 1 * d.val = d.val; omega
  | ⟨1, _⟩ => show 0 * 2816 + 1 * h.val = h.val; omega

/-- The down weights every point reads. -/
theorem d_block (h : Fin 2816) (d : Fin 1024) : (iblk m c 3 t : Vec Ideal S2816x1024 .bf16) (ix2 h d)
    = (m ((c.tc : Thread nD τ).loc main_arg5) : FVec Ideal S1x2x2816x1024 .f32) (ix4 0 0 h d) := by
  refine Eq.trans ?_ (down_apply _ h d)
  rw [← V_v9 m c]
  unfold iblk
  rw [View.read_apply]
  show V m c main_v9 _ = V m c main_v9 _
  congr 1
  funext a
  apply Fin.ext
  match a with
  | ⟨0, _⟩ => show 0 * 2816 + 1 * h.val = h.val; omega
  | ⟨1, _⟩ => show 0 * 1024 + 1 * d.val = d.val; omega

/-- The gains every point reads. -/
theorem lg_block (j : Fin 1024) : (iblk m c 4 t : Vec Ideal S1x1024 .f32) (ix2 0 j)
    = (m ((c.tc : Thread nD τ).loc main_arg1) : FVec Ideal S1x4x1024 .f32) (ix3 0 0 j) := by
  refine Eq.trans ?_ (gain_apply _ j)
  rw [← V_v12 m c]
  unfold iblk
  rw [View.read_apply]
  show V m c main_v12 _ = V m c main_v12 _
  congr 1
  funext a
  apply Fin.ext
  match a with
  | ⟨0, _⟩ => show 0 * 1 + 1 * 0 = 0; omega
  | ⟨1, _⟩ => show 0 * 1024 + 1 * j.val = j.val; omega

/-- The biases every point reads. -/
theorem lb_block (j : Fin 1024) : (iblk m c 5 t : Vec Ideal S1x1024 .f32) (ix2 0 j)
    = (m ((c.tc : Thread nD τ).loc main_arg2) : FVec Ideal S1x4x1024 .f32) (ix3 0 0 j) := by
  refine Eq.trans ?_ (gain_apply _ j)
  rw [← V_v15 m c]
  unfold iblk
  rw [View.read_apply]
  show V m c main_v15 _ = V m c main_v15 _
  congr 1
  funext a
  apply Fin.ext
  match a with
  | ⟨0, _⟩ => show 0 * 1 + 1 * 0 = 0; omega
  | ⟨1, _⟩ => show 0 * 1024 + 1 * j.val = j.val; omega

/-- The result, as contents of the result array. -/
abbrev res : Buf (Elt Ideal) ((c.tc : Thread nD τ).loc main_v16) :=
  Cert.FfnRef.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- No block is cut: a write-back moves the whole block. -/
theorem cut6 (f : S1024x1024.Idx → EReal) (j : S1024x1024.Idx) : (cfg0.win 6).cut (grid0.coords t) f j = f j := rfl

/-- The output block of a point sits in the result at its rows. -/
theorem read6 (G : S65536x1024.Idx → EReal) (r j : Fin 1024) :
    ((cfg0.win 6).blk t).view.read (Elt Ideal) G (ix2 r j : S1024x1024.Idx) = G (ix2 (row t r) j) := by
  rw [View.read_apply]
  show G _ = G _
  congr 1
  funext a
  apply Fin.ext
  match a with
  | ⟨0, _⟩ => show win0_6.index t 0 * 1024 + 1 * r.val = (grid0.coords t 0).val * 1024 + r.val; rw [idx6]; show (grid0.coords t 0).val * 1024 + 1 * r.val = _; omega
  | ⟨1, _⟩ => show win0_6.index t 1 * 1024 + 1 * j.val = j.val; rw [idx6]; show 0 * 1024 + 1 * j.val = _; omega

/-- What a point writes back is its block of the result. -/
theorem flushed_eq : (dats m 0 c).flushed 6 t = ((cfg0.win 6).blk t).view.read (Elt Ideal) (res m c) := by
  rw [Cert.FfnKernelIdeal.Value.flushed6]
  funext j
  obtain ⟨r, d, hj⟩ : ∃ (r d : Fin 1024), j = ix2 r d := ⟨_, _, ValueIdx.eq_ix2 j⟩
  subst hj
  refine (cut6 t _ _).trans (Eq.trans ?_ (read6 t (res m c) r d).symm)
  refine Eq.trans (body (iblk m c 0 t) (iblk m c 1 t) (iblk m c 2 t) (iblk m c 3 t) (iblk m c 4 t) (iblk m c 5 t) r d) ?_
  refine Eq.trans ?_ (Cert.FfnRef.result_apply _ _ _ _ _ _ (row t r) d).symm
  simp only [x_block m c t, g_block m c t, u_block m c t, d_block m c t, lg_block m c t, lb_block m c t]

/-- Every element of the result array is in some point's block. -/
theorem covered (i : S65536x1024.Idx) : ∃ t : Fin cfg0.N, i ∈ ((cfg0.win 6).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 1024, by omega⟩ : Fin 64))
  have e0 : (grid0.coords t 0).val = (i 0).val / 1024 := by rw [ht]
  refine ⟨t, ?_⟩
  show i ∈ ((View.whole main_v16).slice (win0_6.rect t)).set
  rw [View.set_slice_whole, Rect.mem_set_unit]
  intro a
  match a with
  | ⟨0, _⟩ => show win0_6.index t 0 * 1024 ≤ (i 0).val ∧ (i 0).val < win0_6.index t 0 * 1024 + 1024
              rw [idx6]; show (grid0.coords t 0).val * 1024 ≤ _ ∧ _ < (grid0.coords t 0).val * 1024 + 1024; omega
  | ⟨1, _⟩ => show win0_6.index t 1 * 1024 ≤ (i 1).val ∧ (i 1).val < win0_6.index t 1 * 1024 + 1024
              rw [idx6]; show 0 * 1024 ≤ _ ∧ _ < 0 * 1024 + 1024; omega

/-- THE RESULT ARRAY after the run is the reference's result of the six arguments. -/
theorem final : (dats m 0 c).arrAt 6 cfg0.N = res m c :=
  (dats m 0 c).arrAt_eq_of_cover 6 (res m c) (fun t _ => flushed_eq m c t) fun i =>
    let ⟨t, ht⟩ := covered i
    ⟨t, flush0_6 t, ht⟩

end Cert.Ffn

end
-- ==== Proof.ProjBody.lean ====
/-
  One block of 512 rows of the input projection, as the kernel computes it: eight groups of 1024 columns, the gates' columns
  padded to 128 lanes, and the gates' columns as rows.
-/
module

public import proofs.«01_k».proof.Proof.RowMath
public import proofs.«01_k».proof.Proof.Gen.ProjKernelIdeal.Frame
public import Idealize.ShloMosaic.Lib.Pipeline.Value
public import Idealize.ShloMosaic.Lib.Pointwise

@[expose] public section

noncomputable section

open scoped BigOperators
open Idealize.ShloMosaic Idealize.ShloMosaic.TcCoe Idealize.SL.Sem
open Cert.ProjKernelIdeal Cert.ProjKernelIdeal.Gen Cert.Row

namespace Cert.Proj

/-- A two-axis offset of zeros. -/
theorem hz2 : (![0, 0] : Fin 2 → ℕ) = fun _ => 0 := by funext a; match a with | ⟨0, _⟩ => rfl | ⟨1, _⟩ => rfl

/-- Columns `o` to `o + 1023` of the main weights. -/
theorem ld_w (X : Vec Ideal S1024x8192 .bf16) (o : ℕ) (inb) (d i : Fin 1024) (h : o + i.val < 8192) :
    View.ld X (Rect.unit (s := S1024x8192) ![0, o] S1024x1024.size inb) (ix2 d i) = X (ix2 d ⟨o + i.val, h⟩) := by
  show X _ = X _
  congr 1
  funext a
  apply Fin.ext
  match a with
  | ⟨0, _⟩ => show 0 + 1 * d.val = d.val; omega
  | ⟨1, _⟩ => show o + 1 * i.val = o + i.val; omega

/-- Columns `o` to `o + 1023` of the main biases. -/
theorem ld_b (X : Vec Ideal S1x8192 .f32) (o : ℕ) (inb) (i : Fin 1024) (h : o + i.val < 8192) :
    View.ld X (Rect.unit (s := S1x8192) ![0, o] S1x1024.size inb) (ix2 0 i) = X (ix2 0 ⟨o + i.val, h⟩) := by
  show X _ = X _
  congr 1
  funext a
  apply Fin.ext
  match a with
  | ⟨0, _⟩ => show 0 + 1 * 0 = 0; omega
  | ⟨1, _⟩ => show o + 1 * i.val = o + i.val; omega

/-- The columns from 0 on, from their own weights and biases. -/
theorem pay7_apply (x0 : Vec Ideal S512x1024 .f32) (w : Vec Ideal S1024x1024 .bf16) (b : Vec Ideal S1x1024 .f32) (r : Fin 512) (c : Fin 1024) :
    k0_pay5 x0 w b (ix2 r c) = lin (fun d => x0 (ix2 r d)) (fun d => w (ix2 d c)) (b (ix2 0 c)) := by
  pointwise [k0_pay5, k0_pay4, lin]

/-- The columns from 1024 on, from their own weights and biases. -/
theorem pay8_apply (x0 : Vec Ideal S512x1024 .f32) (w : Vec Ideal S1024x1024 .bf16) (b : Vec Ideal S1x1024 .f32) (r : Fin 512) (c : Fin 1024) :
    k0_pay6 x0 w b (ix2 r c) = lin (fun d => x0 (ix2 r d)) (fun d => w (ix2 d c)) (b (ix2 0 c)) := by
  pointwise [k0_pay6, k0_pay4, lin]

/-- The columns from 2048 on, from their own weights and biases. -/
theorem pay9_apply (x0 : Vec Ideal S512x1024 .f32) (w : Vec Ideal S1024x1024 .bf16) (b : Vec Ideal S1x1024 .f32) (r : Fin 512) (c : Fin 1024) :
    k0_pay7 x0 w b (ix2 r c) = lin (fun d => x0 (ix2 r d)) (fun d => w (ix2 d c)) (b (ix2 0 c)) := by
  pointwise [k0_pay7, k0_pay4, lin]

/-- The columns from 3072 on, from their own weights and biases. -/
theorem pay10_apply (x0 : Vec Ideal S512x1024 .f32) (w : Vec Ideal S1024x1024 .bf16) (b : Vec Ideal S1x1024 .f32) (r : Fin 512) (c : Fin 1024) :
    k0_pay9 (k0_pay8 x0 w) b (ix2 r c) = lin (fun d => x0 (ix2 r d)) (fun d => w (ix2 d c)) (b (ix2 0 c)) := by
  pointwise [k0_pay9, k0_pay8, k0_pay4, lin]

/-- The columns from 4096 on, from their own weights and biases. -/
theorem pay11_apply (x0 : Vec Ideal S512x1024 .f32) (w : Vec Ideal S1024x1024 .bf16) (b : Vec Ideal S1x1024 .f32) (r : Fin 512) (c : Fin 1024) :
    k0_pay10 (k0_pay4 x0) w b (ix2 r c) = lin (fun d => x0 (ix2 r d)) (fun d => w (ix2 d c)) (b (ix2 0 c)) := by
  pointwise [k0_pay10, k0_pay4, lin]

/-- The columns from 5120 on, from their own weights and biases. -/
theorem pay12_apply (x0 : Vec Ideal S512x1024 .f32) (w : Vec Ideal S1024x1024 .bf16) (b : Vec Ideal S1x1024 .f32) (r : Fin 512) (c : Fin 1024) :
    k0_pay11 (k0_pay4 x0) w b (ix2 r c) = lin (fun d => x0 (ix2 r d)) (fun d => w (ix2 d c)) (b (ix2 0 c)) := by
  pointwise [k0_pay11, k0_pay4, lin]

/-- The columns from 6144 on, from their own weights and biases. -/
theorem pay13_apply (x0 : Vec Ideal S512x1024 .f32) (w : Vec Ideal S1024x1024 .bf16) (b : Vec Ideal S1x1024 .f32) (r : Fin 512) (c : Fin 1024) :
    k0_pay12 (k0_pay4 x0) w b (ix2 r c) = lin (fun d => x0 (ix2 r d)) (fun d => w (ix2 d c)) (b (ix2 0 c)) := by
  pointwise [k0_pay12, k0_pay4, lin]

/-- The columns from 7168 on, from their own weights and biases. -/
theorem pay14_apply (x0 : Vec Ideal S512x1024 .f32) (w : Vec Ideal S1024x1024 .bf16) (b : Vec Ideal S1x1024 .f32) (r : Fin 512) (c : Fin 1024) :
    k0_pay1 (k0_pay4 x0) w b (ix2 r c) = lin (fun d => x0 (ix2 r d)) (fun d => w (ix2 d c)) (b (ix2 0 c)) := by
  pointwise [k0_pay1, k0_pay4, lin]

/-- The gates' columns, from their own weights and biases. -/
theorem pay15_apply (x0 : Vec Ideal S512x1024 .f32) (w : Vec Ideal S1024x128 .bf16) (b : Vec Ideal S1x128 .f32) (r : Fin 512) (c : Fin 128) :
    k0_pay2 (k0_pay4 x0) w b (ix2 r c) = lin (fun d => x0 (ix2 r d)) (fun d => w (ix2 d c)) (b (ix2 0 c)) := by
  pointwise [k0_pay2, k0_pay4, lin]

/-- The gates' columns as rows, from their own weights and biases. -/
theorem pay16_apply (x0 : Vec Ideal S512x1024 .f32) (w : Vec Ideal S8x1024 .bf16) (b : Vec Ideal S8x1 .f32) (k : Fin 8) (r : Fin 512) :
    k0_pay3 (k0_pay4 x0) w b (ix2 k r) = lin (fun d => w (ix2 k d)) (fun d => x0 (ix2 r d)) (b (ix2 k 0)) := by
  pointwise [k0_pay3, k0_pay4, lin]

/-- THE BODY of result 0: the columns from 0 on. -/
theorem body7 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out0_7 x0 x1 x2 x3 x4 x5 x6 (ix2 r c)
      = lin (fun d => x0 (ix2 r d)) (fun d => x1 (ix2 d ⟨0 + c.val, by omega⟩)) (x2 (ix2 0 ⟨0 + c.val, by omega⟩)) := by
  unfold out0_7
  rw [View.canon_unit_zero (S := S512x1024) hz2]
  simp only [View.ld_unit_zero (S := S512x1024) hz2]
  rw [pay7_apply, ld_b x2 0 _ c (by omega)]
  congr 1
  funext d
  exact ld_w x1 0 _ d c (by omega)

/-- THE BODY of result 1: the columns from 1024 on. -/
theorem body8 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out0_8 x0 x1 x2 x3 x4 x5 x6 (ix2 r c)
      = lin (fun d => x0 (ix2 r d)) (fun d => x1 (ix2 d ⟨1024 + c.val, by omega⟩)) (x2 (ix2 0 ⟨1024 + c.val, by omega⟩)) := by
  unfold out0_8
  rw [View.canon_unit_zero (S := S512x1024) hz2]
  simp only [View.ld_unit_zero (S := S512x1024) hz2]
  rw [pay8_apply, ld_b x2 1024 _ c (by omega)]
  congr 1
  funext d
  exact ld_w x1 1024 _ d c (by omega)

/-- THE BODY of result 2: the columns from 2048 on. -/
theorem body9 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out0_9 x0 x1 x2 x3 x4 x5 x6 (ix2 r c)
      = lin (fun d => x0 (ix2 r d)) (fun d => x1 (ix2 d ⟨2048 + c.val, by omega⟩)) (x2 (ix2 0 ⟨2048 + c.val, by omega⟩)) := by
  unfold out0_9
  rw [View.canon_unit_zero (S := S512x1024) hz2]
  simp only [View.ld_unit_zero (S := S512x1024) hz2]
  rw [pay9_apply, ld_b x2 2048 _ c (by omega)]
  congr 1
  funext d
  exact ld_w x1 2048 _ d c (by omega)

/-- THE BODY of result 3: the columns from 3072 on. -/
theorem body10 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out0_10 x0 x1 x2 x3 x4 x5 x6 (ix2 r c)
      = lin (fun d => x0 (ix2 r d)) (fun d => x1 (ix2 d ⟨3072 + c.val, by omega⟩)) (x2 (ix2 0 ⟨3072 + c.val, by omega⟩)) := by
  unfold out0_10
  rw [View.canon_unit_zero (S := S512x1024) hz2]
  simp only [View.ld_unit_zero (S := S512x1024) hz2]
  rw [pay10_apply, ld_b x2 3072 _ c (by omega)]
  congr 1
  funext d
  exact ld_w x1 3072 _ d c (by omega)

/-- THE BODY of result 4: the columns from 4096 on. -/
theorem body11 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out0_11 x0 x1 x2 x3 x4 x5 x6 (ix2 r c)
      = lin (fun d => x0 (ix2 r d)) (fun d => x1 (ix2 d ⟨4096 + c.val, by omega⟩)) (x2 (ix2 0 ⟨4096 + c.val, by omega⟩)) := by
  unfold out0_11 k0_pay13
  rw [View.canon_unit_zero (S := S512x1024) hz2]
  simp only [View.ld_unit_zero (S := S512x1024) hz2]
  rw [pay11_apply, ld_b x2 4096 _ c (by omega)]
  congr 1
  funext d
  exact ld_w x1 4096 _ d c (by omega)

/-- THE BODY of result 5: the columns from 5120 on. -/
theorem body12 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out0_12 x0 x1 x2 x3 x4 x5 x6 (ix2 r c)
      = lin (fun d => x0 (ix2 r d)) (fun d => x1 (ix2 d ⟨5120 + c.val, by omega⟩)) (x2 (ix2 0 ⟨5120 + c.val, by omega⟩)) := by
  unfold out0_12 k0_pay13
  rw [View.canon_unit_zero (S := S512x1024) hz2]
  simp only [View.ld_unit_zero (S := S512x1024) hz2]
  rw [pay12_apply, ld_b x2 5120 _ c (by omega)]
  congr 1
  funext d
  exact ld_w x1 5120 _ d c (by omega)

/-- THE BODY of result 6: the columns from 6144 on. -/
theorem body13 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out0_13 x0 x1 x2 x3 x4 x5 x6 (ix2 r c)
      = lin (fun d => x0 (ix2 r d)) (fun d => x1 (ix2 d ⟨6144 + c.val, by omega⟩)) (x2 (ix2 0 ⟨6144 + c.val, by omega⟩)) := by
  unfold out0_13 k0_pay13
  rw [View.canon_unit_zero (S := S512x1024) hz2]
  simp only [View.ld_unit_zero (S := S512x1024) hz2]
  rw [pay13_apply, ld_b x2 6144 _ c (by omega)]
  congr 1
  funext d
  exact ld_w x1 6144 _ d c (by omega)

/-- THE BODY of result 7: the columns from 7168 on. -/
theorem body14 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out0_14 x0 x1 x2 x3 x4 x5 x6 (ix2 r c)
      = lin (fun d => x0 (ix2 r d)) (fun d => x1 (ix2 d ⟨7168 + c.val, by omega⟩)) (x2 (ix2 0 ⟨7168 + c.val, by omega⟩)) := by
  unfold out0_14 k0_pay13
  rw [View.canon_unit_zero (S := S512x1024) hz2]
  simp only [View.ld_unit_zero (S := S512x1024) hz2]
  rw [pay14_apply, ld_b x2 7168 _ c (by omega)]
  congr 1
  funext d
  exact ld_w x1 7168 _ d c (by omega)

/-- THE BODY of result 8: the gates' columns. -/
theorem body15 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 128) :
    out0_15 x0 x1 x2 x3 x4 x5 x6 (ix2 r c) = lin (fun d => x0 (ix2 r d)) (fun d => x3 (ix2 d c)) (x4 (ix2 0 c)) := by
  unfold out0_15 k0_pay13
  rw [View.canon_unit_zero (S := S512x128) hz2]
  simp only [View.ld_unit_zero (S := S512x1024) hz2, View.ld_unit_zero (S := S1024x128) hz2, View.ld_unit_zero (S := S1x128) hz2]
  exact pay15_apply x0 x3 x4 r c

/-- THE BODY of result 9: the gates' columns as rows. -/
theorem body16 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (k : Fin 8) (r : Fin 512) :
    out0_16 x0 x1 x2 x3 x4 x5 x6 (ix2 k r) = lin (fun d => x5 (ix2 k d)) (fun d => x0 (ix2 r d)) (x6 (ix2 k 0)) := by
  unfold out0_16 k0_pay13
  rw [View.canon_unit_zero (S := S8x512) hz2]
  simp only [View.ld_unit_zero (S := S512x1024) hz2, View.ld_unit_zero (S := S8x1024) hz2, View.ld_unit_zero (S := S8x1) hz2]
  exact pay16_apply x0 x5 x6 k r

end Cert.Proj

end
-- ==== Proof.ProjRef.lean ====
/-
  The reference of the input projection, printed, and what each of its ten results is at one element: a row's product with a
  column of the weights, and the column's bias.
-/
module

public import proofs.«01_k».proof.Proof.RowMath
public import proofs.«01_k».proof.Proof.Gen.ProjReferenceIdeal.Run
public import Idealize.ShloMosaic.Lib.Pointwise

@[expose] public section

set_option maxRecDepth 16384

noncomputable section

open scoped BigOperators
open Idealize.ShloMosaic Idealize.ShloMosaic.TcCoe Idealize.SL.Sem
open Cert.ProjReferenceIdeal Cert.ProjReferenceIdeal.Gen Cert.Row

namespace Cert.ProjRef

/-- The rows times the weights and the biases, printed. -/
def proj (x : FVec Ideal S65536x1024 .f32) (w : FVec Ideal S1x1024x8200 .f32) (b : FVec Ideal S1x8200 .f32) : FVec Ideal S65536x8200 .f32 :=
  addf (Host.dotGeneral (φ₁ := .f32) (φ₂ := .f32) dot_S65536x1024_S1024x8200_S65536x8200_1_0_0_1_n_n none x
      (shapeCast _ w shapeCasts_S1x1024x8200_S1024x8200 : FVec Ideal S1024x8200 .f32))
    (broadcastInDim S65536x8200 ![0, 1] bcast_S1x8200_S65536x8200_0_1 (broadcastInDim S1x8200 ![1] bcast_S8200_S1x8200_1
      (shapeCast _ b shapeCasts_S1x8200_S8200 : FVec Ideal S8200 .f32)))

/-- `proj` at one element. -/
theorem proj_apply (x : FVec Ideal S65536x1024 .f32) (w : FVec Ideal S1x1024x8200 .f32) (b : FVec Ideal S1x8200 .f32) (R : Fin 65536) (k : Fin 8200) :
    proj x w b (ix2 R k) = lin (fun d => x (ix2 R d)) (fun d => w (ix3 0 d k)) (b (ix2 0 k)) := by
  pointwise [proj, lin]

/-- The gates' columns, printed. -/
def gates (x : FVec Ideal S65536x1024 .f32) (w : FVec Ideal S1x1024x8200 .f32) (b : FVec Ideal S1x8200 .f32) : FVec Ideal S65536x8 .f32 := extractStridedSlice S65536x8 ![0, 3072] (proj x w b) slices_S65536x8200_S65536x8_0_3072

/-- `gates` at one element. -/
theorem gates_apply (x : FVec Ideal S65536x1024 .f32) (w : FVec Ideal S1x1024x8200 .f32) (b : FVec Ideal S1x8200 .f32) (R : Fin 65536) (k : Fin 8) :
    gates x w b (ix2 R k) = lin (fun d => x (ix2 R d)) (fun d => w (ix3 0 d ⟨3072 + k.val, by omega⟩)) (b (ix2 0 ⟨3072 + k.val, by omega⟩)) := by
  rw [← proj_apply]
  pointwise [gates]

/-- Result 0, printed: the columns from 0 on. -/
def result0 (x : FVec Ideal S65536x1024 .f32) (w : FVec Ideal S1x1024x8200 .f32) (b : FVec Ideal S1x8200 .f32) : FVec Ideal S65536x1024 .f32 :=
  extractStridedSlice S65536x1024 ![0, 0] (proj x w b) slices_S65536x8200_S65536x1024_0_0

/-- `result0` at one element. -/
theorem result0_apply (x : FVec Ideal S65536x1024 .f32) (w : FVec Ideal S1x1024x8200 .f32) (b : FVec Ideal S1x8200 .f32) (R : Fin 65536) (c : Fin 1024) :
    result0 x w b (ix2 R c) = lin (fun d => x (ix2 R d)) (fun d => w (ix3 0 d ⟨0 + c.val, by omega⟩)) (b (ix2 0 ⟨0 + c.val, by omega⟩)) := by
  rw [← proj_apply]
  pointwise [result0]

/-- Result 1, printed: the columns from 1024 on. -/
def result1 (x : FVec Ideal S65536x1024 .f32) (w : FVec Ideal S1x1024x8200 .f32) (b : FVec Ideal S1x8200 .f32) : FVec Ideal S65536x1024 .bf16 :=
  truncf .bf16 (extractStridedSlice S65536x1024 ![0, 1024] (proj x w b) slices_S65536x8200_S65536x1024_0_1024 : FVec Ideal S65536x1024 .f32) bitsLt_bf16_f32

/-- `result1` at one element. -/
theorem result1_apply (x : FVec Ideal S65536x1024 .f32) (w : FVec Ideal S1x1024x8200 .f32) (b : FVec Ideal S1x8200 .f32) (R : Fin 65536) (c : Fin 1024) :
    result1 x w b (ix2 R c) = lin (fun d => x (ix2 R d)) (fun d => w (ix3 0 d ⟨1024 + c.val, by omega⟩)) (b (ix2 0 ⟨1024 + c.val, by omega⟩)) := by
  rw [← proj_apply]
  pointwise [result1]

/-- Result 2, printed: the columns from 2048 on. -/
def result2 (x : FVec Ideal S65536x1024 .f32) (w : FVec Ideal S1x1024x8200 .f32) (b : FVec Ideal S1x8200 .f32) : FVec Ideal S65536x1024 .f32 :=
  extractStridedSlice S65536x1024 ![0, 2048] (proj x w b) slices_S65536x8200_S65536x1024_0_2048

/-- `result2` at one element. -/
theorem result2_apply (x : FVec Ideal S65536x1024 .f32) (w : FVec Ideal S1x1024x8200 .f32) (b : FVec Ideal S1x8200 .f32) (R : Fin 65536) (c : Fin 1024) :
    result2 x w b (ix2 R c) = lin (fun d => x (ix2 R d)) (fun d => w (ix3 0 d ⟨2048 + c.val, by omega⟩)) (b (ix2 0 ⟨2048 + c.val, by omega⟩)) := by
  rw [← proj_apply]
  pointwise [result2]

/-- Result 3, printed: the columns from 3080 on. -/
def result3 (x : FVec Ideal S65536x1024 .f32) (w : FVec Ideal S1x1024x8200 .f32) (b : FVec Ideal S1x8200 .f32) : FVec Ideal S65536x1024 .bf16 :=
  truncf .bf16 (extractStridedSlice S65536x1024 ![0, 0] (extractStridedSlice S65536x3072 ![0, 3080] (proj x w b) slices_S65536x8200_S65536x3072_0_3080) slices_S65536x3072_S65536x1024_0_0 : FVec Ideal S65536x1024 .f32) bitsLt_bf16_f32

/-- `result3` at one element. -/
theorem result3_apply (x : FVec Ideal S65536x1024 .f32) (w : FVec Ideal S1x1024x8200 .f32) (b : FVec Ideal S1x8200 .f32) (R : Fin 65536) (c : Fin 1024) :
    result3 x w b (ix2 R c) = lin (fun d => x (ix2 R d)) (fun d => w (ix3 0 d ⟨3080 + c.val, by omega⟩)) (b (ix2 0 ⟨3080 + c.val, by omega⟩)) := by
  rw [← proj_apply]
  pointwise [result3]

/-- Result 4, printed: the columns from 4104 on. -/
def result4 (x : FVec Ideal S65536x1024 .f32) (w : FVec Ideal S1x1024x8200 .f32) (b : FVec Ideal S1x8200 .f32) : FVec Ideal S65536x1024 .bf16 :=
  truncf .bf16 (extractStridedSlice S65536x1024 ![0, 1024] (extractStridedSlice S65536x3072 ![0, 3080] (proj x w b) slices_S65536x8200_S65536x3072_0_3080) slices_S65536x3072_S65536x1024_0_1024 : FVec Ideal S65536x1024 .f32) bitsLt_bf16_f32

/-- `result4` at one element. -/
theorem result4_apply (x : FVec Ideal S65536x1024 .f32) (w : FVec Ideal S1x1024x8200 .f32) (b : FVec Ideal S1x8200 .f32) (R : Fin 65536) (c : Fin 1024) :
    result4 x w b (ix2 R c) = lin (fun d => x (ix2 R d)) (fun d => w (ix3 0 d ⟨4104 + c.val, by omega⟩)) (b (ix2 0 ⟨4104 + c.val, by omega⟩)) := by
  rw [← proj_apply]
  pointwise [result4]
  exact congrArg (fun k => proj x w b (ix2 R k)) (Fin.ext (show 3080 + (1024 + c.val) = 4104 + c.val by omega))

/-- Result 5, printed: the columns from 5128 on. -/
def result5 (x : FVec Ideal S65536x1024 .f32) (w : FVec Ideal S1x1024x8200 .f32) (b : FVec Ideal S1x8200 .f32) : FVec Ideal S65536x1024 .bf16 :=
  truncf .bf16 (extractStridedSlice S65536x1024 ![0, 2048] (extractStridedSlice S65536x3072 ![0, 3080] (proj x w b) slices_S65536x8200_S65536x3072_0_3080) slices_S65536x3072_S65536x1024_0_2048 : FVec Ideal S65536x1024 .f32) bitsLt_bf16_f32

/-- `result5` at one element. -/
theorem result5_apply (x : FVec Ideal S65536x1024 .f32) (w : FVec Ideal S1x1024x8200 .f32) (b : FVec Ideal S1x8200 .f32) (R : Fin 65536) (c : Fin 1024) :
    result5 x w b (ix2 R c) = lin (fun d => x (ix2 R d)) (fun d => w (ix3 0 d ⟨5128 + c.val, by omega⟩)) (b (ix2 0 ⟨5128 + c.val, by omega⟩)) := by
  rw [← proj_apply]
  pointwise [result5]
  exact congrArg (fun k => proj x w b (ix2 R k)) (Fin.ext (show 3080 + (2048 + c.val) = 5128 + c.val by omega))

/-- Result 6, printed: the columns from 6152 on. -/
def result6 (x : FVec Ideal S65536x1024 .f32) (w : FVec Ideal S1x1024x8200 .f32) (b : FVec Ideal S1x8200 .f32) : FVec Ideal S65536x1024 .f32 :=
  extractStridedSlice S65536x1024 ![0, 0] (extractStridedSlice S65536x2048 ![0, 6152] (proj x w b) slices_S65536x8200_S65536x2048_0_6152) slices_S65536x2048_S65536x1024_0_0

/-- `result6` at one element. -/
theorem result6_apply (x : FVec Ideal S65536x1024 .f32) (w : FVec Ideal S1x1024x8200 .f32) (b : FVec Ideal S1x8200 .f32) (R : Fin 65536) (c : Fin 1024) :
    result6 x w b (ix2 R c) = lin (fun d => x (ix2 R d)) (fun d => w (ix3 0 d ⟨6152 + c.val, by omega⟩)) (b (ix2 0 ⟨6152 + c.val, by omega⟩)) := by
  rw [← proj_apply]
  pointwise [result6]

/-- Result 7, printed: the columns from 7176 on. -/
def result7 (x : FVec Ideal S65536x1024 .f32) (w : FVec Ideal S1x1024x8200 .f32) (b : FVec Ideal S1x8200 .f32) : FVec Ideal S65536x1024 .f32 :=
  extractStridedSlice S65536x1024 ![0, 1024] (extractStridedSlice S65536x2048 ![0, 6152] (proj x w b) slices_S65536x8200_S65536x2048_0_6152) slices_S65536x2048_S65536x1024_0_1024

/-- `result7` at one element. -/
theorem result7_apply (x : FVec Ideal S65536x1024 .f32) (w : FVec Ideal S1x1024x8200 .f32) (b : FVec Ideal S1x8200 .f32) (R : Fin 65536) (c : Fin 1024) :
    result7 x w b (ix2 R c) = lin (fun d => x (ix2 R d)) (fun d => w (ix3 0 d ⟨7176 + c.val, by omega⟩)) (b (ix2 0 ⟨7176 + c.val, by omega⟩)) := by
  rw [← proj_apply]
  pointwise [result7]
  exact congrArg (fun k => proj x w b (ix2 R k)) (Fin.ext (show 6152 + (1024 + c.val) = 7176 + c.val by omega))

/-- The word zero is the number zero. -/
theorem zero_word : (FloatOps.sitofp FTy.f32 0#32 : Ideal .f32) = (0 : EReal) := by
  show (((0#32 : BitVec 32).toInt : ℝ) : EReal) = 0
  simp

/-- Result 8, printed: the gates' columns and zeros up to 128 lanes. -/
def result8 (x : FVec Ideal S65536x1024 .f32) (w : FVec Ideal S1x1024x8200 .f32) (b : FVec Ideal S1x8200 .f32) : FVec Ideal S65536x128 .f32 :=
  pad S65536x128 ![0, 0] ![0, 120] ![0, 0] (gates x w b) (sitofp .f32 (constantI S_ 32 0#32) : FVec Ideal S_ .f32) pads_S65536x8_S65536x128_000_01200 h_S_

/-- `result8` at one element. -/
theorem result8_apply (x : FVec Ideal S65536x1024 .f32) (w : FVec Ideal S1x1024x8200 .f32) (b : FVec Ideal S1x8200 .f32) (R : Fin 65536) (c : Fin 128) :
    result8 x w b (ix2 R c) = if h : c.val < 8 then gates x w b (ix2 R ⟨c.val, h⟩) else 0 := by
  pointwise [result8]
  rw [show (FloatOps.sitofp FTy.f32 0#32 : Ideal .f32) = (0 : EReal) from zero_word]

/-- Result 9, printed: the gates' columns as rows. -/
def result9 (x : FVec Ideal S65536x1024 .f32) (w : FVec Ideal S1x1024x8200 .f32) (b : FVec Ideal S1x8200 .f32) : FVec Ideal S8x65536 .f32 := transpose S8x65536 [1, 0] (gates x w b) transposes_S65536x8_S8x65536_1_0

/-- `result9` at one element. -/
theorem result9_apply (x : FVec Ideal S65536x1024 .f32) (w : FVec Ideal S1x1024x8200 .f32) (b : FVec Ideal S1x8200 .f32) (k : Fin 8) (R : Fin 65536) : result9 x w b (ix2 k R) = gates x w b (ix2 R k) := by
  pointwise [result9]

set_option maxHeartbeats 2000000 in
/-- Every run of the reference program ends with those terms in the result arrays and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = result0 (m ((c.tc : Thread nD τ).loc main_arg0)) (m ((c.tc : Thread nD τ).loc main_arg1)) (m ((c.tc : Thread nD τ).loc main_arg2))
      ∧ r.2.mem ((c.tc : Thread nD τ).loc main_v18) = result1 (m ((c.tc : Thread nD τ).loc main_arg0)) (m ((c.tc : Thread nD τ).loc main_arg1)) (m ((c.tc : Thread nD τ).loc main_arg2))
      ∧ r.2.mem ((c.tc : Thread nD τ).loc main_v8) = result2 (m ((c.tc : Thread nD τ).loc main_arg0)) (m ((c.tc : Thread nD τ).loc main_arg1)) (m ((c.tc : Thread nD τ).loc main_arg2))
      ∧ r.2.mem ((c.tc : Thread nD τ).loc main_v19) = result3 (m ((c.tc : Thread nD τ).loc main_arg0)) (m ((c.tc : Thread nD τ).loc main_arg1)) (m ((c.tc : Thread nD τ).loc main_arg2))
      ∧ r.2.mem ((c.tc : Thread nD τ).loc main_v20) = result4 (m ((c.tc : Thread nD τ).loc main_arg0)) (m ((c.tc : Thread nD τ).loc main_arg1)) (m ((c.tc : Thread nD τ).loc main_arg2))
      ∧ r.2.mem ((c.tc : Thread nD τ).loc main_v21) = result5 (m ((c.tc : Thread nD τ).loc main_arg0)) (m ((c.tc : Thread nD τ).loc main_arg1)) (m ((c.tc : Thread nD τ).loc main_arg2))
      ∧ r.2.mem ((c.tc : Thread nD τ).loc main_v15) = result6 (m ((c.tc : Thread nD τ).loc main_arg0)) (m ((c.tc : Thread nD τ).loc main_arg1)) (m ((c.tc : Thread nD τ).loc main_arg2))
      ∧ r.2.mem ((c.tc : Thread nD τ).loc main_v16) = result7 (m ((c.tc : Thread nD τ).loc main_arg0)) (m ((c.tc : Thread nD τ).loc main_arg1)) (m ((c.tc : Thread nD τ).loc main_arg2))
      ∧ r.2.mem ((c.tc : Thread nD τ).loc main_v17) = result8 (m ((c.tc : Thread nD τ).loc main_arg0)) (m ((c.tc : Thread nD τ).loc main_arg1)) (m ((c.tc : Thread nD τ).loc main_arg2))
      ∧ r.2.mem ((c.tc : Thread nD τ).loc main_v22) = result9 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Cert.ProjReferenceIdeal.Value.run m ρ)
  unfold result0 result1 result2 result3 result4 result5 result6 result7 result8 result9 gates proj
  exact h c

end Cert.ProjRef

end
-- ==== Proof.ProjValue.lean ====
/-
  The input projection's ten result arrays: the blocks the grid's points read are rows of the argument and the whole weights
  and biases, the blocks they write cover the results, and each result is the reference's.
-/
module

public import proofs.«01_k».proof.Proof.ProjBody
public import proofs.«01_k».proof.Proof.ProjRef
public import proofs.«01_k».proof.Proof.Gen.ProjKernelIdeal.Value
public import Idealize.ShloMosaic.Lib.Pipeline.Value
public import Idealize.ShloMosaic.Lib.Pipeline.Covers
public import Idealize.ShloMosaic.Lib.StableHlo.Run

@[expose] public section

set_option maxRecDepth 16384

noncomputable section

open scoped BigOperators
open Idealize.ShloMosaic Idealize.ShloMosaic.TcCoe Idealize.SL.Sem
open Idealize.ShloMosaic.Pipeline (Dat)
open Cert.ProjKernelIdeal Cert.ProjKernelIdeal.Gen Cert.Row

namespace Cert.Proj

variable (m : (ℓ : Loc nD τ sig) → Buf (Elt Ideal) ℓ) (c : Dev nD) (t : Fin cfg0.N)

/-- The grid has 128 points. -/
theorem n_lt : (grid0.coords t 0).val < 128 := (grid0.coords t 0).isLt

/-- The 32-bit word of a grid coordinate is the coordinate. -/
theorem word (x : ℕ) (h : x < 128) : (BitVec.ofNat 32 x).toNat = x := by
  rw [BitVec.toNat_ofNat]; exact Nat.mod_eq_of_lt (by omega)

/-- The block of rows a point reads. -/
theorem idx0 : win0_0.index t = ![(grid0.coords t 0).val, 0] := by
  show cc0_transform_0 (grid0.coords t) = _
  unfold cc0_transform_0
  dsimp only
  rw [word (grid0.coords t 0).val (n_lt t)]
  rfl

/-- The block of rows of result 0 a point writes. -/
theorem idx7 : win0_7.index t = ![(grid0.coords t 0).val, 0] := by
  show cc0_transform_7 (grid0.coords t) = _
  unfold cc0_transform_7
  dsimp only
  rw [word (grid0.coords t 0).val (n_lt t)]
  rfl

/-- The block of rows of result 1 a point writes. -/
theorem idx8 : win0_8.index t = ![(grid0.coords t 0).val, 0] := by
  show cc0_transform_8 (grid0.coords t) = _
  unfold cc0_transform_8
  dsimp only
  rw [word (grid0.coords t 0).val (n_lt t)]
  rfl

/-- The block of rows of result 2 a point writes. -/
theorem idx9 : win0_9.index t = ![(grid0.coords t 0).val, 0] := by
  show cc0_transform_9 (grid0.coords t) = _
  unfold cc0_transform_9
  dsimp only
  rw [word (grid0.coords t 0).val (n_lt t)]
  rfl

/-- The block of rows of result 3 a point writes. -/
theorem idx10 : win0_10.index t = ![(grid0.coords t 0).val, 0] := by
  show cc0_transform_10 (grid0.coords t) = _
  unfold cc0_transform_10
  dsimp only
  rw [word (grid0.coords t 0).val (n_lt t)]
  rfl

/-- The block of rows of result 4 a point writes. -/
theorem idx11 : win0_11.index t = ![(grid0.coords t 0).val, 0] := by
  show cc0_transform_11 (grid0.coords t) = _
  unfold cc0_transform_11
  dsimp only
  rw [word (grid0.coords t 0).val (n_lt t)]
  rfl

/-- The block of rows of result 5 a point writes. -/
theorem idx12 : win0_12.index t = ![(grid0.coords t 0).val, 0] := by
  show cc0_transform_12 (grid0.coords t) = _
  unfold cc0_transform_12
  dsimp only
  rw [word (grid0.coords t 0).val (n_lt t)]
  rfl

/-- The block of rows of result 6 a point writes. -/
theorem idx13 : win0_13.index t = ![(grid0.coords t 0).val, 0] := by
  show cc0_transform_13 (grid0.coords t) = _
  unfold cc0_transform_13
  dsimp only
  rw [word (grid0.coords t 0).val (n_lt t)]
  rfl

/-- The block of rows of result 7 a point writes. -/
theorem idx14 : win0_14.index t = ![(grid0.coords t 0).val, 0] := by
  show cc0_transform_14 (grid0.coords t) = _
  unfold cc0_transform_14
  dsimp only
  rw [word (grid0.coords t 0).val (n_lt t)]
  rfl

/-- The block of rows of result 8 a point writes. -/
theorem idx15 : win0_15.index t = ![(grid0.coords t 0).val, 0] := by
  show cc0_transform_15 (grid0.coords t) = _
  unfold cc0_transform_15
  dsimp only
  rw [word (grid0.coords t 0).val (n_lt t)]
  rfl

/-- The block of columns of result 9 a point writes. -/
theorem idx16 : win0_16.index t = ![0, (grid0.coords t 0).val] := by
  show cc0_transform_16 (grid0.coords t) = _
  unfold cc0_transform_16
  dsimp only
  rw [word (grid0.coords t 0).val (n_lt t)]
  rfl

/-- The flat row of a row of a point's block. -/
abbrev row (r : Fin 512) : Fin 65536 := ⟨(grid0.coords t 0).val * 512 + r.val, by have := n_lt t; omega⟩

/-- The weights' column that is column `k` of the main weights: the gates' eight columns are left out. -/
def col (k : Fin 8192) : Fin 8200 := ⟨if k.val < 3072 then k.val else k.val + 8, by split <;> omega⟩

/-- The weights without the gates' columns. -/
def wmain (a : FVec Ideal S1x1024x8200 .f32) : FVec Ideal S1024x8192 .bf16 :=
  truncf .bf16 (concatenate S1024x8192 1 [⟨S1024x3072, extractStridedSlice S1024x3072 ![0, 0] (shapeCast _ a shapeCasts_S1x1024x8200_S1024x8200 : FVec Ideal S1024x8200 .f32) slices_S1024x8200_S1024x3072_0_0⟩,
    ⟨S1024x5120, extractStridedSlice S1024x5120 ![0, 3080] (shapeCast _ a shapeCasts_S1x1024x8200_S1024x8200 : FVec Ideal S1024x8200 .f32) slices_S1024x8200_S1024x5120_0_3080⟩]
    concatenates_S1024x3072_S1024x5120_S1024x8192_d1 : FVec Ideal S1024x8192 .f32) bitsLt_bf16_f32
/-- The biases without the gates'. -/
def bmain (a : FVec Ideal S1x8200 .f32) : FVec Ideal S1x8192 .f32 :=
  shapeCast _ (concatenate S8192 0 [⟨S3072, extractStridedSlice S3072 ![0] (shapeCast _ a shapeCasts_S1x8200_S8200 : FVec Ideal S8200 .f32) slices_S8200_S3072_0⟩,
    ⟨S5120, extractStridedSlice S5120 ![3080] (shapeCast _ a shapeCasts_S1x8200_S8200 : FVec Ideal S8200 .f32) slices_S8200_S5120_3080⟩]
    concatenates_S3072_S5120_S8192_d0 : FVec Ideal S8192 .f32) shapeCasts_S8192_S1x8192
/-- The gates' columns of the weights. -/
def wgate (a : FVec Ideal S1x1024x8200 .f32) : FVec Ideal S1024x8 .f32 :=
  extractStridedSlice S1024x8 ![0, 3072] (shapeCast _ a shapeCasts_S1x1024x8200_S1024x8200 : FVec Ideal S1024x8200 .f32) slices_S1024x8200_S1024x8_0_3072
/-- The gates' biases. -/
def bgate (a : FVec Ideal S1x8200 .f32) : FVec Ideal S8 .f32 :=
  extractStridedSlice S8 ![3072] (shapeCast _ a shapeCasts_S1x8200_S8200 : FVec Ideal S8200 .f32) slices_S8200_S8_3072
/-- The gates' columns and zeros up to 128 lanes. -/
def wpad (a : FVec Ideal S1x1024x8200 .f32) : FVec Ideal S1024x128 .bf16 :=
  truncf .bf16 (pad S1024x128 ![0, 0] ![0, 120] ![0, 0] (wgate a) (sitofp .f32 (constantI S_ 32 0#32) : FVec Ideal S_ .f32) pads_S1024x8_S1024x128_000_01200 h_S_ : FVec Ideal S1024x128 .f32) bitsLt_bf16_f32
/-- The gates' biases and zeros up to 128 lanes. -/
def bpad (a : FVec Ideal S1x8200 .f32) : FVec Ideal S1x128 .f32 :=
  pad S1x128 ![0, 0] ![0, 120] ![0, 0] (shapeCast _ (bgate a) shapeCasts_S8_S1x8 : FVec Ideal S1x8 .f32) (sitofp .f32 (constantI S_ 32 0#32) : FVec Ideal S_ .f32) pads_S1x8_S1x128_000_01200 h_S_
/-- The gates' columns as rows. -/
def wrow (a : FVec Ideal S1x1024x8200 .f32) : FVec Ideal S8x1024 .bf16 :=
  truncf .bf16 (transpose S8x1024 [1, 0] (wgate a) transposes_S1024x8_S8x1024_1_0 : FVec Ideal S8x1024 .f32) bitsLt_bf16_f32
/-- The gates' biases as a column. -/
def brow (a : FVec Ideal S1x8200 .f32) : FVec Ideal S8x1 .f32 := shapeCast _ (bgate a) shapeCasts_S8_S8x1

/-- `wmain` at one element. -/
theorem wmain_apply (a : FVec Ideal S1x1024x8200 .f32) (d : Fin 1024) (k : Fin 8192) : wmain a (ix2 d k) = a (ix3 0 d (col k)) := by
  by_cases h : k.val < 3072
  · rw [show col k = ⟨k.val, by omega⟩ from Fin.ext (if_pos h)]
    pointwise [wmain]
    rw [dif_pos h]
  · rw [show col k = ⟨k.val + 8, by omega⟩ from Fin.ext (if_neg h)]
    pointwise [wmain]
    rw [dif_neg h]
    exact congrArg (fun k => a (ix3 0 d k)) (Fin.ext (show 3080 + (k.val - 3072) = k.val + 8 by omega))

/-- `bmain` at one element. -/
theorem bmain_apply (a : FVec Ideal S1x8200 .f32) (k : Fin 8192) : bmain a (ix2 0 k) = a (ix2 0 (col k)) := by
  by_cases h : k.val < 3072
  · rw [show col k = ⟨k.val, by omega⟩ from Fin.ext (if_pos h)]
    pointwise [bmain]
    rw [dif_pos h]
  · rw [show col k = ⟨k.val + 8, by omega⟩ from Fin.ext (if_neg h)]
    pointwise [bmain]
    rw [dif_neg h]
    exact congrArg (fun k => a (ix2 0 k)) (Fin.ext (show 3080 + (k.val - 3072) = k.val + 8 by omega))

/-- `wgate` at one element. -/
theorem wgate_apply (a : FVec Ideal S1x1024x8200 .f32) (d : Fin 1024) (k : Fin 8) : wgate a (ix2 d k) = a (ix3 0 d ⟨3072 + k.val, by omega⟩) := by
  pointwise [wgate]

/-- `bgate` at one element. -/
theorem bgate_apply (a : FVec Ideal S1x8200 .f32) (k : Fin 8) : bgate a (ix1 k) = a (ix2 0 ⟨3072 + k.val, by omega⟩) := by
  pointwise [bgate]

/-- `wpad` at one element. -/
theorem wpad_apply (a : FVec Ideal S1x1024x8200 .f32) (d : Fin 1024) (k : Fin 128) :
    wpad a (ix2 d k) = if h : k.val < 8 then a (ix3 0 d ⟨3072 + k.val, by omega⟩) else 0 := by
  pointwise [wpad, wgate_apply]
  rw [show (FloatOps.sitofp FTy.f32 0#32 : Ideal .f32) = (0 : EReal) from ProjRef.zero_word]

/-- `bpad` at one element. -/
theorem bpad_apply (a : FVec Ideal S1x8200 .f32) (k : Fin 128) :
    bpad a (ix2 0 k) = if h : k.val < 8 then a (ix2 0 ⟨3072 + k.val, by omega⟩) else 0 := by
  pointwise [bpad, bgate_apply]
  rw [show (FloatOps.sitofp FTy.f32 0#32 : Ideal .f32) = (0 : EReal) from ProjRef.zero_word]

/-- `wrow` at one element. -/
theorem wrow_apply (a : FVec Ideal S1x1024x8200 .f32) (k : Fin 8) (d : Fin 1024) : wrow a (ix2 k d) = a (ix3 0 d ⟨3072 + k.val, by omega⟩) := by
  pointwise [wrow, wgate_apply]

/-- `brow` at one element. -/
theorem brow_apply (a : FVec Ideal S1x8200 .f32) (k : Fin 8) : brow a (ix2 k 0) = a (ix2 0 ⟨3072 + k.val, by omega⟩) := by
  pointwise [brow, bgate_apply]

/-- The region finds argument 0 as launched. -/
theorem V_arg0 : V m c main_arg0 = m ((c.tc : Thread nD τ).loc main_arg0) := V_main_arg0 m c
/-- What the host operations leave in `main_v5`, of the arguments. -/
theorem V_v5 : V m c main_v5 = wmain (m ((c.tc : Thread nD τ).loc main_arg1)) := by
  unfold V wmain
  simp only [hostOps0, hostOps0_1, hostOps0_2, hostOps0_3, hostOps0_4, List.flatten_cons, List.flatten_nil, List.append_nil, List.cons_append, List.nil_append]
  after_results
  rfl
/-- What the host operations leave in `main_v11`, of the arguments. -/
theorem V_v11 : V m c main_v11 = bmain (m ((c.tc : Thread nD τ).loc main_arg2)) := by
  unfold V bmain
  simp only [hostOps0, hostOps0_1, hostOps0_2, hostOps0_3, hostOps0_4, List.flatten_cons, List.flatten_nil, List.append_nil, List.cons_append, List.nil_append]
  after_results
  rfl
/-- What the host operations leave in `main_v17`, of the arguments. -/
theorem V_v17 : V m c main_v17 = wpad (m ((c.tc : Thread nD τ).loc main_arg1)) := by
  unfold V wpad wgate
  simp only [hostOps0, hostOps0_1, hostOps0_2, hostOps0_3, hostOps0_4, List.flatten_cons, List.flatten_nil, List.append_nil, List.cons_append, List.nil_append]
  after_results
  rfl
/-- What the host operations leave in `main_v19`, of the arguments. -/
theorem V_v19 : V m c main_v19 = bpad (m ((c.tc : Thread nD τ).loc main_arg2)) := by
  unfold V bpad bgate
  simp only [hostOps0, hostOps0_1, hostOps0_2, hostOps0_3, hostOps0_4, List.flatten_cons, List.flatten_nil, List.append_nil, List.cons_append, List.nil_append]
  after_results
  rfl
/-- What the host operations leave in `main_v21`, of the arguments. -/
theorem V_v21 : V m c main_v21 = wrow (m ((c.tc : Thread nD τ).loc main_arg1)) := by
  unfold V wrow wgate
  simp only [hostOps0, hostOps0_1, hostOps0_2, hostOps0_3, hostOps0_4, List.flatten_cons, List.flatten_nil, List.append_nil, List.cons_append, List.nil_append]
  after_results
  rfl
/-- What the host operations leave in `main_v22`, of the arguments. -/
theorem V_v22 : V m c main_v22 = brow (m ((c.tc : Thread nD τ).loc main_arg2)) := by
  unfold V brow bgate
  simp only [hostOps0, hostOps0_1, hostOps0_2, hostOps0_3, hostOps0_4, List.flatten_cons, List.flatten_nil, List.append_nil, List.cons_append, List.nil_append]
  after_results
  rfl

/-- The rows a point reads. -/
theorem x_block (r : Fin 512) (d : Fin 1024) : (iblk m c 0 t : Vec Ideal S512x1024 .f32) (ix2 r d)
    = (m ((c.tc : Thread nD τ).loc main_arg0) : FVec Ideal S65536x1024 .f32) (ix2 (row t r) d) := by
  rw [← V_arg0 m c]
  unfold iblk
  rw [View.read_apply]
  show V m c main_arg0 _ = V m c main_arg0 _
  congr 1
  funext a
  apply Fin.ext
  match a with
  | ⟨0, _⟩ => show win0_0.index t 0 * 512 + 1 * r.val = (grid0.coords t 0).val * 512 + r.val; rw [idx0]; show (grid0.coords t 0).val * 512 + 1 * r.val = _; omega
  | ⟨1, _⟩ => show win0_0.index t 1 * 1024 + 1 * d.val = d.val; rw [idx0]; show 0 * 1024 + 1 * d.val = _; omega

/-- The main weights every point reads. -/
theorem w_block (d : Fin 1024) (k : Fin 8192) : (iblk m c 1 t : Vec Ideal S1024x8192 .bf16) (ix2 d k)
    = (m ((c.tc : Thread nD τ).loc main_arg1) : FVec Ideal S1x1024x8200 .f32) (ix3 0 d (col k)) := by
  refine Eq.trans ?_ (wmain_apply _ d k)
  rw [← V_v5 m c]
  unfold iblk
  rw [View.read_apply]
  show V m c main_v5 _ = V m c main_v5 _
  congr 1
  funext a
  apply Fin.ext
  match a with
  | ⟨0, _⟩ => show 0 * 1024 + 1 * d.val = d.val; omega
  | ⟨1, _⟩ => show 0 * 8192 + 1 * k.val = k.val; omega

/-- The main biases every point reads. -/
theorem b_block (k : Fin 8192) : (iblk m c 2 t : Vec Ideal S1x8192 .f32) (ix2 0 k)
    = (m ((c.tc : Thread nD τ).loc main_arg2) : FVec Ideal S1x8200 .f32) (ix2 0 (col k)) := by
  refine Eq.trans ?_ (bmain_apply _ k)
  rw [← V_v11 m c]
  unfold iblk
  rw [View.read_apply]
  show V m c main_v11 _ = V m c main_v11 _
  congr 1
  funext a
  apply Fin.ext
  match a with
  | ⟨0, _⟩ => show 0 * 1 + 1 * 0 = 0; omega
  | ⟨1, _⟩ => show 0 * 8192 + 1 * k.val = k.val; omega

/-- The gates' padded weights every point reads. -/
theorem wp_block (d : Fin 1024) (k : Fin 128) : (iblk m c 3 t : Vec Ideal S1024x128 .bf16) (ix2 d k)
    = if h : k.val < 8 then (m ((c.tc : Thread nD τ).loc main_arg1) : FVec Ideal S1x1024x8200 .f32) (ix3 0 d ⟨3072 + k.val, by omega⟩) else (0 : EReal) := by
  refine Eq.trans ?_ (wpad_apply _ d k)
  rw [← V_v17 m c]
  unfold iblk
  rw [View.read_apply]
  show V m c main_v17 _ = V m c main_v17 _
  congr 1
  funext a
  apply Fin.ext
  match a with
  | ⟨0, _⟩ => show 0 * 1024 + 1 * d.val = d.val; omega
  | ⟨1, _⟩ => show 0 * 128 + 1 * k.val = k.val; omega

/-- The gates' padded biases every point reads. -/
theorem bp_block (k : Fin 128) : (iblk m c 4 t : Vec Ideal S1x128 .f32) (ix2 0 k)
    = if h : k.val < 8 then (m ((c.tc : Thread nD τ).loc main_arg2) : FVec Ideal S1x8200 .f32) (ix2 0 ⟨3072 + k.val, by omega⟩) else (0 : EReal) := by
  refine Eq.trans ?_ (bpad_apply _ k)
  rw [← V_v19 m c]
  unfold iblk
  rw [View.read_apply]
  show V m c main_v19 _ = V m c main_v19 _
  congr 1
  funext a
  apply Fin.ext
  match a with
  | ⟨0, _⟩ => show 0 * 1 + 1 * 0 = 0; omega
  | ⟨1, _⟩ => show 0 * 128 + 1 * k.val = k.val; omega

/-- The gates' weights as rows every point reads. -/
theorem wr_block (k : Fin 8) (d : Fin 1024) : (iblk m c 5 t : Vec Ideal S8x1024 .bf16) (ix2 k d)
    = (m ((c.tc : Thread nD τ).loc main_arg1) : FVec Ideal S1x1024x8200 .f32) (ix3 0 d ⟨3072 + k.val, by omega⟩) := by
  refine Eq.trans ?_ (wrow_apply _ k d)
  rw [← V_v21 m c]
  unfold iblk
  rw [View.read_apply]
  show V m c main_v21 _ = V m c main_v21 _
  congr 1
  funext a
  apply Fin.ext
  match a with
  | ⟨0, _⟩ => show 0 * 8 + 1 * k.val = k.val; omega
  | ⟨1, _⟩ => show 0 * 1024 + 1 * d.val = d.val; omega

/-- The gates' biases as a column every point reads. -/
theorem br_block (k : Fin 8) : (iblk m c 6 t : Vec Ideal S8x1 .f32) (ix2 k 0)
    = (m ((c.tc : Thread nD τ).loc main_arg2) : FVec Ideal S1x8200 .f32) (ix2 0 ⟨3072 + k.val, by omega⟩) := by
  refine Eq.trans ?_ (brow_apply _ k)
  rw [← V_v22 m c]
  unfold iblk
  rw [View.read_apply]
  show V m c main_v22 _ = V m c main_v22 _
  congr 1
  funext a
  apply Fin.ext
  match a with
  | ⟨0, _⟩ => show 0 * 8 + 1 * k.val = k.val; omega
  | ⟨1, _⟩ => show 0 * 1 + 1 * 0 = 0; omega

/-- A column of the main weights is the reference's. -/
theorem col_eq (k : Fin 8192) (k' : Fin 8200) (h : (if k.val < 3072 then k.val else k.val + 8) = k'.val) : col k = k' := Fin.ext h

/-- Result 0, as contents of its array. -/
abbrev res0 : Buf (Elt Ideal) ((c.tc : Thread nD τ).loc main_v23_0) := Cert.ProjRef.result0 (m ((c.tc : Thread nD τ).loc main_arg0)) (m ((c.tc : Thread nD τ).loc main_arg1)) (m ((c.tc : Thread nD τ).loc main_arg2))

/-- No block of result 0 is cut. -/
theorem cut7 (f : S512x1024.Idx → EReal) (j : S512x1024.Idx) : (cfg0.win 7).cut (grid0.coords t) f j = f j := rfl

/-- A point's block of result 0 sits in the array at its rows. -/
theorem read7 (G : S65536x1024.Idx → EReal) (r : Fin 512) (d : Fin 1024) :
    ((cfg0.win 7).blk t).view.read (Elt Ideal) G (ix2 r d : S512x1024.Idx) = G (ix2 (row t r) d) := by
  rw [View.read_apply]
  show G _ = G _
  congr 1
  funext a
  apply Fin.ext
  match a with
  | ⟨0, _⟩ => show win0_7.index t 0 * 512 + 1 * r.val = (grid0.coords t 0).val * 512 + r.val; rw [idx7]; show (grid0.coords t 0).val * 512 + 1 * r.val = _; omega
  | ⟨1, _⟩ => show win0_7.index t 1 * 1024 + 1 * d.val = d.val; rw [idx7]; show 0 * 1024 + 1 * d.val = _; omega

/-- An element of a point's block of result 0 is the result's. -/
theorem block7 (r : Fin 512) (d : Fin 1024) : out0_7 (iblk m c 0 t) (iblk m c 1 t) (iblk m c 2 t) (iblk m c 3 t) (iblk m c 4 t) (iblk m c 5 t) (iblk m c 6 t) (ix2 r d)
    = (res0 m c : FVec Ideal S65536x1024 .f32) (ix2 (row t r) d) := by
  refine (body7 (iblk m c 0 t) (iblk m c 1 t) (iblk m c 2 t) (iblk m c 3 t) (iblk m c 4 t) (iblk m c 5 t) (iblk m c 6 t) r d).trans ?_
  refine Eq.trans ?_ (Cert.ProjRef.result0_apply _ _ _ (row t r) d).symm
  simp only [x_block m c t, w_block m c t, b_block m c t]
  rw [col_eq ⟨0 + d.val, by omega⟩ ⟨0 + d.val, by omega⟩ (by rw [if_pos (show 0 + d.val < 3072 by omega)])]

/-- What a point writes back of result 0 is its block of the result. -/
theorem flushed7_eq : (dats m 0 c).flushed 7 t = ((cfg0.win 7).blk t).view.read (Elt Ideal) (res0 m c) := by
  rw [Cert.ProjKernelIdeal.Value.flushed7]
  funext j
  obtain ⟨r, d, hj⟩ : ∃ (r : Fin 512) (d : Fin 1024), j = ix2 r d := ⟨_, _, ValueIdx.eq_ix2 j⟩
  subst hj
  refine (cut7 t _ _).trans (Eq.trans ?_ (read7 t (res0 m c) r d).symm)
  exact block7 m c t r d

/-- Every element of result 0's array is in some point's block. -/
theorem covered7 (i : S65536x1024.Idx) : ∃ t : Fin cfg0.N, i ∈ ((cfg0.win 7).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v23_0).slice (win0_7.rect t)).set
  rw [View.set_slice_whole, Rect.mem_set_unit]
  intro a
  match a with
  | ⟨0, _⟩ => show win0_7.index t 0 * 512 ≤ (i 0).val ∧ (i 0).val < win0_7.index t 0 * 512 + 512
              rw [idx7]; show (grid0.coords t 0).val * 512 ≤ _ ∧ _ < (grid0.coords t 0).val * 512 + 512; omega
  | ⟨1, _⟩ => show win0_7.index t 1 * 1024 ≤ (i 1).val ∧ (i 1).val < win0_7.index t 1 * 1024 + 1024
              rw [idx7]; show 0 * 1024 ≤ _ ∧ _ < 0 * 1024 + 1024; omega

/-- RESULT 0'S ARRAY after the run is the reference's result of the three arguments. -/
theorem final0 : (dats m 0 c).arrAt 7 cfg0.N = res0 m c :=
  (dats m 0 c).arrAt_eq_of_cover 7 (res0 m c) (fun t _ => flushed7_eq m c t) fun i =>
    let ⟨t, ht⟩ := covered7 i
    ⟨t, flush0_7 t, ht⟩

/-- Result 1, as contents of its array. -/
abbrev res1 : Buf (Elt Ideal) ((c.tc : Thread nD τ).loc main_v23_1) := Cert.ProjRef.result1 (m ((c.tc : Thread nD τ).loc main_arg0)) (m ((c.tc : Thread nD τ).loc main_arg1)) (m ((c.tc : Thread nD τ).loc main_arg2))

/-- No block of result 1 is cut. -/
theorem cut8 (f : S512x1024.Idx → EReal) (j : S512x1024.Idx) : (cfg0.win 8).cut (grid0.coords t) f j = f j := rfl

/-- A point's block of result 1 sits in the array at its rows. -/
theorem read8 (G : S65536x1024.Idx → EReal) (r : Fin 512) (d : Fin 1024) :
    ((cfg0.win 8).blk t).view.read (Elt Ideal) G (ix2 r d : S512x1024.Idx) = G (ix2 (row t r) d) := by
  rw [View.read_apply]
  show G _ = G _
  congr 1
  funext a
  apply Fin.ext
  match a with
  | ⟨0, _⟩ => show win0_8.index t 0 * 512 + 1 * r.val = (grid0.coords t 0).val * 512 + r.val; rw [idx8]; show (grid0.coords t 0).val * 512 + 1 * r.val = _; omega
  | ⟨1, _⟩ => show win0_8.index t 1 * 1024 + 1 * d.val = d.val; rw [idx8]; show 0 * 1024 + 1 * d.val = _; omega

/-- An element of a point's block of result 1 is the result's. -/
theorem block8 (r : Fin 512) (d : Fin 1024) : out0_8 (iblk m c 0 t) (iblk m c 1 t) (iblk m c 2 t) (iblk m c 3 t) (iblk m c 4 t) (iblk m c 5 t) (iblk m c 6 t) (ix2 r d)
    = (res1 m c : FVec Ideal S65536x1024 .bf16) (ix2 (row t r) d) := by
  refine (body8 (iblk m c 0 t) (iblk m c 1 t) (iblk m c 2 t) (iblk m c 3 t) (iblk m c 4 t) (iblk m c 5 t) (iblk m c 6 t) r d).trans ?_
  refine Eq.trans ?_ (Cert.ProjRef.result1_apply _ _ _ (row t r) d).symm
  simp only [x_block m c t, w_block m c t, b_block m c t]
  rw [col_eq ⟨1024 + d.val, by omega⟩ ⟨1024 + d.val, by omega⟩ (by rw [if_pos (show 1024 + d.val < 3072 by omega)])]

/-- What a point writes back of result 1 is its block of the result. -/
theorem flushed8_eq : (dats m 0 c).flushed 8 t = ((cfg0.win 8).blk t).view.read (Elt Ideal) (res1 m c) := by
  rw [Cert.ProjKernelIdeal.Value.flushed8]
  funext j
  obtain ⟨r, d, hj⟩ : ∃ (r : Fin 512) (d : Fin 1024), j = ix2 r d := ⟨_, _, ValueIdx.eq_ix2 j⟩
  subst hj
  refine (cut8 t _ _).trans (Eq.trans ?_ (read8 t (res1 m c) r d).symm)
  exact block8 m c t r d

/-- Every element of result 1's array is in some point's block. -/
theorem covered8 (i : S65536x1024.Idx) : ∃ t : Fin cfg0.N, i ∈ ((cfg0.win 8).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v23_1).slice (win0_8.rect t)).set
  rw [View.set_slice_whole, Rect.mem_set_unit]
  intro a
  match a with
  | ⟨0, _⟩ => show win0_8.index t 0 * 512 ≤ (i 0).val ∧ (i 0).val < win0_8.index t 0 * 512 + 512
              rw [idx8]; show (grid0.coords t 0).val * 512 ≤ _ ∧ _ < (grid0.coords t 0).val * 512 + 512; omega
  | ⟨1, _⟩ => show win0_8.index t 1 * 1024 ≤ (i 1).val ∧ (i 1).val < win0_8.index t 1 * 1024 + 1024
              rw [idx8]; show 0 * 1024 ≤ _ ∧ _ < 0 * 1024 + 1024; omega

/-- RESULT 1'S ARRAY after the run is the reference's result of the three arguments. -/
theorem final1 : (dats m 0 c).arrAt 8 cfg0.N = res1 m c :=
  (dats m 0 c).arrAt_eq_of_cover 8 (res1 m c) (fun t _ => flushed8_eq m c t) fun i =>
    let ⟨t, ht⟩ := covered8 i
    ⟨t, flush0_8 t, ht⟩

/-- Result 2, as contents of its array. -/
abbrev res2 : Buf (Elt Ideal) ((c.tc : Thread nD τ).loc main_v23_2) := Cert.ProjRef.result2 (m ((c.tc : Thread nD τ).loc main_arg0)) (m ((c.tc : Thread nD τ).loc main_arg1)) (m ((c.tc : Thread nD τ).loc main_arg2))

/-- No block of result 2 is cut. -/
theorem cut9 (f : S512x1024.Idx → EReal) (j : S512x1024.Idx) : (cfg0.win 9).cut (grid0.coords t) f j = f j := rfl

/-- A point's block of result 2 sits in the array at its rows. -/
theorem read9 (G : S65536x1024.Idx → EReal) (r : Fin 512) (d : Fin 1024) :
    ((cfg0.win 9).blk t).view.read (Elt Ideal) G (ix2 r d : S512x1024.Idx) = G (ix2 (row t r) d) := by
  rw [View.read_apply]
  show G _ = G _
  congr 1
  funext a
  apply Fin.ext
  match a with
  | ⟨0, _⟩ => show win0_9.index t 0 * 512 + 1 * r.val = (grid0.coords t 0).val * 512 + r.val; rw [idx9]; show (grid0.coords t 0).val * 512 + 1 * r.val = _; omega
  | ⟨1, _⟩ => show win0_9.index t 1 * 1024 + 1 * d.val = d.val; rw [idx9]; show 0 * 1024 + 1 * d.val = _; omega

/-- An element of a point's block of result 2 is the result's. -/
theorem block9 (r : Fin 512) (d : Fin 1024) : out0_9 (iblk m c 0 t) (iblk m c 1 t) (iblk m c 2 t) (iblk m c 3 t) (iblk m c 4 t) (iblk m c 5 t) (iblk m c 6 t) (ix2 r d)
    = (res2 m c : FVec Ideal S65536x1024 .f32) (ix2 (row t r) d) := by
  refine (body9 (iblk m c 0 t) (iblk m c 1 t) (iblk m c 2 t) (iblk m c 3 t) (iblk m c 4 t) (iblk m c 5 t) (iblk m c 6 t) r d).trans ?_
  refine Eq.trans ?_ (Cert.ProjRef.result2_apply _ _ _ (row t r) d).symm
  simp only [x_block m c t, w_block m c t, b_block m c t]
  rw [col_eq ⟨2048 + d.val, by omega⟩ ⟨2048 + d.val, by omega⟩ (by rw [if_pos (show 2048 + d.val < 3072 by omega)])]

/-- What a point writes back of result 2 is its block of the result. -/
theorem flushed9_eq : (dats m 0 c).flushed 9 t = ((cfg0.win 9).blk t).view.read (Elt Ideal) (res2 m c) := by
  rw [Cert.ProjKernelIdeal.Value.flushed9]
  funext j
  obtain ⟨r, d, hj⟩ : ∃ (r : Fin 512) (d : Fin 1024), j = ix2 r d := ⟨_, _, ValueIdx.eq_ix2 j⟩
  subst hj
  refine (cut9 t _ _).trans (Eq.trans ?_ (read9 t (res2 m c) r d).symm)
  exact block9 m c t r d

/-- Every element of result 2's array is in some point's block. -/
theorem covered9 (i : S65536x1024.Idx) : ∃ t : Fin cfg0.N, i ∈ ((cfg0.win 9).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v23_2).slice (win0_9.rect t)).set
  rw [View.set_slice_whole, Rect.mem_set_unit]
  intro a
  match a with
  | ⟨0, _⟩ => show win0_9.index t 0 * 512 ≤ (i 0).val ∧ (i 0).val < win0_9.index t 0 * 512 + 512
              rw [idx9]; show (grid0.coords t 0).val * 512 ≤ _ ∧ _ < (grid0.coords t 0).val * 512 + 512; omega
  | ⟨1, _⟩ => show win0_9.index t 1 * 1024 ≤ (i 1).val ∧ (i 1).val < win0_9.index t 1 * 1024 + 1024
              rw [idx9]; show 0 * 1024 ≤ _ ∧ _ < 0 * 1024 + 1024; omega

/-- RESULT 2'S ARRAY after the run is the reference's result of the three arguments. -/
theorem final2 : (dats m 0 c).arrAt 9 cfg0.N = res2 m c :=
  (dats m 0 c).arrAt_eq_of_cover 9 (res2 m c) (fun t _ => flushed9_eq m c t) fun i =>
    let ⟨t, ht⟩ := covered9 i
    ⟨t, flush0_9 t, ht⟩

/-- Result 3, as contents of its array. -/
abbrev res3 : Buf (Elt Ideal) ((c.tc : Thread nD τ).loc main_v23_3) := Cert.ProjRef.result3 (m ((c.tc : Thread nD τ).loc main_arg0)) (m ((c.tc : Thread nD τ).loc main_arg1)) (m ((c.tc : Thread nD τ).loc main_arg2))

/-- No block of result 3 is cut. -/
theorem cut10 (f : S512x1024.Idx → EReal) (j : S512x1024.Idx) : (cfg0.win 10).cut (grid0.coords t) f j = f j := rfl

/-- A point's block of result 3 sits in the array at its rows. -/
theorem read10 (G : S65536x1024.Idx → EReal) (r : Fin 512) (d : Fin 1024) :
    ((cfg0.win 10).blk t).view.read (Elt Ideal) G (ix2 r d : S512x1024.Idx) = G (ix2 (row t r) d) := by
  rw [View.read_apply]
  show G _ = G _
  congr 1
  funext a
  apply Fin.ext
  match a with
  | ⟨0, _⟩ => show win0_10.index t 0 * 512 + 1 * r.val = (grid0.coords t 0).val * 512 + r.val; rw [idx10]; show (grid0.coords t 0).val * 512 + 1 * r.val = _; omega
  | ⟨1, _⟩ => show win0_10.index t 1 * 1024 + 1 * d.val = d.val; rw [idx10]; show 0 * 1024 + 1 * d.val = _; omega

/-- An element of a point's block of result 3 is the result's. -/
theorem block10 (r : Fin 512) (d : Fin 1024) : out0_10 (iblk m c 0 t) (iblk m c 1 t) (iblk m c 2 t) (iblk m c 3 t) (iblk m c 4 t) (iblk m c 5 t) (iblk m c 6 t) (ix2 r d)
    = (res3 m c : FVec Ideal S65536x1024 .bf16) (ix2 (row t r) d) := by
  refine (body10 (iblk m c 0 t) (iblk m c 1 t) (iblk m c 2 t) (iblk m c 3 t) (iblk m c 4 t) (iblk m c 5 t) (iblk m c 6 t) r d).trans ?_
  refine Eq.trans ?_ (Cert.ProjRef.result3_apply _ _ _ (row t r) d).symm
  simp only [x_block m c t, w_block m c t, b_block m c t]
  rw [col_eq ⟨3072 + d.val, by omega⟩ ⟨3080 + d.val, by omega⟩ (by rw [if_neg (show ¬ 3072 + d.val < 3072 by omega)]; show 3072 + d.val + 8 = 3080 + d.val; omega)]

/-- What a point writes back of result 3 is its block of the result. -/
theorem flushed10_eq : (dats m 0 c).flushed 10 t = ((cfg0.win 10).blk t).view.read (Elt Ideal) (res3 m c) := by
  rw [Cert.ProjKernelIdeal.Value.flushed10]
  funext j
  obtain ⟨r, d, hj⟩ : ∃ (r : Fin 512) (d : Fin 1024), j = ix2 r d := ⟨_, _, ValueIdx.eq_ix2 j⟩
  subst hj
  refine (cut10 t _ _).trans (Eq.trans ?_ (read10 t (res3 m c) r d).symm)
  exact block10 m c t r d

/-- Every element of result 3's array is in some point's block. -/
theorem covered10 (i : S65536x1024.Idx) : ∃ t : Fin cfg0.N, i ∈ ((cfg0.win 10).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v23_3).slice (win0_10.rect t)).set
  rw [View.set_slice_whole, Rect.mem_set_unit]
  intro a
  match a with
  | ⟨0, _⟩ => show win0_10.index t 0 * 512 ≤ (i 0).val ∧ (i 0).val < win0_10.index t 0 * 512 + 512
              rw [idx10]; show (grid0.coords t 0).val * 512 ≤ _ ∧ _ < (grid0.coords t 0).val * 512 + 512; omega
  | ⟨1, _⟩ => show win0_10.index t 1 * 1024 ≤ (i 1).val ∧ (i 1).val < win0_10.index t 1 * 1024 + 1024
              rw [idx10]; show 0 * 1024 ≤ _ ∧ _ < 0 * 1024 + 1024; omega

/-- RESULT 3'S ARRAY after the run is the reference's result of the three arguments. -/
theorem final3 : (dats m 0 c).arrAt 10 cfg0.N = res3 m c :=
  (dats m 0 c).arrAt_eq_of_cover 10 (res3 m c) (fun t _ => flushed10_eq m c t) fun i =>
    let ⟨t, ht⟩ := covered10 i
    ⟨t, flush0_10 t, ht⟩

/-- Result 4, as contents of its array. -/
abbrev res4 : Buf (Elt Ideal) ((c.tc : Thread nD τ).loc main_v23_4) := Cert.ProjRef.result4 (m ((c.tc : Thread nD τ).loc main_arg0)) (m ((c.tc : Thread nD τ).loc main_arg1)) (m ((c.tc : Thread nD τ).loc main_arg2))

/-- No block of result 4 is cut. -/
theorem cut11 (f : S512x1024.Idx → EReal) (j : S512x1024.Idx) : (cfg0.win 11).cut (grid0.coords t) f j = f j := rfl

/-- A point's block of result 4 sits in the array at its rows. -/
theorem read11 (G : S65536x1024.Idx → EReal) (r : Fin 512) (d : Fin 1024) :
    ((cfg0.win 11).blk t).view.read (Elt Ideal) G (ix2 r d : S512x1024.Idx) = G (ix2 (row t r) d) := by
  rw [View.read_apply]
  show G _ = G _
  congr 1
  funext a
  apply Fin.ext
  match a with
  | ⟨0, _⟩ => show win0_11.index t 0 * 512 + 1 * r.val = (grid0.coords t 0).val * 512 + r.val; rw [idx11]; show (grid0.coords t 0).val * 512 + 1 * r.val = _; omega
  | ⟨1, _⟩ => show win0_11.index t 1 * 1024 + 1 * d.val = d.val; rw [idx11]; show 0 * 1024 + 1 * d.val = _; omega

/-- An element of a point's block of result 4 is the result's. -/
theorem block11 (r : Fin 512) (d : Fin 1024) : out0_11 (iblk m c 0 t) (iblk m c 1 t) (iblk m c 2 t) (iblk m c 3 t) (iblk m c 4 t) (iblk m c 5 t) (iblk m c 6 t) (ix2 r d)
    = (res4 m c : FVec Ideal S65536x1024 .bf16) (ix2 (row t r) d) := by
  refine (body11 (iblk m c 0 t) (iblk m c 1 t) (iblk m c 2 t) (iblk m c 3 t) (iblk m c 4 t) (iblk m c 5 t) (iblk m c 6 t) r d).trans ?_
  refine Eq.trans ?_ (Cert.ProjRef.result4_apply _ _ _ (row t r) d).symm
  simp only [x_block m c t, w_block m c t, b_block m c t]
  rw [col_eq ⟨4096 + d.val, by omega⟩ ⟨4104 + d.val, by omega⟩ (by rw [if_neg (show ¬ 4096 + d.val < 3072 by omega)]; show 4096 + d.val + 8 = 4104 + d.val; omega)]

/-- What a point writes back of result 4 is its block of the result. -/
theorem flushed11_eq : (dats m 0 c).flushed 11 t = ((cfg0.win 11).blk t).view.read (Elt Ideal) (res4 m c) := by
  rw [Cert.ProjKernelIdeal.Value.flushed11]
  funext j
  obtain ⟨r, d, hj⟩ : ∃ (r : Fin 512) (d : Fin 1024), j = ix2 r d := ⟨_, _, ValueIdx.eq_ix2 j⟩
  subst hj
  refine (cut11 t _ _).trans (Eq.trans ?_ (read11 t (res4 m c) r d).symm)
  exact block11 m c t r d

/-- Every element of result 4's array is in some point's block. -/
theorem covered11 (i : S65536x1024.Idx) : ∃ t : Fin cfg0.N, i ∈ ((cfg0.win 11).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v23_4).slice (win0_11.rect t)).set
  rw [View.set_slice_whole, Rect.mem_set_unit]
  intro a
  match a with
  | ⟨0, _⟩ => show win0_11.index t 0 * 512 ≤ (i 0).val ∧ (i 0).val < win0_11.index t 0 * 512 + 512
              rw [idx11]; show (grid0.coords t 0).val * 512 ≤ _ ∧ _ < (grid0.coords t 0).val * 512 + 512; omega
  | ⟨1, _⟩ => show win0_11.index t 1 * 1024 ≤ (i 1).val ∧ (i 1).val < win0_11.index t 1 * 1024 + 1024
              rw [idx11]; show 0 * 1024 ≤ _ ∧ _ < 0 * 1024 + 1024; omega

/-- RESULT 4'S ARRAY after the run is the reference's result of the three arguments. -/
theorem final4 : (dats m 0 c).arrAt 11 cfg0.N = res4 m c :=
  (dats m 0 c).arrAt_eq_of_cover 11 (res4 m c) (fun t _ => flushed11_eq m c t) fun i =>
    let ⟨t, ht⟩ := covered11 i
    ⟨t, flush0_11 t, ht⟩

/-- Result 5, as contents of its array. -/
abbrev res5 : Buf (Elt Ideal) ((c.tc : Thread nD τ).loc main_v23_5) := Cert.ProjRef.result5 (m ((c.tc : Thread nD τ).loc main_arg0)) (m ((c.tc : Thread nD τ).loc main_arg1)) (m ((c.tc : Thread nD τ).loc main_arg2))

/-- No block of result 5 is cut. -/
theorem cut12 (f : S512x1024.Idx → EReal) (j : S512x1024.Idx) : (cfg0.win 12).cut (grid0.coords t) f j = f j := rfl

/-- A point's block of result 5 sits in the array at its rows. -/
theorem read12 (G : S65536x1024.Idx → EReal) (r : Fin 512) (d : Fin 1024) :
    ((cfg0.win 12).blk t).view.read (Elt Ideal) G (ix2 r d : S512x1024.Idx) = G (ix2 (row t r) d) := by
  rw [View.read_apply]
  show G _ = G _
  congr 1
  funext a
  apply Fin.ext
  match a with
  | ⟨0, _⟩ => show win0_12.index t 0 * 512 + 1 * r.val = (grid0.coords t 0).val * 512 + r.val; rw [idx12]; show (grid0.coords t 0).val * 512 + 1 * r.val = _; omega
  | ⟨1, _⟩ => show win0_12.index t 1 * 1024 + 1 * d.val = d.val; rw [idx12]; show 0 * 1024 + 1 * d.val = _; omega

/-- An element of a point's block of result 5 is the result's. -/
theorem block12 (r : Fin 512) (d : Fin 1024) : out0_12 (iblk m c 0 t) (iblk m c 1 t) (iblk m c 2 t) (iblk m c 3 t) (iblk m c 4 t) (iblk m c 5 t) (iblk m c 6 t) (ix2 r d)
    = (res5 m c : FVec Ideal S65536x1024 .bf16) (ix2 (row t r) d) := by
  refine (body12 (iblk m c 0 t) (iblk m c 1 t) (iblk m c 2 t) (iblk m c 3 t) (iblk m c 4 t) (iblk m c 5 t) (iblk m c 6 t) r d).trans ?_
  refine Eq.trans ?_ (Cert.ProjRef.result5_apply _ _ _ (row t r) d).symm
  simp only [x_block m c t, w_block m c t, b_block m c t]
  rw [col_eq ⟨5120 + d.val, by omega⟩ ⟨5128 + d.val, by omega⟩ (by rw [if_neg (show ¬ 5120 + d.val < 3072 by omega)]; show 5120 + d.val + 8 = 5128 + d.val; omega)]

/-- What a point writes back of result 5 is its block of the result. -/
theorem flushed12_eq : (dats m 0 c).flushed 12 t = ((cfg0.win 12).blk t).view.read (Elt Ideal) (res5 m c) := by
  rw [Cert.ProjKernelIdeal.Value.flushed12]
  funext j
  obtain ⟨r, d, hj⟩ : ∃ (r : Fin 512) (d : Fin 1024), j = ix2 r d := ⟨_, _, ValueIdx.eq_ix2 j⟩
  subst hj
  refine (cut12 t _ _).trans (Eq.trans ?_ (read12 t (res5 m c) r d).symm)
  exact block12 m c t r d

/-- Every element of result 5's array is in some point's block. -/
theorem covered12 (i : S65536x1024.Idx) : ∃ t : Fin cfg0.N, i ∈ ((cfg0.win 12).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v23_5).slice (win0_12.rect t)).set
  rw [View.set_slice_whole, Rect.mem_set_unit]
  intro a
  match a with
  | ⟨0, _⟩ => show win0_12.index t 0 * 512 ≤ (i 0).val ∧ (i 0).val < win0_12.index t 0 * 512 + 512
              rw [idx12]; show (grid0.coords t 0).val * 512 ≤ _ ∧ _ < (grid0.coords t 0).val * 512 + 512; omega
  | ⟨1, _⟩ => show win0_12.index t 1 * 1024 ≤ (i 1).val ∧ (i 1).val < win0_12.index t 1 * 1024 + 1024
              rw [idx12]; show 0 * 1024 ≤ _ ∧ _ < 0 * 1024 + 1024; omega

/-- RESULT 5'S ARRAY after the run is the reference's result of the three arguments. -/
theorem final5 : (dats m 0 c).arrAt 12 cfg0.N = res5 m c :=
  (dats m 0 c).arrAt_eq_of_cover 12 (res5 m c) (fun t _ => flushed12_eq m c t) fun i =>
    let ⟨t, ht⟩ := covered12 i
    ⟨t, flush0_12 t, ht⟩

/-- Result 6, as contents of its array. -/
abbrev res6 : Buf (Elt Ideal) ((c.tc : Thread nD τ).loc main_v23_6) := Cert.ProjRef.result6 (m ((c.tc : Thread nD τ).loc main_arg0)) (m ((c.tc : Thread nD τ).loc main_arg1)) (m ((c.tc : Thread nD τ).loc main_arg2))

/-- No block of result 6 is cut. -/
theorem cut13 (f : S512x1024.Idx → EReal) (j : S512x1024.Idx) : (cfg0.win 13).cut (grid0.coords t) f j = f j := rfl

/-- A point's block of result 6 sits in the array at its rows. -/
theorem read13 (G : S65536x1024.Idx → EReal) (r : Fin 512) (d : Fin 1024) :
    ((cfg0.win 13).blk t).view.read (Elt Ideal) G (ix2 r d : S512x1024.Idx) = G (ix2 (row t r) d) := by
  rw [View.read_apply]
  show G _ = G _
  congr 1
  funext a
  apply Fin.ext
  match a with
  | ⟨0, _⟩ => show win0_13.index t 0 * 512 + 1 * r.val = (grid0.coords t 0).val * 512 + r.val; rw [idx13]; show (grid0.coords t 0).val * 512 + 1 * r.val = _; omega
  | ⟨1, _⟩ => show win0_13.index t 1 * 1024 + 1 * d.val = d.val; rw [idx13]; show 0 * 1024 + 1 * d.val = _; omega

/-- An element of a point's block of result 6 is the result's. -/
theorem block13 (r : Fin 512) (d : Fin 1024) : out0_13 (iblk m c 0 t) (iblk m c 1 t) (iblk m c 2 t) (iblk m c 3 t) (iblk m c 4 t) (iblk m c 5 t) (iblk m c 6 t) (ix2 r d)
    = (res6 m c : FVec Ideal S65536x1024 .f32) (ix2 (row t r) d) := by
  refine (body13 (iblk m c 0 t) (iblk m c 1 t) (iblk m c 2 t) (iblk m c 3 t) (iblk m c 4 t) (iblk m c 5 t) (iblk m c 6 t) r d).trans ?_
  refine Eq.trans ?_ (Cert.ProjRef.result6_apply _ _ _ (row t r) d).symm
  simp only [x_block m c t, w_block m c t, b_block m c t]
  rw [col_eq ⟨6144 + d.val, by omega⟩ ⟨6152 + d.val, by omega⟩ (by rw [if_neg (show ¬ 6144 + d.val < 3072 by omega)]; show 6144 + d.val + 8 = 6152 + d.val; omega)]

/-- What a point writes back of result 6 is its block of the result. -/
theorem flushed13_eq : (dats m 0 c).flushed 13 t = ((cfg0.win 13).blk t).view.read (Elt Ideal) (res6 m c) := by
  rw [Cert.ProjKernelIdeal.Value.flushed13]
  funext j
  obtain ⟨r, d, hj⟩ : ∃ (r : Fin 512) (d : Fin 1024), j = ix2 r d := ⟨_, _, ValueIdx.eq_ix2 j⟩
  subst hj
  refine (cut13 t _ _).trans (Eq.trans ?_ (read13 t (res6 m c) r d).symm)
  exact block13 m c t r d

/-- Every element of result 6's array is in some point's block. -/
theorem covered13 (i : S65536x1024.Idx) : ∃ t : Fin cfg0.N, i ∈ ((cfg0.win 13).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v23_6).slice (win0_13.rect t)).set
  rw [View.set_slice_whole, Rect.mem_set_unit]
  intro a
  match a with
  | ⟨0, _⟩ => show win0_13.index t 0 * 512 ≤ (i 0).val ∧ (i 0).val < win0_13.index t 0 * 512 + 512
              rw [idx13]; show (grid0.coords t 0).val * 512 ≤ _ ∧ _ < (grid0.coords t 0).val * 512 + 512; omega
  | ⟨1, _⟩ => show win0_13.index t 1 * 1024 ≤ (i 1).val ∧ (i 1).val < win0_13.index t 1 * 1024 + 1024
              rw [idx13]; show 0 * 1024 ≤ _ ∧ _ < 0 * 1024 + 1024; omega

/-- RESULT 6'S ARRAY after the run is the reference's result of the three arguments. -/
theorem final6 : (dats m 0 c).arrAt 13 cfg0.N = res6 m c :=
  (dats m 0 c).arrAt_eq_of_cover 13 (res6 m c) (fun t _ => flushed13_eq m c t) fun i =>
    let ⟨t, ht⟩ := covered13 i
    ⟨t, flush0_13 t, ht⟩

/-- Result 7, as contents of its array. -/
abbrev res7 : Buf (Elt Ideal) ((c.tc : Thread nD τ).loc main_v23_7) := Cert.ProjRef.result7 (m ((c.tc : Thread nD τ).loc main_arg0)) (m ((c.tc : Thread nD τ).loc main_arg1)) (m ((c.tc : Thread nD τ).loc main_arg2))

/-- No block of result 7 is cut. -/
theorem cut14 (f : S512x1024.Idx → EReal) (j : S512x1024.Idx) : (cfg0.win 14).cut (grid0.coords t) f j = f j := rfl

/-- A point's block of result 7 sits in the array at its rows. -/
theorem read14 (G : S65536x1024.Idx → EReal) (r : Fin 512) (d : Fin 1024) :
    ((cfg0.win 14).blk t).view.read (Elt Ideal) G (ix2 r d : S512x1024.Idx) = G (ix2 (row t r) d) := by
  rw [View.read_apply]
  show G _ = G _
  congr 1
  funext a
  apply Fin.ext
  match a with
  | ⟨0, _⟩ => show win0_14.index t 0 * 512 + 1 * r.val = (grid0.coords t 0).val * 512 + r.val; rw [idx14]; show (grid0.coords t 0).val * 512 + 1 * r.val = _; omega
  | ⟨1, _⟩ => show win0_14.index t 1 * 1024 + 1 * d.val = d.val; rw [idx14]; show 0 * 1024 + 1 * d.val = _; omega

/-- An element of a point's block of result 7 is the result's. -/
theorem block14 (r : Fin 512) (d : Fin 1024) : out0_14 (iblk m c 0 t) (iblk m c 1 t) (iblk m c 2 t) (iblk m c 3 t) (iblk m c 4 t) (iblk m c 5 t) (iblk m c 6 t) (ix2 r d)
    = (res7 m c : FVec Ideal S65536x1024 .f32) (ix2 (row t r) d) := by
  refine (body14 (iblk m c 0 t) (iblk m c 1 t) (iblk m c 2 t) (iblk m c 3 t) (iblk m c 4 t) (iblk m c 5 t) (iblk m c 6 t) r d).trans ?_
  refine Eq.trans ?_ (Cert.ProjRef.result7_apply _ _ _ (row t r) d).symm
  simp only [x_block m c t, w_block m c t, b_block m c t]
  rw [col_eq ⟨7168 + d.val, by omega⟩ ⟨7176 + d.val, by omega⟩ (by rw [if_neg (show ¬ 7168 + d.val < 3072 by omega)]; show 7168 + d.val + 8 = 7176 + d.val; omega)]

/-- What a point writes back of result 7 is its block of the result. -/
theorem flushed14_eq : (dats m 0 c).flushed 14 t = ((cfg0.win 14).blk t).view.read (Elt Ideal) (res7 m c) := by
  rw [Cert.ProjKernelIdeal.Value.flushed14]
  funext j
  obtain ⟨r, d, hj⟩ : ∃ (r : Fin 512) (d : Fin 1024), j = ix2 r d := ⟨_, _, ValueIdx.eq_ix2 j⟩
  subst hj
  refine (cut14 t _ _).trans (Eq.trans ?_ (read14 t (res7 m c) r d).symm)
  exact block14 m c t r d

/-- Every element of result 7's array is in some point's block. -/
theorem covered14 (i : S65536x1024.Idx) : ∃ t : Fin cfg0.N, i ∈ ((cfg0.win 14).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v23_7).slice (win0_14.rect t)).set
  rw [View.set_slice_whole, Rect.mem_set_unit]
  intro a
  match a with
  | ⟨0, _⟩ => show win0_14.index t 0 * 512 ≤ (i 0).val ∧ (i 0).val < win0_14.index t 0 * 512 + 512
              rw [idx14]; show (grid0.coords t 0).val * 512 ≤ _ ∧ _ < (grid0.coords t 0).val * 512 + 512; omega
  | ⟨1, _⟩ => show win0_14.index t 1 * 1024 ≤ (i 1).val ∧ (i 1).val < win0_14.index t 1 * 1024 + 1024
              rw [idx14]; show 0 * 1024 ≤ _ ∧ _ < 0 * 1024 + 1024; omega

/-- RESULT 7'S ARRAY after the run is the reference's result of the three arguments. -/
theorem final7 : (dats m 0 c).arrAt 14 cfg0.N = res7 m c :=
  (dats m 0 c).arrAt_eq_of_cover 14 (res7 m c) (fun t _ => flushed14_eq m c t) fun i =>
    let ⟨t, ht⟩ := covered14 i
    ⟨t, flush0_14 t, ht⟩

/-- Result 8, as contents of its array. -/
abbrev res8 : Buf (Elt Ideal) ((c.tc : Thread nD τ).loc main_v23_8) := Cert.ProjRef.result8 (m ((c.tc : Thread nD τ).loc main_arg0)) (m ((c.tc : Thread nD τ).loc main_arg1)) (m ((c.tc : Thread nD τ).loc main_arg2))

/-- No block of result 8 is cut. -/
theorem cut15 (f : S512x128.Idx → EReal) (j : S512x128.Idx) : (cfg0.win 15).cut (grid0.coords t) f j = f j := rfl

/-- A point's block of result 8 sits in the array at its rows. -/
theorem read15 (G : S65536x128.Idx → EReal) (r : Fin 512) (d : Fin 128) :
    ((cfg0.win 15).blk t).view.read (Elt Ideal) G (ix2 r d : S512x128.Idx) = G (ix2 (row t r) d) := by
  rw [View.read_apply]
  show G _ = G _
  congr 1
  funext a
  apply Fin.ext
  match a with
  | ⟨0, _⟩ => show win0_15.index t 0 * 512 + 1 * r.val = (grid0.coords t 0).val * 512 + r.val; rw [idx15]; show (grid0.coords t 0).val * 512 + 1 * r.val = _; omega
  | ⟨1, _⟩ => show win0_15.index t 1 * 128 + 1 * d.val = d.val; rw [idx15]; show 0 * 128 + 1 * d.val = _; omega

/-- An element of a point's block of result 8 is the result's. -/
theorem block15 (r : Fin 512) (d : Fin 128) : out0_15 (iblk m c 0 t) (iblk m c 1 t) (iblk m c 2 t) (iblk m c 3 t) (iblk m c 4 t) (iblk m c 5 t) (iblk m c 6 t) (ix2 r d)
    = (res8 m c : FVec Ideal S65536x128 .f32) (ix2 (row t r) d) := by
  refine (body15 (iblk m c 0 t) (iblk m c 1 t) (iblk m c 2 t) (iblk m c 3 t) (iblk m c 4 t) (iblk m c 5 t) (iblk m c 6 t) r d).trans ?_
  refine Eq.trans ?_ (Cert.ProjRef.result8_apply _ _ _ (row t r) d).symm
  simp only [x_block m c t, wp_block m c t, bp_block m c t]
  by_cases h : d.val < 8
  · simp only [dif_pos h]
    exact (Cert.ProjRef.gates_apply _ _ _ (row t r) ⟨d.val, h⟩).symm
  · simp only [dif_neg h]
    unfold lin
    simp only [mul_zero, Finset.sum_const_zero, add_zero]

/-- What a point writes back of result 8 is its block of the result. -/
theorem flushed15_eq : (dats m 0 c).flushed 15 t = ((cfg0.win 15).blk t).view.read (Elt Ideal) (res8 m c) := by
  rw [Cert.ProjKernelIdeal.Value.flushed15]
  funext j
  obtain ⟨r, d, hj⟩ : ∃ (r : Fin 512) (d : Fin 128), j = ix2 r d := ⟨_, _, ValueIdx.eq_ix2 j⟩
  subst hj
  refine (cut15 t _ _).trans (Eq.trans ?_ (read15 t (res8 m c) r d).symm)
  exact block15 m c t r d

/-- Every element of result 8's array is in some point's block. -/
theorem covered15 (i : S65536x128.Idx) : ∃ t : Fin cfg0.N, i ∈ ((cfg0.win 15).blk t).view.set := by
  have h0 : (i 0).val < 65536 := (i 0).isLt
  have h1 : (i 1).val < 128 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v23_8).slice (win0_15.rect t)).set
  rw [View.set_slice_whole, Rect.mem_set_unit]
  intro a
  match a with
  | ⟨0, _⟩ => show win0_15.index t 0 * 512 ≤ (i 0).val ∧ (i 0).val < win0_15.index t 0 * 512 + 512
              rw [idx15]; show (grid0.coords t 0).val * 512 ≤ _ ∧ _ < (grid0.coords t 0).val * 512 + 512; omega
  | ⟨1, _⟩ => show win0_15.index t 1 * 128 ≤ (i 1).val ∧ (i 1).val < win0_15.index t 1 * 128 + 128
              rw [idx15]; show 0 * 128 ≤ _ ∧ _ < 0 * 128 + 128; omega

/-- RESULT 8'S ARRAY after the run is the reference's result of the three arguments. -/
theorem final8 : (dats m 0 c).arrAt 15 cfg0.N = res8 m c :=
  (dats m 0 c).arrAt_eq_of_cover 15 (res8 m c) (fun t _ => flushed15_eq m c t) fun i =>
    let ⟨t, ht⟩ := covered15 i
    ⟨t, flush0_15 t, ht⟩

/-- Result 9, as contents of its array. -/
abbrev res9 : Buf (Elt Ideal) ((c.tc : Thread nD τ).loc main_v23_9) := Cert.ProjRef.result9 (m ((c.tc : Thread nD τ).loc main_arg0)) (m ((c.tc : Thread nD τ).loc main_arg1)) (m ((c.tc : Thread nD τ).loc main_arg2))

/-- No block of result 9 is cut. -/
theorem cut16 (f : S8x512.Idx → EReal) (j : S8x512.Idx) : (cfg0.win 16).cut (grid0.coords t) f j = f j := rfl

/-- A point's block of result 9 sits in the array at its columns. -/
theorem read16 (G : S8x65536.Idx → EReal) (k : Fin 8) (r : Fin 512) :
    ((cfg0.win 16).blk t).view.read (Elt Ideal) G (ix2 k r : S8x512.Idx) = G (ix2 k (row t r)) := by
  rw [View.read_apply]
  show G _ = G _
  congr 1
  funext a
  apply Fin.ext
  match a with
  | ⟨0, _⟩ => show win0_16.index t 0 * 8 + 1 * k.val = k.val; rw [idx16]; show 0 * 8 + 1 * k.val = _; omega
  | ⟨1, _⟩ => show win0_16.index t 1 * 512 + 1 * r.val = (grid0.coords t 0).val * 512 + r.val; rw [idx16]; show (grid0.coords t 0).val * 512 + 1 * r.val = _; omega

/-- An element of a point's block of result 9 is the result's. -/
theorem block16 (k : Fin 8) (r : Fin 512) : out0_16 (iblk m c 0 t) (iblk m c 1 t) (iblk m c 2 t) (iblk m c 3 t) (iblk m c 4 t) (iblk m c 5 t) (iblk m c 6 t) (ix2 k r)
    = (res9 m c : FVec Ideal S8x65536 .f32) (ix2 k (row t r)) := by
  refine (body16 (iblk m c 0 t) (iblk m c 1 t) (iblk m c 2 t) (iblk m c 3 t) (iblk m c 4 t) (iblk m c 5 t) (iblk m c 6 t) k r).trans ?_
  refine Eq.trans ?_ (Cert.ProjRef.result9_apply _ _ _ k (row t r)).symm
  refine Eq.trans ?_ (Cert.ProjRef.gates_apply _ _ _ (row t r) k).symm
  simp only [x_block m c t, wr_block m c t, br_block m c t]
  unfold lin
  congr 1
  exact Finset.sum_congr rfl fun d _ => mul_comm _ _

/-- What a point writes back of result 9 is its block of the result. -/
theorem flushed16_eq : (dats m 0 c).flushed 16 t = ((cfg0.win 16).blk t).view.read (Elt Ideal) (res9 m c) := by
  rw [Cert.ProjKernelIdeal.Value.flushed16]
  funext j
  obtain ⟨k, r, hj⟩ : ∃ (k : Fin 8) (r : Fin 512), j = ix2 k r := ⟨_, _, ValueIdx.eq_ix2 j⟩
  subst hj
  refine (cut16 t _ _).trans (Eq.trans ?_ (read16 t (res9 m c) k r).symm)
  exact block16 m c t k r

/-- Every element of result 9's array is in some point's block. -/
theorem covered16 (i : S8x65536.Idx) : ∃ t : Fin cfg0.N, i ∈ ((cfg0.win 16).blk t).view.set := by
  have h0 : (i 0).val < 8 := (i 0).isLt
  have h1 : (i 1).val < 65536 := (i 1).isLt
  obtain ⟨t, ht⟩ := Pipeline.Grid.coords_surjective grid0 (fun a => match a with
    | ⟨0, _⟩ => (⟨(i 1).val / 512, by omega⟩ : Fin 128))
  have e0 : (grid0.coords t 0).val = (i 1).val / 512 := by rw [ht]
  refine ⟨t, ?_⟩
  show i ∈ ((View.whole main_v23_9).slice (win0_16.rect t)).set
  rw [View.set_slice_whole, Rect.mem_set_unit]
  intro a
  match a with
  | ⟨0, _⟩ => show win0_16.index t 0 * 8 ≤ (i 0).val ∧ (i 0).val < win0_16.index t 0 * 8 + 8
              rw [idx16]; show 0 * 8 ≤ _ ∧ _ < 0 * 8 + 8; omega
  | ⟨1, _⟩ => show win0_16.index t 1 * 512 ≤ (i 1).val ∧ (i 1).val < win0_16.index t 1 * 512 + 512
              rw [idx16]; show (grid0.coords t 0).val * 512 ≤ _ ∧ _ < (grid0.coords t 0).val * 512 + 512; omega

/-- RESULT 9'S ARRAY after the run is the reference's result of the three arguments. -/
theorem final9 : (dats m 0 c).arrAt 16 cfg0.N = res9 m c :=
  (dats m 0 c).arrAt_eq_of_cover 16 (res9 m c) (fun t _ => flushed16_eq m c t) fun i =>
    let ⟨t, ht⟩ := covered16 i
    ⟨t, flush0_16 t, ht⟩

end Cert.Proj

end
-- ==== Proof.MergeBody.lean ====
/-
  One block of 512 rows of the merge call, as the kernel computes it: the two gated branches, mixed, then the layer norm of
  the scaled rows and the mixture.
-/
module

public import proofs.«01_k».proof.Proof.RowMath
public import proofs.«01_k».proof.Proof.Gen.MergeKernelIdeal.Frame
public import Idealize.ShloMosaic.Lib.Pipeline.Value
public import Idealize.ShloMosaic.Lib.Pointwise

@[expose] public section

noncomputable section

open scoped BigOperators
open Idealize.ShloMosaic Idealize.ShloMosaic.TcCoe Idealize.SL.Sem
open Cert.MergeKernelIdeal Cert.MergeKernelIdeal.Gen Cert.Row

namespace Cert.Merge

/-- A two-axis offset of zeros. -/
theorem hz2 : (![0, 0] : Fin 2 → ℕ) = fun _ => 0 := by funext a; match a with | ⟨0, _⟩ => rfl | ⟨1, _⟩ => rfl

/-- The mixed rows before the layer norm. -/
theorem pay2_apply (v0 : Vec Ideal S512x1024 .f32) (v2 : Vec Ideal S512x1024 .bf16) (v4 : Vec Ideal S1024x1024 .bf16) (v8 : Vec Ideal S512x1024 .f32)
    (v10 : Vec Ideal S512x1024 .bf16) (v12 v18 : Vec Ideal S1024x1024 .bf16) (v21 : Vec Ideal S512x1024 .f32) (r : Fin 512) (c : Fin 1024) :
    k0_pay2 v0 v2 v4 v8 v10 v12 v18 v21 (ix2 r c)
      = mix (fun j => v21 (ix2 r j)) (fun j => v2 (ix2 r j)) (fun j => v10 (ix2 r j)) (fun j => v0 (ix2 r j)) (fun j => v8 (ix2 r j))
          (fun e d => v4 (ix2 e d)) (fun e d => v12 (ix2 e d)) (fun e d => v18 (ix2 e d)) c := by
  pointwise [k0_pay2, mix]

/-- The means of the mixed rows. -/
theorem pay5_apply (v0 : Vec Ideal S512x1024 .f32) (v2 : Vec Ideal S512x1024 .bf16) (v4 : Vec Ideal S1024x1024 .bf16) (v8 : Vec Ideal S512x1024 .f32)
    (v10 : Vec Ideal S512x1024 .bf16) (v12 v18 : Vec Ideal S1024x1024 .bf16) (v21 : Vec Ideal S512x1024 .f32) (r : Fin 512) :
    k0_pay5 v0 v2 v4 v8 v10 v12 v18 v21 (ix2 r 0) = mean (fun j => k0_pay2 v0 v2 v4 v8 v10 v12 v18 v21 (ix2 r j)) := by
  pointwise [k0_pay5, mean]

/-- The layer norm of rows whose means are `μ`. -/
theorem pay1_apply (y : FVec Ideal S512x1024 .f32) (g b : Vec Ideal S1x1024 .f32) (μ : FVec Ideal S512x1 .f32) (r : Fin 512) (c : Fin 1024)
    (h : μ (ix2 r 0) = mean (fun j => y (ix2 r j))) :
    k0_pay1 y (k0_pay3 g) (k0_pay4 b) μ (ix2 r c) = ln (fun j => y (ix2 r j)) (g (ix2 0 c)) (b (ix2 0 c)) c := by
  pointwise [k0_pay1, k0_pay3, k0_pay4, ln, var, h]
  rfl

/-- THE BODY: element `(r, c)` of a block is the layer norm of the scaled rows and the mixed branches. -/
theorem body (x0 : Vec Ideal S512x1024 .f32) (x1 x2 : Vec Ideal S512x1024 .bf16) (x3 x4 : Vec Ideal S512x1024 .f32)
    (x5 x6 x7 : Vec Ideal S1024x1024 .bf16) (x8 x9 : Vec Ideal S1x1024 .f32) (r : Fin 512) (c : Fin 1024) :
    out0_10 x0 x1 x2 x3 x4 x5 x6 x7 x8 x9 (ix2 r c)
      = ln (mix (fun j => x0 (ix2 r j)) (fun j => x1 (ix2 r j)) (fun j => x2 (ix2 r j)) (fun j => x3 (ix2 r j)) (fun j => x4 (ix2 r j))
          (fun e d => x5 (ix2 e d)) (fun e d => x6 (ix2 e d)) (fun e d => x7 (ix2 e d))) (x8 (ix2 0 c)) (x9 (ix2 0 c)) c := by
  unfold out0_10
  rw [View.canon_unit_zero (S := S512x1024) hz2]
  simp only [View.ld_unit_zero (S := S512x1024) hz2, View.ld_unit_zero (S := S1x1024) hz2, View.ld_unit_zero (S := S1024x1024) hz2]
  rw [pay1_apply _ _ _ _ _ _ (pay5_apply x3 x1 x5 x4 x2 x6 x7 x0 r)]
  congr 1
  funext j
  exact pay2_apply x3 x1 x5 x4 x2 x6 x7 x0 r j

end Cert.Merge

end
-- ==== Proof.MergeRef.lean ====
/-
  The reference of the merge call, printed, and what it is at one element: the layer norm of the scaled row and the mixture
  of its two gated branches.
-/
module

public import proofs.«01_k».proof.Proof.RowMath
public import proofs.«01_k».proof.Proof.Gen.MergeReferenceIdeal.Run
public import Idealize.ShloMosaic.Lib.Pointwise

@[expose] public section

set_option maxRecDepth 16384

noncomputable section

open scoped BigOperators
open Idealize.ShloMosaic Idealize.ShloMosaic.TcCoe Idealize.SL.Sem
open Cert.MergeReferenceIdeal Cert.MergeReferenceIdeal.Gen Cert.Row

namespace Cert.MergeRef

/-- The means of the rows, printed. -/
def means (y : FVec Ideal S65536x1024 .f32) : FVec Ideal S65536x1 .f32 :=
  Host.divf (broadcastInDim S65536x1 ![0] bcast_S65536_S65536x1_0 (Host.reduceAdd y (constant S_ .f32 0x00000000#32) reducesTo_S65536x1024_S65536_d1 h_S_))
    (broadcastInDim S65536x1 ![] bcast_S_S65536x1 (constant S_ .f32 0x44800000#32))

/-- The rows less their means, printed. -/
def centred (y : FVec Ideal S65536x1024 .f32) : FVec Ideal S65536x1024 .f32 :=
  subf y (broadcastInDim S65536x1024 ![0, 1] bcast_S65536x1_S65536x1024_0_1 (means y))

/-- One row of numbers for every row, printed. -/
def spread (a : FVec Ideal S1024 .f32) : FVec Ideal S65536x1024 .f32 :=
  broadcastInDim S65536x1024 ![0, 1] bcast_S1x1024_S65536x1024_0_1 (broadcastInDim S1x1024 ![1] bcast_S1024_S1x1024_1 a)

/-- The second row of the stacked gains or biases. -/
def second (a : FVec Ideal S1x4x1024 .f32) : FVec Ideal S1024 .f32 :=
  shapeCast _ (extractStridedSlice S1x1x1024 ![0, 1, 0] a slices_S1x4x1024_S1x1x1024_0_1_0) shapeCasts_S1x1x1024_S1024

/-- The layer norm, printed. -/
def norm (y : FVec Ideal S65536x1024 .f32) (g b : FVec Ideal S1024 .f32) : FVec Ideal S65536x1024 .f32 :=
  addf (mulf (mulf (centred y) (broadcastInDim S65536x1024 ![0, 1] bcast_S65536x1_S65536x1024_0_1
    (Host.rsqrt (addf (means (mulf (centred y) (centred y))) (broadcastInDim S65536x1 ![] bcast_S_S65536x1 (constant S_ .f32 0x3727C5AC#32))))))
    (spread g)) (spread b)

/-- The logistic function of every number, printed. -/
def gate (g : FVec Ideal S65536x1024 .f32) : FVec Ideal S65536x1024 .f32 :=
  Host.divf (broadcastInDim S65536x1024 ![] bcast_S_S65536x1024 (constant S_ .f32 0x3F800000#32))
    (addf (broadcastInDim S65536x1024 ![] bcast_S_S65536x1024 (constant S_ .f32 0x3F800000#32)) (Host.exp (Host.negf g)))

/-- The rows times a square weight, printed. -/
def proj (x : FVec Ideal S65536x1024 .f32) (w : FVec Ideal S1x1024x1024 .f32) : FVec Ideal S65536x1024 .f32 :=
  Host.dotGeneral (φ₁ := .f32) (φ₂ := .f32) dot_S65536x1024_S1024x1024_S65536x1024_1_0_0_1_n_n none x
    (shapeCast _ w shapeCasts_S1x1024x1024_S1024x1024 : FVec Ideal S1024x1024 .f32)

/-- A branch with its batches one after another, printed. -/
def branch (y : FVec Ideal S8x8192x1024 .bf16) : FVec Ideal S65536x1024 .f32 :=
  shapeCast _ (extf .f32 y bitsLt_bf16_f32 : FVec Ideal S8x8192x1024 .f32) shapeCasts_S8x8192x1024_S65536x1024

/-- The rows before the layer norm, printed, of the branches through their gates. -/
def pre (x z : FVec Ideal S65536x1024 .f32) : FVec Ideal S65536x1024 .f32 :=
  addf (mulf (broadcastInDim S65536x1024 ![] bcast_S_S65536x1024 (constant S_ .f32 0x3F9837F0#32)) x) z

/-- The two branches through their gates, printed. -/
def both (ga a gb b : FVec Ideal S65536x1024 .f32) : FVec Ideal S65536x1024 .f32 := addf (mulf (gate ga) a) (mulf (gate gb) b)

/-- The result, printed, of the ten arguments. -/
def result (x : FVec Ideal S65536x1024 .f32) (ya yb : FVec Ideal S8x8192x1024 .bf16) (ga gb : FVec Ideal S65536x1024 .f32)
    (wa wb wo : FVec Ideal S1x1024x1024 .f32) (g b : FVec Ideal S1x4x1024 .f32) : FVec Ideal S65536x1024 .f32 :=
  norm (pre x (proj (both ga (proj (branch ya) wa) gb (proj (branch yb) wb)) wo)) (second g) (second b)

set_option maxHeartbeats 2000000 in
/-- The reference program's result is that term. -/
theorem res_eq (m : (ℓ : Loc nD τ sig) → Buf (Elt Ideal) ℓ) (c : Dev nD) :
    Cert.MergeReferenceIdeal.Value.res_main_v55 m c = result (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := by
  unfold Cert.MergeReferenceIdeal.Value.res_main_v55 result norm spread second centred means pre both branch proj gate
  rfl

/-- `means` at one element. -/
theorem means_apply (y : FVec Ideal S65536x1024 .f32) (R : Fin 65536) :
    means y (ix2 R 0) = mean (fun j => y (ix2 R j)) := by
  pointwise [means, mean]

/-- `centred` at one element. -/
theorem centred_apply (y : FVec Ideal S65536x1024 .f32) (R : Fin 65536) (j : Fin 1024) :
    centred y (ix2 R j) = y (ix2 R j) - mean (fun j => y (ix2 R j)) := by
  pointwise [centred, means_apply]

/-- `spread` at one element. -/
theorem spread_apply (a : FVec Ideal S1024 .f32) (R : Fin 65536) (j : Fin 1024) : spread a (ix2 R j) = a (ix1 j) := by
  pointwise [spread]

/-- `second` at one element. -/
theorem second_apply (a : FVec Ideal S1x4x1024 .f32) (j : Fin 1024) : second a (ix1 j) = a (ix3 0 1 j) := by
  pointwise [second]

/-- `norm` at one element. -/
theorem norm_apply (y : FVec Ideal S65536x1024 .f32) (g b : FVec Ideal S1024 .f32) (R : Fin 65536) (j : Fin 1024) :
    norm y g b (ix2 R j) = ln (fun j => y (ix2 R j)) (g (ix1 j)) (b (ix1 j)) j := by
  pointwise [norm, means_apply, centred_apply, spread_apply, ln, var]

/-- The batch of a flat row. -/
abbrev bi (R : Fin 65536) : Fin 8 := ⟨R.val / 8192, by omega⟩
/-- The position of a flat row in its batch. -/
abbrev ti (R : Fin 65536) : Fin 8192 := ⟨R.val % 8192, Nat.mod_lt _ (by norm_num)⟩

/-- `gate` at one element. -/
theorem gate_apply (g : FVec Ideal S65536x1024 .f32) (R : Fin 65536) (j : Fin 1024) : gate g (ix2 R j) = Ideal.logistic (g (ix2 R j)) := by
  pointwise [gate]
  rfl

/-- `proj` at one element. -/
theorem proj_apply (x : FVec Ideal S65536x1024 .f32) (w : FVec Ideal S1x1024x1024 .f32) (R : Fin 65536) (j : Fin 1024) :
    proj x w (ix2 R j) = ∑ d : Fin 1024, x (ix2 R d) * w (ix3 0 d j) := by
  pointwise [proj]

/-- `branch` at one element. -/
theorem branch_apply (y : FVec Ideal S8x8192x1024 .bf16) (R : Fin 65536) (j : Fin 1024) :
    branch y (ix2 R j) = y (ix3 (bi R) (ti R) j) := by
  pointwise [branch]

/-- `pre` at one element. -/
theorem pre_apply (x z : FVec Ideal S65536x1024 .f32) (R : Fin 65536) (j : Fin 1024) :
    pre x z (ix2 R j) = Ideal.ofBits .f32 0x3F9837F0#32 * x (ix2 R j) + z (ix2 R j) := by
  pointwise [pre]

/-- `both` at one element. -/
theorem both_apply (ga a gb b : FVec Ideal S65536x1024 .f32) (R : Fin 65536) (j : Fin 1024) :
    both ga a gb b (ix2 R j) = Ideal.logistic (ga (ix2 R j)) * a (ix2 R j) + Ideal.logistic (gb (ix2 R j)) * b (ix2 R j) := by
  pointwise [both, gate_apply]

/-- THE REFERENCE at one element: the layer norm of the scaled row and the mixture of its gated branches. -/
theorem result_apply (x : FVec Ideal S65536x1024 .f32) (ya yb : FVec Ideal S8x8192x1024 .bf16) (ga gb : FVec Ideal S65536x1024 .f32)
    (wa wb wo : FVec Ideal S1x1024x1024 .f32) (g b : FVec Ideal S1x4x1024 .f32) (R : Fin 65536) (c : Fin 1024) :
    result x ya yb ga gb wa wb wo g b (ix2 R c)
      = ln (mix (fun j => x (ix2 R j)) (fun j => ya (ix3 (bi R) (ti R) j)) (fun j => yb (ix3 (bi R) (ti R) j)) (fun j => ga (ix2 R j)) (fun j => gb (ix2 R j))
          (fun e d => wa (ix3 0 e d)) (fun e d => wb (ix3 0 e d)) (fun e d => wo (ix3 0 e d))) (g (ix3 0 1 c)) (b (ix3 0 1 c)) c := by
  unfold result
  rw [norm_apply, second_apply, second_apply]
  congr 1
  funext j
  rw [pre_apply, proj_apply]
  simp only [both_apply, proj_apply, branch_apply]
  rfl

end Cert.MergeRef

end
-- ==== Proof.MergeValue.lean ====
/-
  The merge call's result array: the blocks the grid's points read are rows of the arguments and the whole weights, the
  blocks they write cover the result, and the whole is the reference's result.
-/
module

public import proofs.«01_k».proof.Proof.MergeBody
public import proofs.«01_k».proof.Proof.MergeRef
public import proofs.«01_k».proof.Proof.Gen.MergeKernelIdeal.Value
public import Idealize.ShloMosaic.Lib.Pipeline.Value
public import Idealize.ShloMosaic.Lib.Pipeline.Covers
public import Idealize.ShloMosaic.Lib.StableHlo.Run

@[expose] public section

set_option maxRecDepth 16384

noncomputable section

open scoped BigOperators
open Idealize.ShloMosaic Idealize.ShloMosaic.TcCoe Idealize.SL.Sem
open Idealize.ShloMosaic.Pipeline (Dat)
open Cert.MergeKernelIdeal Cert.MergeKernelIdeal.Gen Cert.Row

namespace Cert.Merge

variable (m : (ℓ : Loc nD τ sig) → Buf (Elt Ideal) ℓ) (c : Dev nD) (t : Fin cfg0.N)

/-- The grid has 128 points. -/
theorem n_lt : (grid0.coords t 0).val < 128 := (grid0.coords t 0).isLt

/-- The 32-bit word of a grid coordinate is the coordinate. -/
theorem word (x : ℕ) (h : x < 128) : (BitVec.ofNat 32 x).toNat = x := by
  rw [BitVec.toNat_ofNat]; exact Nat.mod_eq_of_lt (by omega)

/-- The block of the rows a point reads. -/
theorem idx0 : win0_0.index t = ![(grid0.coords t 0).val, 0] := by
  show cc0_transform_0 (grid0.coords t) = _
  unfold cc0_transform_0
  dsimp only
  rw [word (grid0.coords t 0).val (n_lt t)]
  rfl

/-- The block of the first branch's rows a point reads. -/
theorem idx1 : win0_1.index t = ![(grid0.coords t 0).val, 0] := by
  show cc0_transform_1 (grid0.coords t) = _
  unfold cc0_transform_1
  dsimp only
  rw [word (grid0.coords t 0).val (n_lt t)]
  rfl

/-- The block of the second branch's rows a point reads. -/
theorem idx2 : win0_2.index t = ![(grid0.coords t 0).val, 0] := by
  show cc0_transform_2 (grid0.coords t) = _
  unfold cc0_transform_2
  dsimp only
  rw [word (grid0.coords t 0).val (n_lt t)]
  rfl

/-- The block of the first gate's rows a point reads. -/
theorem idx3 : win0_3.index t = ![(grid0.coords t 0).val, 0] := by
  show cc0_transform_3 (grid0.coords t) = _
  unfold cc0_transform_3
  dsimp only
  rw [word (grid0.coords t 0).val (n_lt t)]
  rfl

/-- The block of the second gate's rows a point reads. -/
theorem idx4 : win0_4.index t = ![(grid0.coords t 0).val, 0] := by
  show cc0_transform_4 (grid0.coords t) = _
  unfold cc0_transform_4
  dsimp only
  rw [word (grid0.coords t 0).val (n_lt t)]
  rfl

/-- The block of rows a point writes. -/
theorem idx10 : win0_10.index t = ![(grid0.coords t 0).val, 0] := by
  show cc0_transform_10 (grid0.coords t) = _
  unfold cc0_transform_10
  dsimp only
  rw [word (grid0.coords t 0).val (n_lt t)]
  rfl

/-- The flat row of a row of a point's block. -/
abbrev row (r : Fin 512) : Fin 65536 := ⟨(grid0.coords t 0).val * 512 + r.val, by have := n_lt t; omega⟩

/-- A branch with its batches one after another. -/
def flat (a : FVec Ideal S8x8192x1024 .bf16) : FVec Ideal S65536x1024 .bf16 := shapeCast _ a shapeCasts_S8x8192x1024_S65536x1024
/-- A square weight. -/
def weight (a : FVec Ideal S1x1024x1024 .f32) : FVec Ideal S1024x1024 .bf16 :=
  truncf .bf16 (shapeCast _ a shapeCasts_S1x1024x1024_S1024x1024 : FVec Ideal S1024x1024 .f32) bitsLt_bf16_f32
/-- The second row of the stacked gains or biases. -/
def second (a : FVec Ideal S1x4x1024 .f32) : FVec Ideal S1x1024 .f32 :=
  shapeCast _ (shapeCast _ (extractStridedSlice S1x1x1024 ![0, 1, 0] a slices_S1x4x1024_S1x1x1024_0_1_0) shapeCasts_S1x1x1024_S1024 : FVec Ideal S1024 .f32) shapeCasts_S1024_S1x1024

/-- `flat` at one element. -/
theorem flat_apply (a : FVec Ideal S8x8192x1024 .bf16) (R : Fin 65536) (j : Fin 1024) :
    flat a (ix2 R j) = a (ix3 (MergeRef.bi R) (MergeRef.ti R) j) := by
  pointwise [flat]

/-- `weight` at one element. -/
theorem weight_apply (a : FVec Ideal S1x1024x1024 .f32) (d j : Fin 1024) : weight a (ix2 d j) = a (ix3 0 d j) := by
  pointwise [weight]

/-- `second` at one element. -/
theorem second_apply (a : FVec Ideal S1x4x1024 .f32) (j : Fin 1024) : second a (ix2 0 j) = a (ix3 0 1 j) := by
  pointwise [second]

/-- The region finds argument 0 as launched. -/
theorem V_arg0 : V m c main_arg0 = m ((c.tc : Thread nD τ).loc main_arg0) := by unfold V; after_results
/-- The region finds argument 3 as launched. -/
theorem V_arg3 : V m c main_arg3 = m ((c.tc : Thread nD τ).loc main_arg3) := by unfold V; after_results
/-- The region finds argument 4 as launched. -/
theorem V_arg4 : V m c main_arg4 = m ((c.tc : Thread nD τ).loc main_arg4) := by unfold V; after_results
/-- What the host operations leave in `main_v0`, of the arguments. -/
theorem V_v0 : V m c main_v0 = flat (m ((c.tc : Thread nD τ).loc main_arg1)) := by unfold V flat; after_results; rfl
/-- What the host operations leave in `main_v1`, of the arguments. -/
theorem V_v1 : V m c main_v1 = flat (m ((c.tc : Thread nD τ).loc main_arg2)) := by unfold V flat; after_results; rfl
/-- What the host operations leave in `main_v3`, of the arguments. -/
theorem V_v3 : V m c main_v3 = weight (m ((c.tc : Thread nD τ).loc main_arg5)) := by unfold V weight; after_results; rfl
/-- What the host operations leave in `main_v5`, of the arguments. -/
theorem V_v5 : V m c main_v5 = weight (m ((c.tc : Thread nD τ).loc main_arg6)) := by unfold V weight; after_results; rfl
/-- What the host operations leave in `main_v7`, of the arguments. -/
theorem V_v7 : V m c main_v7 = weight (m ((c.tc : Thread nD τ).loc main_arg7)) := by unfold V weight; after_results; rfl
/-- What the host operations leave in `main_v10`, of the arguments. -/
theorem V_v10 : V m c main_v10 = second (m ((c.tc : Thread nD τ).loc main_arg8)) := by unfold V second; after_results; rfl
/-- What the host operations leave in `main_v13`, of the arguments. -/
theorem V_v13 : V m c main_v13 = second (m ((c.tc : Thread nD τ).loc main_arg9)) := by unfold V second; after_results; rfl

/-- The rows a point reads. -/
theorem x_block (r : Fin 512) (j : Fin 1024) : (iblk m c 0 t : Vec Ideal S512x1024 .f32) (ix2 r j)
    = (m ((c.tc : Thread nD τ).loc main_arg0) : FVec Ideal S65536x1024 .f32) (ix2 (row t r) j) := by
  rw [← V_arg0 m c]
  unfold iblk
  rw [View.read_apply]
  show V m c main_arg0 _ = V m c main_arg0 _
  congr 1
  funext a
  apply Fin.ext
  match a with
  | ⟨0, _⟩ => show win0_0.index t 0 * 512 + 1 * r.val = (grid0.coords t 0).val * 512 + r.val; rw [idx0]; show (grid0.coords t 0).val * 512 + 1 * r.val = _; omega
  | ⟨1, _⟩ => show win0_0.index t 1 * 1024 + 1 * j.val = j.val; rw [idx0]; show 0 * 1024 + 1 * j.val = _; omega

/-- A branch's rows a point reads. -/
theorem ya_block (r : Fin 512) (j : Fin 1024) : (iblk m c 1 t : Vec Ideal S512x1024 .bf16) (ix2 r j)
    = (m ((c.tc : Thread nD τ).loc main_arg1) : FVec Ideal S8x8192x1024 .bf16) (ix3 (MergeRef.bi (row t r)) (MergeRef.ti (row t r)) j) := by
  refine Eq.trans ?_ (flat_apply _ (row t r) j)
  rw [← V_v0 m c]
  unfold iblk
  rw [View.read_apply]
  show V m c main_v0 _ = V m c main_v0 _
  congr 1
  funext a
  apply Fin.ext
  match a with
  | ⟨0, _⟩ => show win0_1.index t 0 * 512 + 1 * r.val = (grid0.coords t 0).val * 512 + r.val; rw [idx1]; show (grid0.coords t 0).val * 512 + 1 * r.val = _; omega
  | ⟨1, _⟩ => show win0_1.index t 1 * 1024 + 1 * j.val = j.val; rw [idx1]; show 0 * 1024 + 1 * j.val = _; omega

/-- A branch's rows a point reads. -/
theorem yb_block (r : Fin 512) (j : Fin 1024) : (iblk m c 2 t : Vec Ideal S512x1024 .bf16) (ix2 r j)
    = (m ((c.tc : Thread nD τ).loc main_arg2) : FVec Ideal S8x8192x1024 .bf16) (ix3 (MergeRef.bi (row t r)) (MergeRef.ti (row t r)) j) := by
  refine Eq.trans ?_ (flat_apply _ (row t r) j)
  rw [← V_v1 m c]
  unfold iblk
  rw [View.read_apply]
  show V m c main_v1 _ = V m c main_v1 _
  congr 1
  funext a
  apply Fin.ext
  match a with
  | ⟨0, _⟩ => show win0_2.index t 0 * 512 + 1 * r.val = (grid0.coords t 0).val * 512 + r.val; rw [idx2]; show (grid0.coords t 0).val * 512 + 1 * r.val = _; omega
  | ⟨1, _⟩ => show win0_2.index t 1 * 1024 + 1 * j.val = j.val; rw [idx2]; show 0 * 1024 + 1 * j.val = _; omega

/-- A gate's rows a point reads. -/
theorem ga_block (r : Fin 512) (j : Fin 1024) : (iblk m c 3 t : Vec Ideal S512x1024 .f32) (ix2 r j)
    = (m ((c.tc : Thread nD τ).loc main_arg3) : FVec Ideal S65536x1024 .f32) (ix2 (row t r) j) := by
  rw [← V_arg3 m c]
  unfold iblk
  rw [View.read_apply]
  show V m c main_arg3 _ = V m c main_arg3 _
  congr 1
  funext a
  apply Fin.ext
  match a with
  | ⟨0, _⟩ => show win0_3.index t 0 * 512 + 1 * r.val = (grid0.coords t 0).val * 512 + r.val; rw [idx3]; show (grid0.coords t 0).val * 512 + 1 * r.val = _; omega
  | ⟨1, _⟩ => show win0_3.index t 1 * 1024 + 1 * j.val = j.val; rw [idx3]; show 0 * 1024 + 1 * j.val = _; omega

/-- A gate's rows a point reads. -/
theorem gb_block (r : Fin 512) (j : Fin 1024) : (iblk m c 4 t : Vec Ideal S512x1024 .f32) (ix2 r j)
    = (m ((c.tc : Thread nD τ).loc main_arg4) : FVec Ideal S65536x1024 .f32) (ix2 (row t r) j) := by
  rw [← V_arg4 m c]
  unfold iblk
  rw [View.read_apply]
  show V m c main_arg4 _ = V m c main_arg4 _
  congr 1
  funext a
  apply Fin.ext
  match a with
  | ⟨0, _⟩ => show win0_4.index t 0 * 512 + 1 * r.val = (grid0.coords t 0).val * 512 + r.val; rw [idx4]; show (grid0.coords t 0).val * 512 + 1 * r.val = _; omega
  | ⟨1, _⟩ => show win0_4.index t 1 * 1024 + 1 * j.val = j.val; rw [idx4]; show 0 * 1024 + 1 * j.val = _; omega

/-- A weight every point reads. -/
theorem wa_block (d : Fin 1024) (j : Fin 1024) : (iblk m c 5 t : Vec Ideal S1024x1024 .bf16) (ix2 d j)
    = (m ((c.tc : Thread nD τ).loc main_arg5) : FVec Ideal S1x1024x1024 .f32) (ix3 0 d j) := by
  refine Eq.trans ?_ (weight_apply _ d j)
  rw [← V_v3 m c]
  unfold iblk
  rw [View.read_apply]
  show V m c main_v3 _ = V m c main_v3 _
  congr 1
  funext a
  apply Fin.ext
  match a with
  | ⟨0, _⟩ => show 0 * 1024 + 1 * d.val = d.val; omega
  | ⟨1, _⟩ => show 0 * 1024 + 1 * j.val = j.val; omega

/-- A weight every point reads. -/
theorem wb_block (d : Fin 1024) (j : Fin 1024) : (iblk m c 6 t : Vec Ideal S1024x1024 .bf16) (ix2 d j)
    = (m ((c.tc : Thread nD τ).loc main_arg6) : FVec Ideal S1x1024x1024 .f32) (ix3 0 d j) := by
  refine Eq.trans ?_ (weight_apply _ d j)
  rw [← V_v5 m c]
  unfold iblk
  rw [View.read_apply]
  show V m c main_v5 _ = V m c main_v5 _
  congr 1
  funext a
  apply Fin.ext
  match a with
  | ⟨0, _⟩ => show 0 * 1024 + 1 * d.val = d.val; omega
  | ⟨1, _⟩ => show 0 * 1024 + 1 * j.val = j.val; omega

/-- A weight every point reads. -/
theorem wo_block (d : Fin 1024) (j : Fin 1024) : (iblk m c 7 t : Vec Ideal S1024x1024 .bf16) (ix2 d j)
    = (m ((c.tc : Thread nD τ).loc main_arg7) : FVec Ideal S1x1024x1024 .f32) (ix3 0 d j) := by
  refine Eq.trans ?_ (weight_apply _ d j)
  rw [← V_v7 m c]
  unfold iblk
  rw [View.read_apply]
  show V m c main_v7 _ = V m c main_v7 _
  congr 1
  funext a
  apply Fin.ext
  match a with
  | ⟨0, _⟩ => show 0 * 1024 + 1 * d.val = d.val; omega
  | ⟨1, _⟩ => show 0 * 1024 + 1 * j.val = j.val; omega

/-- The gains or biases every point reads. -/
theorem lg_block (j : Fin 1024) : (iblk m c 8 t : Vec Ideal S1x1024 .f32) (ix2 0 j)
    = (m ((c.tc : Thread nD τ).loc main_arg8) : FVec Ideal S1x4x1024 .f32) (ix3 0 1 j) := by
  refine Eq.trans ?_ (second_apply _ j)
  rw [← V_v10 m c]
  unfold iblk
  rw [View.read_apply]
  show V m c main_v10 _ = V m c main_v10 _
  congr 1
  funext a
  apply Fin.ext
  match a with
  | ⟨0, _⟩ => show 0 * 1 + 1 * 0 = 0; omega
  | ⟨1, _⟩ => show 0 * 1024 + 1 * j.val = j.val; omega

/-- The gains or biases every point reads. -/
theorem lb_block (j : Fin 1024) : (iblk m c 9 t : Vec Ideal S1x1024 .f32) (ix2 0 j)
    = (m ((c.tc : Thread nD τ).loc main_arg9) : FVec Ideal S1x4x1024 .f32) (ix3 0 1 j) := by
  refine Eq.trans ?_ (second_apply _ j)
  rw [← V_v13 m c]
  unfold iblk
  rw [View.read_apply]
  show V m c main_v13 _ = V m c main_v13 _
  congr 1
  funext a
  apply Fin.ext
  match a with
  | ⟨0, _⟩ => show 0 * 1 + 1 * 0 = 0; omega
  | ⟨1, _⟩ => show 0 * 1024 + 1 * j.val = j.val; omega

/-- The result, as contents of the result array. -/
abbrev res : Buf (Elt Ideal) ((c.tc : Thread nD τ).loc main_v14) :=
  Cert.MergeRef.result (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- No block is cut: a write-back moves the whole block. -/
theorem cut10 (f : S512x1024.Idx → EReal) (j : S512x1024.Idx) : (cfg0.win 10).cut (grid0.coords t) f j = f j := rfl

/-- The output block of a point sits in the result at its rows. -/
theorem read10 (G : S65536x1024.Idx → EReal) (r : Fin 512) (j : Fin 1024) :
    ((cfg0.win 10).blk t).view.read (Elt Ideal) G (ix2 r j : S512x1024.Idx) = G (ix2 (row t r) j) := by
  rw [View.read_apply]
  show G _ = G _
  congr 1
  funext a
  apply Fin.ext
  match a with
  | ⟨0, _⟩ => show win0_10.index t 0 * 512 + 1 * r.val = (grid0.coords t 0).val * 512 + r.val; rw [idx10]; show (grid0.coords t 0).val * 512 + 1 * r.val = _; omega
  | ⟨1, _⟩ => show win0_10.index t 1 * 1024 + 1 * j.val = j.val; rw [idx10]; show 0 * 1024 + 1 * j.val = _; omega

/-- Element `(r, d)` of a point's block is the result's at the block's rows. -/
theorem block_eq (r : Fin 512) (d : Fin 1024) : out0_10 (iblk m c 0 t) (iblk m c 1 t) (iblk m c 2 t) (iblk m c 3 t) (iblk m c 4 t) (iblk m c 5 t) (iblk m c 6 t) (iblk m c 7 t) (iblk m c 8 t) (iblk m c 9 t) (ix2 r d)
    = (res m c : FVec Ideal S65536x1024 .f32) (ix2 (row t r) d) := by
  refine (body (iblk m c 0 t) (iblk m c 1 t) (iblk m c 2 t) (iblk m c 3 t) (iblk m c 4 t) (iblk m c 5 t) (iblk m c 6 t) (iblk m c 7 t) (iblk m c 8 t) (iblk m c 9 t) r d).trans ?_
  refine Eq.trans ?_ (Cert.MergeRef.result_apply _ _ _ _ _ _ _ _ _ _ (row t r) d).symm
  simp only [x_block m c t, ya_block m c t, yb_block m c t, ga_block m c t, gb_block m c t, wa_block m c t, wb_block m c t, wo_block m c t,
    lg_block m c t, lb_block m c t]

/-- What a point writes back is its block of the result. -/
theorem flushed_eq : (dats m 0 c).flushed 10 t = ((cfg0.win 10).blk t).view.read (Elt Ideal) (res m c) := by
  rw [Cert.MergeKernelIdeal.Value.flushed10]
  funext j
  obtain ⟨r, d, hj⟩ : ∃ (r : Fin 512) (d : Fin 1024), j = ix2 r d := ⟨_, _, ValueIdx.eq_ix2 j⟩
  subst hj
  refine (cut10 t _ _).trans (Eq.trans ?_ (read10 t (res m c) r d).symm)
  exact block_eq m c t r d

/-- Every element of the result array is in some point's block. -/
theorem covered (i : S65536x1024.Idx) : ∃ t : Fin cfg0.N, i ∈ ((cfg0.win 10).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 512, by omega⟩ : Fin 128))
  have e0 : (grid0.coords t 0).val = (i 0).val / 512 := by rw [ht]
  refine ⟨t, ?_⟩
  show i ∈ ((View.whole main_v14).slice (win0_10.rect t)).set
  rw [View.set_slice_whole, Rect.mem_set_unit]
  intro a
  match a with
  | ⟨0, _⟩ => show win0_10.index t 0 * 512 ≤ (i 0).val ∧ (i 0).val < win0_10.index t 0 * 512 + 512
              rw [idx10]; show (grid0.coords t 0).val * 512 ≤ _ ∧ _ < (grid0.coords t 0).val * 512 + 512; omega
  | ⟨1, _⟩ => show win0_10.index t 1 * 1024 ≤ (i 1).val ∧ (i 1).val < win0_10.index t 1 * 1024 + 1024
              rw [idx10]; show 0 * 1024 ≤ _ ∧ _ < 0 * 1024 + 1024; omega

/-- THE RESULT ARRAY after the run is the reference's result of the ten arguments. -/
theorem final : (dats m 0 c).arrAt 10 cfg0.N = res m c :=
  (dats m 0 c).arrAt_eq_of_cover 10 (res m c) (fun t _ => flushed_eq m c t) fun i =>
    let ⟨t, ht⟩ := covered i
    ⟨t, flush0_10 t, ht⟩

end Cert.Merge

end
-- ==== Proof.OutBody.lean ====
/-
  One block of 1024 rows of the output call, as the kernel computes it: the eleven chunks of hidden units added from
  the left, then
  the layer norm of the scaled rows, then the embedding's gate and the second layer norm.
-/
module

public import proofs.«01_k».proof.Proof.RowMath
public import proofs.«01_k».proof.Proof.Gen.OutKernelIdeal.Frame
public import Idealize.ShloMosaic.Lib.Pipeline.Value
public import Idealize.ShloMosaic.Lib.Pointwise

@[expose] public section

noncomputable section

open scoped BigOperators
open Idealize.ShloMosaic Idealize.ShloMosaic.TcCoe Idealize.SL.Sem
open Cert.OutKernelIdeal Cert.OutKernelIdeal.Gen Cert.Row

namespace Cert.Out

/-- The chunk of 256 hidden units at element `(r, c)`, from a block of rows and the chunk's weights. -/
abbrev ch (v : Vec Ideal S1024x1024 .bf16) (g u : Vec Ideal S1024x256 .bf16) (w : Vec Ideal S256x1024 .bf16) (r c : Fin 1024) : EReal :=
  chunk (fun d => v (ix2 r d)) (fun d i => g (ix2 d i)) (fun d i => u (ix2 d i)) (fun i => w (ix2 i c))

/-- The rows as the matrix unit reads them are the rows. -/
theorem pay1_eq (v0 : Vec Ideal S1024x1024 .f32) : k0_pay1 v0 = v0 := by
  funext i
  obtain ⟨r, c, rfl⟩ : ∃ r c, i = ix2 r c := ⟨_, _, ValueIdx.eq_ix2 i⟩
  pointwise [k0_pay1]

/-- The first two chunks. -/
theorem pay2_apply (v0 : Vec Ideal S1024x1024 .f32) (g0 u0 : Vec Ideal S1024x256 .bf16) (w0 : Vec Ideal S256x1024 .bf16)
    (g1 u1 : Vec Ideal S1024x256 .bf16) (w1 : Vec Ideal S256x1024 .bf16) (r c : Fin 1024) :
    k0_pay2 v0 g0 u0 w0 g1 u1 w1 (ix2 r c) = ch v0 g0 u0 w0 r c + ch v0 g1 u1 w1 r c := by
  pointwise [k0_pay2, k0_pay1, ch, chunk, unit, act]

/-- Three more chunks, the first one's gates computed before. -/
theorem pay5_apply (v : Vec Ideal S1024x1024 .bf16) (acc : FVec Ideal S1024x1024 .f32) (v0 : Vec Ideal S1024x1024 .f32) (g0 u0 : Vec Ideal S1024x256 .bf16) (w0 : Vec Ideal S256x1024 .bf16)
    (g1 u1 : Vec Ideal S1024x256 .bf16) (w1 : Vec Ideal S256x1024 .bf16)
    (g2 u2 : Vec Ideal S1024x256 .bf16) (w2 : Vec Ideal S256x1024 .bf16) (r c : Fin 1024) (hv : v = v0) :
    k0_pay5 v acc (k0_pay3 v0 g0) (k0_pay4 u0) w0 g1 u1 w1 g2 u2 w2 (ix2 r c)
      = acc (ix2 r c) + ch v0 g0 u0 w0 r c + ch v0 g1 u1 w1 r c + ch v0 g2 u2 w2 r c := by
  subst hv
  pointwise [k0_pay5, k0_pay4, k0_pay3, k0_pay1, ch, chunk, unit, act]

/-- Two more chunks. -/
theorem pay6_apply (v : Vec Ideal S1024x1024 .bf16) (acc : FVec Ideal S1024x1024 .f32) (g0 u0 : Vec Ideal S1024x256 .bf16) (w0 : Vec Ideal S256x1024 .bf16)
    (g1 u1 : Vec Ideal S1024x256 .bf16) (w1 : Vec Ideal S256x1024 .bf16) (r c : Fin 1024) :
    k0_pay6 v acc g0 u0 w0 g1 u1 w1 (ix2 r c) = acc (ix2 r c) + ch v g0 u0 w0 r c + ch v g1 u1 w1 r c := by
  pointwise [k0_pay6, ch, chunk, unit, act]

/-- Three more chunks, the first one's hidden units computed before. -/
theorem pay8_apply (v : Vec Ideal S1024x1024 .bf16) (acc : FVec Ideal S1024x1024 .f32) (g0 u0 : Vec Ideal S1024x256 .bf16) (w0 : Vec Ideal S256x1024 .bf16)
    (g1 u1 : Vec Ideal S1024x256 .bf16) (w1 : Vec Ideal S256x1024 .bf16)
    (g2 u2 : Vec Ideal S1024x256 .bf16) (w2 : Vec Ideal S256x1024 .bf16) (r c : Fin 1024) :
    k0_pay8 v acc (k0_pay7 v g0 u0) w0 g1 u1 w1 g2 u2 w2 (ix2 r c)
      = acc (ix2 r c) + ch v g0 u0 w0 r c + ch v g1 u1 w1 r c + ch v g2 u2 w2 r c := by
  pointwise [k0_pay8, k0_pay7, ch, chunk, unit, act]

/-- The last chunk, the scaling and the first layer norm. -/
theorem pay10_apply (x : FVec Ideal S1024x1024 .f32) (v : Vec Ideal S1024x1024 .bf16) (acc : FVec Ideal S1024x1024 .f32) (g0 u0 : Vec Ideal S1024x256 .bf16) (w0 : Vec Ideal S256x1024 .bf16)
    (g b : Vec Ideal S1x1024 .f32) (r c : Fin 1024) :
    k0_pay10 x v acc (k0_pay9 v g0) u0 w0 g b (ix2 r c)
      = ln (fun j => Row.res (x (ix2 r j)) (acc (ix2 r j) + ch v g0 u0 w0 r j)) (g (ix2 0 c)) (b (ix2 0 c)) c := by
  pointwise [k0_pay10, k0_pay9, ch, chunk, unit, act, ln, var, mean, Row.res]

/-- The normed rows as the matrix unit reads them are the normed rows. -/
theorem pay11_eq (x : FVec Ideal S1024x1024 .f32) (v : Vec Ideal S1024x1024 .bf16) (acc : FVec Ideal S1024x1024 .f32) (z : FVec Ideal S1024x256 .f32) (u0 : Vec Ideal S1024x256 .bf16) (w0 : Vec Ideal S256x1024 .bf16)
    (g b : Vec Ideal S1x1024 .f32) : k0_pay11 x v acc z u0 w0 g b = k0_pay10 x v acc z u0 w0 g b := by
  funext i
  obtain ⟨r, c, rfl⟩ : ∃ r c, i = ix2 r c := ⟨_, _, ValueIdx.eq_ix2 i⟩
  pointwise [k0_pay11]

/-- The embedding's gate and the second layer norm. -/
theorem pay12_apply (y : FVec Ideal S1024x1024 .f32) (w : Vec Ideal S1024x1024 .bf16) (bg : Vec Ideal S1x1024 .f32) (p : Vec Ideal S1024x256 .f32) (wp : Vec Ideal S256x1024 .bf16)
    (g b : Vec Ideal S1x1024 .f32) (r c : Fin 1024) :
    k0_pay12 y y w bg p wp g b (ix2 r c)
      = ln (ple (fun j => y (ix2 r j)) (fun d j => w (ix2 d j)) (fun j => bg (ix2 0 j)) (fun i => p (ix2 r i)) (fun i j => wp (ix2 i j)))
          (g (ix2 0 c)) (b (ix2 0 c)) c := by
  pointwise [k0_pay12, ln, var, mean, ple]

/-- A two-axis offset of zeros. -/
theorem hz2 : (![0, 0] : Fin 2 → ℕ) = fun _ => 0 := by
  funext a
  match a with
  | ⟨0, _⟩ => rfl
  | ⟨1, _⟩ => rfl

/-- Columns `o` to `o + 255` of a gate or up weight block. -/
theorem ld_cols (X : Vec Ideal S1024x2816 .bf16) (o : ℕ) (inb) (d : Fin 1024) (i : Fin 256) (h : o + i.val < 2816) :
    View.ld X (Rect.unit (s := S1024x2816) ![0, o] S1024x256.size inb) (ix2 d i) = X (ix2 d ⟨o + i.val, h⟩) := by
  show X _ = X _
  congr 1
  funext a
  apply Fin.ext
  match a with
  | ⟨0, _⟩ => show 0 + 1 * d.val = d.val; omega
  | ⟨1, _⟩ => show o + 1 * i.val = o + i.val; omega

/-- Rows `o` to `o + 255` of a down weight block. -/
theorem ld_rows (X : Vec Ideal S2816x1024 .bf16) (o : ℕ) (inb) (i : Fin 256) (c : Fin 1024) (h : o + i.val < 2816) :
    View.ld X (Rect.unit (s := S2816x1024) ![o, 0] S256x1024.size inb) (ix2 i c) = X (ix2 ⟨o + i.val, h⟩ c) := by
  show X _ = X _
  congr 1
  funext a
  apply Fin.ext
  match a with
  | ⟨0, _⟩ => show o + 1 * i.val = o + i.val; omega
  | ⟨1, _⟩ => show 0 + 1 * c.val = c.val; omega

/-- What hidden unit `h` adds at element `(r, c)`, from whole weight blocks. -/
abbrev tm (x0 : Vec Ideal S1024x1024 .f32) (x1 x2 : Vec Ideal S1024x2816 .bf16) (x3 : Vec Ideal S2816x1024 .bf16) (r c : Fin 1024) : Fin 2816 → EReal :=
  term (fun d => x0 (ix2 r d)) (fun d h => x1 (ix2 d h)) (fun d h => x2 (ix2 d h)) (fun h => x3 (ix2 h c))

/-- The chunk read at hidden unit `o` is that part of the sum over the hidden units. -/
theorem ch_part (x0 : Vec Ideal S1024x1024 .f32) (x1 x2 : Vec Ideal S1024x2816 .bf16) (x3 : Vec Ideal S2816x1024 .bf16) (r c : Fin 1024)
    (o : ℕ) (ho : o + 256 ≤ 2816) (inb1 inb2 inb3) :
    ch x0 (View.ld x1 (Rect.unit (s := S1024x2816) ![0, o] S1024x256.size inb1)) (View.ld x2 (Rect.unit (s := S1024x2816) ![0, o] S1024x256.size inb2))
      (View.ld x3 (Rect.unit (s := S2816x1024) ![o, 0] S256x1024.size inb3)) r c = part (tm x0 x1 x2 x3 r c) o :=
  chunk_eq_part _ _ _ _ _ _ _ o ho (fun d i => ld_cols x1 o inb1 d i (by omega)) (fun d i => ld_cols x2 o inb2 d i (by omega))
    (fun i => ld_rows x3 o inb3 i c (by omega))

/-- The rows after the feed-forward network and the first layer norm. -/
def mid (x0 : Vec Ideal S1024x1024 .f32) (x1 x2 : Vec Ideal S1024x2816 .bf16) (x3 : Vec Ideal S2816x1024 .bf16) (x4 x5 : Vec Ideal S1x1024 .f32)
    (r c : Fin 1024) : EReal :=
  ln (fun j => Row.res (x0 (ix2 r j)) (ffn (fun d => x0 (ix2 r d)) (fun d h => x1 (ix2 d h)) (fun d h => x2 (ix2 d h)) (fun h => x3 (ix2 h j))))
    (x4 (ix2 0 c)) (x5 (ix2 0 c)) c

/-- THE BODY: element `(r, c)` of a block is the layer norm of the scaled rows and the gated embeddings. -/
theorem body (x0 : Vec Ideal S1024x1024 .f32) (x1 x2 : Vec Ideal S1024x2816 .bf16) (x3 : Vec Ideal S2816x1024 .bf16) (x4 x5 : Vec Ideal S1x1024 .f32)
    (x6 : Vec Ideal S1024x256 .f32) (x7 : Vec Ideal S256x1024 .bf16) (x8 : Vec Ideal S1024x1024 .bf16) (x9 x10 x11 : Vec Ideal S1x1024 .f32)
    (r c : Fin 1024) :
    out0_12 x0 x1 x2 x3 x4 x5 x6 x7 x8 x9 x10 x11 (ix2 r c)
      = ln (ple (mid x0 x1 x2 x3 x4 x5 r) (fun d j => x8 (ix2 d j)) (fun j => x9 (ix2 0 j)) (fun i => x6 (ix2 r i)) (fun i j => x7 (ix2 i j)))
          (x10 (ix2 0 c)) (x11 (ix2 0 c)) c := by
  unfold out0_12 k0_pay13 k0_pay14 k0_pay15 k0_pay13
  rw [View.canon_unit_zero (S := S1024x1024) hz2]
  simp only [View.ld_unit_zero (S := S1024x1024) hz2, View.ld_unit_zero (S := S1x1024) hz2, View.ld_unit_zero (S := S1024x256) hz2,
    View.ld_unit_zero (S := S256x1024) hz2, pay1_eq]
  rw [pay11_eq, pay12_apply]
  congr 2
  funext j
  unfold mid
  rw [pay10_apply]
  congr 1
  funext j
  congr 1
  rw [pay8_apply, pay6_apply, pay5_apply _ _ x0 _ _ _ _ _ _ _ _ _ _ _ rfl, pay2_apply]
  have e := ch_part x0 x1 x2 x3 r j
  rw [e 0 (by norm_num), e 256 (by norm_num), e 512 (by norm_num), e 768 (by norm_num), e 1024 (by norm_num), e 1280 (by norm_num),
    e 1536 (by norm_num), e 1792 (by norm_num), e 2048 (by norm_num), e 2304 (by norm_num), e 2560 (by norm_num), sum_parts]
  rfl

end Cert.Out

end
-- ==== Proof.OutRef.lean ====
/-
  The reference of the output call, printed, and what it is at one element: the layer norm of the scaled row and half its
  feed-forward network, then the layer norm of that row scaled and its gated embedding.
-/
module

public import proofs.«01_k».proof.Proof.RowMath
public import proofs.«01_k».proof.Proof.Gen.OutReferenceIdeal.Run
public import Idealize.ShloMosaic.Lib.Pointwise

@[expose] public section

set_option maxRecDepth 16384

noncomputable section

open scoped BigOperators
open Idealize.ShloMosaic Idealize.ShloMosaic.TcCoe Idealize.SL.Sem
open Cert.OutReferenceIdeal Cert.OutReferenceIdeal.Gen Cert.Row

namespace Cert.OutRef

/-- The second of the stacked gate or up weights. -/
def up (a : FVec Ideal S1x2x1024x2816 .f32) : FVec Ideal S1024x2816 .f32 :=
  shapeCast _ (extractStridedSlice S1x1x1024x2816 ![0, 1, 0, 0] a slices_S1x2x1024x2816_S1x1x1024x2816_0_1_0_0) shapeCasts_S1x1x1024x2816_S1024x2816

/-- The second of the stacked down weights. -/
def down (a : FVec Ideal S1x2x2816x1024 .f32) : FVec Ideal S2816x1024 .f32 :=
  shapeCast _ (extractStridedSlice S1x1x2816x1024 ![0, 1, 0, 0] a slices_S1x2x2816x1024_S1x1x2816x1024_0_1_0_0) shapeCasts_S1x1x2816x1024_S2816x1024

/-- The rows times a weight, printed. -/
def proj (x : FVec Ideal S65536x1024 .f32) (w : FVec Ideal S1024x2816 .f32) : FVec Ideal S65536x2816 .f32 :=
  Host.dotGeneral (φ₁ := .f32) (φ₂ := .f32) dot_S65536x1024_S1024x2816_S65536x2816_1_0_0_1_n_n none x w

/-- The hidden units, printed, from gates and up projections. -/
def hidden (z u : FVec Ideal S65536x2816 .f32) : FVec Ideal S65536x2816 .f32 :=
  mulf (mulf z (Host.divf (broadcastInDim S65536x2816 ![] bcast_S_S65536x2816 (constant S_ .f32 0x3F800000#32))
    (addf (broadcastInDim S65536x2816 ![] bcast_S_S65536x2816 (constant S_ .f32 0x3F800000#32)) (Host.exp (Host.negf z))))) u

/-- The scaled rows and half the network, printed. -/
def pre (x : FVec Ideal S65536x1024 .f32) (h : FVec Ideal S65536x2816 .f32) (w : FVec Ideal S2816x1024 .f32) : FVec Ideal S65536x1024 .f32 :=
  addf (mulf (broadcastInDim S65536x1024 ![] bcast_S_S65536x1024 (constant S_ .f32 0x3F9837F0#32)) x)
    (mulf (broadcastInDim S65536x1024 ![] bcast_S_S65536x1024 (constant S_ .f32 0x3F000000#32))
      (Host.dotGeneral (φ₁ := .f32) (φ₂ := .f32) dot_S65536x2816_S2816x1024_S65536x1024_1_0_0_1_n_n none h w))

/-- The means of the rows, printed. -/
def means (y : FVec Ideal S65536x1024 .f32) : FVec Ideal S65536x1 .f32 :=
  Host.divf (broadcastInDim S65536x1 ![0] bcast_S65536_S65536x1_0 (Host.reduceAdd y (constant S_ .f32 0x00000000#32) reducesTo_S65536x1024_S65536_d1 h_S_))
    (broadcastInDim S65536x1 ![] bcast_S_S65536x1 (constant S_ .f32 0x44800000#32))

/-- The rows less their means, printed. -/
def centred (y : FVec Ideal S65536x1024 .f32) : FVec Ideal S65536x1024 .f32 :=
  subf y (broadcastInDim S65536x1024 ![0, 1] bcast_S65536x1_S65536x1024_0_1 (means y))

/-- One row of numbers for every row, printed. -/
def spread (a : FVec Ideal S1024 .f32) : FVec Ideal S65536x1024 .f32 :=
  broadcastInDim S65536x1024 ![0, 1] bcast_S1x1024_S65536x1024_0_1 (broadcastInDim S1x1024 ![1] bcast_S1024_S1x1024_1 a)

/-- The third row of the stacked gains or biases. -/
def third (a : FVec Ideal S1x4x1024 .f32) : FVec Ideal S1024 .f32 :=
  shapeCast _ (extractStridedSlice S1x1x1024 ![0, 2, 0] a slices_S1x4x1024_S1x1x1024_0_2_0) shapeCasts_S1x1x1024_S1024

/-- The fourth row of the stacked gains or biases. -/
def fourth (a : FVec Ideal S1x4x1024 .f32) : FVec Ideal S1024 .f32 :=
  shapeCast _ (extractStridedSlice S1x1x1024 ![0, 3, 0] a slices_S1x4x1024_S1x1x1024_0_3_0) shapeCasts_S1x1x1024_S1024

/-- The layer norm, printed. -/
def norm (y : FVec Ideal S65536x1024 .f32) (g b : FVec Ideal S1024 .f32) : FVec Ideal S65536x1024 .f32 :=
  addf (mulf (mulf (centred y) (broadcastInDim S65536x1024 ![0, 1] bcast_S65536x1_S65536x1024_0_1
    (Host.rsqrt (addf (means (mulf (centred y) (centred y))) (broadcastInDim S65536x1 ![] bcast_S_S65536x1 (constant S_ .f32 0x3727C5AC#32))))))
    (spread g)) (spread b)

/-- The logistic function of the rows through the gate weights, printed. -/
def gate (y : FVec Ideal S65536x1024 .f32) (w : FVec Ideal S1x1024x1024 .f32) (bg : FVec Ideal S1x1024 .f32) : FVec Ideal S65536x1024 .f32 :=
  Host.divf (broadcastInDim S65536x1024 ![] bcast_S_S65536x1024 (constant S_ .f32 0x3F800000#32))
    (addf (broadcastInDim S65536x1024 ![] bcast_S_S65536x1024 (constant S_ .f32 0x3F800000#32)) (Host.exp (Host.negf
      (addf (Host.dotGeneral (φ₁ := .f32) (φ₂ := .f32) dot_S65536x1024_S1024x1024_S65536x1024_1_0_0_1_n_n none y
          (shapeCast _ w shapeCasts_S1x1024x1024_S1024x1024 : FVec Ideal S1024x1024 .f32))
        (spread (shapeCast _ bg shapeCasts_S1x1024_S1024))))))

/-- The embeddings of all rows through their weights, printed. -/
def embed (p : FVec Ideal S1x8x8192x256 .f32) (wp : FVec Ideal S1x256x1024 .f32) : FVec Ideal S65536x1024 .f32 :=
  Host.dotGeneral (φ₁ := .f32) (φ₂ := .f32) dot_S65536x256_S256x1024_S65536x1024_1_0_0_1_n_n none
    (shapeCast _ (shapeCast _ p shapeCasts_S1x8x8192x256_S8x8192x256 : FVec Ideal S8x8192x256 .f32) shapeCasts_S8x8192x256_S65536x256 : FVec Ideal S65536x256 .f32)
    (shapeCast _ wp shapeCasts_S1x256x1024_S256x1024 : FVec Ideal S256x1024 .f32)

/-- The scaled rows and the gated embeddings, printed. -/
def post (y z e : FVec Ideal S65536x1024 .f32) : FVec Ideal S65536x1024 .f32 :=
  addf (mulf (broadcastInDim S65536x1024 ![] bcast_S_S65536x1024 (constant S_ .f32 0x3F9837F0#32)) y) (mulf z e)

/-- The rows after the network and the first layer norm, printed. -/
def mid (x : FVec Ideal S65536x1024 .f32) (g b : FVec Ideal S1x4x1024 .f32) (wg wu : FVec Ideal S1x2x1024x2816 .f32)
    (wd : FVec Ideal S1x2x2816x1024 .f32) : FVec Ideal S65536x1024 .f32 :=
  norm (pre x (hidden (proj x (up wg)) (proj x (up wu))) (down wd)) (third g) (third b)

/-- The result, printed, of the rows after the first layer norm. -/
def last (y : FVec Ideal S65536x1024 .f32) (p : FVec Ideal S1x8x8192x256 .f32) (g b : FVec Ideal S1x4x1024 .f32)
    (wp : FVec Ideal S1x256x1024 .f32) (w : FVec Ideal S1x1024x1024 .f32) (bg : FVec Ideal S1x1024 .f32) : FVec Ideal S65536x1024 .f32 :=
  norm (post y (gate y w bg) (embed p wp)) (fourth g) (fourth b)

/-- The result, printed, of the ten arguments. -/
def result (x : FVec Ideal S65536x1024 .f32) (p : FVec Ideal S1x8x8192x256 .f32) (g b : FVec Ideal S1x4x1024 .f32) (wg wu : FVec Ideal S1x2x1024x2816 .f32)
    (wd : FVec Ideal S1x2x2816x1024 .f32) (wp : FVec Ideal S1x256x1024 .f32) (w : FVec Ideal S1x1024x1024 .f32) (bg : FVec Ideal S1x1024 .f32) :
    FVec Ideal S65536x1024 .f32 :=
  last (mid x g b wg wu wd) p g b wp w bg

/-- The reference program's rows after the first layer norm are that term. -/
theorem mid_eq (V0 : Valuation τ sig (Elt Ideal)) : Cert.OutReferenceIdeal.Value.res_main_v43 V0
    = mid (V0 (Proc.devRef .tc main_arg0)) (V0 (Proc.devRef .tc main_arg2)) (V0 (Proc.devRef .tc main_arg3)) (V0 (Proc.devRef .tc main_arg4))
        (V0 (Proc.devRef .tc main_arg5)) (V0 (Proc.devRef .tc main_arg6)) := by
  unfold Cert.OutReferenceIdeal.Value.res_main_v43 Cert.OutReferenceIdeal.Value.res_main_v25 Cert.OutReferenceIdeal.Value.res_main_v23
    Cert.OutReferenceIdeal.Value.res_main_v15 Cert.OutReferenceIdeal.Value.res_main_v8 mid norm spread third centred means pre hidden proj up down
  rfl

set_option maxHeartbeats 2000000 in
/-- Every run of the reference program ends with that term in the result array and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (by
    unfold Cert.OutReferenceIdeal.Value.res_main_v73 Cert.OutReferenceIdeal.Value.res_main_v71 Cert.OutReferenceIdeal.Value.res_main_v63
    rw [mid_eq]
    unfold result last norm post gate embed spread fourth centred means
    rfl), (h c).2⟩) (Cert.OutReferenceIdeal.Value.run m ρ)

/-- `up` at one element. -/
theorem up_apply (a : FVec Ideal S1x2x1024x2816 .f32) (d : Fin 1024) (h : Fin 2816) : up a (ix2 d h) = a (ix4 0 1 d h) := by
  pointwise [up]

/-- `down` at one element. -/
theorem down_apply (a : FVec Ideal S1x2x2816x1024 .f32) (h : Fin 2816) (d : Fin 1024) : down a (ix2 h d) = a (ix4 0 1 h d) := by
  pointwise [down]

/-- `proj` at one element. -/
theorem proj_apply (x : FVec Ideal S65536x1024 .f32) (w : FVec Ideal S1024x2816 .f32) (R : Fin 65536) (h : Fin 2816) :
    proj x w (ix2 R h) = ∑ d : Fin 1024, x (ix2 R d) * w (ix2 d h) := by
  pointwise [proj]

/-- `hidden` at one element. -/
theorem hidden_apply (z u : FVec Ideal S65536x2816 .f32) (R : Fin 65536) (h : Fin 2816) :
    hidden z u (ix2 R h) = act (z (ix2 R h)) (u (ix2 R h)) := by
  pointwise [hidden]
  rfl

/-- `pre` at one element. -/
theorem pre_apply (x : FVec Ideal S65536x1024 .f32) (h : FVec Ideal S65536x2816 .f32) (w : FVec Ideal S2816x1024 .f32) (R : Fin 65536) (j : Fin 1024) :
    pre x h w (ix2 R j) = Row.res (x (ix2 R j)) (∑ i : Fin 2816, h (ix2 R i) * w (ix2 i j)) := by
  pointwise [pre, Row.res]

/-- `means` at one element. -/
theorem means_apply (y : FVec Ideal S65536x1024 .f32) (R : Fin 65536) :
    means y (ix2 R 0) = mean (fun j => y (ix2 R j)) := by
  pointwise [means, mean]

/-- `centred` at one element. -/
theorem centred_apply (y : FVec Ideal S65536x1024 .f32) (R : Fin 65536) (j : Fin 1024) :
    centred y (ix2 R j) = y (ix2 R j) - mean (fun j => y (ix2 R j)) := by
  pointwise [centred, means_apply]

/-- `spread` at one element. -/
theorem spread_apply (a : FVec Ideal S1024 .f32) (R : Fin 65536) (j : Fin 1024) : spread a (ix2 R j) = a (ix1 j) := by
  pointwise [spread]

/-- `third` at one element. -/
theorem third_apply (a : FVec Ideal S1x4x1024 .f32) (j : Fin 1024) : third a (ix1 j) = a (ix3 0 2 j) := by
  pointwise [third]

/-- `fourth` at one element. -/
theorem fourth_apply (a : FVec Ideal S1x4x1024 .f32) (j : Fin 1024) : fourth a (ix1 j) = a (ix3 0 3 j) := by
  pointwise [fourth]

/-- `norm` at one element. -/
theorem norm_apply (y : FVec Ideal S65536x1024 .f32) (g b : FVec Ideal S1024 .f32) (R : Fin 65536) (j : Fin 1024) :
    norm y g b (ix2 R j) = ln (fun j => y (ix2 R j)) (g (ix1 j)) (b (ix1 j)) j := by
  pointwise [norm, means_apply, centred_apply, spread_apply, ln, var]

/-- The batch of a flat row. -/
abbrev bi (R : Fin 65536) : Fin 8 := ⟨R.val / 8192, by omega⟩
/-- The position of a flat row in its batch. -/
abbrev ti (R : Fin 65536) : Fin 8192 := ⟨R.val % 8192, Nat.mod_lt _ (by norm_num)⟩

/-- `gate` at one element. -/
theorem gate_apply (y : FVec Ideal S65536x1024 .f32) (w : FVec Ideal S1x1024x1024 .f32) (bg : FVec Ideal S1x1024 .f32) (R : Fin 65536) (j : Fin 1024) :
    gate y w bg (ix2 R j) = Ideal.logistic ((∑ d : Fin 1024, y (ix2 R d) * w (ix3 0 d j)) + bg (ix2 0 j)) := by
  pointwise [gate, spread_apply]
  rfl

/-- `embed` at one element. -/
theorem embed_apply (p : FVec Ideal S1x8x8192x256 .f32) (wp : FVec Ideal S1x256x1024 .f32) (R : Fin 65536) (j : Fin 1024) :
    embed p wp (ix2 R j) = ∑ i : Fin 256, p (ix4 0 (bi R) (ti R) i) * wp (ix3 0 i j) := by
  pointwise [embed]

/-- `post` at one element. -/
theorem post_apply (y z e : FVec Ideal S65536x1024 .f32) (R : Fin 65536) (j : Fin 1024) :
    post y z e (ix2 R j) = Ideal.ofBits .f32 0x3F9837F0#32 * y (ix2 R j) + z (ix2 R j) * e (ix2 R j) := by
  pointwise [post]

/-- The rows after the network and the first layer norm, at one element. -/
theorem mid_apply (x : FVec Ideal S65536x1024 .f32) (g b : FVec Ideal S1x4x1024 .f32) (wg wu : FVec Ideal S1x2x1024x2816 .f32)
    (wd : FVec Ideal S1x2x2816x1024 .f32) (R : Fin 65536) (c : Fin 1024) :
    mid x g b wg wu wd (ix2 R c)
      = ln (fun j => Row.res (x (ix2 R j)) (ffn (fun d => x (ix2 R d)) (fun d h => wg (ix4 0 1 d h)) (fun d h => wu (ix4 0 1 d h)) (fun h => wd (ix4 0 1 h j))))
          (g (ix3 0 2 c)) (b (ix3 0 2 c)) c := by
  unfold mid
  rw [norm_apply, third_apply, third_apply]
  congr 1
  funext j
  rw [pre_apply]
  simp only [hidden_apply, proj_apply, up_apply, down_apply]
  rfl

/-- THE REFERENCE at one element: the layer norm of the scaled row and its gated embedding. -/
theorem result_apply (x : FVec Ideal S65536x1024 .f32) (p : FVec Ideal S1x8x8192x256 .f32) (g b : FVec Ideal S1x4x1024 .f32) (wg wu : FVec Ideal S1x2x1024x2816 .f32)
    (wd : FVec Ideal S1x2x2816x1024 .f32) (wp : FVec Ideal S1x256x1024 .f32) (w : FVec Ideal S1x1024x1024 .f32) (bg : FVec Ideal S1x1024 .f32)
    (R : Fin 65536) (c : Fin 1024) :
    result x p g b wg wu wd wp w bg (ix2 R c)
      = ln (ple (fun j => mid x g b wg wu wd (ix2 R j)) (fun d j => w (ix3 0 d j)) (fun j => bg (ix2 0 j)) (fun i => p (ix4 0 (bi R) (ti R) i)) (fun i j => wp (ix3 0 i j)))
          (g (ix3 0 3 c)) (b (ix3 0 3 c)) c := by
  unfold result last
  rw [norm_apply, fourth_apply, fourth_apply]
  congr 1
  funext j
  rw [post_apply, gate_apply, embed_apply]
  rfl

end Cert.OutRef

end
-- ==== Proof.OutValue.lean ====
/-
  The output call's result array: the blocks the grid's points read are rows of the argument and the second of
  the stacked weights, the blocks they write cover the result, and the whole is the reference's result.
-/
module

public import proofs.«01_k».proof.Proof.OutBody
public import proofs.«01_k».proof.Proof.OutRef
public import proofs.«01_k».proof.Proof.Gen.OutKernelIdeal.Value
public import Idealize.ShloMosaic.Lib.Pipeline.Value
public import Idealize.ShloMosaic.Lib.Pipeline.Covers
public import Idealize.ShloMosaic.Lib.StableHlo.Run

@[expose] public section

set_option maxRecDepth 16384

noncomputable section

open scoped BigOperators
open Idealize.ShloMosaic Idealize.ShloMosaic.TcCoe Idealize.SL.Sem
open Idealize.ShloMosaic.Pipeline (Dat)
open Cert.OutKernelIdeal Cert.OutKernelIdeal.Gen Cert.Row

namespace Cert.Out

variable (m : (ℓ : Loc nD τ sig) → Buf (Elt Ideal) ℓ) (c : Dev nD) (t : Fin cfg0.N)

/-- The grid has 64 points. -/
theorem n_lt : (grid0.coords t 0).val < 64 := (grid0.coords t 0).isLt

/-- The 32-bit word of a grid coordinate is the coordinate. -/
theorem word (x : ℕ) (h : x < 64) : (BitVec.ofNat 32 x).toNat = x := by
  rw [BitVec.toNat_ofNat]; exact Nat.mod_eq_of_lt (by omega)

/-- The block of rows a point reads. -/
theorem idx0 : win0_0.index t = ![(grid0.coords t 0).val, 0] := by
  show cc0_transform_0 (grid0.coords t) = _
  unfold cc0_transform_0
  dsimp only
  rw [word (grid0.coords t 0).val (n_lt t)]
  rfl

/-- The block of embeddings a point reads. -/
theorem idx6 : win0_6.index t = ![(grid0.coords t 0).val, 0] := by
  show cc0_transform_6 (grid0.coords t) = _
  unfold cc0_transform_6
  dsimp only
  rw [word (grid0.coords t 0).val (n_lt t)]
  rfl

/-- The block of rows a point writes. -/
theorem idx12 : win0_12.index t = ![(grid0.coords t 0).val, 0] := by
  show cc0_transform_12 (grid0.coords t) = _
  unfold cc0_transform_12
  dsimp only
  rw [word (grid0.coords t 0).val (n_lt t)]
  rfl

/-- The flat row of a row of a point's block. -/
abbrev row (r : Fin 1024) : Fin 65536 := ⟨(grid0.coords t 0).val * 1024 + r.val, by have := n_lt t; omega⟩

/-- The second of the stacked gate or up weights. -/
def up (a : FVec Ideal S1x2x1024x2816 .f32) : FVec Ideal S1024x2816 .bf16 :=
  truncf .bf16 (shapeCast _ (extractStridedSlice S1x1x1024x2816 ![0, 1, 0, 0] a slices_S1x2x1024x2816_S1x1x1024x2816_0_1_0_0) shapeCasts_S1x1x1024x2816_S1024x2816 : FVec Ideal S1024x2816 .f32) bitsLt_bf16_f32
/-- The second of the stacked down weights. -/
def down (a : FVec Ideal S1x2x2816x1024 .f32) : FVec Ideal S2816x1024 .bf16 :=
  truncf .bf16 (shapeCast _ (extractStridedSlice S1x1x2816x1024 ![0, 1, 0, 0] a slices_S1x2x2816x1024_S1x1x2816x1024_0_1_0_0) shapeCasts_S1x1x2816x1024_S2816x1024 : FVec Ideal S2816x1024 .f32) bitsLt_bf16_f32
/-- The third row of the stacked gains or biases. -/
def third (a : FVec Ideal S1x4x1024 .f32) : FVec Ideal S1x1024 .f32 :=
  shapeCast _ (shapeCast _ (extractStridedSlice S1x1x1024 ![0, 2, 0] a slices_S1x4x1024_S1x1x1024_0_2_0) shapeCasts_S1x1x1024_S1024 : FVec Ideal S1024 .f32) shapeCasts_S1024_S1x1024
/-- The fourth row of the stacked gains or biases. -/
def fourth (a : FVec Ideal S1x4x1024 .f32) : FVec Ideal S1x1024 .f32 :=
  shapeCast _ (shapeCast _ (extractStridedSlice S1x1x1024 ![0, 3, 0] a slices_S1x4x1024_S1x1x1024_0_3_0) shapeCasts_S1x1x1024_S1024 : FVec Ideal S1024 .f32) shapeCasts_S1024_S1x1024
/-- The embeddings with their batches one after another. -/
def embeds (p : FVec Ideal S1x8x8192x256 .f32) : FVec Ideal S65536x256 .f32 :=
  shapeCast _ (shapeCast _ p shapeCasts_S1x8x8192x256_S8x8192x256 : FVec Ideal S8x8192x256 .f32) shapeCasts_S8x8192x256_S65536x256
/-- The embedding's weights. -/
def wple (a : FVec Ideal S1x256x1024 .f32) : FVec Ideal S256x1024 .bf16 :=
  truncf .bf16 (shapeCast _ a shapeCasts_S1x256x1024_S256x1024 : FVec Ideal S256x1024 .f32) bitsLt_bf16_f32
/-- The gate's weights. -/
def wgate (a : FVec Ideal S1x1024x1024 .f32) : FVec Ideal S1024x1024 .bf16 :=
  truncf .bf16 (shapeCast _ a shapeCasts_S1x1024x1024_S1024x1024 : FVec Ideal S1024x1024 .f32) bitsLt_bf16_f32
/-- The gate's bias. -/
def bgate (a : FVec Ideal S1x1024 .f32) : FVec Ideal S1x1024 .f32 :=
  shapeCast _ (shapeCast _ a shapeCasts_S1x1024_S1024 : FVec Ideal S1024 .f32) shapeCasts_S1024_S1x1024

/-- `up` at one element. -/
theorem up_apply (a : FVec Ideal S1x2x1024x2816 .f32) (d : Fin 1024) (h : Fin 2816) : up a (ix2 d h) = a (ix4 0 1 d h) := by
  pointwise [up]

/-- `down` at one element. -/
theorem down_apply (a : FVec Ideal S1x2x2816x1024 .f32) (h : Fin 2816) (d : Fin 1024) : down a (ix2 h d) = a (ix4 0 1 h d) := by
  pointwise [down]

/-- `third` at one element. -/
theorem third_apply (a : FVec Ideal S1x4x1024 .f32) (j : Fin 1024) : third a (ix2 0 j) = a (ix3 0 2 j) := by
  pointwise [third]

/-- `fourth` at one element. -/
theorem fourth_apply (a : FVec Ideal S1x4x1024 .f32) (j : Fin 1024) : fourth a (ix2 0 j) = a (ix3 0 3 j) := by
  pointwise [fourth]

/-- `embeds` at one element. -/
theorem embeds_apply (p : FVec Ideal S1x8x8192x256 .f32) (R : Fin 65536) (i : Fin 256) :
    embeds p (ix2 R i) = p (ix4 0 (OutRef.bi R) (OutRef.ti R) i) := by
  pointwise [embeds]

/-- `wple` at one element. -/
theorem wple_apply (a : FVec Ideal S1x256x1024 .f32) (i : Fin 256) (j : Fin 1024) : wple a (ix2 i j) = a (ix3 0 i j) := by
  pointwise [wple]

/-- `wgate` at one element. -/
theorem wgate_apply (a : FVec Ideal S1x1024x1024 .f32) (d j : Fin 1024) : wgate a (ix2 d j) = a (ix3 0 d j) := by
  pointwise [wgate]

/-- `bgate` at one element. -/
theorem bgate_apply (a : FVec Ideal S1x1024 .f32) (j : Fin 1024) : bgate a (ix2 0 j) = a (ix2 0 j) := by
  pointwise [bgate]

/-- The region finds argument 0 as launched. -/
theorem V_arg0 : V m c main_arg0 = m ((c.tc : Thread nD τ).loc main_arg0) := by unfold V; after_results
/-- What the host operations leave in `main_v2`, of the arguments. -/
theorem V_v2 : V m c main_v2 = up (m ((c.tc : Thread nD τ).loc main_arg4)) := by unfold V up; after_results; rfl
/-- What the host operations leave in `main_v5`, of the arguments. -/
theorem V_v5 : V m c main_v5 = up (m ((c.tc : Thread nD τ).loc main_arg5)) := by unfold V up; after_results; rfl
/-- What the host operations leave in `main_v8`, of the arguments. -/
theorem V_v8 : V m c main_v8 = down (m ((c.tc : Thread nD τ).loc main_arg6)) := by unfold V down; after_results; rfl
/-- What the host operations leave in `main_v11`, of the arguments. -/
theorem V_v11 : V m c main_v11 = third (m ((c.tc : Thread nD τ).loc main_arg2)) := by unfold V third; after_results; rfl
/-- What the host operations leave in `main_v14`, of the arguments. -/
theorem V_v14 : V m c main_v14 = third (m ((c.tc : Thread nD τ).loc main_arg3)) := by unfold V third; after_results; rfl
/-- What the host operations leave in `main_v16`, of the arguments. -/
theorem V_v16 : V m c main_v16 = embeds (m ((c.tc : Thread nD τ).loc main_arg1)) := by unfold V embeds; after_results; rfl
/-- What the host operations leave in `main_v18`, of the arguments. -/
theorem V_v18 : V m c main_v18 = wple (m ((c.tc : Thread nD τ).loc main_arg7)) := by unfold V wple; after_results; rfl
/-- What the host operations leave in `main_v20`, of the arguments. -/
theorem V_v20 : V m c main_v20 = wgate (m ((c.tc : Thread nD τ).loc main_arg8)) := by unfold V wgate; after_results; rfl
/-- What the host operations leave in `main_v22`, of the arguments. -/
theorem V_v22 : V m c main_v22 = bgate (m ((c.tc : Thread nD τ).loc main_arg9)) := by unfold V bgate; after_results; rfl
/-- What the host operations leave in `main_v25`, of the arguments. -/
theorem V_v25 : V m c main_v25 = fourth (m ((c.tc : Thread nD τ).loc main_arg2)) := by unfold V fourth; after_results; rfl
/-- What the host operations leave in `main_v28`, of the arguments. -/
theorem V_v28 : V m c main_v28 = fourth (m ((c.tc : Thread nD τ).loc main_arg3)) := by unfold V fourth; after_results; rfl

/-- The rows a point reads. -/
theorem x_block (r : Fin 1024) (j : Fin 1024) : (iblk m c 0 t : Vec Ideal S1024x1024 .f32) (ix2 r j)
    = (m ((c.tc : Thread nD τ).loc main_arg0) : FVec Ideal S65536x1024 .f32) (ix2 (row t r) j) := by
  rw [← V_arg0 m c]
  unfold iblk
  rw [View.read_apply]
  show V m c main_arg0 _ = V m c main_arg0 _
  congr 1
  funext a
  apply Fin.ext
  match a with
  | ⟨0, _⟩ => show win0_0.index t 0 * 1024 + 1 * r.val = (grid0.coords t 0).val * 1024 + r.val; rw [idx0]; show (grid0.coords t 0).val * 1024 + 1 * r.val = _; omega
  | ⟨1, _⟩ => show win0_0.index t 1 * 1024 + 1 * j.val = j.val; rw [idx0]; show 0 * 1024 + 1 * j.val = _; omega

/-- The gate weights every point reads. -/
theorem g_block (d : Fin 1024) (h : Fin 2816) : (iblk m c 1 t : Vec Ideal S1024x2816 .bf16) (ix2 d h)
    = (m ((c.tc : Thread nD τ).loc main_arg4) : FVec Ideal S1x2x1024x2816 .f32) (ix4 0 1 d h) := by
  refine Eq.trans ?_ (up_apply _ d h)
  rw [← V_v2 m c]
  unfold iblk
  rw [View.read_apply]
  show V m c main_v2 _ = V m c main_v2 _
  congr 1
  funext a
  apply Fin.ext
  match a with
  | ⟨0, _⟩ => show 0 * 1024 + 1 * d.val = d.val; omega
  | ⟨1, _⟩ => show 0 * 2816 + 1 * h.val = h.val; omega

/-- The up weights every point reads. -/
theorem u_block (d : Fin 1024) (h : Fin 2816) : (iblk m c 2 t : Vec Ideal S1024x2816 .bf16) (ix2 d h)
    = (m ((c.tc : Thread nD τ).loc main_arg5) : FVec Ideal S1x2x1024x2816 .f32) (ix4 0 1 d h) := by
  refine Eq.trans ?_ (up_apply _ d h)
  rw [← V_v5 m c]
  unfold iblk
  rw [View.read_apply]
  show V m c main_v5 _ = V m c main_v5 _
  congr 1
  funext a
  apply Fin.ext
  match a with
  | ⟨0, _⟩ => show 0 * 1024 + 1 * d.val = d.val; omega
  | ⟨1, _⟩ => show 0 * 2816 + 1 * h.val = h.val; omega

/-- The down weights every point reads. -/
theorem d_block (h : Fin 2816) (d : Fin 1024) : (iblk m c 3 t : Vec Ideal S2816x1024 .bf16) (ix2 h d)
    = (m ((c.tc : Thread nD τ).loc main_arg6) : FVec Ideal S1x2x2816x1024 .f32) (ix4 0 1 h d) := by
  refine Eq.trans ?_ (down_apply _ h d)
  rw [← V_v8 m c]
  unfold iblk
  rw [View.read_apply]
  show V m c main_v8 _ = V m c main_v8 _
  congr 1
  funext a
  apply Fin.ext
  match a with
  | ⟨0, _⟩ => show 0 * 2816 + 1 * h.val = h.val; omega
  | ⟨1, _⟩ => show 0 * 1024 + 1 * d.val = d.val; omega

/-- The first gains every point reads. -/
theorem g2_block (j : Fin 1024) : (iblk m c 4 t : Vec Ideal S1x1024 .f32) (ix2 0 j)
    = (m ((c.tc : Thread nD τ).loc main_arg2) : FVec Ideal S1x4x1024 .f32) (ix3 0 2 j) := by
  refine Eq.trans ?_ (third_apply _ j)
  rw [← V_v11 m c]
  unfold iblk
  rw [View.read_apply]
  show V m c main_v11 _ = V m c main_v11 _
  congr 1
  funext a
  apply Fin.ext
  match a with
  | ⟨0, _⟩ => show 0 * 1 + 1 * 0 = 0; omega
  | ⟨1, _⟩ => show 0 * 1024 + 1 * j.val = j.val; omega

/-- The first biases every point reads. -/
theorem b2_block (j : Fin 1024) : (iblk m c 5 t : Vec Ideal S1x1024 .f32) (ix2 0 j)
    = (m ((c.tc : Thread nD τ).loc main_arg3) : FVec Ideal S1x4x1024 .f32) (ix3 0 2 j) := by
  refine Eq.trans ?_ (third_apply _ j)
  rw [← V_v14 m c]
  unfold iblk
  rw [View.read_apply]
  show V m c main_v14 _ = V m c main_v14 _
  congr 1
  funext a
  apply Fin.ext
  match a with
  | ⟨0, _⟩ => show 0 * 1 + 1 * 0 = 0; omega
  | ⟨1, _⟩ => show 0 * 1024 + 1 * j.val = j.val; omega

/-- The embeddings a point reads. -/
theorem p_block (r : Fin 1024) (i : Fin 256) : (iblk m c 6 t : Vec Ideal S1024x256 .f32) (ix2 r i)
    = (m ((c.tc : Thread nD τ).loc main_arg1) : FVec Ideal S1x8x8192x256 .f32) (ix4 0 (OutRef.bi (row t r)) (OutRef.ti (row t r)) i) := by
  refine Eq.trans ?_ (embeds_apply _ (row t r) i)
  rw [← V_v16 m c]
  unfold iblk
  rw [View.read_apply]
  show V m c main_v16 _ = V m c main_v16 _
  congr 1
  funext a
  apply Fin.ext
  match a with
  | ⟨0, _⟩ => show win0_6.index t 0 * 1024 + 1 * r.val = (grid0.coords t 0).val * 1024 + r.val; rw [idx6]; show (grid0.coords t 0).val * 1024 + 1 * r.val = _; omega
  | ⟨1, _⟩ => show win0_6.index t 1 * 256 + 1 * i.val = i.val; rw [idx6]; show 0 * 256 + 1 * i.val = _; omega

/-- The embedding's weights every point reads. -/
theorem wp_block (i : Fin 256) (j : Fin 1024) : (iblk m c 7 t : Vec Ideal S256x1024 .bf16) (ix2 i j)
    = (m ((c.tc : Thread nD τ).loc main_arg7) : FVec Ideal S1x256x1024 .f32) (ix3 0 i j) := by
  refine Eq.trans ?_ (wple_apply _ i j)
  rw [← V_v18 m c]
  unfold iblk
  rw [View.read_apply]
  show V m c main_v18 _ = V m c main_v18 _
  congr 1
  funext a
  apply Fin.ext
  match a with
  | ⟨0, _⟩ => show 0 * 256 + 1 * i.val = i.val; omega
  | ⟨1, _⟩ => show 0 * 1024 + 1 * j.val = j.val; omega

/-- The gate's weights every point reads. -/
theorem w_block (d : Fin 1024) (j : Fin 1024) : (iblk m c 8 t : Vec Ideal S1024x1024 .bf16) (ix2 d j)
    = (m ((c.tc : Thread nD τ).loc main_arg8) : FVec Ideal S1x1024x1024 .f32) (ix3 0 d j) := by
  refine Eq.trans ?_ (wgate_apply _ d j)
  rw [← V_v20 m c]
  unfold iblk
  rw [View.read_apply]
  show V m c main_v20 _ = V m c main_v20 _
  congr 1
  funext a
  apply Fin.ext
  match a with
  | ⟨0, _⟩ => show 0 * 1024 + 1 * d.val = d.val; omega
  | ⟨1, _⟩ => show 0 * 1024 + 1 * j.val = j.val; omega

/-- The gate's bias every point reads. -/
theorem bg_block (j : Fin 1024) : (iblk m c 9 t : Vec Ideal S1x1024 .f32) (ix2 0 j)
    = (m ((c.tc : Thread nD τ).loc main_arg9) : FVec Ideal S1x1024 .f32) (ix2 0 j) := by
  refine Eq.trans ?_ (bgate_apply _ j)
  rw [← V_v22 m c]
  unfold iblk
  rw [View.read_apply]
  show V m c main_v22 _ = V m c main_v22 _
  congr 1
  funext a
  apply Fin.ext
  match a with
  | ⟨0, _⟩ => show 0 * 1 + 1 * 0 = 0; omega
  | ⟨1, _⟩ => show 0 * 1024 + 1 * j.val = j.val; omega

/-- The second gains every point reads. -/
theorem g3_block (j : Fin 1024) : (iblk m c 10 t : Vec Ideal S1x1024 .f32) (ix2 0 j)
    = (m ((c.tc : Thread nD τ).loc main_arg2) : FVec Ideal S1x4x1024 .f32) (ix3 0 3 j) := by
  refine Eq.trans ?_ (fourth_apply _ j)
  rw [← V_v25 m c]
  unfold iblk
  rw [View.read_apply]
  show V m c main_v25 _ = V m c main_v25 _
  congr 1
  funext a
  apply Fin.ext
  match a with
  | ⟨0, _⟩ => show 0 * 1 + 1 * 0 = 0; omega
  | ⟨1, _⟩ => show 0 * 1024 + 1 * j.val = j.val; omega

/-- The second biases every point reads. -/
theorem b3_block (j : Fin 1024) : (iblk m c 11 t : Vec Ideal S1x1024 .f32) (ix2 0 j)
    = (m ((c.tc : Thread nD τ).loc main_arg3) : FVec Ideal S1x4x1024 .f32) (ix3 0 3 j) := by
  refine Eq.trans ?_ (fourth_apply _ j)
  rw [← V_v28 m c]
  unfold iblk
  rw [View.read_apply]
  show V m c main_v28 _ = V m c main_v28 _
  congr 1
  funext a
  apply Fin.ext
  match a with
  | ⟨0, _⟩ => show 0 * 1 + 1 * 0 = 0; omega
  | ⟨1, _⟩ => show 0 * 1024 + 1 * j.val = j.val; omega

/-- The result, as contents of the result array. -/
abbrev res : Buf (Elt Ideal) ((c.tc : Thread nD τ).loc main_v29) :=
  Cert.OutRef.result (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- No block is cut: a write-back moves the whole block. -/
theorem cut12 (f : S1024x1024.Idx → EReal) (j : S1024x1024.Idx) : (cfg0.win 12).cut (grid0.coords t) f j = f j := rfl

/-- The output block of a point sits in the result at its rows. -/
theorem read12 (G : S65536x1024.Idx → EReal) (r j : Fin 1024) :
    ((cfg0.win 12).blk t).view.read (Elt Ideal) G (ix2 r j : S1024x1024.Idx) = G (ix2 (row t r) j) := by
  rw [View.read_apply]
  show G _ = G _
  congr 1
  funext a
  apply Fin.ext
  match a with
  | ⟨0, _⟩ => show win0_12.index t 0 * 1024 + 1 * r.val = (grid0.coords t 0).val * 1024 + r.val; rw [idx12]; show (grid0.coords t 0).val * 1024 + 1 * r.val = _; omega
  | ⟨1, _⟩ => show win0_12.index t 1 * 1024 + 1 * j.val = j.val; rw [idx12]; show 0 * 1024 + 1 * j.val = _; omega

/-- The rows a point's network leaves after the first layer norm are the reference's. -/
theorem mid_block (r j : Fin 1024) : mid (iblk m c 0 t) (iblk m c 1 t) (iblk m c 2 t) (iblk m c 3 t) (iblk m c 4 t) (iblk m c 5 t) r j
    = Cert.OutRef.mid (m ((c.tc : Thread nD τ).loc main_arg0)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (ix2 (row t r) j) := by
  unfold mid
  simp only [x_block m c t, g_block m c t, u_block m c t, d_block m c t, g2_block m c t, b2_block m c t]
  exact (Cert.OutRef.mid_apply _ _ _ _ _ _ (row t r) j).symm

/-- Element `(r, d)` of a point's block is the result's at the block's rows. -/
theorem block_eq (r d : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
    = (res m c : FVec Ideal S65536x1024 .f32) (ix2 (row t r) d) := by
  refine (body (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d).trans ?_
  refine Eq.trans ?_ (Cert.OutRef.result_apply _ _ _ _ _ _ _ _ _ _ (row t r) d).symm
  rw [show mid (iblk m c 0 t) (iblk m c 1 t) (iblk m c 2 t) (iblk m c 3 t) (iblk m c 4 t) (iblk m c 5 t) r = _ from funext fun j => mid_block m c t r j]
  simp only [p_block m c t, wp_block m c t, w_block m c t, bg_block m c t, g3_block m c t, b3_block m c t]

/-- What a point writes back is its block of the result. -/
theorem flushed_eq : (dats m 0 c).flushed 12 t = ((cfg0.win 12).blk t).view.read (Elt Ideal) (res m c) := by
  rw [Cert.OutKernelIdeal.Value.flushed12]
  funext j
  obtain ⟨r, d, hj⟩ : ∃ (r d : Fin 1024), j = ix2 r d := ⟨_, _, ValueIdx.eq_ix2 j⟩
  subst hj
  refine (cut12 t _ _).trans (Eq.trans ?_ (read12 t (res m c) r d).symm)
  exact block_eq m c t r d

/-- Every element of the result array is in some point's block. -/
theorem covered (i : S65536x1024.Idx) : ∃ t : Fin cfg0.N, i ∈ ((cfg0.win 12).blk t).view.set := by
  have h0 : (i 0).val < 65536 := (i 0).isLt
  have h1 : (i 1).val < 1024 := (i 1).isLt
  obtain ⟨t, ht⟩ := Pipeline.Grid.coords_surjective grid0 (fun a => match a with
    | ⟨0, _⟩ => (⟨(i 0).val / 1024, by omega⟩ : Fin 64))
  have e0 : (grid0.coords t 0).val = (i 0).val / 1024 := by rw [ht]
  refine ⟨t, ?_⟩
  show i ∈ ((View.whole main_v29).slice (win0_12.rect t)).set
  rw [View.set_slice_whole, Rect.mem_set_unit]
  intro a
  match a with
  | ⟨0, _⟩ => show win0_12.index t 0 * 1024 ≤ (i 0).val ∧ (i 0).val < win0_12.index t 0 * 1024 + 1024
              rw [idx12]; show (grid0.coords t 0).val * 1024 ≤ _ ∧ _ < (grid0.coords t 0).val * 1024 + 1024; omega
  | ⟨1, _⟩ => show win0_12.index t 1 * 1024 ≤ (i 1).val ∧ (i 1).val < win0_12.index t 1 * 1024 + 1024
              rw [idx12]; show 0 * 1024 ≤ _ ∧ _ < 0 * 1024 + 1024; omega

/-- THE RESULT ARRAY after the run is the reference's result of the ten arguments. -/
theorem final : (dats m 0 c).arrAt 12 cfg0.N = res m c :=
  (dats m 0 c).arrAt_eq_of_cover 12 (res m c) (fun t _ => flushed_eq m c t) fun i =>
    let ⟨t, ht⟩ := covered i
    ⟨t, flush0_12 t, ht⟩

end Cert.Out

end
-- ==== Proof.LayerRef.lean ====
/-
  The composition of the references: the feed-forward network's rows, the projections of them, the attention over three of
  the projections, the merge of the branches and the last call, and that the composed reference program computes it.
-/
module

public import proofs.«01_k».proof.Proof.FfnRef
public import proofs.«01_k».proof.Proof.ProjRef
public import proofs.«01_k».proof.Proof.SbRef
public import proofs.«01_k».proof.Proof.MergeRef
public import proofs.«01_k».proof.Proof.OutRef
public import proofs.«01_k».proof.Proof.Gen.LayerReferenceIdeal.Run

@[expose] public section

set_option maxRecDepth 16384

noncomputable section

open Idealize.ShloMosaic Idealize.ShloMosaic.TcCoe Idealize.SL.Sem
open Cert.LayerReferenceIdeal Cert.LayerReferenceIdeal.Gen
open Cert.LayerReferenceIdeal.Value

namespace Cert.LayerRef

/-- Flat rows as batches of sequences. -/
def seq (a : FVec Ideal S65536x1024 .bf16) : FVec Ideal S8x8192x1024 .bf16 := shapeCast _ a shapeCasts_S65536x1024_S8x8192x1024

/-- The attention over the projections of the rows. -/
def attended (y : FVec Ideal S65536x1024 .f32) (w : FVec Ideal S1x1024x8200 .f32) (bi : FVec Ideal S1x8200 .f32) : FVec Ideal S8x8192x1024 .bf16 :=
  Cert.SbRef.result (seq (Cert.ProjRef.result3 y w bi)) (seq (Cert.ProjRef.result4 y w bi)) (seq (Cert.ProjRef.result5 y w bi))

/-- The rows after the merge of the given branch and the attention. -/
def merged (y : FVec Ideal S65536x1024 .f32) (ya : FVec Ideal S8x8192x1024 .bf16) (w : FVec Ideal S1x1024x8200 .f32) (bi : FVec Ideal S1x8200 .f32)
    (wa wb wo : FVec Ideal S1x1024x1024 .f32) (g b : FVec Ideal S1x4x1024 .f32) : FVec Ideal S65536x1024 .f32 :=
  Cert.MergeRef.result y ya (attended y w bi) (Cert.ProjRef.result6 y w bi) (Cert.ProjRef.result7 y w bi) wa wb wo g b

/-- The layer's result, of its sixteen arguments. -/
def result (x : FVec Ideal S8x8192x1024 .f32) (ya : FVec Ideal S8x8192x1024 .bf16) (p : FVec Ideal S1x8x8192x256 .f32) (g b : FVec Ideal S1x4x1024 .f32)
    (wg wu : FVec Ideal S1x2x1024x2816 .f32) (wd : FVec Ideal S1x2x2816x1024 .f32) (w : FVec Ideal S1x1024x8200 .f32) (bi : FVec Ideal S1x8200 .f32)
    (wa wb wo : FVec Ideal S1x1024x1024 .f32) (wp : FVec Ideal S1x256x1024 .f32) (wq : FVec Ideal S1x1024x1024 .f32) (bq : FVec Ideal S1x1024 .f32) :
    FVec Ideal S65536x1024 .f32 :=
  Cert.OutRef.result (merged (Cert.FfnRef.result x g b wg wu wd) ya w bi wa wb wo g b) p g b wg wu wd wp wq bq

variable (V0 : Valuation τ sig (Elt Ideal))

set_option maxHeartbeats 2000000 in
/-- The program's rows after the feed-forward network. -/
theorem net_eq : res_main_v44 V0 = Cert.FfnRef.result (V0 (Proc.devRef .tc main_arg0)) (V0 (Proc.devRef .tc main_arg3)) (V0 (Proc.devRef .tc main_arg4))
    (V0 (Proc.devRef .tc main_arg5)) (V0 (Proc.devRef .tc main_arg6)) (V0 (Proc.devRef .tc main_arg7)) := by
  unfold res_main_v44 res_main_v25 res_main_v23 res_main_v15 res_main_v8 Cert.FfnRef.result Cert.FfnRef.norm Cert.FfnRef.spread Cert.FfnRef.centred
    Cert.FfnRef.means Cert.FfnRef.pre Cert.FfnRef.hidden Cert.FfnRef.proj Cert.FfnRef.up Cert.FfnRef.down
  rfl

/-- The program's projections of those rows. -/
theorem proj_eq : res_main_v50 V0 = Cert.ProjRef.proj (res_main_v44 V0) (V0 (Proc.devRef .tc main_arg8)) (V0 (Proc.devRef .tc main_arg9)) := by
  unfold res_main_v50 Cert.ProjRef.proj
  rfl

/-- The program's logits of the attention. -/
theorem logits_eq : res_main_v82 V0 = Cert.SbRef.logits
    (seq (Cert.ProjRef.result3 (res_main_v44 V0) (V0 (Proc.devRef .tc main_arg8)) (V0 (Proc.devRef .tc main_arg9))))
    (seq (Cert.ProjRef.result4 (res_main_v44 V0) (V0 (Proc.devRef .tc main_arg8)) (V0 (Proc.devRef .tc main_arg9)))) := by
  unfold res_main_v82 res_main_v55
  rw [proj_eq]
  unfold Cert.SbRef.logits Cert.SbRef.heads seq Cert.ProjRef.result3 Cert.ProjRef.result4
  rfl

set_option maxHeartbeats 4000000 in
/-- The program's rows before the norm of the merge. -/
theorem pre_eq : res_main_v129 V0 = Cert.MergeRef.pre (res_main_v44 V0) (Cert.MergeRef.proj (Cert.MergeRef.both
      (Cert.ProjRef.result6 (res_main_v44 V0) (V0 (Proc.devRef .tc main_arg8)) (V0 (Proc.devRef .tc main_arg9)))
      (Cert.MergeRef.proj (Cert.MergeRef.branch (V0 (Proc.devRef .tc main_arg1))) (V0 (Proc.devRef .tc main_arg10)))
      (Cert.ProjRef.result7 (res_main_v44 V0) (V0 (Proc.devRef .tc main_arg8)) (V0 (Proc.devRef .tc main_arg9)))
      (Cert.MergeRef.proj (Cert.MergeRef.branch (attended (res_main_v44 V0) (V0 (Proc.devRef .tc main_arg8)) (V0 (Proc.devRef .tc main_arg9))))
        (V0 (Proc.devRef .tc main_arg11)))) (V0 (Proc.devRef .tc main_arg12))) := by
  unfold res_main_v129 res_main_v91 res_main_call5_call0_v3 res_main_call5_call0_cst res_main_call5_v0 res_main_call2_v3 res_main_call2_cst
    res_main_v88 res_main_v83 res_main_v56 res_main_v55
  rw [logits_eq, proj_eq]
  unfold attended Cert.SbRef.result Cert.SbRef.weights Cert.SbRef.logs Cert.SbRef.softplus Cert.SbRef.mask Cert.SbRef.zeros Cert.SbRef.heads
    Cert.MergeRef.pre Cert.MergeRef.both Cert.MergeRef.branch Cert.MergeRef.proj Cert.MergeRef.gate seq
    Cert.ProjRef.result5 Cert.ProjRef.result6 Cert.ProjRef.result7
  rfl

set_option maxHeartbeats 2000000 in
/-- The program's rows after the merge. -/
theorem merged_eq : res_main_v157 V0 = merged (res_main_v44 V0) (V0 (Proc.devRef .tc main_arg1)) (V0 (Proc.devRef .tc main_arg8))
    (V0 (Proc.devRef .tc main_arg9)) (V0 (Proc.devRef .tc main_arg10)) (V0 (Proc.devRef .tc main_arg11)) (V0 (Proc.devRef .tc main_arg12))
    (V0 (Proc.devRef .tc main_arg3)) (V0 (Proc.devRef .tc main_arg4)) := by
  unfold res_main_v157 res_main_v139 res_main_v137
  rw [pre_eq]
  unfold merged Cert.MergeRef.result Cert.MergeRef.norm Cert.MergeRef.spread Cert.MergeRef.second Cert.MergeRef.centred Cert.MergeRef.means
  rfl

set_option maxHeartbeats 2000000 in
/-- The program's rows after the last feed-forward network. -/
theorem mid_eq : res_main_v201 V0 = Cert.OutRef.mid (res_main_v157 V0) (V0 (Proc.devRef .tc main_arg3)) (V0 (Proc.devRef .tc main_arg4))
    (V0 (Proc.devRef .tc main_arg5)) (V0 (Proc.devRef .tc main_arg6)) (V0 (Proc.devRef .tc main_arg7)) := by
  unfold res_main_v201 res_main_v183 res_main_v181 res_main_v173 res_main_v166 Cert.OutRef.mid Cert.OutRef.norm Cert.OutRef.spread Cert.OutRef.third
    Cert.OutRef.centred Cert.OutRef.means Cert.OutRef.pre Cert.OutRef.hidden Cert.OutRef.proj Cert.OutRef.up Cert.OutRef.down
  rfl

/-- The result of a memory's arguments. -/
abbrev res (m : (ℓ : Loc nD τ sig) → Buf (Elt Ideal) ℓ) (c : Dev nD) : FVec Ideal S65536x1024 .f32 :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15))

set_option maxHeartbeats 2000000 in
/-- Every run of the composed reference program ends with that result in its result array and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v249) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (by
    unfold res_main_v231 res_main_v229 res_main_v221
    rw [mid_eq, merged_eq, net_eq]
    unfold res result Cert.OutRef.result Cert.OutRef.last Cert.OutRef.norm Cert.OutRef.post Cert.OutRef.gate Cert.OutRef.embed Cert.OutRef.spread
      Cert.OutRef.fourth Cert.OutRef.centred Cert.OutRef.means
    rfl), (h c).2⟩) (Cert.LayerReferenceIdeal.Value.run m ρ)

end Cert.LayerRef

end
-- ==== Proof.LayerHosts.lean ====
/-
  What the layer's stretches of host operations leave in the arrays its regions read, of the contents they start from: what
  each call's own host operations leave of its own arguments.
-/
module

public import proofs.«01_k».proof.Proof.LayerRef
public import proofs.«01_k».proof.Proof.FfnValue
public import proofs.«01_k».proof.Proof.ProjValue
public import proofs.«01_k».proof.Proof.SbBlocks
public import proofs.«01_k».proof.Proof.MergeValue
public import proofs.«01_k».proof.Proof.OutValue
public import proofs.«01_k».proof.Proof.Gen.LayerKernelIdeal.Launch

@[expose] public section

set_option maxRecDepth 16384

noncomputable section

open Idealize.ShloMosaic Idealize.ShloMosaic.TcCoe Idealize.SL.Sem
open Cert.LayerKernelIdeal Cert.LayerKernelIdeal.Gen

namespace Cert.Layer

variable (W : Valuation τ sig (Elt Ideal))

/-- What the stretch before region 0 leaves in `main_v0`. -/
theorem host_v0 : StableHlo.after hostOps0 W (Proc.devRef .tc main_v0) = Cert.Ffn.flat (W (Proc.devRef .tc main_arg0)) := by
  unfold Cert.Ffn.flat
  after_results
  rfl
/-- What the stretch before region 0 leaves in `main_v3`. -/
theorem host_v3 : StableHlo.after hostOps0 W (Proc.devRef .tc main_v3) = Cert.Ffn.up (W (Proc.devRef .tc main_arg5)) := by
  unfold Cert.Ffn.up
  after_results
  rfl
/-- What the stretch before region 0 leaves in `main_v6`. -/
theorem host_v6 : StableHlo.after hostOps0 W (Proc.devRef .tc main_v6) = Cert.Ffn.up (W (Proc.devRef .tc main_arg6)) := by
  unfold Cert.Ffn.up
  after_results
  rfl
/-- What the stretch before region 0 leaves in `main_v9`. -/
theorem host_v9 : StableHlo.after hostOps0 W (Proc.devRef .tc main_v9) = Cert.Ffn.down (W (Proc.devRef .tc main_arg7)) := by
  unfold Cert.Ffn.down
  after_results
  rfl
/-- What the stretch before region 0 leaves in `main_v12`. -/
theorem host_v12 : StableHlo.after hostOps0 W (Proc.devRef .tc main_v12) = Cert.Ffn.gain (W (Proc.devRef .tc main_arg3)) := by
  unfold Cert.Ffn.gain
  after_results
  rfl
/-- What the stretch before region 0 leaves in `main_v15`. -/
theorem host_v15 : StableHlo.after hostOps0 W (Proc.devRef .tc main_v15) = Cert.Ffn.gain (W (Proc.devRef .tc main_arg4)) := by
  unfold Cert.Ffn.gain
  after_results
  rfl
/-- What the stretch before region 1 leaves in `main_v22`. -/
theorem host_v22 : StableHlo.after hostOps1_4 (StableHlo.after hostOps1_3 (StableHlo.after hostOps1_2 (StableHlo.after hostOps1_1 (StableHlo.after hostOps1 W)))) (Proc.devRef .tc main_v22) = Cert.Proj.wmain (W (Proc.devRef .tc main_arg8)) := by
  unfold Cert.Proj.wmain
  after_results
  rfl
/-- What the stretch before region 1 leaves in `main_v28`. -/
theorem host_v28 : StableHlo.after hostOps1_4 (StableHlo.after hostOps1_3 (StableHlo.after hostOps1_2 (StableHlo.after hostOps1_1 (StableHlo.after hostOps1 W)))) (Proc.devRef .tc main_v28) = Cert.Proj.bmain (W (Proc.devRef .tc main_arg9)) := by
  unfold Cert.Proj.bmain
  after_results
  rfl
/-- What the stretch before region 1 leaves in `main_v34`. -/
theorem host_v34 : StableHlo.after hostOps1_4 (StableHlo.after hostOps1_3 (StableHlo.after hostOps1_2 (StableHlo.after hostOps1_1 (StableHlo.after hostOps1 W)))) (Proc.devRef .tc main_v34) = Cert.Proj.wpad (W (Proc.devRef .tc main_arg8)) := by
  unfold Cert.Proj.wpad Cert.Proj.wgate
  after_results
  rfl
/-- What the stretch before region 1 leaves in `main_v36`. -/
theorem host_v36 : StableHlo.after hostOps1_4 (StableHlo.after hostOps1_3 (StableHlo.after hostOps1_2 (StableHlo.after hostOps1_1 (StableHlo.after hostOps1 W)))) (Proc.devRef .tc main_v36) = Cert.Proj.bpad (W (Proc.devRef .tc main_arg9)) := by
  unfold Cert.Proj.bpad Cert.Proj.bgate
  after_results
  rfl
/-- What the stretch before region 1 leaves in `main_v38`. -/
theorem host_v38 : StableHlo.after hostOps1_4 (StableHlo.after hostOps1_3 (StableHlo.after hostOps1_2 (StableHlo.after hostOps1_1 (StableHlo.after hostOps1 W)))) (Proc.devRef .tc main_v38) = Cert.Proj.wrow (W (Proc.devRef .tc main_arg8)) := by
  unfold Cert.Proj.wrow Cert.Proj.wgate
  after_results
  rfl
/-- What the stretch before region 1 leaves in `main_v39`. -/
theorem host_v39 : StableHlo.after hostOps1_4 (StableHlo.after hostOps1_3 (StableHlo.after hostOps1_2 (StableHlo.after hostOps1_1 (StableHlo.after hostOps1 W)))) (Proc.devRef .tc main_v39) = Cert.Proj.brow (W (Proc.devRef .tc main_arg9)) := by
  unfold Cert.Proj.brow Cert.Proj.bgate
  after_results
  rfl
/-- What the stretch before region 3 leaves in `main_v54`. -/
theorem host_v54 : StableHlo.after hostOps3 W (Proc.devRef .tc main_v54) = Cert.Merge.flat (W (Proc.devRef .tc main_arg1)) := by
  unfold Cert.Merge.flat
  after_results
  rfl
/-- What the stretch before region 3 leaves in `main_v55`. -/
theorem host_v55 : StableHlo.after hostOps3 W (Proc.devRef .tc main_v55) = Cert.Merge.flat (W (Proc.devRef .tc main_v53)) := by
  unfold Cert.Merge.flat
  after_results
  rfl
/-- What the stretch before region 3 leaves in `main_v57`. -/
theorem host_v57 : StableHlo.after hostOps3 W (Proc.devRef .tc main_v57) = Cert.Merge.weight (W (Proc.devRef .tc main_arg10)) := by
  unfold Cert.Merge.weight
  after_results
  rfl
/-- What the stretch before region 3 leaves in `main_v59`. -/
theorem host_v59 : StableHlo.after hostOps3 W (Proc.devRef .tc main_v59) = Cert.Merge.weight (W (Proc.devRef .tc main_arg11)) := by
  unfold Cert.Merge.weight
  after_results
  rfl
/-- What the stretch before region 3 leaves in `main_v61`. -/
theorem host_v61 : StableHlo.after hostOps3 W (Proc.devRef .tc main_v61) = Cert.Merge.weight (W (Proc.devRef .tc main_arg12)) := by
  unfold Cert.Merge.weight
  after_results
  rfl
/-- What the stretch before region 3 leaves in `main_v64`. -/
theorem host_v64 : StableHlo.after hostOps3 W (Proc.devRef .tc main_v64) = Cert.Merge.second (W (Proc.devRef .tc main_arg3)) := by
  unfold Cert.Merge.second
  after_results
  rfl
/-- What the stretch before region 3 leaves in `main_v67`. -/
theorem host_v67 : StableHlo.after hostOps3 W (Proc.devRef .tc main_v67) = Cert.Merge.second (W (Proc.devRef .tc main_arg4)) := by
  unfold Cert.Merge.second
  after_results
  rfl
/-- What the stretch before region 4 leaves in `main_v71`. -/
theorem host_v71 : StableHlo.after hostOps4 W (Proc.devRef .tc main_v71) = Cert.Out.up (W (Proc.devRef .tc main_arg5)) := by
  unfold Cert.Out.up
  after_results
  rfl
/-- What the stretch before region 4 leaves in `main_v74`. -/
theorem host_v74 : StableHlo.after hostOps4 W (Proc.devRef .tc main_v74) = Cert.Out.up (W (Proc.devRef .tc main_arg6)) := by
  unfold Cert.Out.up
  after_results
  rfl
/-- What the stretch before region 4 leaves in `main_v77`. -/
theorem host_v77 : StableHlo.after hostOps4 W (Proc.devRef .tc main_v77) = Cert.Out.down (W (Proc.devRef .tc main_arg7)) := by
  unfold Cert.Out.down
  after_results
  rfl
/-- What the stretch before region 4 leaves in `main_v80`. -/
theorem host_v80 : StableHlo.after hostOps4 W (Proc.devRef .tc main_v80) = Cert.Out.third (W (Proc.devRef .tc main_arg3)) := by
  unfold Cert.Out.third
  after_results
  rfl
/-- What the stretch before region 4 leaves in `main_v83`. -/
theorem host_v83 : StableHlo.after hostOps4 W (Proc.devRef .tc main_v83) = Cert.Out.third (W (Proc.devRef .tc main_arg4)) := by
  unfold Cert.Out.third
  after_results
  rfl
/-- What the stretch before region 4 leaves in `main_v85`. -/
theorem host_v85 : StableHlo.after hostOps4 W (Proc.devRef .tc main_v85) = Cert.Out.embeds (W (Proc.devRef .tc main_arg2)) := by
  unfold Cert.Out.embeds
  after_results
  rfl
/-- What the stretch before region 4 leaves in `main_v87`. -/
theorem host_v87 : StableHlo.after hostOps4 W (Proc.devRef .tc main_v87) = Cert.Out.wple (W (Proc.devRef .tc main_arg13)) := by
  unfold Cert.Out.wple
  after_results
  rfl
/-- What the stretch before region 4 leaves in `main_v89`. -/
theorem host_v89 : StableHlo.after hostOps4 W (Proc.devRef .tc main_v89) = Cert.Out.wgate (W (Proc.devRef .tc main_arg14)) := by
  unfold Cert.Out.wgate
  after_results
  rfl
/-- What the stretch before region 4 leaves in `main_v91`. -/
theorem host_v91 : StableHlo.after hostOps4 W (Proc.devRef .tc main_v91) = Cert.Out.bgate (W (Proc.devRef .tc main_arg15)) := by
  unfold Cert.Out.bgate
  after_results
  rfl
/-- What the stretch before region 4 leaves in `main_v94`. -/
theorem host_v94 : StableHlo.after hostOps4 W (Proc.devRef .tc main_v94) = Cert.Out.fourth (W (Proc.devRef .tc main_arg3)) := by
  unfold Cert.Out.fourth
  after_results
  rfl
/-- What the stretch before region 4 leaves in `main_v97`. -/
theorem host_v97 : StableHlo.after hostOps4 W (Proc.devRef .tc main_v97) = Cert.Out.fourth (W (Proc.devRef .tc main_arg4)) := by
  unfold Cert.Out.fourth
  after_results
  rfl
/-- What the stretch before region 2 leaves in `main_v41`. -/
theorem host_v41 : StableHlo.after hostOps2 W (Proc.devRef .tc main_v41) = Cert.LayerRef.seq (W (Proc.devRef .tc main_v40_3)) := by
  unfold Cert.LayerRef.seq
  after_results
  rfl
/-- What the stretch before region 2 leaves in `main_v42`. -/
theorem host_v42 : StableHlo.after hostOps2 W (Proc.devRef .tc main_v42) = Cert.LayerRef.seq (W (Proc.devRef .tc main_v40_4)) := by
  unfold Cert.LayerRef.seq
  after_results
  rfl
/-- What the stretch before region 2 leaves in `main_v43`. -/
theorem host_v43 : StableHlo.after hostOps2 W (Proc.devRef .tc main_v43) = Cert.LayerRef.seq (W (Proc.devRef .tc main_v40_5)) := by
  unfold Cert.LayerRef.seq
  after_results
  rfl
/-- What the stretch before region 2 leaves in `main_v52`. -/
theorem host_v52 : StableHlo.after hostOps2 W (Proc.devRef .tc main_v52) = Cert.Sb.triangles := by
  unfold Cert.Sb.triangles Cert.Sb.triangle
  after_results

end Cert.Layer

end
-- ==== Proof.LayerMemory.lean ====
/-
  A launch memory that holds given arguments: each buffer's contents set one after another over arbitrary ones.
-/
module

public import Idealize.ShloMosaic.PureOps.Ideal
public import Idealize.ShloMosaic.Lib.StableHlo.Run

@[expose] public section

noncomputable section

open Idealize.ShloMosaic

namespace Cert.Layer

/-- There is a value of every element type. -/
theorem nonempty : ∀ e : EltTy, Nonempty (Elt Ideal e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨(0 : EReal)⟩ | .fp8e5m2 => ⟨(0 : EReal)⟩ | .bf16 => ⟨(0 : EReal)⟩ | .f16 => ⟨(0 : EReal)⟩ | .f32 => ⟨(0 : EReal)⟩

variable {τ : Topo} {sig : RefSig}

/-- Some contents of every buffer. -/
def fill : Valuation τ sig (Elt Ideal) := fun _ _ => Classical.choice (nonempty _)

/-- Setting one buffer leaves those at other indices. -/
theorem apart {f : Valuation τ sig (Elt Ideal)} {a b : DevRef τ sig} {v : a.ty.Contents (Elt Ideal)} (h : b.idx.val ≠ a.idx.val) :
    Function.update f a v b = f b :=
  Function.update_of_ne (fun e : b = a => h (congrArg (fun d => d.idx.val) e)) v f

end Cert.Layer

end
-- ==== Proof.LayerFfn.lean ====
/-
  The feed-forward call as the layer's first region: entered with the arrays its own program finds, it leaves its own result.
-/
module

public import proofs.«01_k».proof.Proof.LayerMemory
public import proofs.«01_k».proof.Proof.FfnValue
public import proofs.«01_k».proof.Proof.Gen.LayerKernelIdeal.Frame.Region0

@[expose] public section

set_option maxRecDepth 16384

noncomputable section

open scoped BigOperators
open Idealize.ShloMosaic Idealize.ShloMosaic.TcCoe Idealize.SL.Sem
open Idealize.ShloMosaic.Pipeline (Dat)
open Cert.LayerKernelIdeal Cert.LayerKernelIdeal.Gen

namespace Cert.Layer.Ffn

/-- A launch memory of the call's own program that holds the given arguments. -/
def mem (x : FVec Ideal S8x8192x1024 .f32) (g : FVec Ideal S1x4x1024 .f32) (b : FVec Ideal S1x4x1024 .f32) (wg : FVec Ideal S1x2x1024x2816 .f32) (wu : FVec Ideal S1x2x1024x2816 .f32) (wd : FVec Ideal S1x2x2816x1024 .f32) : (ℓ : Loc 1 Cert.FfnKernelIdeal.τ Cert.FfnKernelIdeal.sig) → Buf (Elt Ideal) ℓ :=
  fun ℓ => (Function.update (Function.update (Function.update (Function.update (Function.update (Function.update fill (Proc.devRef .tc Cert.FfnKernelIdeal.main_arg0) x) (Proc.devRef .tc Cert.FfnKernelIdeal.main_arg1) g) (Proc.devRef .tc Cert.FfnKernelIdeal.main_arg2) b) (Proc.devRef .tc Cert.FfnKernelIdeal.main_arg3) wg) (Proc.devRef .tc Cert.FfnKernelIdeal.main_arg4) wu) (Proc.devRef .tc Cert.FfnKernelIdeal.main_arg5) wd) ℓ.2

section
variable (x : FVec Ideal S8x8192x1024 .f32) (g : FVec Ideal S1x4x1024 .f32) (b : FVec Ideal S1x4x1024 .f32) (wg : FVec Ideal S1x2x1024x2816 .f32) (wu : FVec Ideal S1x2x1024x2816 .f32) (wd : FVec Ideal S1x2x2816x1024 .f32) (c : Dev nD)
/-- The memory's argument 0. -/
theorem mem_arg0 : mem x g b wg wu wd ((c.tc : Thread nD Cert.FfnKernelIdeal.τ).loc Cert.FfnKernelIdeal.main_arg0) = x := by
  show Function.update _ _ _ _ = _
  simp (decide := true) only [apart, Function.update_self]
/-- The memory's argument 1. -/
theorem mem_arg1 : mem x g b wg wu wd ((c.tc : Thread nD Cert.FfnKernelIdeal.τ).loc Cert.FfnKernelIdeal.main_arg1) = g := by
  show Function.update _ _ _ _ = _
  simp (decide := true) only [apart, Function.update_self]
/-- The memory's argument 2. -/
theorem mem_arg2 : mem x g b wg wu wd ((c.tc : Thread nD Cert.FfnKernelIdeal.τ).loc Cert.FfnKernelIdeal.main_arg2) = b := by
  show Function.update _ _ _ _ = _
  simp (decide := true) only [apart, Function.update_self]
/-- The memory's argument 3. -/
theorem mem_arg3 : mem x g b wg wu wd ((c.tc : Thread nD Cert.FfnKernelIdeal.τ).loc Cert.FfnKernelIdeal.main_arg3) = wg := by
  show Function.update _ _ _ _ = _
  simp (decide := true) only [apart, Function.update_self]
/-- The memory's argument 4. -/
theorem mem_arg4 : mem x g b wg wu wd ((c.tc : Thread nD Cert.FfnKernelIdeal.τ).loc Cert.FfnKernelIdeal.main_arg4) = wu := by
  show Function.update _ _ _ _ = _
  simp (decide := true) only [apart, Function.update_self]
/-- The memory's argument 5. -/
theorem mem_arg5 : mem x g b wg wu wd ((c.tc : Thread nD Cert.FfnKernelIdeal.τ).loc Cert.FfnKernelIdeal.main_arg5) = wd := by
  show Function.update _ _ _ _ = _
  simp (decide := true) only [apart, Function.update_self]
end

variable {V : (c : Dev nD) → (b : Ref sig .tc) → Buf (Elt Ideal) ((c : Thread nD τ).loc b)} {c : Dev nD}
  {m : (ℓ : Loc 1 Cert.FfnKernelIdeal.τ Cert.FfnKernelIdeal.sig) → Buf (Elt Ideal) ℓ}

/-- Window 0's blocks are those of the call's own program where its array is that program's. -/
theorem block0 (h : (V c main_v0 : FVec Ideal S65536x1024 .f32) = Cert.FfnKernelIdeal.Gen.V m c Cert.FfnKernelIdeal.main_v0) (t : Fin cfg0.N) :
    iblk0 V c 0 t = Cert.FfnKernelIdeal.Gen.iblk m c 0 t := by
  unfold iblk0 Cert.FfnKernelIdeal.Gen.iblk
  exact congrArg (fun f : FVec Ideal S65536x1024 .f32 => View.read (Elt Ideal) ((cfg0.win 0).blk t).view f) h

/-- Window 1's blocks are those of the call's own program where its array is that program's. -/
theorem block1 (h : (V c main_v3 : FVec Ideal S1024x2816 .bf16) = Cert.FfnKernelIdeal.Gen.V m c Cert.FfnKernelIdeal.main_v3) (t : Fin cfg0.N) :
    iblk0 V c 1 t = Cert.FfnKernelIdeal.Gen.iblk m c 1 t := by
  unfold iblk0 Cert.FfnKernelIdeal.Gen.iblk
  exact congrArg (fun f : FVec Ideal S1024x2816 .bf16 => View.read (Elt Ideal) ((cfg0.win 1).blk t).view f) h

/-- Window 2's blocks are those of the call's own program where its array is that program's. -/
theorem block2 (h : (V c main_v6 : FVec Ideal S1024x2816 .bf16) = Cert.FfnKernelIdeal.Gen.V m c Cert.FfnKernelIdeal.main_v6) (t : Fin cfg0.N) :
    iblk0 V c 2 t = Cert.FfnKernelIdeal.Gen.iblk m c 2 t := by
  unfold iblk0 Cert.FfnKernelIdeal.Gen.iblk
  exact congrArg (fun f : FVec Ideal S1024x2816 .bf16 => View.read (Elt Ideal) ((cfg0.win 2).blk t).view f) h

/-- Window 3's blocks are those of the call's own program where its array is that program's. -/
theorem block3 (h : (V c main_v9 : FVec Ideal S2816x1024 .bf16) = Cert.FfnKernelIdeal.Gen.V m c Cert.FfnKernelIdeal.main_v9) (t : Fin cfg0.N) :
    iblk0 V c 3 t = Cert.FfnKernelIdeal.Gen.iblk m c 3 t := by
  unfold iblk0 Cert.FfnKernelIdeal.Gen.iblk
  exact congrArg (fun f : FVec Ideal S2816x1024 .bf16 => View.read (Elt Ideal) ((cfg0.win 3).blk t).view f) h

/-- Window 4's blocks are those of the call's own program where its array is that program's. -/
theorem block4 (h : (V c main_v12 : FVec Ideal S1x1024 .f32) = Cert.FfnKernelIdeal.Gen.V m c Cert.FfnKernelIdeal.main_v12) (t : Fin cfg0.N) :
    iblk0 V c 4 t = Cert.FfnKernelIdeal.Gen.iblk m c 4 t := by
  unfold iblk0 Cert.FfnKernelIdeal.Gen.iblk
  exact congrArg (fun f : FVec Ideal S1x1024 .f32 => View.read (Elt Ideal) ((cfg0.win 4).blk t).view f) h

/-- Window 5's blocks are those of the call's own program where its array is that program's. -/
theorem block5 (h : (V c main_v15 : FVec Ideal S1x1024 .f32) = Cert.FfnKernelIdeal.Gen.V m c Cert.FfnKernelIdeal.main_v15) (t : Fin cfg0.N) :
    iblk0 V c 5 t = Cert.FfnKernelIdeal.Gen.iblk m c 5 t := by
  unfold iblk0 Cert.FfnKernelIdeal.Gen.iblk
  exact congrArg (fun f : FVec Ideal S1x1024 .f32 => View.read (Elt Ideal) ((cfg0.win 5).blk t).view f) h

/-- What a point writes back of window 6 is its block of the call's result. -/
theorem flushed6 (h0 : (V c main_v0 : FVec Ideal S65536x1024 .f32) = Cert.FfnKernelIdeal.Gen.V m c Cert.FfnKernelIdeal.main_v0) (h1 : (V c main_v3 : FVec Ideal S1024x2816 .bf16) = Cert.FfnKernelIdeal.Gen.V m c Cert.FfnKernelIdeal.main_v3) (h2 : (V c main_v6 : FVec Ideal S1024x2816 .bf16) = Cert.FfnKernelIdeal.Gen.V m c Cert.FfnKernelIdeal.main_v6) (h3 : (V c main_v9 : FVec Ideal S2816x1024 .bf16) = Cert.FfnKernelIdeal.Gen.V m c Cert.FfnKernelIdeal.main_v9) (h4 : (V c main_v12 : FVec Ideal S1x1024 .f32) = Cert.FfnKernelIdeal.Gen.V m c Cert.FfnKernelIdeal.main_v12) (h5 : (V c main_v15 : FVec Ideal S1x1024 .f32) = Cert.FfnKernelIdeal.Gen.V m c Cert.FfnKernelIdeal.main_v15) (t : Fin cfg0.N) :
    (dat0 V c).flushed 6 t = ((cfg0.win 6).blk t).view.read (Elt Ideal) (Cert.Ffn.res m c) := by
  show (cfg0.win 6).cut (grid0.coords t) ((dat0 V c).after 6 t) = _
  rw [after0_6, block0 h0 t, block1 h1 t, block2 h2 t, block3 h3 t, block4 h4 t, block5 h5 t]
  exact (Cert.FfnKernelIdeal.Value.flushed6 m c t).symm.trans (Cert.Ffn.flushed_eq m c t)

/-- THE ARRAY of window 6 after the region is the call's result. -/
theorem array6 (h0 : (V c main_v0 : FVec Ideal S65536x1024 .f32) = Cert.FfnKernelIdeal.Gen.V m c Cert.FfnKernelIdeal.main_v0) (h1 : (V c main_v3 : FVec Ideal S1024x2816 .bf16) = Cert.FfnKernelIdeal.Gen.V m c Cert.FfnKernelIdeal.main_v3) (h2 : (V c main_v6 : FVec Ideal S1024x2816 .bf16) = Cert.FfnKernelIdeal.Gen.V m c Cert.FfnKernelIdeal.main_v6) (h3 : (V c main_v9 : FVec Ideal S2816x1024 .bf16) = Cert.FfnKernelIdeal.Gen.V m c Cert.FfnKernelIdeal.main_v9) (h4 : (V c main_v12 : FVec Ideal S1x1024 .f32) = Cert.FfnKernelIdeal.Gen.V m c Cert.FfnKernelIdeal.main_v12) (h5 : (V c main_v15 : FVec Ideal S1x1024 .f32) = Cert.FfnKernelIdeal.Gen.V m c Cert.FfnKernelIdeal.main_v15) :
    (dat0 V c).arrAt 6 cfg0.N = Cert.Ffn.res m c :=
  (dat0 V c).arrAt_eq_of_cover 6 (Cert.Ffn.res m c) (fun t _ => flushed6 h0 h1 h2 h3 h4 h5 t) fun i =>
    let ⟨t, ht⟩ := Cert.Ffn.covered i
    ⟨t, flush0_6 t, ht⟩

end Cert.Layer.Ffn

end
-- ==== Proof.LayerProjBody.lean ====
/-
  One block of 512 rows of the projection call within the layer: its rows are a computed array, so its body casts their block
  to its own shape first; the blocks it writes are those of the call's own program.
-/
module

public import proofs.«01_k».proof.Proof.ProjBody
public import proofs.«01_k».proof.Proof.Gen.LayerKernelIdeal.Frame.Region1

@[expose] public section

noncomputable section

open scoped BigOperators
open Idealize.ShloMosaic Idealize.ShloMosaic.TcCoe Idealize.SL.Sem
open Cert.LayerKernelIdeal Cert.LayerKernelIdeal.Gen Cert.Row
open Cert.Proj (hz2 ld_w ld_b)

namespace Cert.Layer.Proj

/-- The columns from 3072 on, from their own weights and biases. -/
theorem pay10_apply (x0 : Vec Ideal S512x1024 .f32) (w : Vec Ideal S1024x1024 .bf16) (b : Vec Ideal S1x1024 .f32) (r : Fin 512) (c : Fin 1024) :
    k1_pay9 (k1_pay4 x0) (k1_pay8 w) (constant S512x1024 .f32 0x00000000#32) b (ix2 r c) = lin (fun d => x0 (ix2 r d)) (fun d => w (ix2 d c)) (b (ix2 0 c)) := by
  pointwise [k1_pay9, k1_pay8, k1_pay4, lin]

/-- The columns from 4096 on, from their own weights and biases. -/
theorem pay11_apply (x0 : Vec Ideal S512x1024 .f32) (w : Vec Ideal S1024x1024 .bf16) (b : Vec Ideal S1x1024 .f32) (r : Fin 512) (c : Fin 1024) :
    k1_pay10 (k1_pay4 x0) w b (ix2 r c) = lin (fun d => x0 (ix2 r d)) (fun d => w (ix2 d c)) (b (ix2 0 c)) := by
  pointwise [k1_pay10, k1_pay4, lin]

/-- The columns from 5120 on, from their own weights and biases. -/
theorem pay12_apply (x0 : Vec Ideal S512x1024 .f32) (w : Vec Ideal S1024x1024 .bf16) (b : Vec Ideal S1x1024 .f32) (r : Fin 512) (c : Fin 1024) :
    k1_pay11 (k1_pay4 x0) w b (ix2 r c) = lin (fun d => x0 (ix2 r d)) (fun d => w (ix2 d c)) (b (ix2 0 c)) := by
  pointwise [k1_pay11, k1_pay4, lin]

/-- The columns from 6144 on, from their own weights and biases. -/
theorem pay13_apply (x0 : Vec Ideal S512x1024 .f32) (w : Vec Ideal S1024x1024 .bf16) (b : Vec Ideal S1x1024 .f32) (r : Fin 512) (c : Fin 1024) :
    k1_pay12 (k1_pay4 x0) w b (ix2 r c) = lin (fun d => x0 (ix2 r d)) (fun d => w (ix2 d c)) (b (ix2 0 c)) := by
  pointwise [k1_pay12, k1_pay4, lin]

/-- The columns from 7168 on, from their own weights and biases. -/
theorem pay14_apply (x0 : Vec Ideal S512x1024 .f32) (w : Vec Ideal S1024x1024 .bf16) (b : Vec Ideal S1x1024 .f32) (r : Fin 512) (c : Fin 1024) :
    k1_pay1 (k1_pay4 x0) w b (ix2 r c) = lin (fun d => x0 (ix2 r d)) (fun d => w (ix2 d c)) (b (ix2 0 c)) := by
  pointwise [k1_pay1, k1_pay4, lin]

/-- THE BODY of result 3: the columns from 3072 on. -/
theorem body10 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out1_10 x0 x1 x2 x3 x4 x5 x6 (ix2 r c)
      = lin (fun d => x0 (ix2 r d)) (fun d => x1 (ix2 d ⟨3072 + c.val, by omega⟩)) (x2 (ix2 0 ⟨3072 + c.val, by omega⟩)) := by
  unfold out1_10 k1_pay13
  rw [View.canon_unit_zero (S := S512x1024) hz2]
  simp only [View.ld_unit_zero (S := S512x1024) hz2]
  rw [pay10_apply, ld_b x2 3072 _ c (by omega)]
  congr 1
  funext d
  exact ld_w x1 3072 _ d c (by omega)

/-- THE BODY of result 4: the columns from 4096 on. -/
theorem body11 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out1_11 x0 x1 x2 x3 x4 x5 x6 (ix2 r c)
      = lin (fun d => x0 (ix2 r d)) (fun d => x1 (ix2 d ⟨4096 + c.val, by omega⟩)) (x2 (ix2 0 ⟨4096 + c.val, by omega⟩)) := by
  unfold out1_11 k1_pay13
  rw [View.canon_unit_zero (S := S512x1024) hz2]
  simp only [View.ld_unit_zero (S := S512x1024) hz2]
  rw [pay11_apply, ld_b x2 4096 _ c (by omega)]
  congr 1
  funext d
  exact ld_w x1 4096 _ d c (by omega)

/-- THE BODY of result 5: the columns from 5120 on. -/
theorem body12 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out1_12 x0 x1 x2 x3 x4 x5 x6 (ix2 r c)
      = lin (fun d => x0 (ix2 r d)) (fun d => x1 (ix2 d ⟨5120 + c.val, by omega⟩)) (x2 (ix2 0 ⟨5120 + c.val, by omega⟩)) := by
  unfold out1_12 k1_pay13
  rw [View.canon_unit_zero (S := S512x1024) hz2]
  simp only [View.ld_unit_zero (S := S512x1024) hz2]
  rw [pay12_apply, ld_b x2 5120 _ c (by omega)]
  congr 1
  funext d
  exact ld_w x1 5120 _ d c (by omega)

/-- THE BODY of result 6: the columns from 6144 on. -/
theorem body13 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out1_13 x0 x1 x2 x3 x4 x5 x6 (ix2 r c)
      = lin (fun d => x0 (ix2 r d)) (fun d => x1 (ix2 d ⟨6144 + c.val, by omega⟩)) (x2 (ix2 0 ⟨6144 + c.val, by omega⟩)) := by
  unfold out1_13 k1_pay13
  rw [View.canon_unit_zero (S := S512x1024) hz2]
  simp only [View.ld_unit_zero (S := S512x1024) hz2]
  rw [pay13_apply, ld_b x2 6144 _ c (by omega)]
  congr 1
  funext d
  exact ld_w x1 6144 _ d c (by omega)

/-- THE BODY of result 7: the columns from 7168 on. -/
theorem body14 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) (r : Fin 512) (c : Fin 1024) :
    out1_14 x0 x1 x2 x3 x4 x5 x6 (ix2 r c)
      = lin (fun d => x0 (ix2 r d)) (fun d => x1 (ix2 d ⟨7168 + c.val, by omega⟩)) (x2 (ix2 0 ⟨7168 + c.val, by omega⟩)) := by
  unfold out1_14 k1_pay13
  rw [View.canon_unit_zero (S := S512x1024) hz2]
  simp only [View.ld_unit_zero (S := S512x1024) hz2]
  rw [pay14_apply, ld_b x2 7168 _ c (by omega)]
  congr 1
  funext d
  exact ld_w x1 7168 _ d c (by omega)

/-- The block is the one the call's own program computes. -/
theorem out_eq10 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) : out1_10 x0 x1 x2 x3 x4 x5 x6 = Cert.ProjKernelIdeal.Gen.out0_10 x0 x1 x2 x3 x4 x5 x6 := by
  funext i
  obtain ⟨r, c, rfl⟩ : ∃ r c, i = ix2 r c := ⟨_, _, ValueIdx.eq_ix2 i⟩
  exact (body10 x0 x1 x2 x3 x4 x5 x6 r c).trans (Cert.Proj.body10 x0 x1 x2 x3 x4 x5 x6 r c).symm

/-- The block is the one the call's own program computes. -/
theorem out_eq11 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) : out1_11 x0 x1 x2 x3 x4 x5 x6 = Cert.ProjKernelIdeal.Gen.out0_11 x0 x1 x2 x3 x4 x5 x6 := by
  funext i
  obtain ⟨r, c, rfl⟩ : ∃ r c, i = ix2 r c := ⟨_, _, ValueIdx.eq_ix2 i⟩
  exact (body11 x0 x1 x2 x3 x4 x5 x6 r c).trans (Cert.Proj.body11 x0 x1 x2 x3 x4 x5 x6 r c).symm

/-- The block is the one the call's own program computes. -/
theorem out_eq12 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) : out1_12 x0 x1 x2 x3 x4 x5 x6 = Cert.ProjKernelIdeal.Gen.out0_12 x0 x1 x2 x3 x4 x5 x6 := by
  funext i
  obtain ⟨r, c, rfl⟩ : ∃ r c, i = ix2 r c := ⟨_, _, ValueIdx.eq_ix2 i⟩
  exact (body12 x0 x1 x2 x3 x4 x5 x6 r c).trans (Cert.Proj.body12 x0 x1 x2 x3 x4 x5 x6 r c).symm

/-- The block is the one the call's own program computes. -/
theorem out_eq13 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) : out1_13 x0 x1 x2 x3 x4 x5 x6 = Cert.ProjKernelIdeal.Gen.out0_13 x0 x1 x2 x3 x4 x5 x6 := by
  funext i
  obtain ⟨r, c, rfl⟩ : ∃ r c, i = ix2 r c := ⟨_, _, ValueIdx.eq_ix2 i⟩
  exact (body13 x0 x1 x2 x3 x4 x5 x6 r c).trans (Cert.Proj.body13 x0 x1 x2 x3 x4 x5 x6 r c).symm

/-- The block is the one the call's own program computes. -/
theorem out_eq14 (x0 : Vec Ideal S512x1024 .f32) (x1 : Vec Ideal S1024x8192 .bf16) (x2 : Vec Ideal S1x8192 .f32) (x3 : Vec Ideal S1024x128 .bf16)
    (x4 : Vec Ideal S1x128 .f32) (x5 : Vec Ideal S8x1024 .bf16) (x6 : Vec Ideal S8x1 .f32) : out1_14 x0 x1 x2 x3 x4 x5 x6 = Cert.ProjKernelIdeal.Gen.out0_14 x0 x1 x2 x3 x4 x5 x6 := by
  funext i
  obtain ⟨r, c, rfl⟩ : ∃ r c, i = ix2 r c := ⟨_, _, ValueIdx.eq_ix2 i⟩
  exact (body14 x0 x1 x2 x3 x4 x5 x6 r c).trans (Cert.Proj.body14 x0 x1 x2 x3 x4 x5 x6 r c).symm

end Cert.Layer.Proj

end
-- ==== Proof.LayerProj.lean ====
/-
  The projection call as the layer's second region: entered with the arrays its own program finds, it leaves its own results.
-/
module

public import proofs.«01_k».proof.Proof.LayerMemory
public import proofs.«01_k».proof.Proof.ProjValue
public import proofs.«01_k».proof.Proof.LayerProjBody

@[expose] public section

set_option maxRecDepth 16384

noncomputable section

open scoped BigOperators
open Idealize.ShloMosaic Idealize.ShloMosaic.TcCoe Idealize.SL.Sem
open Idealize.ShloMosaic.Pipeline (Dat)
open Cert.LayerKernelIdeal Cert.LayerKernelIdeal.Gen

namespace Cert.Layer.Proj

/-- A launch memory of the call's own program that holds the given arguments. -/
def mem (x : FVec Ideal S65536x1024 .f32) (w : FVec Ideal S1x1024x8200 .f32) (b : FVec Ideal S1x8200 .f32) : (ℓ : Loc 1 Cert.ProjKernelIdeal.τ Cert.ProjKernelIdeal.sig) → Buf (Elt Ideal) ℓ :=
  fun ℓ => (Function.update (Function.update (Function.update fill (Proc.devRef .tc Cert.ProjKernelIdeal.main_arg0) x) (Proc.devRef .tc Cert.ProjKernelIdeal.main_arg1) w) (Proc.devRef .tc Cert.ProjKernelIdeal.main_arg2) b) ℓ.2

section
variable (x : FVec Ideal S65536x1024 .f32) (w : FVec Ideal S1x1024x8200 .f32) (b : FVec Ideal S1x8200 .f32) (c : Dev nD)
/-- The memory's argument 0. -/
theorem mem_arg0 : mem x w b ((c.tc : Thread nD Cert.ProjKernelIdeal.τ).loc Cert.ProjKernelIdeal.main_arg0) = x := by
  show Function.update _ _ _ _ = _
  simp (decide := true) only [apart, Function.update_self]
/-- The memory's argument 1. -/
theorem mem_arg1 : mem x w b ((c.tc : Thread nD Cert.ProjKernelIdeal.τ).loc Cert.ProjKernelIdeal.main_arg1) = w := by
  show Function.update _ _ _ _ = _
  simp (decide := true) only [apart, Function.update_self]
/-- The memory's argument 2. -/
theorem mem_arg2 : mem x w b ((c.tc : Thread nD Cert.ProjKernelIdeal.τ).loc Cert.ProjKernelIdeal.main_arg2) = b := by
  show Function.update _ _ _ _ = _
  simp (decide := true) only [apart, Function.update_self]
end

variable {V : (c : Dev nD) → (b : Ref sig .tc) → Buf (Elt Ideal) ((c : Thread nD τ).loc b)} {c : Dev nD}
  {m : (ℓ : Loc 1 Cert.ProjKernelIdeal.τ Cert.ProjKernelIdeal.sig) → Buf (Elt Ideal) ℓ}

/-- Window 0's blocks are those of the call's own program where its array is that program's. -/
theorem block0 (h : (V c main_v16 : FVec Ideal S65536x1024 .f32) = Cert.ProjKernelIdeal.Gen.V m c Cert.ProjKernelIdeal.main_arg0) (t : Fin cfg1.N) :
    iblk1 V c 0 t = Cert.ProjKernelIdeal.Gen.iblk m c 0 t := by
  unfold iblk1 Cert.ProjKernelIdeal.Gen.iblk
  exact congrArg (fun f : FVec Ideal S65536x1024 .f32 => View.read (Elt Ideal) ((cfg1.win 0).blk t).view f) h

/-- Window 1's blocks are those of the call's own program where its array is that program's. -/
theorem block1 (h : (V c main_v22 : FVec Ideal S1024x8192 .bf16) = Cert.ProjKernelIdeal.Gen.V m c Cert.ProjKernelIdeal.main_v5) (t : Fin cfg1.N) :
    iblk1 V c 1 t = Cert.ProjKernelIdeal.Gen.iblk m c 1 t := by
  unfold iblk1 Cert.ProjKernelIdeal.Gen.iblk
  exact congrArg (fun f : FVec Ideal S1024x8192 .bf16 => View.read (Elt Ideal) ((cfg1.win 1).blk t).view f) h

/-- Window 2's blocks are those of the call's own program where its array is that program's. -/
theorem block2 (h : (V c main_v28 : FVec Ideal S1x8192 .f32) = Cert.ProjKernelIdeal.Gen.V m c Cert.ProjKernelIdeal.main_v11) (t : Fin cfg1.N) :
    iblk1 V c 2 t = Cert.ProjKernelIdeal.Gen.iblk m c 2 t := by
  unfold iblk1 Cert.ProjKernelIdeal.Gen.iblk
  exact congrArg (fun f : FVec Ideal S1x8192 .f32 => View.read (Elt Ideal) ((cfg1.win 2).blk t).view f) h

/-- Window 3's blocks are those of the call's own program where its array is that program's. -/
theorem block3 (h : (V c main_v34 : FVec Ideal S1024x128 .bf16) = Cert.ProjKernelIdeal.Gen.V m c Cert.ProjKernelIdeal.main_v17) (t : Fin cfg1.N) :
    iblk1 V c 3 t = Cert.ProjKernelIdeal.Gen.iblk m c 3 t := by
  unfold iblk1 Cert.ProjKernelIdeal.Gen.iblk
  exact congrArg (fun f : FVec Ideal S1024x128 .bf16 => View.read (Elt Ideal) ((cfg1.win 3).blk t).view f) h

/-- Window 4's blocks are those of the call's own program where its array is that program's. -/
theorem block4 (h : (V c main_v36 : FVec Ideal S1x128 .f32) = Cert.ProjKernelIdeal.Gen.V m c Cert.ProjKernelIdeal.main_v19) (t : Fin cfg1.N) :
    iblk1 V c 4 t = Cert.ProjKernelIdeal.Gen.iblk m c 4 t := by
  unfold iblk1 Cert.ProjKernelIdeal.Gen.iblk
  exact congrArg (fun f : FVec Ideal S1x128 .f32 => View.read (Elt Ideal) ((cfg1.win 4).blk t).view f) h

/-- Window 5's blocks are those of the call's own program where its array is that program's. -/
theorem block5 (h : (V c main_v38 : FVec Ideal S8x1024 .bf16) = Cert.ProjKernelIdeal.Gen.V m c Cert.ProjKernelIdeal.main_v21) (t : Fin cfg1.N) :
    iblk1 V c 5 t = Cert.ProjKernelIdeal.Gen.iblk m c 5 t := by
  unfold iblk1 Cert.ProjKernelIdeal.Gen.iblk
  exact congrArg (fun f : FVec Ideal S8x1024 .bf16 => View.read (Elt Ideal) ((cfg1.win 5).blk t).view f) h

/-- Window 6's blocks are those of the call's own program where its array is that program's. -/
theorem block6 (h : (V c main_v39 : FVec Ideal S8x1 .f32) = Cert.ProjKernelIdeal.Gen.V m c Cert.ProjKernelIdeal.main_v22) (t : Fin cfg1.N) :
    iblk1 V c 6 t = Cert.ProjKernelIdeal.Gen.iblk m c 6 t := by
  unfold iblk1 Cert.ProjKernelIdeal.Gen.iblk
  exact congrArg (fun f : FVec Ideal S8x1 .f32 => View.read (Elt Ideal) ((cfg1.win 6).blk t).view f) h

/-- What a point writes back of window 10 is its block of the call's result. -/
theorem flushed10 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) (t : Fin cfg1.N) :
    (dat1 V c).flushed 10 t = ((cfg1.win 10).blk t).view.read (Elt Ideal) (Cert.Proj.res3 m c) := by
  show (cfg1.win 10).cut (grid1.coords t) ((dat1 V c).after 10 t) = _
  rw [after1_10, block0 h0 t, block1 h1 t, block2 h2 t, block3 h3 t, block4 h4 t, block5 h5 t, block6 h6 t, out_eq10]
  exact (Cert.ProjKernelIdeal.Value.flushed10 m c t).symm.trans (Cert.Proj.flushed10_eq m c t)

/-- THE ARRAY of window 10 after the region is the call's result. -/
theorem array10 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) :
    (dat1 V c).arrAt 10 cfg1.N = Cert.Proj.res3 m c :=
  (dat1 V c).arrAt_eq_of_cover 10 (Cert.Proj.res3 m c) (fun t _ => flushed10 h0 h1 h2 h3 h4 h5 h6 t) fun i =>
    let ⟨t, ht⟩ := Cert.Proj.covered10 i
    ⟨t, flush1_10 t, ht⟩

/-- What a point writes back of window 11 is its block of the call's result. -/
theorem flushed11 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) (t : Fin cfg1.N) :
    (dat1 V c).flushed 11 t = ((cfg1.win 11).blk t).view.read (Elt Ideal) (Cert.Proj.res4 m c) := by
  show (cfg1.win 11).cut (grid1.coords t) ((dat1 V c).after 11 t) = _
  rw [after1_11, block0 h0 t, block1 h1 t, block2 h2 t, block3 h3 t, block4 h4 t, block5 h5 t, block6 h6 t, out_eq11]
  exact (Cert.ProjKernelIdeal.Value.flushed11 m c t).symm.trans (Cert.Proj.flushed11_eq m c t)

/-- THE ARRAY of window 11 after the region is the call's result. -/
theorem array11 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) :
    (dat1 V c).arrAt 11 cfg1.N = Cert.Proj.res4 m c :=
  (dat1 V c).arrAt_eq_of_cover 11 (Cert.Proj.res4 m c) (fun t _ => flushed11 h0 h1 h2 h3 h4 h5 h6 t) fun i =>
    let ⟨t, ht⟩ := Cert.Proj.covered11 i
    ⟨t, flush1_11 t, ht⟩

/-- What a point writes back of window 12 is its block of the call's result. -/
theorem flushed12 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) (t : Fin cfg1.N) :
    (dat1 V c).flushed 12 t = ((cfg1.win 12).blk t).view.read (Elt Ideal) (Cert.Proj.res5 m c) := by
  show (cfg1.win 12).cut (grid1.coords t) ((dat1 V c).after 12 t) = _
  rw [after1_12, block0 h0 t, block1 h1 t, block2 h2 t, block3 h3 t, block4 h4 t, block5 h5 t, block6 h6 t, out_eq12]
  exact (Cert.ProjKernelIdeal.Value.flushed12 m c t).symm.trans (Cert.Proj.flushed12_eq m c t)

/-- THE ARRAY of window 12 after the region is the call's result. -/
theorem array12 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) :
    (dat1 V c).arrAt 12 cfg1.N = Cert.Proj.res5 m c :=
  (dat1 V c).arrAt_eq_of_cover 12 (Cert.Proj.res5 m c) (fun t _ => flushed12 h0 h1 h2 h3 h4 h5 h6 t) fun i =>
    let ⟨t, ht⟩ := Cert.Proj.covered12 i
    ⟨t, flush1_12 t, ht⟩

/-- What a point writes back of window 13 is its block of the call's result. -/
theorem flushed13 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) (t : Fin cfg1.N) :
    (dat1 V c).flushed 13 t = ((cfg1.win 13).blk t).view.read (Elt Ideal) (Cert.Proj.res6 m c) := by
  show (cfg1.win 13).cut (grid1.coords t) ((dat1 V c).after 13 t) = _
  rw [after1_13, block0 h0 t, block1 h1 t, block2 h2 t, block3 h3 t, block4 h4 t, block5 h5 t, block6 h6 t, out_eq13]
  exact (Cert.ProjKernelIdeal.Value.flushed13 m c t).symm.trans (Cert.Proj.flushed13_eq m c t)

/-- THE ARRAY of window 13 after the region is the call's result. -/
theorem array13 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) :
    (dat1 V c).arrAt 13 cfg1.N = Cert.Proj.res6 m c :=
  (dat1 V c).arrAt_eq_of_cover 13 (Cert.Proj.res6 m c) (fun t _ => flushed13 h0 h1 h2 h3 h4 h5 h6 t) fun i =>
    let ⟨t, ht⟩ := Cert.Proj.covered13 i
    ⟨t, flush1_13 t, ht⟩

/-- What a point writes back of window 14 is its block of the call's result. -/
theorem flushed14 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) (t : Fin cfg1.N) :
    (dat1 V c).flushed 14 t = ((cfg1.win 14).blk t).view.read (Elt Ideal) (Cert.Proj.res7 m c) := by
  show (cfg1.win 14).cut (grid1.coords t) ((dat1 V c).after 14 t) = _
  rw [after1_14, block0 h0 t, block1 h1 t, block2 h2 t, block3 h3 t, block4 h4 t, block5 h5 t, block6 h6 t, out_eq14]
  exact (Cert.ProjKernelIdeal.Value.flushed14 m c t).symm.trans (Cert.Proj.flushed14_eq m c t)

/-- THE ARRAY of window 14 after the region is the call's result. -/
theorem array14 (h0 : (V c main_v16 : FVec Ideal S65536x1024 .f32) = Cert.ProjKernelIdeal.Gen.V m c Cert.ProjKernelIdeal.main_arg0) (h1 : (V c main_v22 : FVec Ideal S1024x8192 .bf16) = Cert.ProjKernelIdeal.Gen.V m c Cert.ProjKernelIdeal.main_v5) (h2 : (V c main_v28 : FVec Ideal S1x8192 .f32) = Cert.ProjKernelIdeal.Gen.V m c Cert.ProjKernelIdeal.main_v11) (h3 : (V c main_v34 : FVec Ideal S1024x128 .bf16) = Cert.ProjKernelIdeal.Gen.V m c Cert.ProjKernelIdeal.main_v17) (h4 : (V c main_v36 : FVec Ideal S1x128 .f32) = Cert.ProjKernelIdeal.Gen.V m c Cert.ProjKernelIdeal.main_v19) (h5 : (V c main_v38 : FVec Ideal S8x1024 .bf16) = Cert.ProjKernelIdeal.Gen.V m c Cert.ProjKernelIdeal.main_v21) (h6 : (V c main_v39 : FVec Ideal S8x1 .f32) = Cert.ProjKernelIdeal.Gen.V m c Cert.ProjKernelIdeal.main_v22) :
    (dat1 V c).arrAt 14 cfg1.N = Cert.Proj.res7 m c :=
  (dat1 V c).arrAt_eq_of_cover 14 (Cert.Proj.res7 m c) (fun t _ => flushed14 h0 h1 h2 h3 h4 h5 h6 t) fun i =>
    let ⟨t, ht⟩ := Cert.Proj.covered14 i
    ⟨t, flush1_14 t, ht⟩

end Cert.Layer.Proj

end
-- ==== Proof.LayerSbBody.lean ====
/-
  The attention's body among the layer's regions: its loop's trips in closed form, and what it leaves in its output block
  at one grid point, by the tile lemmas of the attention's own program.
-/
module

public import proofs.«01_k».proof.Proof.SbBody
public import proofs.«01_k».proof.Proof.Gen.LayerKernelIdeal.Frame.Region2

@[expose] public section

set_option maxRecDepth 16384

noncomputable section

open scoped BigOperators
open Idealize.ShloMosaic Idealize.ShloMosaic.TcCoe Idealize.SL.Sem
open Idealize.ShloMosaic.Pipeline (Dat)
open Cert.LayerKernelIdeal Cert.LayerKernelIdeal.Gen
open Cert.Sb (IsTile IsU2 St zrow wt key hz2 hz3 off_congr readCov_cons readAt_cons readAt_whole st_full st_diag1 st_diag2 st_zero out_apply)

namespace Cert.Layer.Sb

/-- The loop over the tiles before the diagonal makes `2 * n` trips at query block `n`. -/
theorem trips1 : ∀ i : grid2.Coords, (k2_t1_loop i).trips = 2 * (i 2).val := by decide +kernel

/-- The loop's remainder makes none. -/
theorem trips2 : ∀ i : grid2.Coords, (k2_t2_loop i).trips = 0 := by decide +kernel

/-- Trip `k` of the loop reads the tile that starts at key `512 n − 256 (k + 1)`. -/
theorem off2_eq : ∀ (i : grid2.Coords) (k : Fin (k2_t1_loop i).trips),
    k2_off2 i k = ![0, 512 * (i 2).val - 256 * (k.val + 1), 0] := by decide +kernel

/-- A load of 256 keys from row `a` on is the tile that starts at key `a`. -/
theorem isTile_readAt {m : Memref sig .tc .vmem S1x8192x128 .bf16} (hm : m.IsWhole) (K : Vec Ideal S1x8192x128 .bf16)
    (a : ℕ) (ha : a + 256 ≤ 8192) (off : Fin 3 → ℕ) (ho : off = ![0, a, 0])
    (inb : ∀ x, off x + S1x256x128.size x ≤ S1x8192x128.size x) :
    IsTile K a (View.readAt (Elt Ideal) m.view (Rect.unit (s := S1x8192x128) off S1x256x128.size inb).toLoadRect (hm.unread K)) := by
  subst ho
  intro c d
  rw [hm.readAt_unread]
  congr 1
  funext x
  apply Fin.ext
  have hc := c.isLt
  match x with
  | ⟨0, _⟩ => rfl
  | ⟨1, _⟩ =>
    show a + 1 * c.val = (a + c.val) % 8192
    rw [Nat.mod_eq_of_lt (by omega), one_mul]
  | ⟨2, _⟩ =>
    show 0 + 1 * d.val = d.val
    rw [zero_add, one_mul]

section
variable (𝒱 : Variants) (c : Dev nD) (bd : Option 𝒱.V) (i : grid2.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S512x256 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x1 .f32) (harg9 : arg9.IsWhole)

/-- The accumulators' state, as loads of the whole accumulators from buffer contents. -/
def StBuf (n : ℕ) (q : Vec Ideal S1x512x128 .bf16) (K V : Vec Ideal S1x8192x128 .bf16) (a : ℕ)
    (f8 : BufTy.Contents (Elt Ideal) arg8.view.ty) (f9 : BufTy.Contents (Elt Ideal) arg9.view.ty) : Prop :=
  St n q K V a
    (View.readAt (Elt Ideal) arg9.view (Rect.unit ![0, 0] S512x1.size inb_S512x1_S512x1_0_0).toLoadRect f9)
    (View.readAt (Elt Ideal) arg8.view (Rect.unit ![0, 0] S512x128.size inb_S512x128_S512x128_0_0).toLoadRect f8)

/-- One trip of the loop takes the state from the end of its tile to the tile's start. -/
theorem st_trip (q : Vec Ideal S1x512x128 .bf16) (K V : Vec Ideal S1x8192x128 .bf16) (u : Vec Ideal S512x256 .bf16)
    (hu : IsU2 u) (arg2 : BitVec 32) (k : Fin (k2_t1_loop i).trips)
    (f8 : BufTy.Contents (Elt Ideal) arg8.view.ty) (f9 : BufTy.Contents (Elt Ideal) arg9.view.ty)
    (h : StBuf arg8 arg9 (i 2).val q K V (512 * (i 2).val - 256 * k.val) f8 f9) :
    StBuf arg8 arg9 (i 2).val q K V (512 * (i 2).val - 256 * (k.val + 1))
      (arg8.view.writes (Elt Ideal) f8 (tripL_k2_t1 (F := Ideal) 𝒱 c bd i arg3 harg3 arg4 harg4 arg5 harg5 arg6 harg6 arg7 harg7 arg8 harg8 arg9 harg9 arg2 (k2_pay12 q) (harg4.unread K) (harg5.unread V) (harg6.unread u) k f8 f9).1)
      (arg9.view.writes (Elt Ideal) f9 (tripL_k2_t1 (F := Ideal) 𝒱 c bd i arg3 harg3 arg4 harg4 arg5 harg5 arg6 harg6 arg7 harg7 arg8 harg8 arg9 harg9 arg2 (k2_pay12 q) (harg4.unread K) (harg5.unread V) (harg6.unread u) k f8 f9).2) := by
  have hk : k.val < 2 * (i 2).val := trips1 i ▸ k.isLt
  have hi : (i 2).val < 16 := (i 2).isLt
  unfold tripL_k2_t1
  unfold trip_k2_t1
  dsimp only
  sl_unfold_words
  unfold StBuf at h ⊢
  rw [readAt_cons (S := S512x128) arg8.view f8 hz2, readAt_cons (S := S512x1) arg9.view f9 hz2, readAt_whole harg6 hz2]
  refine st_full (i 2).val (512 * (i 2).val - 256 * (k.val + 1)) (by omega) q K V u hu _ _ ?_ ?_ _ _ ?_
  · exact isTile_readAt harg4 K _ (by omega) (k2_off2 i k) (off2_eq i k) _
  · exact isTile_readAt harg5 V _ (by omega) (k2_off2 i k) (off2_eq i k) _
  · rw [show 512 * (i 2).val - 256 * (k.val + 1) + 256 = 512 * (i 2).val - 256 * k.val by omega]
    exact h

/-- The state after `k` trips. -/
theorem st_loop (q : Vec Ideal S1x512x128 .bf16) (K V : Vec Ideal S1x8192x128 .bf16) (u : Vec Ideal S512x256 .bf16)
    (hu : IsU2 u) (arg2 : BitVec 32)
    (G8 : BufTy.Contents (Elt Ideal) arg8.view.ty) (G9 : BufTy.Contents (Elt Ideal) arg9.view.ty)
    (h : StBuf arg8 arg9 (i 2).val q K V ((i 2).val * 512) G8 G9) (k : ℕ) (hk : k ≤ (k2_t1_loop i).trips) :
    StBuf arg8 arg9 (i 2).val q K V (512 * (i 2).val - 256 * k)
      (arg8.view.writes (Elt Ideal) G8 (pb_k2_t1 (F := Ideal) 𝒱 c bd i arg3 harg3 arg4 harg4 arg5 harg5 arg6 harg6 arg7 harg7 arg8 harg8 arg9 harg9 arg2 (k2_pay12 q) (harg4.unread K) (harg5.unread V) (harg6.unread u) G8 G9 k).1)
      (arg9.view.writes (Elt Ideal) G9 (pb_k2_t1 (F := Ideal) 𝒱 c bd i arg3 harg3 arg4 harg4 arg5 harg5 arg6 harg6 arg7 harg7 arg8 harg8 arg9 harg9 arg2 (k2_pay12 q) (harg4.unread K) (harg5.unread V) (harg6.unread u) G8 G9 k).2) := by
  induction k with
  | zero =>
    rw [Nat.mul_zero, Nat.sub_zero, Nat.mul_comm]
    exact h
  | succ k ih =>
    rw [pb_k2_t1_succ (F := Ideal) 𝒱 c bd i arg3 harg3 arg4 harg4 arg5 harg5 arg6 harg6 arg7 harg7 arg8 harg8 arg9 harg9 arg2 (k2_pay12 q) (harg4.unread K) (harg5.unread V) (harg6.unread u) G8 G9 ⟨k, hk⟩]
    rw [View.writes_append, View.writes_append]
    exact st_trip 𝒱 c bd i arg3 harg3 arg4 harg4 arg5 harg5 arg6 harg6 arg7 harg7 arg8 harg8 arg9 harg9 q K V u hu arg2 ⟨k, hk⟩ _ _ (ih (by omega))

/-- THE BODY: element `(r, d)` of the output block at query block `n` is the weighted sum of the values over all the keys
    below `512 (n + 1)`. -/
theorem body (q : Vec Ideal S1x512x128 .bf16) (K V : Vec Ideal S1x8192x128 .bf16) (u : Vec Ideal S512x256 .bf16)
    (hu : IsU2 u) (r : Fin 512) (d : Fin 128) :
    out2_A_4 (F := Ideal) c i arg3 harg3 arg4 harg4 arg5 harg5 arg6 harg6 arg7 harg7 arg8 harg8 arg9 harg9 q K V u (ix3 0 r d)
      = ∑ s ∈ Finset.Ico 0 ((i 2).val * 512 + 512),
          wt (zrow q K r) ((i 2).val * 512 + r.val) ((i 2).val * 512 + 512) s * V (ix3 0 (key s) d) := by
  have hi : (i 2).val < 16 := (i 2).isLt
  unfold out2_A_4
  rw [View.read_writes_eq_canon _ _ _ (fun y => cover2_A_4 c i arg3 harg3 arg4 harg4 arg5 harg5 arg6 harg6 arg7 harg7 arg8 harg8 arg9 harg9 q K V u y)]
  unfold kernelRun2_A
  dsimp only
  sl_unfold_words
  rw [View.canon_cons_unit_zero (S := S1x512x128) hz3]
  refine Eq.trans (out_apply _ r d) ?_
  have ht2 : Scf.trips (k2_t2_loop i).lb (k2_t2_loop i).ub (k2_t2_loop i).st = 0 := trips2 i
  rw [ht2]
  unfold pb_k2_t2
  rw [List.nil_append]
  unfold View.readCov
  rw [View.writes_append]
  simp only [readAt_whole harg3 hz3, readAt_whole harg6 hz2]
  refine Eq.trans ((st_loop Variants.none c none i arg3 harg3 arg4 harg4 arg5 harg5 arg6 harg6 arg7 harg7 arg8 harg8 arg9
    harg9 q K V u hu (BitVec.ofNat 32 (i 2).val) _ _ ?_ _ le_rfl r).2 d) ?_
  · unfold StBuf
    simp only [readAt_cons (S := S512x128) arg8.view _ hz2, readAt_cons (S := S512x1) arg9.view _ hz2]
    refine st_diag2 (i 2).val hi q K V u hu _ _ ?_ ?_ _ _ ?_
    · exact isTile_readAt harg4 K _ (by omega) (k2_off1 i 0#32) ((k2_off1_eq i ⟨0, by decide⟩).trans (off_congr (show 512 * (i 2).val + 256 * 0 = (i 2).val * 512 by omega))) _
    · exact isTile_readAt harg5 V _ (by omega) (k2_off1 i 0#32) ((k2_off1_eq i ⟨0, by decide⟩).trans (off_congr (show 512 * (i 2).val + 256 * 0 = (i 2).val * 512 by omega))) _
    · have hw : Scalar.muli (Scalar.addi (Scalar.muli (BitVec.ofNat 32 (i 2).val) 2#32) 1#32) 256#32
          = BitVec.ofNat 32 ((i 2).val * 512 + 256) := by
        rw [show (i 2).val * 512 + 256 = ((i 2).val * 2 + 1) * 256 by ring, BitVec.ofNat_mul, BitVec.ofNat_add,
          BitVec.ofNat_mul]; rfl
      refine st_diag1 (i 2).val ((i 2).val * 512 + 256) _ hw hi (by omega) q K V u hu _ _ ?_ ?_ _ _ ?_
      · exact isTile_readAt harg4 K _ (by omega) (k2_off1 i 1#32) ((k2_off1_eq i ⟨1, by decide⟩).trans (off_congr (show 512 * (i 2).val + 256 * 1 = (i 2).val * 512 + 256 by omega))) _
      · exact isTile_readAt harg5 V _ (by omega) (k2_off1 i 1#32) ((k2_off1_eq i ⟨1, by decide⟩).trans (off_congr (show 512 * (i 2).val + 256 * 1 = (i 2).val * 512 + 256 by omega))) _
      · rw [show (i 2).val * 512 + 256 + 256 = (i 2).val * 512 + 512 by omega]
        exact st_zero _ _ _ _
  · rw [trips1, show 512 * (i 2).val - 256 * (2 * (i 2).val) = 0 by omega]
end

end Cert.Layer.Sb

end
-- ==== Proof.LayerSb.lean ====
/-
  The attention as the layer's third region: entered with the arrays its own program finds, it leaves its own result.
-/
module

public import proofs.«01_k».proof.Proof.LayerMemory
public import proofs.«01_k».proof.Proof.SbValue
public import proofs.«01_k».proof.Proof.LayerSbBody
public import proofs.«01_k».proof.Proof.Gen.LayerKernelIdeal.Frame.Region2

@[expose] public section

set_option maxRecDepth 16384

noncomputable section

open scoped BigOperators
open Idealize.ShloMosaic Idealize.ShloMosaic.TcCoe Idealize.SL.Sem
open Idealize.ShloMosaic.Pipeline (Dat)
open Cert.LayerKernelIdeal Cert.LayerKernelIdeal.Gen

namespace Cert.Layer.Sb

/-- A launch memory of the call's own program that holds the given arguments. -/
def mem (q : FVec Ideal S8x8192x1024 .bf16) (k : FVec Ideal S8x8192x1024 .bf16) (v : FVec Ideal S8x8192x1024 .bf16) : (ℓ : Loc 1 Cert.SbKernelIdeal.τ Cert.SbKernelIdeal.sig) → Buf (Elt Ideal) ℓ :=
  fun ℓ => (Function.update (Function.update (Function.update fill (Proc.devRef .tc Cert.SbKernelIdeal.main_arg0) q) (Proc.devRef .tc Cert.SbKernelIdeal.main_arg1) k) (Proc.devRef .tc Cert.SbKernelIdeal.main_arg2) v) ℓ.2

section
variable (q : FVec Ideal S8x8192x1024 .bf16) (k : FVec Ideal S8x8192x1024 .bf16) (v : FVec Ideal S8x8192x1024 .bf16) (c : Dev nD)
/-- The memory's argument 0. -/
theorem mem_arg0 : mem q k v ((c.tc : Thread nD Cert.SbKernelIdeal.τ).loc Cert.SbKernelIdeal.main_arg0) = q := by
  show Function.update _ _ _ _ = _
  simp (decide := true) only [apart, Function.update_self]
/-- The memory's argument 1. -/
theorem mem_arg1 : mem q k v ((c.tc : Thread nD Cert.SbKernelIdeal.τ).loc Cert.SbKernelIdeal.main_arg1) = k := by
  show Function.update _ _ _ _ = _
  simp (decide := true) only [apart, Function.update_self]
/-- The memory's argument 2. -/
theorem mem_arg2 : mem q k v ((c.tc : Thread nD Cert.SbKernelIdeal.τ).loc Cert.SbKernelIdeal.main_arg2) = v := by
  show Function.update _ _ _ _ = _
  simp (decide := true) only [apart, Function.update_self]
end

variable {V : (c : Dev nD) → (b : Ref sig .tc) → Buf (Elt Ideal) ((c : Thread nD τ).loc b)} {c : Dev nD}
  {m : (ℓ : Loc 1 Cert.SbKernelIdeal.τ Cert.SbKernelIdeal.sig) → Buf (Elt Ideal) ℓ}

/-- Window 0's blocks are those of the call's own program where its array is that program's. -/
theorem block0 (h : (V c main_v41 : FVec Ideal S8x8192x1024 .bf16) = Cert.SbKernelIdeal.Gen.V m c Cert.SbKernelIdeal.main_arg0) (t : Fin cfg2.N) :
    iblk2 V c 0 t = Cert.SbKernelIdeal.Gen.iblk m c 0 t := by
  unfold iblk2 Cert.SbKernelIdeal.Gen.iblk
  exact congrArg (fun f : FVec Ideal S8x8192x1024 .bf16 => View.read (Elt Ideal) ((cfg2.win 0).blk t).view f) h

/-- Window 1's blocks are those of the call's own program where its array is that program's. -/
theorem block1 (h : (V c main_v42 : FVec Ideal S8x8192x1024 .bf16) = Cert.SbKernelIdeal.Gen.V m c Cert.SbKernelIdeal.main_arg1) (t : Fin cfg2.N) :
    iblk2 V c 1 t = Cert.SbKernelIdeal.Gen.iblk m c 1 t := by
  unfold iblk2 Cert.SbKernelIdeal.Gen.iblk
  exact congrArg (fun f : FVec Ideal S8x8192x1024 .bf16 => View.read (Elt Ideal) ((cfg2.win 1).blk t).view f) h

/-- Window 2's blocks are those of the call's own program where its array is that program's. -/
theorem block2 (h : (V c main_v43 : FVec Ideal S8x8192x1024 .bf16) = Cert.SbKernelIdeal.Gen.V m c Cert.SbKernelIdeal.main_arg2) (t : Fin cfg2.N) :
    iblk2 V c 2 t = Cert.SbKernelIdeal.Gen.iblk m c 2 t := by
  unfold iblk2 Cert.SbKernelIdeal.Gen.iblk
  exact congrArg (fun f : FVec Ideal S8x8192x1024 .bf16 => View.read (Elt Ideal) ((cfg2.win 2).blk t).view f) h

/-- Window 3's blocks are those of the call's own program where its array is that program's. -/
theorem block3 (h : (V c main_v52 : FVec Ideal S512x256 .bf16) = Cert.SbKernelIdeal.Gen.V m c Cert.SbKernelIdeal.main_v8) (t : Fin cfg2.N) :
    iblk2 V c 3 t = Cert.SbKernelIdeal.Gen.iblk m c 3 t := by
  unfold iblk2 Cert.SbKernelIdeal.Gen.iblk
  exact congrArg (fun f : FVec Ideal S512x256 .bf16 => View.read (Elt Ideal) ((cfg2.win 3).blk t).view f) h

/-- What a point writes back is its block of the call's result. -/
theorem flushed4 (h0 : (V c main_v41 : FVec Ideal S8x8192x1024 .bf16) = Cert.SbKernelIdeal.Gen.V m c Cert.SbKernelIdeal.main_arg0) (h1 : (V c main_v42 : FVec Ideal S8x8192x1024 .bf16) = Cert.SbKernelIdeal.Gen.V m c Cert.SbKernelIdeal.main_arg1) (h2 : (V c main_v43 : FVec Ideal S8x8192x1024 .bf16) = Cert.SbKernelIdeal.Gen.V m c Cert.SbKernelIdeal.main_arg2) (h3 : (V c main_v52 : FVec Ideal S512x256 .bf16) = Cert.SbKernelIdeal.Gen.V m c Cert.SbKernelIdeal.main_v8) (t : Fin cfg2.N) :
    (dat2 V c).flushed 4 t = ((cfg2.win 4).blk t).view.read (Elt Ideal) (Cert.Sb.res m c) := by
  show (cfg2.win 4).cut (grid2.coords t) ((dat2 V c).after 4 t) = _
  rw [after2_4]
  unfold outsAt2
  rw [block0 h0 t, block1 h1 t, block2 h2 t, block3 h3 t]
  funext j
  obtain ⟨r, d, hj⟩ := Cert.Sb.block_index j
  subst hj
  refine Eq.trans (body c (grid2.coords t) _ _ _ _ _ _ _ _ _ _ _ _ _ _ (Cert.SbKernelIdeal.Gen.iblk m c 0 t) (Cert.SbKernelIdeal.Gen.iblk m c 1 t) (Cert.SbKernelIdeal.Gen.iblk m c 2 t) (Cert.SbKernelIdeal.Gen.iblk m c 3 t) (Cert.Sb.u_block m c t) r d) ?_
  exact (Cert.Sb.block_eq m c t r d).trans (Cert.Sb.read4 t (Cert.Sb.res m c) r d).symm

/-- THE ARRAY of window 4 after the region is the call's result. -/
theorem array4 (h0 : (V c main_v41 : FVec Ideal S8x8192x1024 .bf16) = Cert.SbKernelIdeal.Gen.V m c Cert.SbKernelIdeal.main_arg0) (h1 : (V c main_v42 : FVec Ideal S8x8192x1024 .bf16) = Cert.SbKernelIdeal.Gen.V m c Cert.SbKernelIdeal.main_arg1) (h2 : (V c main_v43 : FVec Ideal S8x8192x1024 .bf16) = Cert.SbKernelIdeal.Gen.V m c Cert.SbKernelIdeal.main_arg2) (h3 : (V c main_v52 : FVec Ideal S512x256 .bf16) = Cert.SbKernelIdeal.Gen.V m c Cert.SbKernelIdeal.main_v8) :
    (dat2 V c).arrAt 4 cfg2.N = Cert.Sb.res m c :=
  (dat2 V c).arrAt_eq_of_cover 4 (Cert.Sb.res m c) (fun t _ => flushed4 h0 h1 h2 h3 t) fun i =>
    let ⟨t, ht⟩ := Cert.Sb.covered i
    ⟨t, flush2_4 t, ht⟩

end Cert.Layer.Sb

end
-- ==== Proof.LayerMergeBody.lean ====
/-
  One block of 512 rows of the merge call within the layer: the arrays it reads are computed ones, so its body casts every
  block to its own shape first; the block it writes is that of the call's own program.
-/
module

public import proofs.«01_k».proof.Proof.MergeBody
public import proofs.«01_k».proof.Proof.Gen.LayerKernelIdeal.Frame.Region3

@[expose] public section

noncomputable section

open scoped BigOperators
open Idealize.ShloMosaic Idealize.ShloMosaic.TcCoe Idealize.SL.Sem
open Cert.LayerKernelIdeal Cert.LayerKernelIdeal.Gen Cert.Row
open Cert.Merge (hz2)

namespace Cert.Layer.Merge

/-- The mixed rows before the layer norm. -/
theorem pay2_apply (v0 : Vec Ideal S512x1024 .f32) (v2 : Vec Ideal S512x1024 .bf16) (v4 : Vec Ideal S1024x1024 .bf16) (v8 : Vec Ideal S512x1024 .f32)
    (v10 : Vec Ideal S512x1024 .bf16) (v12 v18 : Vec Ideal S1024x1024 .bf16) (v21 : Vec Ideal S512x1024 .f32) (r : Fin 512) (c : Fin 1024) :
    k3_pay2 v0 v2 v4 v8 v10 v12 v18 v21 (ix2 r c)
      = mix (fun j => v21 (ix2 r j)) (fun j => v2 (ix2 r j)) (fun j => v10 (ix2 r j)) (fun j => v0 (ix2 r j)) (fun j => v8 (ix2 r j))
          (fun e d => v4 (ix2 e d)) (fun e d => v12 (ix2 e d)) (fun e d => v18 (ix2 e d)) c := by
  pointwise [k3_pay2, mix]

/-- The sums of the mixed rows. -/
theorem pay5_apply (v0 : Vec Ideal S512x1024 .f32) (v2 : Vec Ideal S512x1024 .bf16) (v4 : Vec Ideal S1024x1024 .bf16) (v8 : Vec Ideal S512x1024 .f32)
    (v10 : Vec Ideal S512x1024 .bf16) (v12 v18 : Vec Ideal S1024x1024 .bf16) (v21 : Vec Ideal S512x1024 .f32) (r : Fin 512) :
    k3_pay5 v0 v2 v4 v8 v10 v12 v18 v21 (ix2 r 0) = ∑ j : Fin 1024, k3_pay2 v0 v2 v4 v8 v10 v12 v18 v21 (ix2 r j) := by
  pointwise [k3_pay5]

/-- The layer norm of rows whose sums are `σ`. -/
theorem pay1_apply (y : FVec Ideal S512x1024 .f32) (g b : Vec Ideal S1x1024 .f32) (σ : FVec Ideal S512x1 .f32) (r : Fin 512) (c : Fin 1024)
    (h : σ (ix2 r 0) = ∑ j : Fin 1024, y (ix2 r j)) :
    k3_pay1 y (k3_pay3 g) (k3_pay4 b) σ (ix2 r c) = ln (fun j => y (ix2 r j)) (g (ix2 0 c)) (b (ix2 0 c)) c := by
  pointwise [k3_pay1, k3_pay3, k3_pay4, ln, var, mean, h]

/-- THE BODY: element `(r, c)` of a block is the layer norm of the scaled rows and the mixed branches. -/
theorem body (x0 : Vec Ideal S512x1024 .f32) (x1 x2 : Vec Ideal S512x1024 .bf16) (x3 x4 : Vec Ideal S512x1024 .f32)
    (x5 x6 x7 : Vec Ideal S1024x1024 .bf16) (x8 x9 : Vec Ideal S1x1024 .f32) (r : Fin 512) (c : Fin 1024) :
    out3_10 x0 x1 x2 x3 x4 x5 x6 x7 x8 x9 (ix2 r c)
      = ln (mix (fun j => x0 (ix2 r j)) (fun j => x1 (ix2 r j)) (fun j => x2 (ix2 r j)) (fun j => x3 (ix2 r j)) (fun j => x4 (ix2 r j))
          (fun e d => x5 (ix2 e d)) (fun e d => x6 (ix2 e d)) (fun e d => x7 (ix2 e d))) (x8 (ix2 0 c)) (x9 (ix2 0 c)) c := by
  unfold out3_10
  rw [View.canon_unit_zero (S := S512x1024) hz2]
  simp only [View.ld_unit_zero (S := S512x1024) hz2, View.ld_unit_zero (S := S1x1024) hz2, View.ld_unit_zero (S := S1024x1024) hz2]
  rw [pay1_apply _ _ _ _ _ _ (pay5_apply x3 x1 x5 x4 x2 x6 x7 x0 r)]
  congr 1
  funext j
  exact pay2_apply x3 x1 x5 x4 x2 x6 x7 x0 r j

/-- The block is the one the call's own program computes. -/
theorem out_eq (x0 : Vec Ideal S512x1024 .f32) (x1 x2 : Vec Ideal S512x1024 .bf16) (x3 x4 : Vec Ideal S512x1024 .f32)
    (x5 x6 x7 : Vec Ideal S1024x1024 .bf16) (x8 x9 : Vec Ideal S1x1024 .f32) : out3_10 x0 x1 x2 x3 x4 x5 x6 x7 x8 x9 = Cert.MergeKernelIdeal.Gen.out0_10 x0 x1 x2 x3 x4 x5 x6 x7 x8 x9 := by
  funext i
  obtain ⟨r, c, rfl⟩ : ∃ r c, i = ix2 r c := ⟨_, _, ValueIdx.eq_ix2 i⟩
  exact (body x0 x1 x2 x3 x4 x5 x6 x7 x8 x9 r c).trans (Cert.Merge.body x0 x1 x2 x3 x4 x5 x6 x7 x8 x9 r c).symm

end Cert.Layer.Merge

end
-- ==== Proof.LayerMerge.lean ====
/-
  The merge call as the layer's fourth region: entered with the arrays its own program finds, it leaves its own result.
-/
module

public import proofs.«01_k».proof.Proof.LayerMemory
public import proofs.«01_k».proof.Proof.MergeValue
public import proofs.«01_k».proof.Proof.LayerMergeBody

@[expose] public section

set_option maxRecDepth 16384

noncomputable section

open scoped BigOperators
open Idealize.ShloMosaic Idealize.ShloMosaic.TcCoe Idealize.SL.Sem
open Idealize.ShloMosaic.Pipeline (Dat)
open Cert.LayerKernelIdeal Cert.LayerKernelIdeal.Gen

namespace Cert.Layer.Merge

/-- A launch memory of the call's own program that holds the given arguments. -/
def mem (x : FVec Ideal S65536x1024 .f32) (ya : FVec Ideal S8x8192x1024 .bf16) (yb : FVec Ideal S8x8192x1024 .bf16) (ga : FVec Ideal S65536x1024 .f32) (gb : FVec Ideal S65536x1024 .f32) (wa : FVec Ideal S1x1024x1024 .f32) (wb : FVec Ideal S1x1024x1024 .f32) (wo : FVec Ideal S1x1024x1024 .f32) (g : FVec Ideal S1x4x1024 .f32) (b : FVec Ideal S1x4x1024 .f32) : (ℓ : Loc 1 Cert.MergeKernelIdeal.τ Cert.MergeKernelIdeal.sig) → Buf (Elt Ideal) ℓ :=
  fun ℓ => (Function.update (Function.update (Function.update (Function.update (Function.update (Function.update (Function.update (Function.update (Function.update (Function.update fill (Proc.devRef .tc Cert.MergeKernelIdeal.main_arg0) x) (Proc.devRef .tc Cert.MergeKernelIdeal.main_arg1) ya) (Proc.devRef .tc Cert.MergeKernelIdeal.main_arg2) yb) (Proc.devRef .tc Cert.MergeKernelIdeal.main_arg3) ga) (Proc.devRef .tc Cert.MergeKernelIdeal.main_arg4) gb) (Proc.devRef .tc Cert.MergeKernelIdeal.main_arg5) wa) (Proc.devRef .tc Cert.MergeKernelIdeal.main_arg6) wb) (Proc.devRef .tc Cert.MergeKernelIdeal.main_arg7) wo) (Proc.devRef .tc Cert.MergeKernelIdeal.main_arg8) g) (Proc.devRef .tc Cert.MergeKernelIdeal.main_arg9) b) ℓ.2

section
variable (x : FVec Ideal S65536x1024 .f32) (ya : FVec Ideal S8x8192x1024 .bf16) (yb : FVec Ideal S8x8192x1024 .bf16) (ga : FVec Ideal S65536x1024 .f32) (gb : FVec Ideal S65536x1024 .f32) (wa : FVec Ideal S1x1024x1024 .f32) (wb : FVec Ideal S1x1024x1024 .f32) (wo : FVec Ideal S1x1024x1024 .f32) (g : FVec Ideal S1x4x1024 .f32) (b : FVec Ideal S1x4x1024 .f32) (c : Dev nD)
/-- The memory's argument 0. -/
theorem mem_arg0 : mem x ya yb ga gb wa wb wo g b ((c.tc : Thread nD Cert.MergeKernelIdeal.τ).loc Cert.MergeKernelIdeal.main_arg0) = x := by
  show Function.update _ _ _ _ = _
  simp (decide := true) only [apart, Function.update_self]
/-- The memory's argument 1. -/
theorem mem_arg1 : mem x ya yb ga gb wa wb wo g b ((c.tc : Thread nD Cert.MergeKernelIdeal.τ).loc Cert.MergeKernelIdeal.main_arg1) = ya := by
  show Function.update _ _ _ _ = _
  simp (decide := true) only [apart, Function.update_self]
/-- The memory's argument 2. -/
theorem mem_arg2 : mem x ya yb ga gb wa wb wo g b ((c.tc : Thread nD Cert.MergeKernelIdeal.τ).loc Cert.MergeKernelIdeal.main_arg2) = yb := by
  show Function.update _ _ _ _ = _
  simp (decide := true) only [apart, Function.update_self]
/-- The memory's argument 3. -/
theorem mem_arg3 : mem x ya yb ga gb wa wb wo g b ((c.tc : Thread nD Cert.MergeKernelIdeal.τ).loc Cert.MergeKernelIdeal.main_arg3) = ga := by
  show Function.update _ _ _ _ = _
  simp (decide := true) only [apart, Function.update_self]
/-- The memory's argument 4. -/
theorem mem_arg4 : mem x ya yb ga gb wa wb wo g b ((c.tc : Thread nD Cert.MergeKernelIdeal.τ).loc Cert.MergeKernelIdeal.main_arg4) = gb := by
  show Function.update _ _ _ _ = _
  simp (decide := true) only [apart, Function.update_self]
/-- The memory's argument 5. -/
theorem mem_arg5 : mem x ya yb ga gb wa wb wo g b ((c.tc : Thread nD Cert.MergeKernelIdeal.τ).loc Cert.MergeKernelIdeal.main_arg5) = wa := by
  show Function.update _ _ _ _ = _
  simp (decide := true) only [apart, Function.update_self]
/-- The memory's argument 6. -/
theorem mem_arg6 : mem x ya yb ga gb wa wb wo g b ((c.tc : Thread nD Cert.MergeKernelIdeal.τ).loc Cert.MergeKernelIdeal.main_arg6) = wb := by
  show Function.update _ _ _ _ = _
  simp (decide := true) only [apart, Function.update_self]
/-- The memory's argument 7. -/
theorem mem_arg7 : mem x ya yb ga gb wa wb wo g b ((c.tc : Thread nD Cert.MergeKernelIdeal.τ).loc Cert.MergeKernelIdeal.main_arg7) = wo := by
  show Function.update _ _ _ _ = _
  simp (decide := true) only [apart, Function.update_self]
/-- The memory's argument 8. -/
theorem mem_arg8 : mem x ya yb ga gb wa wb wo g b ((c.tc : Thread nD Cert.MergeKernelIdeal.τ).loc Cert.MergeKernelIdeal.main_arg8) = g := by
  show Function.update _ _ _ _ = _
  simp (decide := true) only [apart, Function.update_self]
/-- The memory's argument 9. -/
theorem mem_arg9 : mem x ya yb ga gb wa wb wo g b ((c.tc : Thread nD Cert.MergeKernelIdeal.τ).loc Cert.MergeKernelIdeal.main_arg9) = b := by
  show Function.update _ _ _ _ = _
  simp (decide := true) only [apart, Function.update_self]
end

variable {V : (c : Dev nD) → (b : Ref sig .tc) → Buf (Elt Ideal) ((c : Thread nD τ).loc b)} {c : Dev nD}
  {m : (ℓ : Loc 1 Cert.MergeKernelIdeal.τ Cert.MergeKernelIdeal.sig) → Buf (Elt Ideal) ℓ}

/-- Window 0's blocks are those of the call's own program where its array is that program's. -/
theorem block0 (h : (V c main_v16 : FVec Ideal S65536x1024 .f32) = Cert.MergeKernelIdeal.Gen.V m c Cert.MergeKernelIdeal.main_arg0) (t : Fin cfg3.N) :
    iblk3 V c 0 t = Cert.MergeKernelIdeal.Gen.iblk m c 0 t := by
  unfold iblk3 Cert.MergeKernelIdeal.Gen.iblk
  exact congrArg (fun f : FVec Ideal S65536x1024 .f32 => View.read (Elt Ideal) ((cfg3.win 0).blk t).view f) h

/-- Window 1's blocks are those of the call's own program where its array is that program's. -/
theorem block1 (h : (V c main_v54 : FVec Ideal S65536x1024 .bf16) = Cert.MergeKernelIdeal.Gen.V m c Cert.MergeKernelIdeal.main_v0) (t : Fin cfg3.N) :
    iblk3 V c 1 t = Cert.MergeKernelIdeal.Gen.iblk m c 1 t := by
  unfold iblk3 Cert.MergeKernelIdeal.Gen.iblk
  exact congrArg (fun f : FVec Ideal S65536x1024 .bf16 => View.read (Elt Ideal) ((cfg3.win 1).blk t).view f) h

/-- Window 2's blocks are those of the call's own program where its array is that program's. -/
theorem block2 (h : (V c main_v55 : FVec Ideal S65536x1024 .bf16) = Cert.MergeKernelIdeal.Gen.V m c Cert.MergeKernelIdeal.main_v1) (t : Fin cfg3.N) :
    iblk3 V c 2 t = Cert.MergeKernelIdeal.Gen.iblk m c 2 t := by
  unfold iblk3 Cert.MergeKernelIdeal.Gen.iblk
  exact congrArg (fun f : FVec Ideal S65536x1024 .bf16 => View.read (Elt Ideal) ((cfg3.win 2).blk t).view f) h

/-- Window 3's blocks are those of the call's own program where its array is that program's. -/
theorem block3 (h : (V c main_v40_6 : FVec Ideal S65536x1024 .f32) = Cert.MergeKernelIdeal.Gen.V m c Cert.MergeKernelIdeal.main_arg3) (t : Fin cfg3.N) :
    iblk3 V c 3 t = Cert.MergeKernelIdeal.Gen.iblk m c 3 t := by
  unfold iblk3 Cert.MergeKernelIdeal.Gen.iblk
  exact congrArg (fun f : FVec Ideal S65536x1024 .f32 => View.read (Elt Ideal) ((cfg3.win 3).blk t).view f) h

/-- Window 4's blocks are those of the call's own program where its array is that program's. -/
theorem block4 (h : (V c main_v40_7 : FVec Ideal S65536x1024 .f32) = Cert.MergeKernelIdeal.Gen.V m c Cert.MergeKernelIdeal.main_arg4) (t : Fin cfg3.N) :
    iblk3 V c 4 t = Cert.MergeKernelIdeal.Gen.iblk m c 4 t := by
  unfold iblk3 Cert.MergeKernelIdeal.Gen.iblk
  exact congrArg (fun f : FVec Ideal S65536x1024 .f32 => View.read (Elt Ideal) ((cfg3.win 4).blk t).view f) h

/-- Window 5's blocks are those of the call's own program where its array is that program's. -/
theorem block5 (h : (V c main_v57 : FVec Ideal S1024x1024 .bf16) = Cert.MergeKernelIdeal.Gen.V m c Cert.MergeKernelIdeal.main_v3) (t : Fin cfg3.N) :
    iblk3 V c 5 t = Cert.MergeKernelIdeal.Gen.iblk m c 5 t := by
  unfold iblk3 Cert.MergeKernelIdeal.Gen.iblk
  exact congrArg (fun f : FVec Ideal S1024x1024 .bf16 => View.read (Elt Ideal) ((cfg3.win 5).blk t).view f) h

/-- Window 6's blocks are those of the call's own program where its array is that program's. -/
theorem block6 (h : (V c main_v59 : FVec Ideal S1024x1024 .bf16) = Cert.MergeKernelIdeal.Gen.V m c Cert.MergeKernelIdeal.main_v5) (t : Fin cfg3.N) :
    iblk3 V c 6 t = Cert.MergeKernelIdeal.Gen.iblk m c 6 t := by
  unfold iblk3 Cert.MergeKernelIdeal.Gen.iblk
  exact congrArg (fun f : FVec Ideal S1024x1024 .bf16 => View.read (Elt Ideal) ((cfg3.win 6).blk t).view f) h

/-- Window 7's blocks are those of the call's own program where its array is that program's. -/
theorem block7 (h : (V c main_v61 : FVec Ideal S1024x1024 .bf16) = Cert.MergeKernelIdeal.Gen.V m c Cert.MergeKernelIdeal.main_v7) (t : Fin cfg3.N) :
    iblk3 V c 7 t = Cert.MergeKernelIdeal.Gen.iblk m c 7 t := by
  unfold iblk3 Cert.MergeKernelIdeal.Gen.iblk
  exact congrArg (fun f : FVec Ideal S1024x1024 .bf16 => View.read (Elt Ideal) ((cfg3.win 7).blk t).view f) h

/-- Window 8's blocks are those of the call's own program where its array is that program's. -/
theorem block8 (h : (V c main_v64 : FVec Ideal S1x1024 .f32) = Cert.MergeKernelIdeal.Gen.V m c Cert.MergeKernelIdeal.main_v10) (t : Fin cfg3.N) :
    iblk3 V c 8 t = Cert.MergeKernelIdeal.Gen.iblk m c 8 t := by
  unfold iblk3 Cert.MergeKernelIdeal.Gen.iblk
  exact congrArg (fun f : FVec Ideal S1x1024 .f32 => View.read (Elt Ideal) ((cfg3.win 8).blk t).view f) h

/-- Window 9's blocks are those of the call's own program where its array is that program's. -/
theorem block9 (h : (V c main_v67 : FVec Ideal S1x1024 .f32) = Cert.MergeKernelIdeal.Gen.V m c Cert.MergeKernelIdeal.main_v13) (t : Fin cfg3.N) :
    iblk3 V c 9 t = Cert.MergeKernelIdeal.Gen.iblk m c 9 t := by
  unfold iblk3 Cert.MergeKernelIdeal.Gen.iblk
  exact congrArg (fun f : FVec Ideal S1x1024 .f32 => View.read (Elt Ideal) ((cfg3.win 9).blk t).view f) h

/-- What a point writes back of window 10 is its block of the call's result. -/
theorem flushed10 (h0 : (V c main_v16 : FVec Ideal S65536x1024 .f32) = Cert.MergeKernelIdeal.Gen.V m c Cert.MergeKernelIdeal.main_arg0) (h1 : (V c main_v54 : FVec Ideal S65536x1024 .bf16) = Cert.MergeKernelIdeal.Gen.V m c Cert.MergeKernelIdeal.main_v0) (h2 : (V c main_v55 : FVec Ideal S65536x1024 .bf16) = Cert.MergeKernelIdeal.Gen.V m c Cert.MergeKernelIdeal.main_v1) (h3 : (V c main_v40_6 : FVec Ideal S65536x1024 .f32) = Cert.MergeKernelIdeal.Gen.V m c Cert.MergeKernelIdeal.main_arg3) (h4 : (V c main_v40_7 : FVec Ideal S65536x1024 .f32) = Cert.MergeKernelIdeal.Gen.V m c Cert.MergeKernelIdeal.main_arg4) (h5 : (V c main_v57 : FVec Ideal S1024x1024 .bf16) = Cert.MergeKernelIdeal.Gen.V m c Cert.MergeKernelIdeal.main_v3) (h6 : (V c main_v59 : FVec Ideal S1024x1024 .bf16) = Cert.MergeKernelIdeal.Gen.V m c Cert.MergeKernelIdeal.main_v5) (h7 : (V c main_v61 : FVec Ideal S1024x1024 .bf16) = Cert.MergeKernelIdeal.Gen.V m c Cert.MergeKernelIdeal.main_v7) (h8 : (V c main_v64 : FVec Ideal S1x1024 .f32) = Cert.MergeKernelIdeal.Gen.V m c Cert.MergeKernelIdeal.main_v10) (h9 : (V c main_v67 : FVec Ideal S1x1024 .f32) = Cert.MergeKernelIdeal.Gen.V m c Cert.MergeKernelIdeal.main_v13) (t : Fin cfg3.N) :
    (dat3 V c).flushed 10 t = ((cfg3.win 10).blk t).view.read (Elt Ideal) (Cert.Merge.res m c) := by
  show (cfg3.win 10).cut (grid3.coords t) ((dat3 V c).after 10 t) = _
  rw [after3_10, block0 h0 t, block1 h1 t, block2 h2 t, block3 h3 t, block4 h4 t, block5 h5 t, block6 h6 t, block7 h7 t, block8 h8 t, block9 h9 t, out_eq]
  exact (Cert.MergeKernelIdeal.Value.flushed10 m c t).symm.trans (Cert.Merge.flushed_eq m c t)

/-- THE ARRAY of window 10 after the region is the call's result. -/
theorem array10 (h0 : (V c main_v16 : FVec Ideal S65536x1024 .f32) = Cert.MergeKernelIdeal.Gen.V m c Cert.MergeKernelIdeal.main_arg0) (h1 : (V c main_v54 : FVec Ideal S65536x1024 .bf16) = Cert.MergeKernelIdeal.Gen.V m c Cert.MergeKernelIdeal.main_v0) (h2 : (V c main_v55 : FVec Ideal S65536x1024 .bf16) = Cert.MergeKernelIdeal.Gen.V m c Cert.MergeKernelIdeal.main_v1) (h3 : (V c main_v40_6 : FVec Ideal S65536x1024 .f32) = Cert.MergeKernelIdeal.Gen.V m c Cert.MergeKernelIdeal.main_arg3) (h4 : (V c main_v40_7 : FVec Ideal S65536x1024 .f32) = Cert.MergeKernelIdeal.Gen.V m c Cert.MergeKernelIdeal.main_arg4) (h5 : (V c main_v57 : FVec Ideal S1024x1024 .bf16) = Cert.MergeKernelIdeal.Gen.V m c Cert.MergeKernelIdeal.main_v3) (h6 : (V c main_v59 : FVec Ideal S1024x1024 .bf16) = Cert.MergeKernelIdeal.Gen.V m c Cert.MergeKernelIdeal.main_v5) (h7 : (V c main_v61 : FVec Ideal S1024x1024 .bf16) = Cert.MergeKernelIdeal.Gen.V m c Cert.MergeKernelIdeal.main_v7) (h8 : (V c main_v64 : FVec Ideal S1x1024 .f32) = Cert.MergeKernelIdeal.Gen.V m c Cert.MergeKernelIdeal.main_v10) (h9 : (V c main_v67 : FVec Ideal S1x1024 .f32) = Cert.MergeKernelIdeal.Gen.V m c Cert.MergeKernelIdeal.main_v13) :
    (dat3 V c).arrAt 10 cfg3.N = Cert.Merge.res m c :=
  (dat3 V c).arrAt_eq_of_cover 10 (Cert.Merge.res m c) (fun t _ => flushed10 h0 h1 h2 h3 h4 h5 h6 h7 h8 h9 t) fun i =>
    let ⟨t, ht⟩ := Cert.Merge.covered i
    ⟨t, flush3_10 t, ht⟩

end Cert.Layer.Merge

end
-- ==== Proof.LayerOutBody.lean ====
/-
  One block of 1024 rows of the output call within the layer: its rows are a computed array, so its body casts their block to
  its own shape first and is cut into parts elsewhere; the block it writes is that of the call's own program.
-/
module

public import proofs.«01_k».proof.Proof.OutBody
public import proofs.«01_k».proof.Proof.Gen.LayerKernelIdeal.Frame.Region4

@[expose] public section

noncomputable section

open scoped BigOperators
open Idealize.ShloMosaic Idealize.ShloMosaic.TcCoe Idealize.SL.Sem
open Cert.LayerKernelIdeal Cert.LayerKernelIdeal.Gen Cert.Row
open Cert.Out (ch ch_part tm mid hz2)

namespace Cert.Layer.Out

/-- The rows read are the rows. -/
theorem pay2_eq (v0 : Vec Ideal S1024x1024 .f32) : k4_pay2 v0 = v0 := by
  funext i
  obtain ⟨r, c, rfl⟩ : ∃ r c, i = ix2 r c := ⟨_, _, ValueIdx.eq_ix2 i⟩
  pointwise [k4_pay2]

/-- The rows as the matrix unit reads them are the rows. -/
theorem pay3_eq (v0 : Vec Ideal S1024x1024 .f32) : k4_pay3 v0 = v0 := by
  funext i
  obtain ⟨r, c, rfl⟩ : ∃ r c, i = ix2 r c := ⟨_, _, ValueIdx.eq_ix2 i⟩
  pointwise [k4_pay3, k4_pay2]

/-- The last chunk's gate weights read are those weights. -/
theorem pay11_eq (g : Vec Ideal S1024x256 .bf16) : k4_pay11 g = g := by
  funext i
  obtain ⟨r, c, rfl⟩ : ∃ r c, i = ix2 r c := ⟨_, _, ValueIdx.eq_ix2 i⟩
  pointwise [k4_pay11]

/-- The first two chunks. -/
theorem pay4_apply (v0 : Vec Ideal S1024x1024 .f32) (g0 u0 : Vec Ideal S1024x256 .bf16) (w0 : Vec Ideal S256x1024 .bf16)
    (g1 u1 : Vec Ideal S1024x256 .bf16) (w1 : Vec Ideal S256x1024 .bf16) (r c : Fin 1024) :
    k4_pay4 v0 g0 u0 w0 g1 u1 w1 (ix2 r c) = ch v0 g0 u0 w0 r c + ch v0 g1 u1 w1 r c := by
  pointwise [k4_pay4, k4_pay3, k4_pay2, ch, chunk, unit, act]

/-- Three more chunks, the first one's gates computed before. -/
theorem pay6_apply (v : Vec Ideal S1024x1024 .bf16) (acc : FVec Ideal S1024x1024 .f32) (v0 : Vec Ideal S1024x1024 .f32) (g0 u0 : Vec Ideal S1024x256 .bf16) (w0 : Vec Ideal S256x1024 .bf16)
    (g1 u1 : Vec Ideal S1024x256 .bf16) (w1 : Vec Ideal S256x1024 .bf16)
    (g2 u2 : Vec Ideal S1024x256 .bf16) (w2 : Vec Ideal S256x1024 .bf16) (r c : Fin 1024) (hv : v = v0) :
    k4_pay6 v acc (k4_pay5 v0 g0) u0 w0 g1 u1 w1 g2 u2 w2 (ix2 r c)
      = acc (ix2 r c) + ch v0 g0 u0 w0 r c + ch v0 g1 u1 w1 r c + ch v0 g2 u2 w2 r c := by
  subst hv
  pointwise [k4_pay6, k4_pay5, k4_pay3, k4_pay2, ch, chunk, unit, act]

/-- Two more chunks. -/
theorem pay7_apply (v : Vec Ideal S1024x1024 .bf16) (acc : FVec Ideal S1024x1024 .f32) (g0 u0 : Vec Ideal S1024x256 .bf16) (w0 : Vec Ideal S256x1024 .bf16)
    (g1 u1 : Vec Ideal S1024x256 .bf16) (w1 : Vec Ideal S256x1024 .bf16) (r c : Fin 1024) :
    k4_pay7 v acc g0 u0 w0 g1 u1 w1 (ix2 r c) = acc (ix2 r c) + ch v g0 u0 w0 r c + ch v g1 u1 w1 r c := by
  pointwise [k4_pay7, ch, chunk, unit, act]

/-- Three more chunks, the first one's gates and up projections computed before. -/
theorem pay10_apply (v : Vec Ideal S1024x1024 .bf16) (acc : FVec Ideal S1024x1024 .f32) (g0 u0 : Vec Ideal S1024x256 .bf16) (w0 : Vec Ideal S256x1024 .bf16)
    (g1 u1 : Vec Ideal S1024x256 .bf16) (w1 : Vec Ideal S256x1024 .bf16)
    (g2 u2 : Vec Ideal S1024x256 .bf16) (w2 : Vec Ideal S256x1024 .bf16) (r c : Fin 1024) :
    k4_pay10 v acc (k4_pay8 v u0) (k4_pay9 v g0) w0 g1 u1 w1 g2 u2 w2 (ix2 r c)
      = acc (ix2 r c) + ch v g0 u0 w0 r c + ch v g1 u1 w1 r c + ch v g2 u2 w2 r c := by
  pointwise [k4_pay10, k4_pay9, k4_pay8, ch, chunk, unit, act]

/-- The last chunk, the scaling and the first layer norm. -/
theorem pay12_apply (x : FVec Ideal S1024x1024 .f32) (v : Vec Ideal S1024x1024 .bf16) (acc : FVec Ideal S1024x1024 .f32) (g0 u0 : Vec Ideal S1024x256 .bf16) (w0 : Vec Ideal S256x1024 .bf16)
    (g b : Vec Ideal S1x1024 .f32) (r c : Fin 1024) :
    k4_pay12 x v acc g0 (constant S1024x256 .f32 0x00000000#32) u0 w0 g b (ix2 r c)
      = ln (fun j => Row.res (x (ix2 r j)) (acc (ix2 r j) + ch v g0 u0 w0 r j)) (g (ix2 0 c)) (b (ix2 0 c)) c := by
  pointwise [k4_pay12, ch, chunk, unit, act, ln, var, mean, Row.res]

/-- The normed rows as the matrix unit reads them are the normed rows. -/
theorem pay13_eq (x : FVec Ideal S1024x1024 .f32) (v : Vec Ideal S1024x1024 .bf16) (acc : FVec Ideal S1024x1024 .f32) (g0 : Vec Ideal S1024x256 .bf16) (z : FVec Ideal S1024x256 .f32) (u0 : Vec Ideal S1024x256 .bf16) (w0 : Vec Ideal S256x1024 .bf16)
    (g b : Vec Ideal S1x1024 .f32) : k4_pay13 x v acc g0 z u0 w0 g b = k4_pay12 x v acc g0 z u0 w0 g b := by
  funext i
  obtain ⟨r, c, rfl⟩ : ∃ r c, i = ix2 r c := ⟨_, _, ValueIdx.eq_ix2 i⟩
  pointwise [k4_pay13]

/-- The embedding's gate and the second layer norm. -/
theorem pay1_apply (y : FVec Ideal S1024x1024 .f32) (w : Vec Ideal S1024x1024 .bf16) (bg : Vec Ideal S1x1024 .f32) (p : Vec Ideal S1024x256 .f32) (wp : Vec Ideal S256x1024 .bf16)
    (g b : Vec Ideal S1x1024 .f32) (r c : Fin 1024) :
    k4_pay1 (k4_pay14 y y w bg p wp g) (k4_pay15 b) (ix2 r c)
      = ln (ple (fun j => y (ix2 r j)) (fun d j => w (ix2 d j)) (fun j => bg (ix2 0 j)) (fun i => p (ix2 r i)) (fun i j => wp (ix2 i j)))
          (g (ix2 0 c)) (b (ix2 0 c)) c := by
  pointwise [k4_pay1, k4_pay14, k4_pay15, ln, var, mean, ple]

/-- THE BODY: element `(r, c)` of a block is the layer norm of the scaled rows and the gated embeddings. -/
theorem body (x0 : Vec Ideal S1024x1024 .f32) (x1 x2 : Vec Ideal S1024x2816 .bf16) (x3 : Vec Ideal S2816x1024 .bf16) (x4 x5 : Vec Ideal S1x1024 .f32)
    (x6 : Vec Ideal S1024x256 .f32) (x7 : Vec Ideal S256x1024 .bf16) (x8 : Vec Ideal S1024x1024 .bf16) (x9 x10 x11 : Vec Ideal S1x1024 .f32)
    (r c : Fin 1024) :
    out4_12 x0 x1 x2 x3 x4 x5 x6 x7 x8 x9 x10 x11 (ix2 r c)
      = ln (ple (mid x0 x1 x2 x3 x4 x5 r) (fun d j => x8 (ix2 d j)) (fun j => x9 (ix2 0 j)) (fun i => x6 (ix2 r i)) (fun i j => x7 (ix2 i j)))
          (x10 (ix2 0 c)) (x11 (ix2 0 c)) c := by
  unfold out4_12 k4_pay19 k4_pay20 k4_pay16 k4_pay17 k4_pay18
  rw [View.canon_unit_zero (S := S1024x1024) hz2]
  simp only [View.ld_unit_zero (S := S1024x1024) hz2, View.ld_unit_zero (S := S1x1024) hz2, View.ld_unit_zero (S := S1024x256) hz2,
    View.ld_unit_zero (S := S256x1024) hz2, pay2_eq, pay3_eq, pay11_eq]
  rw [pay13_eq, pay1_apply]
  congr 2
  funext j
  unfold mid
  rw [pay12_apply]
  congr 1
  funext j
  congr 1
  rw [pay10_apply, pay7_apply, pay6_apply _ _ x0 _ _ _ _ _ _ _ _ _ _ _ rfl, pay4_apply]
  have e := ch_part x0 x1 x2 x3 r j
  rw [e 0 (by norm_num), e 256 (by norm_num), e 512 (by norm_num), e 768 (by norm_num), e 1024 (by norm_num), e 1280 (by norm_num),
    e 1536 (by norm_num), e 1792 (by norm_num), e 2048 (by norm_num), e 2304 (by norm_num), e 2560 (by norm_num), sum_parts]
  rfl

/-- The block is the one the call's own program computes. -/
theorem out_eq (x0 : Vec Ideal S1024x1024 .f32) (x1 x2 : Vec Ideal S1024x2816 .bf16) (x3 : Vec Ideal S2816x1024 .bf16) (x4 x5 : Vec Ideal S1x1024 .f32)
    (x6 : Vec Ideal S1024x256 .f32) (x7 : Vec Ideal S256x1024 .bf16) (x8 : Vec Ideal S1024x1024 .bf16) (x9 x10 x11 : Vec Ideal S1x1024 .f32) : out4_12 x0 x1 x2 x3 x4 x5 x6 x7 x8 x9 x10 x11 = Cert.OutKernelIdeal.Gen.out0_12 x0 x1 x2 x3 x4 x5 x6 x7 x8 x9 x10 x11 := by
  funext i
  obtain ⟨r, c, rfl⟩ : ∃ r c, i = ix2 r c := ⟨_, _, ValueIdx.eq_ix2 i⟩
  exact (body x0 x1 x2 x3 x4 x5 x6 x7 x8 x9 x10 x11 r c).trans (Cert.Out.body x0 x1 x2 x3 x4 x5 x6 x7 x8 x9 x10 x11 r c).symm

end Cert.Layer.Out

end
-- ==== Proof.LayerOut.lean ====
/-
  The last call as the layer's fifth region: entered with the arrays its own program finds, it leaves its own result.
-/
module

public import proofs.«01_k».proof.Proof.LayerMemory
public import proofs.«01_k».proof.Proof.OutValue
public import proofs.«01_k».proof.Proof.LayerOutBody

@[expose] public section

set_option maxRecDepth 16384

noncomputable section

open scoped BigOperators
open Idealize.ShloMosaic Idealize.ShloMosaic.TcCoe Idealize.SL.Sem
open Idealize.ShloMosaic.Pipeline (Dat)
open Cert.LayerKernelIdeal Cert.LayerKernelIdeal.Gen

namespace Cert.Layer.Out

/-- A launch memory of the call's own program that holds the given arguments. -/
def mem (x : FVec Ideal S65536x1024 .f32) (p : FVec Ideal S1x8x8192x256 .f32) (g : FVec Ideal S1x4x1024 .f32) (b : FVec Ideal S1x4x1024 .f32) (wg : FVec Ideal S1x2x1024x2816 .f32) (wu : FVec Ideal S1x2x1024x2816 .f32) (wd : FVec Ideal S1x2x2816x1024 .f32) (wp : FVec Ideal S1x256x1024 .f32) (w : FVec Ideal S1x1024x1024 .f32) (bg : FVec Ideal S1x1024 .f32) : (ℓ : Loc 1 Cert.OutKernelIdeal.τ Cert.OutKernelIdeal.sig) → Buf (Elt Ideal) ℓ :=
  fun ℓ => (Function.update (Function.update (Function.update (Function.update (Function.update (Function.update (Function.update (Function.update (Function.update (Function.update fill (Proc.devRef .tc Cert.OutKernelIdeal.main_arg0) x) (Proc.devRef .tc Cert.OutKernelIdeal.main_arg1) p) (Proc.devRef .tc Cert.OutKernelIdeal.main_arg2) g) (Proc.devRef .tc Cert.OutKernelIdeal.main_arg3) b) (Proc.devRef .tc Cert.OutKernelIdeal.main_arg4) wg) (Proc.devRef .tc Cert.OutKernelIdeal.main_arg5) wu) (Proc.devRef .tc Cert.OutKernelIdeal.main_arg6) wd) (Proc.devRef .tc Cert.OutKernelIdeal.main_arg7) wp) (Proc.devRef .tc Cert.OutKernelIdeal.main_arg8) w) (Proc.devRef .tc Cert.OutKernelIdeal.main_arg9) bg) ℓ.2

section
variable (x : FVec Ideal S65536x1024 .f32) (p : FVec Ideal S1x8x8192x256 .f32) (g : FVec Ideal S1x4x1024 .f32) (b : FVec Ideal S1x4x1024 .f32) (wg : FVec Ideal S1x2x1024x2816 .f32) (wu : FVec Ideal S1x2x1024x2816 .f32) (wd : FVec Ideal S1x2x2816x1024 .f32) (wp : FVec Ideal S1x256x1024 .f32) (w : FVec Ideal S1x1024x1024 .f32) (bg : FVec Ideal S1x1024 .f32) (c : Dev nD)
/-- The memory's argument 0. -/
theorem mem_arg0 : mem x p g b wg wu wd wp w bg ((c.tc : Thread nD Cert.OutKernelIdeal.τ).loc Cert.OutKernelIdeal.main_arg0) = x := by
  show Function.update _ _ _ _ = _
  simp (decide := true) only [apart, Function.update_self]
/-- The memory's argument 1. -/
theorem mem_arg1 : mem x p g b wg wu wd wp w bg ((c.tc : Thread nD Cert.OutKernelIdeal.τ).loc Cert.OutKernelIdeal.main_arg1) = p := by
  show Function.update _ _ _ _ = _
  simp (decide := true) only [apart, Function.update_self]
/-- The memory's argument 2. -/
theorem mem_arg2 : mem x p g b wg wu wd wp w bg ((c.tc : Thread nD Cert.OutKernelIdeal.τ).loc Cert.OutKernelIdeal.main_arg2) = g := by
  show Function.update _ _ _ _ = _
  simp (decide := true) only [apart, Function.update_self]
/-- The memory's argument 3. -/
theorem mem_arg3 : mem x p g b wg wu wd wp w bg ((c.tc : Thread nD Cert.OutKernelIdeal.τ).loc Cert.OutKernelIdeal.main_arg3) = b := by
  show Function.update _ _ _ _ = _
  simp (decide := true) only [apart, Function.update_self]
/-- The memory's argument 4. -/
theorem mem_arg4 : mem x p g b wg wu wd wp w bg ((c.tc : Thread nD Cert.OutKernelIdeal.τ).loc Cert.OutKernelIdeal.main_arg4) = wg := by
  show Function.update _ _ _ _ = _
  simp (decide := true) only [apart, Function.update_self]
/-- The memory's argument 5. -/
theorem mem_arg5 : mem x p g b wg wu wd wp w bg ((c.tc : Thread nD Cert.OutKernelIdeal.τ).loc Cert.OutKernelIdeal.main_arg5) = wu := by
  show Function.update _ _ _ _ = _
  simp (decide := true) only [apart, Function.update_self]
/-- The memory's argument 6. -/
theorem mem_arg6 : mem x p g b wg wu wd wp w bg ((c.tc : Thread nD Cert.OutKernelIdeal.τ).loc Cert.OutKernelIdeal.main_arg6) = wd := by
  show Function.update _ _ _ _ = _
  simp (decide := true) only [apart, Function.update_self]
/-- The memory's argument 7. -/
theorem mem_arg7 : mem x p g b wg wu wd wp w bg ((c.tc : Thread nD Cert.OutKernelIdeal.τ).loc Cert.OutKernelIdeal.main_arg7) = wp := by
  show Function.update _ _ _ _ = _
  simp (decide := true) only [apart, Function.update_self]
/-- The memory's argument 8. -/
theorem mem_arg8 : mem x p g b wg wu wd wp w bg ((c.tc : Thread nD Cert.OutKernelIdeal.τ).loc Cert.OutKernelIdeal.main_arg8) = w := by
  show Function.update _ _ _ _ = _
  simp (decide := true) only [apart, Function.update_self]
/-- The memory's argument 9. -/
theorem mem_arg9 : mem x p g b wg wu wd wp w bg ((c.tc : Thread nD Cert.OutKernelIdeal.τ).loc Cert.OutKernelIdeal.main_arg9) = bg := by
  show Function.update _ _ _ _ = _
  simp (decide := true) only [apart, Function.update_self]
end

variable {V : (c : Dev nD) → (b : Ref sig .tc) → Buf (Elt Ideal) ((c : Thread nD τ).loc b)} {c : Dev nD}
  {m : (ℓ : Loc 1 Cert.OutKernelIdeal.τ Cert.OutKernelIdeal.sig) → Buf (Elt Ideal) ℓ}

/-- Window 0's blocks are those of the call's own program where its array is that program's. -/
theorem block0 (h : (V c main_v68 : FVec Ideal S65536x1024 .f32) = Cert.OutKernelIdeal.Gen.V m c Cert.OutKernelIdeal.main_arg0) (t : Fin cfg4.N) :
    iblk4 V c 0 t = Cert.OutKernelIdeal.Gen.iblk m c 0 t := by
  unfold iblk4 Cert.OutKernelIdeal.Gen.iblk
  exact congrArg (fun f : FVec Ideal S65536x1024 .f32 => View.read (Elt Ideal) ((cfg4.win 0).blk t).view f) h

/-- Window 1's blocks are those of the call's own program where its array is that program's. -/
theorem block1 (h : (V c main_v71 : FVec Ideal S1024x2816 .bf16) = Cert.OutKernelIdeal.Gen.V m c Cert.OutKernelIdeal.main_v2) (t : Fin cfg4.N) :
    iblk4 V c 1 t = Cert.OutKernelIdeal.Gen.iblk m c 1 t := by
  unfold iblk4 Cert.OutKernelIdeal.Gen.iblk
  exact congrArg (fun f : FVec Ideal S1024x2816 .bf16 => View.read (Elt Ideal) ((cfg4.win 1).blk t).view f) h

/-- Window 2's blocks are those of the call's own program where its array is that program's. -/
theorem block2 (h : (V c main_v74 : FVec Ideal S1024x2816 .bf16) = Cert.OutKernelIdeal.Gen.V m c Cert.OutKernelIdeal.main_v5) (t : Fin cfg4.N) :
    iblk4 V c 2 t = Cert.OutKernelIdeal.Gen.iblk m c 2 t := by
  unfold iblk4 Cert.OutKernelIdeal.Gen.iblk
  exact congrArg (fun f : FVec Ideal S1024x2816 .bf16 => View.read (Elt Ideal) ((cfg4.win 2).blk t).view f) h

/-- Window 3's blocks are those of the call's own program where its array is that program's. -/
theorem block3 (h : (V c main_v77 : FVec Ideal S2816x1024 .bf16) = Cert.OutKernelIdeal.Gen.V m c Cert.OutKernelIdeal.main_v8) (t : Fin cfg4.N) :
    iblk4 V c 3 t = Cert.OutKernelIdeal.Gen.iblk m c 3 t := by
  unfold iblk4 Cert.OutKernelIdeal.Gen.iblk
  exact congrArg (fun f : FVec Ideal S2816x1024 .bf16 => View.read (Elt Ideal) ((cfg4.win 3).blk t).view f) h

/-- Window 4's blocks are those of the call's own program where its array is that program's. -/
theorem block4 (h : (V c main_v80 : FVec Ideal S1x1024 .f32) = Cert.OutKernelIdeal.Gen.V m c Cert.OutKernelIdeal.main_v11) (t : Fin cfg4.N) :
    iblk4 V c 4 t = Cert.OutKernelIdeal.Gen.iblk m c 4 t := by
  unfold iblk4 Cert.OutKernelIdeal.Gen.iblk
  exact congrArg (fun f : FVec Ideal S1x1024 .f32 => View.read (Elt Ideal) ((cfg4.win 4).blk t).view f) h

/-- Window 5's blocks are those of the call's own program where its array is that program's. -/
theorem block5 (h : (V c main_v83 : FVec Ideal S1x1024 .f32) = Cert.OutKernelIdeal.Gen.V m c Cert.OutKernelIdeal.main_v14) (t : Fin cfg4.N) :
    iblk4 V c 5 t = Cert.OutKernelIdeal.Gen.iblk m c 5 t := by
  unfold iblk4 Cert.OutKernelIdeal.Gen.iblk
  exact congrArg (fun f : FVec Ideal S1x1024 .f32 => View.read (Elt Ideal) ((cfg4.win 5).blk t).view f) h

/-- Window 6's blocks are those of the call's own program where its array is that program's. -/
theorem block6 (h : (V c main_v85 : FVec Ideal S65536x256 .f32) = Cert.OutKernelIdeal.Gen.V m c Cert.OutKernelIdeal.main_v16) (t : Fin cfg4.N) :
    iblk4 V c 6 t = Cert.OutKernelIdeal.Gen.iblk m c 6 t := by
  unfold iblk4 Cert.OutKernelIdeal.Gen.iblk
  exact congrArg (fun f : FVec Ideal S65536x256 .f32 => View.read (Elt Ideal) ((cfg4.win 6).blk t).view f) h

/-- Window 7's blocks are those of the call's own program where its array is that program's. -/
theorem block7 (h : (V c main_v87 : FVec Ideal S256x1024 .bf16) = Cert.OutKernelIdeal.Gen.V m c Cert.OutKernelIdeal.main_v18) (t : Fin cfg4.N) :
    iblk4 V c 7 t = Cert.OutKernelIdeal.Gen.iblk m c 7 t := by
  unfold iblk4 Cert.OutKernelIdeal.Gen.iblk
  exact congrArg (fun f : FVec Ideal S256x1024 .bf16 => View.read (Elt Ideal) ((cfg4.win 7).blk t).view f) h

/-- Window 8's blocks are those of the call's own program where its array is that program's. -/
theorem block8 (h : (V c main_v89 : FVec Ideal S1024x1024 .bf16) = Cert.OutKernelIdeal.Gen.V m c Cert.OutKernelIdeal.main_v20) (t : Fin cfg4.N) :
    iblk4 V c 8 t = Cert.OutKernelIdeal.Gen.iblk m c 8 t := by
  unfold iblk4 Cert.OutKernelIdeal.Gen.iblk
  exact congrArg (fun f : FVec Ideal S1024x1024 .bf16 => View.read (Elt Ideal) ((cfg4.win 8).blk t).view f) h

/-- Window 9's blocks are those of the call's own program where its array is that program's. -/
theorem block9 (h : (V c main_v91 : FVec Ideal S1x1024 .f32) = Cert.OutKernelIdeal.Gen.V m c Cert.OutKernelIdeal.main_v22) (t : Fin cfg4.N) :
    iblk4 V c 9 t = Cert.OutKernelIdeal.Gen.iblk m c 9 t := by
  unfold iblk4 Cert.OutKernelIdeal.Gen.iblk
  exact congrArg (fun f : FVec Ideal S1x1024 .f32 => View.read (Elt Ideal) ((cfg4.win 9).blk t).view f) h

/-- Window 10's blocks are those of the call's own program where its array is that program's. -/
theorem block10 (h : (V c main_v94 : FVec Ideal S1x1024 .f32) = Cert.OutKernelIdeal.Gen.V m c Cert.OutKernelIdeal.main_v25) (t : Fin cfg4.N) :
    iblk4 V c 10 t = Cert.OutKernelIdeal.Gen.iblk m c 10 t := by
  unfold iblk4 Cert.OutKernelIdeal.Gen.iblk
  exact congrArg (fun f : FVec Ideal S1x1024 .f32 => View.read (Elt Ideal) ((cfg4.win 10).blk t).view f) h

/-- Window 11's blocks are those of the call's own program where its array is that program's. -/
theorem block11 (h : (V c main_v97 : FVec Ideal S1x1024 .f32) = Cert.OutKernelIdeal.Gen.V m c Cert.OutKernelIdeal.main_v28) (t : Fin cfg4.N) :
    iblk4 V c 11 t = Cert.OutKernelIdeal.Gen.iblk m c 11 t := by
  unfold iblk4 Cert.OutKernelIdeal.Gen.iblk
  exact congrArg (fun f : FVec Ideal S1x1024 .f32 => View.read (Elt Ideal) ((cfg4.win 11).blk t).view f) h

/-- What a point writes back of window 12 is its block of the call's result. -/
theorem flushed12 (h0 : (V c main_v68 : FVec Ideal S65536x1024 .f32) = Cert.OutKernelIdeal.Gen.V m c Cert.OutKernelIdeal.main_arg0) (h1 : (V c main_v71 : FVec Ideal S1024x2816 .bf16) = Cert.OutKernelIdeal.Gen.V m c Cert.OutKernelIdeal.main_v2) (h2 : (V c main_v74 : FVec Ideal S1024x2816 .bf16) = Cert.OutKernelIdeal.Gen.V m c Cert.OutKernelIdeal.main_v5) (h3 : (V c main_v77 : FVec Ideal S2816x1024 .bf16) = Cert.OutKernelIdeal.Gen.V m c Cert.OutKernelIdeal.main_v8) (h4 : (V c main_v80 : FVec Ideal S1x1024 .f32) = Cert.OutKernelIdeal.Gen.V m c Cert.OutKernelIdeal.main_v11) (h5 : (V c main_v83 : FVec Ideal S1x1024 .f32) = Cert.OutKernelIdeal.Gen.V m c Cert.OutKernelIdeal.main_v14) (h6 : (V c main_v85 : FVec Ideal S65536x256 .f32) = Cert.OutKernelIdeal.Gen.V m c Cert.OutKernelIdeal.main_v16) (h7 : (V c main_v87 : FVec Ideal S256x1024 .bf16) = Cert.OutKernelIdeal.Gen.V m c Cert.OutKernelIdeal.main_v18) (h8 : (V c main_v89 : FVec Ideal S1024x1024 .bf16) = Cert.OutKernelIdeal.Gen.V m c Cert.OutKernelIdeal.main_v20) (h9 : (V c main_v91 : FVec Ideal S1x1024 .f32) = Cert.OutKernelIdeal.Gen.V m c Cert.OutKernelIdeal.main_v22) (h10 : (V c main_v94 : FVec Ideal S1x1024 .f32) = Cert.OutKernelIdeal.Gen.V m c Cert.OutKernelIdeal.main_v25) (h11 : (V c main_v97 : FVec Ideal S1x1024 .f32) = Cert.OutKernelIdeal.Gen.V m c Cert.OutKernelIdeal.main_v28) (t : Fin cfg4.N) :
    (dat4 V c).flushed 12 t = ((cfg4.win 12).blk t).view.read (Elt Ideal) (Cert.Out.res m c) := by
  show (cfg4.win 12).cut (grid4.coords t) ((dat4 V c).after 12 t) = _
  rw [after4_12, block0 h0 t, block1 h1 t, block2 h2 t, block3 h3 t, block4 h4 t, block5 h5 t, block6 h6 t, block7 h7 t, block8 h8 t, block9 h9 t, block10 h10 t, block11 h11 t, out_eq]
  exact (Cert.OutKernelIdeal.Value.flushed12 m c t).symm.trans (Cert.Out.flushed_eq m c t)

/-- THE ARRAY of window 12 after the region is the call's result. -/
theorem array12 (h0 : (V c main_v68 : FVec Ideal S65536x1024 .f32) = Cert.OutKernelIdeal.Gen.V m c Cert.OutKernelIdeal.main_arg0) (h1 : (V c main_v71 : FVec Ideal S1024x2816 .bf16) = Cert.OutKernelIdeal.Gen.V m c Cert.OutKernelIdeal.main_v2) (h2 : (V c main_v74 : FVec Ideal S1024x2816 .bf16) = Cert.OutKernelIdeal.Gen.V m c Cert.OutKernelIdeal.main_v5) (h3 : (V c main_v77 : FVec Ideal S2816x1024 .bf16) = Cert.OutKernelIdeal.Gen.V m c Cert.OutKernelIdeal.main_v8) (h4 : (V c main_v80 : FVec Ideal S1x1024 .f32) = Cert.OutKernelIdeal.Gen.V m c Cert.OutKernelIdeal.main_v11) (h5 : (V c main_v83 : FVec Ideal S1x1024 .f32) = Cert.OutKernelIdeal.Gen.V m c Cert.OutKernelIdeal.main_v14) (h6 : (V c main_v85 : FVec Ideal S65536x256 .f32) = Cert.OutKernelIdeal.Gen.V m c Cert.OutKernelIdeal.main_v16) (h7 : (V c main_v87 : FVec Ideal S256x1024 .bf16) = Cert.OutKernelIdeal.Gen.V m c Cert.OutKernelIdeal.main_v18) (h8 : (V c main_v89 : FVec Ideal S1024x1024 .bf16) = Cert.OutKernelIdeal.Gen.V m c Cert.OutKernelIdeal.main_v20) (h9 : (V c main_v91 : FVec Ideal S1x1024 .f32) = Cert.OutKernelIdeal.Gen.V m c Cert.OutKernelIdeal.main_v22) (h10 : (V c main_v94 : FVec Ideal S1x1024 .f32) = Cert.OutKernelIdeal.Gen.V m c Cert.OutKernelIdeal.main_v25) (h11 : (V c main_v97 : FVec Ideal S1x1024 .f32) = Cert.OutKernelIdeal.Gen.V m c Cert.OutKernelIdeal.main_v28) :
    (dat4 V c).arrAt 12 cfg4.N = Cert.Out.res m c :=
  (dat4 V c).arrAt_eq_of_cover 12 (Cert.Out.res m c) (fun t _ => flushed12 h0 h1 h2 h3 h4 h5 h6 h7 h8 h9 h10 h11 t) fun i =>
    let ⟨t, ht⟩ := Cert.Out.covered i
    ⟨t, flush4_12 t, ht⟩

end Cert.Layer.Out

end
-- ==== Proof.LayerValue.lean ====
/-
  The layer's run: what each region's result array holds when the region is left, from the launch arguments, and the result
  of the whole program.
-/
module

public import proofs.«01_k».proof.Proof.LayerHosts
public import proofs.«01_k».proof.Proof.LayerFfn
public import proofs.«01_k».proof.Proof.LayerProj
public import proofs.«01_k».proof.Proof.LayerSb
public import proofs.«01_k».proof.Proof.LayerMerge
public import proofs.«01_k».proof.Proof.LayerOut
public import proofs.«01_k».proof.Proof.Gen.LayerKernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LayerKernelIdeal Cert.LayerKernelIdeal.Gen

namespace Cert.Layer

local notation "𝕄" => MT nD τ sig Unit (Elt Ideal) ℕ (UR sig nD τ) ℕ

/-- The output call's result, from the memory that holds its arguments. -/
theorem Out.res_mem (x : FVec Ideal S65536x1024 .f32) (p : FVec Ideal S1x8x8192x256 .f32) (g b : FVec Ideal S1x4x1024 .f32)
    (wg wu : FVec Ideal S1x2x1024x2816 .f32) (wd : FVec Ideal S1x2x2816x1024 .f32) (wp : FVec Ideal S1x256x1024 .f32)
    (w : FVec Ideal S1x1024x1024 .f32) (bg : FVec Ideal S1x1024 .f32) (c : Dev nD) :
    Cert.Out.res (Cert.Layer.Out.mem x p g b wg wu wd wp w bg) c = Cert.OutRef.result x p g b wg wu wd wp w bg := by
  unfold Cert.Out.res
  rw [Cert.Layer.Out.mem_arg0, Cert.Layer.Out.mem_arg1, Cert.Layer.Out.mem_arg2, Cert.Layer.Out.mem_arg3, Cert.Layer.Out.mem_arg4, Cert.Layer.Out.mem_arg5, Cert.Layer.Out.mem_arg6, Cert.Layer.Out.mem_arg7, Cert.Layer.Out.mem_arg8, Cert.Layer.Out.mem_arg9]

section
variable (m : (ℓ : Loc nD τ sig) → Buf (Elt Ideal) ℓ) (ρ : Dev nD → PrngReg) (c : Dev nD)

/-- The rows after the feed-forward network. -/
def rows : FVec Ideal S65536x1024 .f32 := Cert.FfnRef.result (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The attention over their projections. -/
def attended : FVec Ideal S8x8192x1024 .bf16 := Cert.LayerRef.attended (rows m c) (m ((c.tc : Thread nD τ).loc main_arg8)) (m ((c.tc : Thread nD τ).loc main_arg9))

/-- The rows after the merge. -/
def merged : FVec Ideal S65536x1024 .f32 := Cert.LayerRef.merged (rows m c) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))

/-- The layer's result. -/
def res : FVec Ideal S65536x1024 .f32 := Cert.LayerRef.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- Region 0's array 0 is that of its call's own program. -/
theorem entry0_0 : V1 m ρ c main_v0 = Cert.FfnKernelIdeal.Gen.V (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c Cert.FfnKernelIdeal.main_v0 :=
  (host_v0 (W0 m ρ c)).trans ((congrArg Cert.Ffn.flat rfl).trans ((Cert.Ffn.V_v0 (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c).trans (congrArg Cert.Ffn.flat (Cert.Layer.Ffn.mem_arg0 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) c))).symm)
/-- Region 0's array 1 is that of its call's own program. -/
theorem entry0_1 : V1 m ρ c main_v3 = Cert.FfnKernelIdeal.Gen.V (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c Cert.FfnKernelIdeal.main_v3 :=
  (host_v3 (W0 m ρ c)).trans ((congrArg Cert.Ffn.up rfl).trans ((Cert.Ffn.V_v3 (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c).trans (congrArg Cert.Ffn.up (Cert.Layer.Ffn.mem_arg3 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) c))).symm)
/-- Region 0's array 2 is that of its call's own program. -/
theorem entry0_2 : V1 m ρ c main_v6 = Cert.FfnKernelIdeal.Gen.V (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c Cert.FfnKernelIdeal.main_v6 :=
  (host_v6 (W0 m ρ c)).trans ((congrArg Cert.Ffn.up rfl).trans ((Cert.Ffn.V_v6 (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c).trans (congrArg Cert.Ffn.up (Cert.Layer.Ffn.mem_arg4 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) c))).symm)
/-- Region 0's array 3 is that of its call's own program. -/
theorem entry0_3 : V1 m ρ c main_v9 = Cert.FfnKernelIdeal.Gen.V (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c Cert.FfnKernelIdeal.main_v9 :=
  (host_v9 (W0 m ρ c)).trans ((congrArg Cert.Ffn.down rfl).trans ((Cert.Ffn.V_v9 (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c).trans (congrArg Cert.Ffn.down (Cert.Layer.Ffn.mem_arg5 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) c))).symm)
/-- Region 0's array 4 is that of its call's own program. -/
theorem entry0_4 : V1 m ρ c main_v12 = Cert.FfnKernelIdeal.Gen.V (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c Cert.FfnKernelIdeal.main_v12 :=
  (host_v12 (W0 m ρ c)).trans ((congrArg Cert.Ffn.gain rfl).trans ((Cert.Ffn.V_v12 (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c).trans (congrArg Cert.Ffn.gain (Cert.Layer.Ffn.mem_arg1 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) c))).symm)
/-- Region 0's array 5 is that of its call's own program. -/
theorem entry0_5 : V1 m ρ c main_v15 = Cert.FfnKernelIdeal.Gen.V (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c Cert.FfnKernelIdeal.main_v15 :=
  (host_v15 (W0 m ρ c)).trans ((congrArg Cert.Ffn.gain rfl).trans ((Cert.Ffn.V_v15 (Cert.Layer.Ffn.mem (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c).trans (congrArg Cert.Ffn.gain (Cert.Layer.Ffn.mem_arg2 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) c))).symm)
/-- What region 0 leaves in `main_v16`. -/
theorem exit_v16 : W2 m ρ c (Proc.devRef .tc main_v16) = (rows m c) := by
  refine (W2_arr m ρ c 6).trans ((Cert.Layer.Ffn.array6 (entry0_0 m ρ c) (entry0_1 m ρ c) (entry0_2 m ρ c) (entry0_3 m ρ c) (entry0_4 m ρ c) (entry0_5 m ρ c)).trans ?_)
  unfold Cert.Ffn.res rows
  rw [Cert.Layer.Ffn.mem_arg0, Cert.Layer.Ffn.mem_arg1, Cert.Layer.Ffn.mem_arg2, Cert.Layer.Ffn.mem_arg3, Cert.Layer.Ffn.mem_arg4, Cert.Layer.Ffn.mem_arg5]
/-- And that is what `main_v16` holds at boundary 7. -/
theorem at7_v16 : W7 m ρ c (Proc.devRef .tc main_v16) = (rows m c) :=
  (W7_of m ρ c main_v16 (by decide)).trans ((W6_of m ρ c main_v16 (by decide)).trans ((W5_of m ρ c main_v16 (by decide)).trans ((W4_of m ρ c main_v16 (by decide)).trans ((W3_of m ρ c main_v16 (by decide)).trans (exit_v16 m ρ c)))))
/-- Region 1's array 0 is that of its call's own program. -/
theorem entry1_0 : V7 m ρ c main_v16 = Cert.ProjKernelIdeal.Gen.V (Cert.Layer.Proj.mem (rows m c) (m ((c.tc : Thread nD τ).loc main_arg8)) (m ((c.tc : Thread nD τ).loc main_arg9))) c Cert.ProjKernelIdeal.main_arg0 :=
  (at7_v16 m ρ c).trans ((Cert.Proj.V_arg0 (Cert.Layer.Proj.mem (rows m c) (m ((c.tc : Thread nD τ).loc main_arg8)) (m ((c.tc : Thread nD τ).loc main_arg9))) c).trans (Cert.Layer.Proj.mem_arg0 (rows m c) (m ((c.tc : Thread nD τ).loc main_arg8)) (m ((c.tc : Thread nD τ).loc main_arg9)) c)).symm
/-- Region 1's array 1 is that of its call's own program. -/
theorem entry1_1 : V7 m ρ c main_v22 = Cert.ProjKernelIdeal.Gen.V (Cert.Layer.Proj.mem (rows m c) (m ((c.tc : Thread nD τ).loc main_arg8)) (m ((c.tc : Thread nD τ).loc main_arg9))) c Cert.ProjKernelIdeal.main_v5 :=
  (host_v22 (W2 m ρ c)).trans ((congrArg Cert.Proj.wmain (W2_args m ρ c main_arg8 (by decide))).trans ((Cert.Proj.V_v5 (Cert.Layer.Proj.mem (rows m c) (m ((c.tc : Thread nD τ).loc main_arg8)) (m ((c.tc : Thread nD τ).loc main_arg9))) c).trans (congrArg Cert.Proj.wmain (Cert.Layer.Proj.mem_arg1 (rows m c) (m ((c.tc : Thread nD τ).loc main_arg8)) (m ((c.tc : Thread nD τ).loc main_arg9)) c))).symm)
/-- Region 1's array 2 is that of its call's own program. -/
theorem entry1_2 : V7 m ρ c main_v28 = Cert.ProjKernelIdeal.Gen.V (Cert.Layer.Proj.mem (rows m c) (m ((c.tc : Thread nD τ).loc main_arg8)) (m ((c.tc : Thread nD τ).loc main_arg9))) c Cert.ProjKernelIdeal.main_v11 :=
  (host_v28 (W2 m ρ c)).trans ((congrArg Cert.Proj.bmain (W2_args m ρ c main_arg9 (by decide))).trans ((Cert.Proj.V_v11 (Cert.Layer.Proj.mem (rows m c) (m ((c.tc : Thread nD τ).loc main_arg8)) (m ((c.tc : Thread nD τ).loc main_arg9))) c).trans (congrArg Cert.Proj.bmain (Cert.Layer.Proj.mem_arg2 (rows m c) (m ((c.tc : Thread nD τ).loc main_arg8)) (m ((c.tc : Thread nD τ).loc main_arg9)) c))).symm)
/-- Region 1's array 3 is that of its call's own program. -/
theorem entry1_3 : V7 m ρ c main_v34 = Cert.ProjKernelIdeal.Gen.V (Cert.Layer.Proj.mem (rows m c) (m ((c.tc : Thread nD τ).loc main_arg8)) (m ((c.tc : Thread nD τ).loc main_arg9))) c Cert.ProjKernelIdeal.main_v17 :=
  (host_v34 (W2 m ρ c)).trans ((congrArg Cert.Proj.wpad (W2_args m ρ c main_arg8 (by decide))).trans ((Cert.Proj.V_v17 (Cert.Layer.Proj.mem (rows m c) (m ((c.tc : Thread nD τ).loc main_arg8)) (m ((c.tc : Thread nD τ).loc main_arg9))) c).trans (congrArg Cert.Proj.wpad (Cert.Layer.Proj.mem_arg1 (rows m c) (m ((c.tc : Thread nD τ).loc main_arg8)) (m ((c.tc : Thread nD τ).loc main_arg9)) c))).symm)
/-- Region 1's array 4 is that of its call's own program. -/
theorem entry1_4 : V7 m ρ c main_v36 = Cert.ProjKernelIdeal.Gen.V (Cert.Layer.Proj.mem (rows m c) (m ((c.tc : Thread nD τ).loc main_arg8)) (m ((c.tc : Thread nD τ).loc main_arg9))) c Cert.ProjKernelIdeal.main_v19 :=
  (host_v36 (W2 m ρ c)).trans ((congrArg Cert.Proj.bpad (W2_args m ρ c main_arg9 (by decide))).trans ((Cert.Proj.V_v19 (Cert.Layer.Proj.mem (rows m c) (m ((c.tc : Thread nD τ).loc main_arg8)) (m ((c.tc : Thread nD τ).loc main_arg9))) c).trans (congrArg Cert.Proj.bpad (Cert.Layer.Proj.mem_arg2 (rows m c) (m ((c.tc : Thread nD τ).loc main_arg8)) (m ((c.tc : Thread nD τ).loc main_arg9)) c))).symm)
/-- Region 1's array 5 is that of its call's own program. -/
theorem entry1_5 : V7 m ρ c main_v38 = Cert.ProjKernelIdeal.Gen.V (Cert.Layer.Proj.mem (rows m c) (m ((c.tc : Thread nD τ).loc main_arg8)) (m ((c.tc : Thread nD τ).loc main_arg9))) c Cert.ProjKernelIdeal.main_v21 :=
  (host_v38 (W2 m ρ c)).trans ((congrArg Cert.Proj.wrow (W2_args m ρ c main_arg8 (by decide))).trans ((Cert.Proj.V_v21 (Cert.Layer.Proj.mem (rows m c) (m ((c.tc : Thread nD τ).loc main_arg8)) (m ((c.tc : Thread nD τ).loc main_arg9))) c).trans (congrArg Cert.Proj.wrow (Cert.Layer.Proj.mem_arg1 (rows m c) (m ((c.tc : Thread nD τ).loc main_arg8)) (m ((c.tc : Thread nD τ).loc main_arg9)) c))).symm)
/-- Region 1's array 6 is that of its call's own program. -/
theorem entry1_6 : V7 m ρ c main_v39 = Cert.ProjKernelIdeal.Gen.V (Cert.Layer.Proj.mem (rows m c) (m ((c.tc : Thread nD τ).loc main_arg8)) (m ((c.tc : Thread nD τ).loc main_arg9))) c Cert.ProjKernelIdeal.main_v22 :=
  (host_v39 (W2 m ρ c)).trans ((congrArg Cert.Proj.brow (W2_args m ρ c main_arg9 (by decide))).trans ((Cert.Proj.V_v22 (Cert.Layer.Proj.mem (rows m c) (m ((c.tc : Thread nD τ).loc main_arg8)) (m ((c.tc : Thread nD τ).loc main_arg9))) c).trans (congrArg Cert.Proj.brow (Cert.Layer.Proj.mem_arg2 (rows m c) (m ((c.tc : Thread nD τ).loc main_arg8)) (m ((c.tc : Thread nD τ).loc main_arg9)) c))).symm)
/-- What region 1 leaves in `main_v40_3`. -/
theorem exit_v40_3 : W8 m ρ c (Proc.devRef .tc main_v40_3) = (Cert.ProjRef.result3 (rows m c) (m ((c.tc : Thread nD τ).loc main_arg8)) (m ((c.tc : Thread nD τ).loc main_arg9))) := by
  refine (W8_arr m ρ c 10).trans ((Cert.Layer.Proj.array10 (entry1_0 m ρ c) (entry1_1 m ρ c) (entry1_2 m ρ c) (entry1_3 m ρ c) (entry1_4 m ρ c) (entry1_5 m ρ c) (entry1_6 m ρ c)).trans ?_)
  unfold Cert.Proj.res3
  rw [Cert.Layer.Proj.mem_arg0, Cert.Layer.Proj.mem_arg1, Cert.Layer.Proj.mem_arg2]
/-- What region 1 leaves in `main_v40_4`. -/
theorem exit_v40_4 : W8 m ρ c (Proc.devRef .tc main_v40_4) = (Cert.ProjRef.result4 (rows m c) (m ((c.tc : Thread nD τ).loc main_arg8)) (m ((c.tc : Thread nD τ).loc main_arg9))) := by
  refine (W8_arr m ρ c 11).trans ((Cert.Layer.Proj.array11 (entry1_0 m ρ c) (entry1_1 m ρ c) (entry1_2 m ρ c) (entry1_3 m ρ c) (entry1_4 m ρ c) (entry1_5 m ρ c) (entry1_6 m ρ c)).trans ?_)
  unfold Cert.Proj.res4
  rw [Cert.Layer.Proj.mem_arg0, Cert.Layer.Proj.mem_arg1, Cert.Layer.Proj.mem_arg2]
/-- What region 1 leaves in `main_v40_5`. -/
theorem exit_v40_5 : W8 m ρ c (Proc.devRef .tc main_v40_5) = (Cert.ProjRef.result5 (rows m c) (m ((c.tc : Thread nD τ).loc main_arg8)) (m ((c.tc : Thread nD τ).loc main_arg9))) := by
  refine (W8_arr m ρ c 12).trans ((Cert.Layer.Proj.array12 (entry1_0 m ρ c) (entry1_1 m ρ c) (entry1_2 m ρ c) (entry1_3 m ρ c) (entry1_4 m ρ c) (entry1_5 m ρ c) (entry1_6 m ρ c)).trans ?_)
  unfold Cert.Proj.res5
  rw [Cert.Layer.Proj.mem_arg0, Cert.Layer.Proj.mem_arg1, Cert.Layer.Proj.mem_arg2]
/-- What region 1 leaves in `main_v40_6`. -/
theorem exit_v40_6 : W8 m ρ c (Proc.devRef .tc main_v40_6) = (Cert.ProjRef.result6 (rows m c) (m ((c.tc : Thread nD τ).loc main_arg8)) (m ((c.tc : Thread nD τ).loc main_arg9))) := by
  refine (W8_arr m ρ c 13).trans ((Cert.Layer.Proj.array13 (entry1_0 m ρ c) (entry1_1 m ρ c) (entry1_2 m ρ c) (entry1_3 m ρ c) (entry1_4 m ρ c) (entry1_5 m ρ c) (entry1_6 m ρ c)).trans ?_)
  unfold Cert.Proj.res6
  rw [Cert.Layer.Proj.mem_arg0, Cert.Layer.Proj.mem_arg1, Cert.Layer.Proj.mem_arg2]
/-- What region 1 leaves in `main_v40_7`. -/
theorem exit_v40_7 : W8 m ρ c (Proc.devRef .tc main_v40_7) = (Cert.ProjRef.result7 (rows m c) (m ((c.tc : Thread nD τ).loc main_arg8)) (m ((c.tc : Thread nD τ).loc main_arg9))) := by
  refine (W8_arr m ρ c 14).trans ((Cert.Layer.Proj.array14 (entry1_0 m ρ c) (entry1_1 m ρ c) (entry1_2 m ρ c) (entry1_3 m ρ c) (entry1_4 m ρ c) (entry1_5 m ρ c) (entry1_6 m ρ c)).trans ?_)
  unfold Cert.Proj.res7
  rw [Cert.Layer.Proj.mem_arg0, Cert.Layer.Proj.mem_arg1, Cert.Layer.Proj.mem_arg2]
/-- Region 2's array 0 is that of its call's own program. -/
theorem entry2_0 : V9 m ρ c main_v41 = Cert.SbKernelIdeal.Gen.V (Cert.Layer.Sb.mem (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9))))) c Cert.SbKernelIdeal.main_arg0 :=
  (host_v41 (W8 m ρ c)).trans ((congrArg Cert.LayerRef.seq (exit_v40_3 m ρ c)).trans ((Cert.SbKernelIdeal.Gen.V_main_arg0 (Cert.Layer.Sb.mem (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9))))) c).trans (Cert.Layer.Sb.mem_arg0 (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9)))) c)).symm)
/-- Region 2's array 1 is that of its call's own program. -/
theorem entry2_1 : V9 m ρ c main_v42 = Cert.SbKernelIdeal.Gen.V (Cert.Layer.Sb.mem (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9))))) c Cert.SbKernelIdeal.main_arg1 :=
  (host_v42 (W8 m ρ c)).trans ((congrArg Cert.LayerRef.seq (exit_v40_4 m ρ c)).trans ((Cert.SbKernelIdeal.Gen.V_main_arg1 (Cert.Layer.Sb.mem (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9))))) c).trans (Cert.Layer.Sb.mem_arg1 (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9)))) c)).symm)
/-- Region 2's array 2 is that of its call's own program. -/
theorem entry2_2 : V9 m ρ c main_v43 = Cert.SbKernelIdeal.Gen.V (Cert.Layer.Sb.mem (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9))))) c Cert.SbKernelIdeal.main_arg2 :=
  (host_v43 (W8 m ρ c)).trans ((congrArg Cert.LayerRef.seq (exit_v40_5 m ρ c)).trans ((Cert.SbKernelIdeal.Gen.V_main_arg2 (Cert.Layer.Sb.mem (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9))))) c).trans (Cert.Layer.Sb.mem_arg2 (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9)))) c)).symm)
/-- Region 2's array 3 is that of its call's own program. -/
theorem entry2_3 : V9 m ρ c main_v52 = Cert.SbKernelIdeal.Gen.V (Cert.Layer.Sb.mem (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9))))) c Cert.SbKernelIdeal.main_v8 :=
  (host_v52 (W8 m ρ c)).trans (Cert.Sb.V_v8 (Cert.Layer.Sb.mem (Cert.LayerRef.seq (Cert.ProjRef.result3 (rows m c) (m ((c.tc : Thread nD τ).loc main_arg8)) (m ((c.tc : Thread nD τ).loc main_arg9)))) (Cert.LayerRef.seq (Cert.ProjRef.result4 (rows m c) (m ((c.tc : Thread nD τ).loc main_arg8)) (m ((c.tc : Thread nD τ).loc main_arg9)))) (Cert.LayerRef.seq (Cert.ProjRef.result5 (rows m c) (m ((c.tc : Thread nD τ).loc main_arg8)) (m ((c.tc : Thread nD τ).loc main_arg9))))) c).symm
/-- What region 2 leaves in `main_v53`. -/
theorem exit_v53 : W10 m ρ c (Proc.devRef .tc main_v53) = (attended m c) := by
  refine (W10_arr m ρ c 4).trans ((Cert.Layer.Sb.array4 (entry2_0 m ρ c) (entry2_1 m ρ c) (entry2_2 m ρ c) (entry2_3 m ρ c)).trans ?_)
  unfold Cert.Sb.res attended Cert.LayerRef.attended
  rw [Cert.Layer.Sb.mem_arg0, Cert.Layer.Sb.mem_arg1, Cert.Layer.Sb.mem_arg2]
/-- And that is what `main_v16` holds at boundary 11. -/
theorem at11_v16 : W11 m ρ c (Proc.devRef .tc main_v16) = (rows m c) :=
  (W11_of m ρ c main_v16 (by decide)).trans ((W10_of m ρ c main_v16 (by decide)).trans ((W9_of m ρ c main_v16 (by decide)).trans ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_of m ρ c main_v16 (by decide)).trans (exit_v16 m ρ c)))))))))
/-- And that is what `main_v40_6` holds at boundary 11. -/
theorem at11_v40_6 : W11 m ρ c (Proc.devRef .tc main_v40_6) = (Cert.ProjRef.result6 (rows m c) (m ((c.tc : Thread nD τ).loc main_arg8)) (m ((c.tc : Thread nD τ).loc main_arg9))) :=
  (W11_of m ρ c main_v40_6 (by decide)).trans ((W10_of m ρ c main_v40_6 (by decide)).trans ((W9_of m ρ c main_v40_6 (by decide)).trans (exit_v40_6 m ρ c)))
/-- And that is what `main_v40_7` holds at boundary 11. -/
theorem at11_v40_7 : W11 m ρ c (Proc.devRef .tc main_v40_7) = (Cert.ProjRef.result7 (rows m c) (m ((c.tc : Thread nD τ).loc main_arg8)) (m ((c.tc : Thread nD τ).loc main_arg9))) :=
  (W11_of m ρ c main_v40_7 (by decide)).trans ((W10_of m ρ c main_v40_7 (by decide)).trans ((W9_of m ρ c main_v40_7 (by decide)).trans (exit_v40_7 m ρ c)))
/-- Region 3's array 0 is that of its call's own program. -/
theorem entry3_0 : V11 m ρ c main_v16 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_arg0 :=
  (at11_v16 m ρ c).trans ((Cert.Merge.V_arg0 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (Cert.Layer.Merge.mem_arg0 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c)).symm
/-- Region 3's array 1 is that of its call's own program. -/
theorem entry3_1 : V11 m ρ c main_v54 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_v0 :=
  (host_v54 (W10 m ρ c)).trans ((congrArg Cert.Merge.flat (W10_args m ρ c main_arg1 (by decide))).trans ((Cert.Merge.V_v0 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (congrArg Cert.Merge.flat (Cert.Layer.Merge.mem_arg1 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c))).symm)
/-- Region 3's array 2 is that of its call's own program. -/
theorem entry3_2 : V11 m ρ c main_v55 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_v1 :=
  (host_v55 (W10 m ρ c)).trans ((congrArg Cert.Merge.flat (exit_v53 m ρ c)).trans ((Cert.Merge.V_v1 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (congrArg Cert.Merge.flat (Cert.Layer.Merge.mem_arg2 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c))).symm)
/-- Region 3's array 3 is that of its call's own program. -/
theorem entry3_3 : V11 m ρ c main_v40_6 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_arg3 :=
  (at11_v40_6 m ρ c).trans ((Cert.Merge.V_arg3 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (Cert.Layer.Merge.mem_arg3 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c)).symm
/-- Region 3's array 4 is that of its call's own program. -/
theorem entry3_4 : V11 m ρ c main_v40_7 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_arg4 :=
  (at11_v40_7 m ρ c).trans ((Cert.Merge.V_arg4 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (Cert.Layer.Merge.mem_arg4 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c)).symm
/-- Region 3's array 5 is that of its call's own program. -/
theorem entry3_5 : V11 m ρ c main_v57 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_v3 :=
  (host_v57 (W10 m ρ c)).trans ((congrArg Cert.Merge.weight (W10_args m ρ c main_arg10 (by decide))).trans ((Cert.Merge.V_v3 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (congrArg Cert.Merge.weight (Cert.Layer.Merge.mem_arg5 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c))).symm)
/-- Region 3's array 6 is that of its call's own program. -/
theorem entry3_6 : V11 m ρ c main_v59 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_v5 :=
  (host_v59 (W10 m ρ c)).trans ((congrArg Cert.Merge.weight (W10_args m ρ c main_arg11 (by decide))).trans ((Cert.Merge.V_v5 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (congrArg Cert.Merge.weight (Cert.Layer.Merge.mem_arg6 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c))).symm)
/-- Region 3's array 7 is that of its call's own program. -/
theorem entry3_7 : V11 m ρ c main_v61 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_v7 :=
  (host_v61 (W10 m ρ c)).trans ((congrArg Cert.Merge.weight (W10_args m ρ c main_arg12 (by decide))).trans ((Cert.Merge.V_v7 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (congrArg Cert.Merge.weight (Cert.Layer.Merge.mem_arg7 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c))).symm)
/-- Region 3's array 8 is that of its call's own program. -/
theorem entry3_8 : V11 m ρ c main_v64 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_v10 :=
  (host_v64 (W10 m ρ c)).trans ((congrArg Cert.Merge.second (W10_args m ρ c main_arg3 (by decide))).trans ((Cert.Merge.V_v10 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (congrArg Cert.Merge.second (Cert.Layer.Merge.mem_arg8 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c))).symm)
/-- Region 3's array 9 is that of its call's own program. -/
theorem entry3_9 : V11 m ρ c main_v67 = Cert.MergeKernelIdeal.Gen.V (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c Cert.MergeKernelIdeal.main_v13 :=
  (host_v67 (W10 m ρ c)).trans ((congrArg Cert.Merge.second (W10_args m ρ c main_arg4 (by decide))).trans ((Cert.Merge.V_v13 (Cert.Layer.Merge.mem (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4))) c).trans (congrArg Cert.Merge.second (Cert.Layer.Merge.mem_arg9 (rows m c) (m ((c.tc : Thread nD τ).loc main_arg1)) (attended m c) (Cert.ProjRef.result6 (rows m c) (m ((c.tc : Thread nD τ).loc main_arg8)) (m ((c.tc : Thread nD τ).loc main_arg9))) (Cert.ProjRef.result7 (rows m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg3)) (m ((c.tc : Thread nD τ).loc main_arg4)) c))).symm)
/-- What region 3 leaves in `main_v68`. -/
theorem exit_v68 : W12 m ρ c (Proc.devRef .tc main_v68) = (merged m c) := by
  refine (W12_arr m ρ c 10).trans ((Cert.Layer.Merge.array10 (entry3_0 m ρ c) (entry3_1 m ρ c) (entry3_2 m ρ c) (entry3_3 m ρ c) (entry3_4 m ρ c) (entry3_5 m ρ c) (entry3_6 m ρ c) (entry3_7 m ρ c) (entry3_8 m ρ c) (entry3_9 m ρ c)).trans ?_)
  unfold Cert.Merge.res merged attended Cert.LayerRef.merged
  rw [Cert.Layer.Merge.mem_arg0, Cert.Layer.Merge.mem_arg1, Cert.Layer.Merge.mem_arg2, Cert.Layer.Merge.mem_arg3, Cert.Layer.Merge.mem_arg4, Cert.Layer.Merge.mem_arg5, Cert.Layer.Merge.mem_arg6, Cert.Layer.Merge.mem_arg7, Cert.Layer.Merge.mem_arg8, Cert.Layer.Merge.mem_arg9]
/-- And that is what `main_v68` holds at boundary 13. -/
theorem at13_v68 : W13 m ρ c (Proc.devRef .tc main_v68) = (merged m c) :=
  (W13_of m ρ c main_v68 (by decide)).trans (exit_v68 m ρ c)
/-- Region 4's array 0 is that of its call's own program. -/
theorem entry4_0 : V13 m ρ c main_v68 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_arg0 :=
  (at13_v68 m ρ c).trans ((Cert.Out.V_arg0 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (Cert.Layer.Out.mem_arg0 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c)).symm
/-- Region 4's array 1 is that of its call's own program. -/
theorem entry4_1 : V13 m ρ c main_v71 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v2 :=
  (host_v71 (W12 m ρ c)).trans ((congrArg Cert.Out.up (W12_args m ρ c main_arg5 (by decide))).trans ((Cert.Out.V_v2 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.up (Cert.Layer.Out.mem_arg4 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 2 is that of its call's own program. -/
theorem entry4_2 : V13 m ρ c main_v74 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v5 :=
  (host_v74 (W12 m ρ c)).trans ((congrArg Cert.Out.up (W12_args m ρ c main_arg6 (by decide))).trans ((Cert.Out.V_v5 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.up (Cert.Layer.Out.mem_arg5 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 3 is that of its call's own program. -/
theorem entry4_3 : V13 m ρ c main_v77 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v8 :=
  (host_v77 (W12 m ρ c)).trans ((congrArg Cert.Out.down (W12_args m ρ c main_arg7 (by decide))).trans ((Cert.Out.V_v8 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.down (Cert.Layer.Out.mem_arg6 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 4 is that of its call's own program. -/
theorem entry4_4 : V13 m ρ c main_v80 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v11 :=
  (host_v80 (W12 m ρ c)).trans ((congrArg Cert.Out.third (W12_args m ρ c main_arg3 (by decide))).trans ((Cert.Out.V_v11 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.third (Cert.Layer.Out.mem_arg2 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 5 is that of its call's own program. -/
theorem entry4_5 : V13 m ρ c main_v83 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v14 :=
  (host_v83 (W12 m ρ c)).trans ((congrArg Cert.Out.third (W12_args m ρ c main_arg4 (by decide))).trans ((Cert.Out.V_v14 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.third (Cert.Layer.Out.mem_arg3 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 6 is that of its call's own program. -/
theorem entry4_6 : V13 m ρ c main_v85 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v16 :=
  (host_v85 (W12 m ρ c)).trans ((congrArg Cert.Out.embeds (W12_args m ρ c main_arg2 (by decide))).trans ((Cert.Out.V_v16 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.embeds (Cert.Layer.Out.mem_arg1 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 7 is that of its call's own program. -/
theorem entry4_7 : V13 m ρ c main_v87 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v18 :=
  (host_v87 (W12 m ρ c)).trans ((congrArg Cert.Out.wple (W12_args m ρ c main_arg13 (by decide))).trans ((Cert.Out.V_v18 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.wple (Cert.Layer.Out.mem_arg7 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 8 is that of its call's own program. -/
theorem entry4_8 : V13 m ρ c main_v89 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v20 :=
  (host_v89 (W12 m ρ c)).trans ((congrArg Cert.Out.wgate (W12_args m ρ c main_arg14 (by decide))).trans ((Cert.Out.V_v20 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.wgate (Cert.Layer.Out.mem_arg8 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 9 is that of its call's own program. -/
theorem entry4_9 : V13 m ρ c main_v91 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v22 :=
  (host_v91 (W12 m ρ c)).trans ((congrArg Cert.Out.bgate (W12_args m ρ c main_arg15 (by decide))).trans ((Cert.Out.V_v22 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.bgate (Cert.Layer.Out.mem_arg9 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 10 is that of its call's own program. -/
theorem entry4_10 : V13 m ρ c main_v94 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v25 :=
  (host_v94 (W12 m ρ c)).trans ((congrArg Cert.Out.fourth (W12_args m ρ c main_arg3 (by decide))).trans ((Cert.Out.V_v25 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.fourth (Cert.Layer.Out.mem_arg2 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- Region 4's array 11 is that of its call's own program. -/
theorem entry4_11 : V13 m ρ c main_v97 = Cert.OutKernelIdeal.Gen.V (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c Cert.OutKernelIdeal.main_v28 :=
  (host_v97 (W12 m ρ c)).trans ((congrArg Cert.Out.fourth (W12_args m ρ c main_arg4 (by decide))).trans ((Cert.Out.V_v28 (Cert.Layer.Out.mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15))) c).trans (congrArg Cert.Out.fourth (Cert.Layer.Out.mem_arg3 (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c))).symm)
/-- What region 4 leaves in `main_v98`. -/
theorem exit_v98 : W14 m ρ c (Proc.devRef .tc main_v98) = res m c := by
  refine (W14_arr m ρ c 12).trans ((Cert.Layer.Out.array12 (entry4_0 m ρ c) (entry4_1 m ρ c) (entry4_2 m ρ c) (entry4_3 m ρ c) (entry4_4 m ρ c) (entry4_5 m ρ c) (entry4_6 m ρ c) (entry4_7 m ρ c) (entry4_8 m ρ c) (entry4_9 m ρ c) (entry4_10 m ρ c) (entry4_11 m ρ c)).trans ?_)
  unfold res Cert.LayerRef.result
  exact Cert.Layer.Out.res_mem (merged m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) (m ((c.tc : Thread nD τ).loc main_arg15)) c

end

-- `θ_run_regions_kit_sems`'s implicit arguments are found by unifying its conclusion with this one, which takes unfolding
-- plain definitions in a metavariable's type
set_option backward.isDefEq.respectTransparency.types false in
/-- Every run of the layer ends with its result in the result array and its arguments kept. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v98) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => fun c =>
      ⟨(h c _ (mem_uc main_v98 (by decide))).trans (exit_v98 m ρ c),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c)⟩)

end Cert.Layer

end
-- ==== Proof.lean ====
module

public import proofs.«01_k».proof.Proof.SbValue
public import proofs.«01_k».proof.Proof.FfnValue
public import proofs.«01_k».proof.Proof.ProjValue
public import proofs.«01_k».proof.Proof.MergeValue
public import proofs.«01_k».proof.Proof.OutValue
public import proofs.«01_k».proof.Proof.LayerValue
public import proofs.«01_k».proof.Proof.Gen.SbKernelIdeal.Value
public import proofs.«01_k».proof.Proof.Gen.SbReferenceIdeal.Run
public import proofs.«01_k».proof.Proof.Gen.FfnKernelIdeal.Value
public import proofs.«01_k».proof.Proof.Gen.FfnReferenceIdeal.Run
public import proofs.«01_k».proof.Proof.Gen.ProjKernelIdeal.Value
public import proofs.«01_k».proof.Proof.Gen.ProjReferenceIdeal.Run
public import proofs.«01_k».proof.Proof.Gen.MergeKernelIdeal.Value
public import proofs.«01_k».proof.Proof.Gen.MergeReferenceIdeal.Run
public import proofs.«01_k».proof.Proof.Gen.OutKernelIdeal.Value
public import proofs.«01_k».proof.Proof.Gen.OutReferenceIdeal.Run
public import proofs.«01_k».proof.Proof.Gen.LayerReferenceIdeal.Run
public import proofs.«01_k».proof.Proof.Gen.LayerKernel
public import proofs.«01_k».proof.Proof.Gen.LayerKernel.Skeleton
public import proofs.«01_k».proof.Proof.Gen.LayerKernel.Loops
public import proofs.«01_k».proof.Proof.Gen.LayerKernel.Launch
public import proofs.«01_k».proof.Proof.Gen.LayerKernel.Points
public import proofs.«01_k».proof.Proof.Gen.LayerKernel.Frame
public import proofs.«01_k».proof.Proof.Gen.LayerKernelIdeal
public import proofs.«01_k».proof.Proof.Gen.LayerKernelIdeal.Skeleton
public import proofs.«01_k».proof.Proof.Gen.LayerKernelIdeal.Loops
public import proofs.«01_k».proof.Proof.Gen.LayerKernelIdeal.Launch
public import proofs.«01_k».proof.Proof.Gen.LayerKernelIdeal.Points
public import proofs.«01_k».proof.Proof.Gen.LayerKernelIdeal.Frame
public import proofs.«01_k».proof.Proof.Gen.LayerReferenceIdeal
public import proofs.«01_k».proof.Defs
public import proofs.«01_k».proof.Proof.Gen.SbKernel
public import proofs.«01_k».proof.Proof.Gen.SbKernel.Skeleton
public import proofs.«01_k».proof.Proof.Gen.SbKernel.Loops
public import proofs.«01_k».proof.Proof.Gen.SbKernel.Launch
public import proofs.«01_k».proof.Proof.Gen.SbKernel.Points
public import proofs.«01_k».proof.Proof.Gen.SbKernel.Frame
public import proofs.«01_k».proof.Proof.Gen.SbKernelIdeal
public import proofs.«01_k».proof.Proof.Gen.SbKernelIdeal.Skeleton
public import proofs.«01_k».proof.Proof.Gen.SbKernelIdeal.Loops
public import proofs.«01_k».proof.Proof.Gen.SbKernelIdeal.Launch
public import proofs.«01_k».proof.Proof.Gen.SbKernelIdeal.Points
public import proofs.«01_k».proof.Proof.Gen.SbKernelIdeal.Frame
public import proofs.«01_k».proof.Proof.Gen.SbReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.SbKernel

/-- The kernel of the attention runs, leaves its arguments and ends quiescent. -/
theorem frame_sb [h : Cert.SbKernel.Facts] : Cert.quiescent_SbKernel (hSbKernel := h) := fun m g _ => Cert.SbKernel.Gen.frame m g

/-- The same program at the ideal instance. -/
theorem frame_sb_ideal [h : Cert.SbKernelIdeal.Facts] : Cert.quiescent_SbKernelIdeal (hSbKernelIdeal := h) :=
  fun m g _ => Cert.SbKernelIdeal.Gen.frame m g

/-- Its reference runs, leaves its arguments and ends quiescent: it has no semaphore. -/
theorem frame_sb_reference [h : Cert.SbReferenceIdeal.Facts] : Cert.quiescent_SbReferenceIdeal (hSbReferenceIdeal := h) :=
  fun m g _ => (θ_run Cert.SbReferenceIdeal.defs _ _).mono
    (fun r h => ⟨fun c => (h c).2, Idealize.ShloMosaic.sem_eq_zero_of_no_sems (by decide) r.2⟩)
    (Cert.SbReferenceIdeal.Value.run m g)

/-- The result of that kernel is its reference's. -/
theorem algebraic_sb [h : Cert.SbKernelIdeal.Facts] [h' : Cert.SbReferenceIdeal.Facts] :
    Cert.algebraic_SbKernelIdeal_SbReferenceIdeal (hSbKernelIdeal := h) (hSbReferenceIdeal := h') := by
  intro m g m' g' _ hm
  refine ⟨fun c => Cert.Sb.res m c, ?_, ?_⟩
  · exact (θ_run Cert.SbKernelIdeal.defs _ _).mono
      (fun r h c => ⟨(h c).1.trans (Cert.Sb.final m c), (h c).2⟩) (Cert.SbKernelIdeal.Value.run_blocks m g)
  · refine (θ_run Cert.SbReferenceIdeal.defs _ _).mono (fun r h c => ⟨(h c).1.trans ?_, (h c).2⟩) (Cert.SbReferenceIdeal.Value.run m' g')
    rw [Cert.SbRef.res_eq, (hm c).1, (hm c).2.1, (hm c).2.2]

/-- The kernel of the feed-forward network runs, leaves its arguments and ends quiescent. -/
theorem frame_ffn [h : Cert.FfnKernel.Facts] : Cert.quiescent_FfnKernel (hFfnKernel := h) := fun m g _ => Cert.FfnKernel.Gen.frame m g

/-- The same program at the ideal instance. -/
theorem frame_ffn_ideal [h : Cert.FfnKernelIdeal.Facts] : Cert.quiescent_FfnKernelIdeal (hFfnKernelIdeal := h) :=
  fun m g _ => Cert.FfnKernelIdeal.Gen.frame m g

/-- Its reference runs, leaves its arguments and ends quiescent: it has no semaphore. -/
theorem frame_ffn_reference [h : Cert.FfnReferenceIdeal.Facts] : Cert.quiescent_FfnReferenceIdeal (hFfnReferenceIdeal := h) :=
  fun m g _ => (θ_run Cert.FfnReferenceIdeal.defs _ _).mono
    (fun r h => ⟨fun c => (h c).2, Idealize.ShloMosaic.sem_eq_zero_of_no_sems (by decide) r.2⟩)
    (Cert.FfnReferenceIdeal.Value.run m g)

/-- The result of that kernel is its reference's. -/
theorem algebraic_ffn [h : Cert.FfnKernelIdeal.Facts] [h' : Cert.FfnReferenceIdeal.Facts] :
    Cert.algebraic_FfnKernelIdeal_FfnReferenceIdeal (hFfnKernelIdeal := h) (hFfnReferenceIdeal := h') := by
  intro m g m' g' _ hm
  refine ⟨fun c => Cert.Ffn.res m c, ?_, ?_⟩
  · exact (θ_run Cert.FfnKernelIdeal.defs _ _).mono
      (fun r h c => ⟨(h c).1.trans (Cert.Ffn.final m c), (h c).2⟩) (Cert.FfnKernelIdeal.Value.run_blocks m g)
  · refine (θ_run Cert.FfnReferenceIdeal.defs _ _).mono (fun r h c => ⟨(h c).1.trans ?_, (h c).2⟩) (Cert.FfnReferenceIdeal.Value.run m' g')
    rw [Cert.FfnRef.res_eq, (hm c).1, (hm c).2.1, (hm c).2.2.1, (hm c).2.2.2.1, (hm c).2.2.2.2.1, (hm c).2.2.2.2.2]

/-- The kernel of the input projection runs, leaves its arguments and ends quiescent. -/
theorem frame_proj [h : Cert.ProjKernel.Facts] : Cert.quiescent_ProjKernel (hProjKernel := h) := fun m g _ => Cert.ProjKernel.Gen.frame m g

/-- The same program at the ideal instance. -/
theorem frame_proj_ideal [h : Cert.ProjKernelIdeal.Facts] : Cert.quiescent_ProjKernelIdeal (hProjKernelIdeal := h) :=
  fun m g _ => Cert.ProjKernelIdeal.Gen.frame m g

/-- Its reference runs, leaves its arguments and ends quiescent: it has no semaphore. -/
theorem frame_proj_reference [h : Cert.ProjReferenceIdeal.Facts] : Cert.quiescent_ProjReferenceIdeal (hProjReferenceIdeal := h) :=
  fun m g _ => (θ_run Cert.ProjReferenceIdeal.defs _ _).mono
    (fun r h => ⟨fun c => (h c).2.2.2.2.2.2.2.2.2.2, Idealize.ShloMosaic.sem_eq_zero_of_no_sems (by decide) r.2⟩)
    (Cert.ProjReferenceIdeal.Value.run m g)

/-- Every result of that kernel is its reference's. -/
theorem algebraic_proj [h : Cert.ProjKernelIdeal.Facts] [h' : Cert.ProjReferenceIdeal.Facts] :
    Cert.algebraic_ProjKernelIdeal_ProjReferenceIdeal (hProjKernelIdeal := h) (hProjReferenceIdeal := h') := by
  intro m g m' g' _ hm
  refine ⟨fun c => Cert.Proj.res0 m c, fun c => Cert.Proj.res1 m c, fun c => Cert.Proj.res2 m c, fun c => Cert.Proj.res3 m c, fun c => Cert.Proj.res4 m c, fun c => Cert.Proj.res5 m c, fun c => Cert.Proj.res6 m c, fun c => Cert.Proj.res7 m c, fun c => Cert.Proj.res8 m c, fun c => Cert.Proj.res9 m c, ?_, ?_⟩
  · exact (θ_run Cert.ProjKernelIdeal.defs _ _).mono
      (fun r h c => ⟨(h c).1.trans (Cert.Proj.final0 m c), (h c).2.1.trans (Cert.Proj.final1 m c), (h c).2.2.1.trans (Cert.Proj.final2 m c), (h c).2.2.2.1.trans (Cert.Proj.final3 m c), (h c).2.2.2.2.1.trans (Cert.Proj.final4 m c), (h c).2.2.2.2.2.1.trans (Cert.Proj.final5 m c), (h c).2.2.2.2.2.2.1.trans (Cert.Proj.final6 m c), (h c).2.2.2.2.2.2.2.1.trans (Cert.Proj.final7 m c), (h c).2.2.2.2.2.2.2.2.1.trans (Cert.Proj.final8 m c), (h c).2.2.2.2.2.2.2.2.2.1.trans (Cert.Proj.final9 m c), (h c).2.2.2.2.2.2.2.2.2.2⟩) (Cert.ProjKernelIdeal.Value.run_blocks m g)
  · exact (θ_run Cert.ProjReferenceIdeal.defs _ _).mono
      (fun r h c => ⟨(h c).1.trans (by rw [(hm c).1, (hm c).2.1, (hm c).2.2]), (h c).2.1.trans (by rw [(hm c).1, (hm c).2.1, (hm c).2.2]), (h c).2.2.1.trans (by rw [(hm c).1, (hm c).2.1, (hm c).2.2]), (h c).2.2.2.1.trans (by rw [(hm c).1, (hm c).2.1, (hm c).2.2]), (h c).2.2.2.2.1.trans (by rw [(hm c).1, (hm c).2.1, (hm c).2.2]), (h c).2.2.2.2.2.1.trans (by rw [(hm c).1, (hm c).2.1, (hm c).2.2]), (h c).2.2.2.2.2.2.1.trans (by rw [(hm c).1, (hm c).2.1, (hm c).2.2]), (h c).2.2.2.2.2.2.2.1.trans (by rw [(hm c).1, (hm c).2.1, (hm c).2.2]), (h c).2.2.2.2.2.2.2.2.1.trans (by rw [(hm c).1, (hm c).2.1, (hm c).2.2]), (h c).2.2.2.2.2.2.2.2.2.1.trans (by rw [(hm c).1, (hm c).2.1, (hm c).2.2]), (h c).2.2.2.2.2.2.2.2.2.2⟩) (Cert.ProjRef.run m' g')

/-- The kernel of the merge of the branches runs, leaves its arguments and ends quiescent. -/
theorem frame_merge [h : Cert.MergeKernel.Facts] : Cert.quiescent_MergeKernel (hMergeKernel := h) := fun m g _ => Cert.MergeKernel.Gen.frame m g

/-- The same program at the ideal instance. -/
theorem frame_merge_ideal [h : Cert.MergeKernelIdeal.Facts] : Cert.quiescent_MergeKernelIdeal (hMergeKernelIdeal := h) :=
  fun m g _ => Cert.MergeKernelIdeal.Gen.frame m g

/-- Its reference runs, leaves its arguments and ends quiescent: it has no semaphore. -/
theorem frame_merge_reference [h : Cert.MergeReferenceIdeal.Facts] : Cert.quiescent_MergeReferenceIdeal (hMergeReferenceIdeal := h) :=
  fun m g _ => (θ_run Cert.MergeReferenceIdeal.defs _ _).mono
    (fun r h => ⟨fun c => (h c).2, Idealize.ShloMosaic.sem_eq_zero_of_no_sems (by decide) r.2⟩)
    (Cert.MergeReferenceIdeal.Value.run m g)

/-- The result of that kernel is its reference's. -/
theorem algebraic_merge [h : Cert.MergeKernelIdeal.Facts] [h' : Cert.MergeReferenceIdeal.Facts] :
    Cert.algebraic_MergeKernelIdeal_MergeReferenceIdeal (hMergeKernelIdeal := h) (hMergeReferenceIdeal := h') := by
  intro m g m' g' _ hm
  refine ⟨fun c => Cert.Merge.res m c, ?_, ?_⟩
  · exact (θ_run Cert.MergeKernelIdeal.defs _ _).mono
      (fun r h c => ⟨(h c).1.trans (Cert.Merge.final m c), (h c).2⟩) (Cert.MergeKernelIdeal.Value.run_blocks m g)
  · refine (θ_run Cert.MergeReferenceIdeal.defs _ _).mono (fun r h c => ⟨(h c).1.trans ?_, (h c).2⟩) (Cert.MergeReferenceIdeal.Value.run m' g')
    rw [Cert.MergeRef.res_eq, (hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2]

/-- The kernel of the feed-forward network, embedding layer and last norm runs, leaves its arguments and ends quiescent. -/
theorem frame_out [h : Cert.OutKernel.Facts] : Cert.quiescent_OutKernel (hOutKernel := h) := fun m g _ => Cert.OutKernel.Gen.frame m g

/-- The same program at the ideal instance. -/
theorem frame_out_ideal [h : Cert.OutKernelIdeal.Facts] : Cert.quiescent_OutKernelIdeal (hOutKernelIdeal := h) :=
  fun m g _ => Cert.OutKernelIdeal.Gen.frame m g

/-- Its reference runs, leaves its arguments and ends quiescent: it has no semaphore. -/
theorem frame_out_reference [h : Cert.OutReferenceIdeal.Facts] : Cert.quiescent_OutReferenceIdeal (hOutReferenceIdeal := h) :=
  fun m g _ => (θ_run Cert.OutReferenceIdeal.defs _ _).mono
    (fun r h => ⟨fun c => (h c).2, Idealize.ShloMosaic.sem_eq_zero_of_no_sems (by decide) r.2⟩)
    (Cert.OutReferenceIdeal.Value.run m g)

/-- The result of that kernel is its reference's. -/
theorem algebraic_out [h : Cert.OutKernelIdeal.Facts] [h' : Cert.OutReferenceIdeal.Facts] :
    Cert.algebraic_OutKernelIdeal_OutReferenceIdeal (hOutKernelIdeal := h) (hOutReferenceIdeal := h') := by
  intro m g m' g' _ hm
  refine ⟨fun c => Cert.Out.res m c, ?_, ?_⟩
  · exact (θ_run Cert.OutKernelIdeal.defs _ _).mono
      (fun r h c => ⟨(h c).1.trans (Cert.Out.final m c), (h c).2⟩) (Cert.OutKernelIdeal.Value.run_blocks m g)
  · refine (θ_run Cert.OutReferenceIdeal.defs _ _).mono (fun r h c => ⟨(h c).1.trans ?_, (h c).2⟩) (Cert.OutRef.run m' g')
    rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2]

/-- The kernel of the layer's calls in sequence runs, leaves its arguments and ends quiescent. -/
theorem frame_layer [h : Cert.LayerKernel.Facts] : Cert.quiescent_LayerKernel (hLayerKernel := h) := fun m g _ => Cert.LayerKernel.Gen.frame m g

/-- The same program at the ideal instance. -/
theorem frame_layer_ideal [h : Cert.LayerKernelIdeal.Facts] : Cert.quiescent_LayerKernelIdeal (hLayerKernelIdeal := h) :=
  fun m g _ => Cert.LayerKernelIdeal.Gen.frame m g

/-- Its reference runs, leaves its arguments and ends quiescent: it has no semaphore. -/
theorem frame_layer_reference [h : Cert.LayerReferenceIdeal.Facts] : Cert.quiescent_LayerReferenceIdeal (hLayerReferenceIdeal := h) :=
  fun m g _ => (θ_run Cert.LayerReferenceIdeal.defs _ _).mono
    (fun r h => ⟨fun c => (h c).2, Idealize.ShloMosaic.sem_eq_zero_of_no_sems (by decide) r.2⟩)
    (Cert.LayerReferenceIdeal.Value.run m g)

/-- The result of the calls in sequence is the reference layer's. -/
theorem algebraic_layer [h : Cert.LayerKernelIdeal.Facts] [h' : Cert.LayerReferenceIdeal.Facts] :
    Cert.algebraic_LayerKernelIdeal_LayerReferenceIdeal (hLayerKernelIdeal := h) (hLayerReferenceIdeal := h') := by
  intro m g m' g' _ hm
  refine ⟨fun c => Cert.Layer.res m c, Cert.Layer.run m g, ?_⟩
  refine (θ_run Cert.LayerReferenceIdeal.defs _ _).mono (fun r h c => ⟨(h c).1.trans ?_, (h c).2⟩) (Cert.LayerRef.run m' g')
  unfold Cert.LayerRef.res Cert.Layer.res
  rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2.1, (hm c).2.2.2.2.2.2.2.2.2.2.2.2.2.1, (hm c).2.2.2.2.2.2.2.2.2.2.2.2.2.2.1, (hm c).2.2.2.2.2.2.2.2.2.2.2.2.2.2.2]

/-- Everything that is claimed. -/
theorem claim : Cert.Claim := ⟨Cert.SbKernel.Gen.facts, Cert.SbKernelIdeal.Gen.facts, Cert.SbReferenceIdeal.Gen.facts, Cert.FfnKernel.Gen.facts, Cert.FfnKernelIdeal.Gen.facts, Cert.FfnReferenceIdeal.Gen.facts, Cert.ProjKernel.Gen.facts, Cert.ProjKernelIdeal.Gen.facts, Cert.ProjReferenceIdeal.Gen.facts, Cert.MergeKernel.Gen.facts, Cert.MergeKernelIdeal.Gen.facts, Cert.MergeReferenceIdeal.Gen.facts, Cert.OutKernel.Gen.facts, Cert.OutKernelIdeal.Gen.facts, Cert.OutReferenceIdeal.Gen.facts, Cert.LayerKernel.Gen.facts, Cert.LayerKernelIdeal.Gen.facts, Cert.LayerReferenceIdeal.Gen.facts, frame_sb, frame_sb_ideal, frame_sb_reference, frame_ffn, frame_ffn_ideal, frame_ffn_reference, frame_proj, frame_proj_ideal, frame_proj_reference, frame_merge, frame_merge_ideal, frame_merge_reference, frame_out, frame_out_ideal, frame_out_reference, frame_layer, frame_layer_ideal, frame_layer_reference,
  trivial, algebraic_sb, trivial, algebraic_ffn, trivial, algebraic_proj, trivial, algebraic_merge, trivial, algebraic_out, trivial, algebraic_layer⟩

end Cert.Proof

end
